-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_HgQf (m : (ℓ : Loc Cert.HgQf.nD Cert.HgQf.τ Cert.HgQf.sig) → Buf (Elt Bits) ℓ) : Prop :=
  True

def Pre_HgQfIdeal (m : (ℓ : Loc Cert.HgQfIdeal.nD Cert.HgQfIdeal.τ Cert.HgQfIdeal.sig) → Buf (Elt Ideal) ℓ) : Prop :=
  True

def Pre_HgQfRefIdeal (m : (ℓ : Loc Cert.HgQfRefIdeal.nD Cert.HgQfRefIdeal.τ Cert.HgQfRefIdeal.sig) → Buf (Elt Ideal) ℓ) : Prop :=
  True

def Pre_HgVg (m : (ℓ : Loc Cert.HgVg.nD Cert.HgVg.τ Cert.HgVg.sig) → Buf (Elt Bits) ℓ) : Prop :=
  True

def Pre_HgVgIdeal (m : (ℓ : Loc Cert.HgVgIdeal.nD Cert.HgVgIdeal.τ Cert.HgVgIdeal.sig) → Buf (Elt Ideal) ℓ) : Prop :=
  True

def Pre_HgVgRefIdeal (m : (ℓ : Loc Cert.HgVgRefIdeal.nD Cert.HgVgRefIdeal.τ Cert.HgVgRefIdeal.sig) → Buf (Elt Ideal) ℓ) : Prop :=
  True

def Pre_RgXb (m : (ℓ : Loc Cert.RgXb.nD Cert.RgXb.τ Cert.RgXb.sig) → Buf (Elt Bits) ℓ) : Prop :=
  True

def Pre_RgXbIdeal (m : (ℓ : Loc Cert.RgXbIdeal.nD Cert.RgXbIdeal.τ Cert.RgXbIdeal.sig) → Buf (Elt Ideal) ℓ) : Prop :=
  True

def Pre_RgXbRefIdeal (m : (ℓ : Loc Cert.RgXbRefIdeal.nD Cert.RgXbRefIdeal.τ Cert.RgXbRefIdeal.sig) → Buf (Elt Ideal) ℓ) : Prop :=
  True

def Pre_RgZ (m : (ℓ : Loc Cert.RgZ.nD Cert.RgZ.τ Cert.RgZ.sig) → Buf (Elt Bits) ℓ) : Prop :=
  True

def Pre_RgZIdeal (m : (ℓ : Loc Cert.RgZIdeal.nD Cert.RgZIdeal.τ Cert.RgZIdeal.sig) → Buf (Elt Ideal) ℓ) : Prop :=
  True

def Pre_RgZRefIdeal (m : (ℓ : Loc Cert.RgZRefIdeal.nD Cert.RgZRefIdeal.τ Cert.RgZRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_NsaOut (m : (ℓ : Loc Cert.NsaOut.nD Cert.NsaOut.τ Cert.NsaOut.sig) → Buf (Elt Bits) ℓ) : Prop :=
  True

def Pre_NsaOutIdeal (m : (ℓ : Loc Cert.NsaOutIdeal.nD Cert.NsaOutIdeal.τ Cert.NsaOutIdeal.sig) → Buf (Elt Ideal) ℓ) : Prop :=
  True

def Pre_NsaOutRefIdeal (m : (ℓ : Loc Cert.NsaOutRefIdeal.nD Cert.NsaOutRefIdeal.τ Cert.NsaOutRefIdeal.sig) → Buf (Elt Ideal) ℓ) : Prop :=
  True

def Pre_NsaQkv (m : (ℓ : Loc Cert.NsaQkv.nD Cert.NsaQkv.τ Cert.NsaQkv.sig) → Buf (Elt Bits) ℓ) : Prop :=
  True

def Pre_NsaQkvIdeal (m : (ℓ : Loc Cert.NsaQkvIdeal.nD Cert.NsaQkvIdeal.τ Cert.NsaQkvIdeal.sig) → Buf (Elt Ideal) ℓ) : Prop :=
  True

def Pre_NsaQkvRefIdeal (m : (ℓ : Loc Cert.NsaQkvRefIdeal.nD Cert.NsaQkvRefIdeal.τ Cert.NsaQkvRefIdeal.sig) → Buf (Elt Ideal) ℓ) : Prop :=
  True

def Pre_NsaGl (m : (ℓ : Loc Cert.NsaGl.nD Cert.NsaGl.τ Cert.NsaGl.sig) → Buf (Elt Bits) ℓ) : Prop :=
  True

def Pre_NsaGlIdeal (m : (ℓ : Loc Cert.NsaGlIdeal.nD Cert.NsaGlIdeal.τ Cert.NsaGlIdeal.sig) → Buf (Elt Ideal) ℓ) : Prop :=
  True

def Pre_NsaGlRefIdeal (m : (ℓ : Loc Cert.NsaGlRefIdeal.nD Cert.NsaGlRefIdeal.τ Cert.NsaGlRefIdeal.sig) → Buf (Elt Ideal) ℓ) : Prop :=
  True

def Pre_NsaZ (m : (ℓ : Loc Cert.NsaZ.nD Cert.NsaZ.τ Cert.NsaZ.sig) → Buf (Elt Bits) ℓ) : Prop :=
  True

def Pre_NsaZIdeal (m : (ℓ : Loc Cert.NsaZIdeal.nD Cert.NsaZIdeal.τ Cert.NsaZIdeal.sig) → Buf (Elt Ideal) ℓ) : Prop :=
  True

def Pre_NsaZRefIdeal (m : (ℓ : Loc Cert.NsaZRefIdeal.nD Cert.NsaZRefIdeal.τ Cert.NsaZRefIdeal.sig) → Buf (Elt Ideal) ℓ) : Prop :=
  True

def Pre_PreNorm (m : (ℓ : Loc Cert.PreNorm.nD Cert.PreNorm.τ Cert.PreNorm.sig) → Buf (Elt Bits) ℓ) : Prop :=
  True

def Pre_PreNormIdeal (m : (ℓ : Loc Cert.PreNormIdeal.nD Cert.PreNormIdeal.τ Cert.PreNormIdeal.sig) → Buf (Elt Ideal) ℓ) : Prop :=
  True

def Pre_PreNormRefIdeal (m : (ℓ : Loc Cert.PreNormRefIdeal.nD Cert.PreNormRefIdeal.τ Cert.PreNormRefIdeal.sig) → Buf (Elt Ideal) ℓ) : Prop :=
  True

def Pre_PostNorm (m : (ℓ : Loc Cert.PostNorm.nD Cert.PostNorm.τ Cert.PostNorm.sig) → Buf (Elt Bits) ℓ) : Prop :=
  True

def Pre_PostNormIdeal (m : (ℓ : Loc Cert.PostNormIdeal.nD Cert.PostNormIdeal.τ Cert.PostNormIdeal.sig) → Buf (Elt Ideal) ℓ) : Prop :=
  True

def Pre_PostNormRefIdeal (m : (ℓ : Loc Cert.PostNormRefIdeal.nD Cert.PostNormRefIdeal.τ Cert.PostNormRefIdeal.sig) → Buf (Elt Ideal) ℓ) : Prop :=
  True

def Pre_LastNorm (m : (ℓ : Loc Cert.LastNorm.nD Cert.LastNorm.τ Cert.LastNorm.sig) → Buf (Elt Bits) ℓ) : Prop :=
  True

def Pre_LastNormIdeal (m : (ℓ : Loc Cert.LastNormIdeal.nD Cert.LastNormIdeal.τ Cert.LastNormIdeal.sig) → Buf (Elt Ideal) ℓ) : Prop :=
  True

def Pre_LastNormRefIdeal (m : (ℓ : Loc Cert.LastNormRefIdeal.nD Cert.LastNormRefIdeal.τ Cert.LastNormRefIdeal.sig) → Buf (Elt Ideal) ℓ) : Prop :=
  True

def Pre_Compress (m : (ℓ : Loc Cert.Compress.nD Cert.Compress.τ Cert.Compress.sig) → Buf (Elt Bits) ℓ) : Prop :=
  True

def Pre_CompressIdeal (m : (ℓ : Loc Cert.CompressIdeal.nD Cert.CompressIdeal.τ Cert.CompressIdeal.sig) → Buf (Elt Ideal) ℓ) : Prop :=
  True

def Pre_CompressRefIdeal (m : (ℓ : Loc Cert.CompressRefIdeal.nD Cert.CompressRefIdeal.τ Cert.CompressRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_HgQf [hHgQf : Cert.HgQf.Facts] : Prop :=
  ∀ (m : (ℓ : Loc Cert.HgQf.nD Cert.HgQf.τ Cert.HgQf.sig) → Buf (Elt Bits) ℓ) (g : Dev Cert.HgQf.nD → PrngReg), Pre_HgQf m →
    θ_run (Cert.HgQf.defs (F := Bits)) (onTc (τ := Cert.HgQf.τ) (Cert.HgQf.main (F := Bits))) ⟨m, fun _ => 0, g⟩ (fun r => (∀ c : Dev Cert.HgQf.nD,
      r.2.mem ((c.tc : Thread Cert.HgQf.nD Cert.HgQf.τ).loc Cert.HgQf.main_arg0) = m ((c.tc : Thread Cert.HgQf.nD Cert.HgQf.τ).loc Cert.HgQf.main_arg0)
      ∧ r.2.mem ((c.tc : Thread Cert.HgQf.nD Cert.HgQf.τ).loc Cert.HgQf.main_arg1) = m ((c.tc : Thread Cert.HgQf.nD Cert.HgQf.τ).loc Cert.HgQf.main_arg1))
      ∧ r.2.sem = fun _ => 0)

def quiescent_HgQfIdeal [hHgQfIdeal : Cert.HgQfIdeal.Facts] : Prop :=
  ∀ (m : (ℓ : Loc Cert.HgQfIdeal.nD Cert.HgQfIdeal.τ Cert.HgQfIdeal.sig) → Buf (Elt Ideal) ℓ) (g : Dev Cert.HgQfIdeal.nD → PrngReg), Pre_HgQfIdeal m →
    θ_run (Cert.HgQfIdeal.defs (F := Ideal)) (onTc (τ := Cert.HgQfIdeal.τ) (Cert.HgQfIdeal.main (F := Ideal))) ⟨m, fun _ => 0, g⟩ (fun r => (∀ c : Dev Cert.HgQfIdeal.nD,
      r.2.mem ((c.tc : Thread Cert.HgQfIdeal.nD Cert.HgQfIdeal.τ).loc Cert.HgQfIdeal.main_arg0) = m ((c.tc : Thread Cert.HgQfIdeal.nD Cert.HgQfIdeal.τ).loc Cert.HgQfIdeal.main_arg0)
      ∧ r.2.mem ((c.tc : Thread Cert.HgQfIdeal.nD Cert.HgQfIdeal.τ).loc Cert.HgQfIdeal.main_arg1) = m ((c.tc : Thread Cert.HgQfIdeal.nD Cert.HgQfIdeal.τ).loc Cert.HgQfIdeal.main_arg1))
      ∧ r.2.sem = fun _ => 0)

def quiescent_HgQfRefIdeal [hHgQfRefIdeal : Cert.HgQfRefIdeal.Facts] : Prop :=
  ∀ (m : (ℓ : Loc Cert.HgQfRefIdeal.nD Cert.HgQfRefIdeal.τ Cert.HgQfRefIdeal.sig) → Buf (Elt Ideal) ℓ) (g : Dev Cert.HgQfRefIdeal.nD → PrngReg), Pre_HgQfRefIdeal m →
    θ_run (Cert.HgQfRefIdeal.defs (F := Ideal)) (onTc (τ := Cert.HgQfRefIdeal.τ) (Cert.HgQfRefIdeal.main (F := Ideal))) ⟨m, fun _ => 0, g⟩ (fun r => (∀ c : Dev Cert.HgQfRefIdeal.nD,
      r.2.mem ((c.tc : Thread Cert.HgQfRefIdeal.nD Cert.HgQfRefIdeal.τ).loc Cert.HgQfRefIdeal.main_arg0) = m ((c.tc : Thread Cert.HgQfRefIdeal.nD Cert.HgQfRefIdeal.τ).loc Cert.HgQfRefIdeal.main_arg0)
      ∧ r.2.mem ((c.tc : Thread Cert.HgQfRefIdeal.nD Cert.HgQfRefIdeal.τ).loc Cert.HgQfRefIdeal.main_arg1) = m ((c.tc : Thread Cert.HgQfRefIdeal.nD Cert.HgQfRefIdeal.τ).loc Cert.HgQfRefIdeal.main_arg1))
      ∧ r.2.sem = fun _ => 0)

def quiescent_HgVg [hHgVg : Cert.HgVg.Facts] : Prop :=
  ∀ (m : (ℓ : Loc Cert.HgVg.nD Cert.HgVg.τ Cert.HgVg.sig) → Buf (Elt Bits) ℓ) (g : Dev Cert.HgVg.nD → PrngReg), Pre_HgVg m →
    θ_run (Cert.HgVg.defs (F := Bits)) (onTc (τ := Cert.HgVg.τ) (Cert.HgVg.main (F := Bits))) ⟨m, fun _ => 0, g⟩ (fun r => (∀ c : Dev Cert.HgVg.nD,
      r.2.mem ((c.tc : Thread Cert.HgVg.nD Cert.HgVg.τ).loc Cert.HgVg.main_arg0) = m ((c.tc : Thread Cert.HgVg.nD Cert.HgVg.τ).loc Cert.HgVg.main_arg0)
      ∧ r.2.mem ((c.tc : Thread Cert.HgVg.nD Cert.HgVg.τ).loc Cert.HgVg.main_arg1) = m ((c.tc : Thread Cert.HgVg.nD Cert.HgVg.τ).loc Cert.HgVg.main_arg1))
      ∧ r.2.sem = fun _ => 0)

def quiescent_HgVgIdeal [hHgVgIdeal : Cert.HgVgIdeal.Facts] : Prop :=
  ∀ (m : (ℓ : Loc Cert.HgVgIdeal.nD Cert.HgVgIdeal.τ Cert.HgVgIdeal.sig) → Buf (Elt Ideal) ℓ) (g : Dev Cert.HgVgIdeal.nD → PrngReg), Pre_HgVgIdeal m →
    θ_run (Cert.HgVgIdeal.defs (F := Ideal)) (onTc (τ := Cert.HgVgIdeal.τ) (Cert.HgVgIdeal.main (F := Ideal))) ⟨m, fun _ => 0, g⟩ (fun r => (∀ c : Dev Cert.HgVgIdeal.nD,
      r.2.mem ((c.tc : Thread Cert.HgVgIdeal.nD Cert.HgVgIdeal.τ).loc Cert.HgVgIdeal.main_arg0) = m ((c.tc : Thread Cert.HgVgIdeal.nD Cert.HgVgIdeal.τ).loc Cert.HgVgIdeal.main_arg0)
      ∧ r.2.mem ((c.tc : Thread Cert.HgVgIdeal.nD Cert.HgVgIdeal.τ).loc Cert.HgVgIdeal.main_arg1) = m ((c.tc : Thread Cert.HgVgIdeal.nD Cert.HgVgIdeal.τ).loc Cert.HgVgIdeal.main_arg1))
      ∧ r.2.sem = fun _ => 0)

def quiescent_HgVgRefIdeal [hHgVgRefIdeal : Cert.HgVgRefIdeal.Facts] : Prop :=
  ∀ (m : (ℓ : Loc Cert.HgVgRefIdeal.nD Cert.HgVgRefIdeal.τ Cert.HgVgRefIdeal.sig) → Buf (Elt Ideal) ℓ) (g : Dev Cert.HgVgRefIdeal.nD → PrngReg), Pre_HgVgRefIdeal m →
    θ_run (Cert.HgVgRefIdeal.defs (F := Ideal)) (onTc (τ := Cert.HgVgRefIdeal.τ) (Cert.HgVgRefIdeal.main (F := Ideal))) ⟨m, fun _ => 0, g⟩ (fun r => (∀ c : Dev Cert.HgVgRefIdeal.nD,
      r.2.mem ((c.tc : Thread Cert.HgVgRefIdeal.nD Cert.HgVgRefIdeal.τ).loc Cert.HgVgRefIdeal.main_arg0) = m ((c.tc : Thread Cert.HgVgRefIdeal.nD Cert.HgVgRefIdeal.τ).loc Cert.HgVgRefIdeal.main_arg0)
      ∧ r.2.mem ((c.tc : Thread Cert.HgVgRefIdeal.nD Cert.HgVgRefIdeal.τ).loc Cert.HgVgRefIdeal.main_arg1) = m ((c.tc : Thread Cert.HgVgRefIdeal.nD Cert.HgVgRefIdeal.τ).loc Cert.HgVgRefIdeal.main_arg1))
      ∧ r.2.sem = fun _ => 0)

def quiescent_RgXb [hRgXb : Cert.RgXb.Facts] : Prop :=
  ∀ (m : (ℓ : Loc Cert.RgXb.nD Cert.RgXb.τ Cert.RgXb.sig) → Buf (Elt Bits) ℓ) (g : Dev Cert.RgXb.nD → PrngReg), Pre_RgXb m →
    θ_run (Cert.RgXb.defs (F := Bits)) (onTc (τ := Cert.RgXb.τ) (Cert.RgXb.main (F := Bits))) ⟨m, fun _ => 0, g⟩ (fun r => (∀ c : Dev Cert.RgXb.nD,
      r.2.mem ((c.tc : Thread Cert.RgXb.nD Cert.RgXb.τ).loc Cert.RgXb.main_arg0) = m ((c.tc : Thread Cert.RgXb.nD Cert.RgXb.τ).loc Cert.RgXb.main_arg0)
      ∧ r.2.mem ((c.tc : Thread Cert.RgXb.nD Cert.RgXb.τ).loc Cert.RgXb.main_arg1) = m ((c.tc : Thread Cert.RgXb.nD Cert.RgXb.τ).loc Cert.RgXb.main_arg1))
      ∧ r.2.sem = fun _ => 0)

def quiescent_RgXbIdeal [hRgXbIdeal : Cert.RgXbIdeal.Facts] : Prop :=
  ∀ (m : (ℓ : Loc Cert.RgXbIdeal.nD Cert.RgXbIdeal.τ Cert.RgXbIdeal.sig) → Buf (Elt Ideal) ℓ) (g : Dev Cert.RgXbIdeal.nD → PrngReg), Pre_RgXbIdeal m →
    θ_run (Cert.RgXbIdeal.defs (F := Ideal)) (onTc (τ := Cert.RgXbIdeal.τ) (Cert.RgXbIdeal.main (F := Ideal))) ⟨m, fun _ => 0, g⟩ (fun r => (∀ c : Dev Cert.RgXbIdeal.nD,
      r.2.mem ((c.tc : Thread Cert.RgXbIdeal.nD Cert.RgXbIdeal.τ).loc Cert.RgXbIdeal.main_arg0) = m ((c.tc : Thread Cert.RgXbIdeal.nD Cert.RgXbIdeal.τ).loc Cert.RgXbIdeal.main_arg0)
      ∧ r.2.mem ((c.tc : Thread Cert.RgXbIdeal.nD Cert.RgXbIdeal.τ).loc Cert.RgXbIdeal.main_arg1) = m ((c.tc : Thread Cert.RgXbIdeal.nD Cert.RgXbIdeal.τ).loc Cert.RgXbIdeal.main_arg1))
      ∧ r.2.sem = fun _ => 0)

def quiescent_RgXbRefIdeal [hRgXbRefIdeal : Cert.RgXbRefIdeal.Facts] : Prop :=
  ∀ (m : (ℓ : Loc Cert.RgXbRefIdeal.nD Cert.RgXbRefIdeal.τ Cert.RgXbRefIdeal.sig) → Buf (Elt Ideal) ℓ) (g : Dev Cert.RgXbRefIdeal.nD → PrngReg), Pre_RgXbRefIdeal m →
    θ_run (Cert.RgXbRefIdeal.defs (F := Ideal)) (onTc (τ := Cert.RgXbRefIdeal.τ) (Cert.RgXbRefIdeal.main (F := Ideal))) ⟨m, fun _ => 0, g⟩ (fun r => (∀ c : Dev Cert.RgXbRefIdeal.nD,
      r.2.mem ((c.tc : Thread Cert.RgXbRefIdeal.nD Cert.RgXbRefIdeal.τ).loc Cert.RgXbRefIdeal.main_arg0) = m ((c.tc : Thread Cert.RgXbRefIdeal.nD Cert.RgXbRefIdeal.τ).loc Cert.RgXbRefIdeal.main_arg0)
      ∧ r.2.mem ((c.tc : Thread Cert.RgXbRefIdeal.nD Cert.RgXbRefIdeal.τ).loc Cert.RgXbRefIdeal.main_arg1) = m ((c.tc : Thread Cert.RgXbRefIdeal.nD Cert.RgXbRefIdeal.τ).loc Cert.RgXbRefIdeal.main_arg1))
      ∧ r.2.sem = fun _ => 0)

def quiescent_RgZ [hRgZ : Cert.RgZ.Facts] : Prop :=
  ∀ (m : (ℓ : Loc Cert.RgZ.nD Cert.RgZ.τ Cert.RgZ.sig) → Buf (Elt Bits) ℓ) (g : Dev Cert.RgZ.nD → PrngReg), Pre_RgZ m →
    θ_run (Cert.RgZ.defs (F := Bits)) (onTc (τ := Cert.RgZ.τ) (Cert.RgZ.main (F := Bits))) ⟨m, fun _ => 0, g⟩ (fun r => (∀ c : Dev Cert.RgZ.nD,
      r.2.mem ((c.tc : Thread Cert.RgZ.nD Cert.RgZ.τ).loc Cert.RgZ.main_arg0) = m ((c.tc : Thread Cert.RgZ.nD Cert.RgZ.τ).loc Cert.RgZ.main_arg0)
      ∧ r.2.mem ((c.tc : Thread Cert.RgZ.nD Cert.RgZ.τ).loc Cert.RgZ.main_arg1) = m ((c.tc : Thread Cert.RgZ.nD Cert.RgZ.τ).loc Cert.RgZ.main_arg1))
      ∧ r.2.sem = fun _ => 0)

def quiescent_RgZIdeal [hRgZIdeal : Cert.RgZIdeal.Facts] : Prop :=
  ∀ (m : (ℓ : Loc Cert.RgZIdeal.nD Cert.RgZIdeal.τ Cert.RgZIdeal.sig) → Buf (Elt Ideal) ℓ) (g : Dev Cert.RgZIdeal.nD → PrngReg), Pre_RgZIdeal m →
    θ_run (Cert.RgZIdeal.defs (F := Ideal)) (onTc (τ := Cert.RgZIdeal.τ) (Cert.RgZIdeal.main (F := Ideal))) ⟨m, fun _ => 0, g⟩ (fun r => (∀ c : Dev Cert.RgZIdeal.nD,
      r.2.mem ((c.tc : Thread Cert.RgZIdeal.nD Cert.RgZIdeal.τ).loc Cert.RgZIdeal.main_arg0) = m ((c.tc : Thread Cert.RgZIdeal.nD Cert.RgZIdeal.τ).loc Cert.RgZIdeal.main_arg0)
      ∧ r.2.mem ((c.tc : Thread Cert.RgZIdeal.nD Cert.RgZIdeal.τ).loc Cert.RgZIdeal.main_arg1) = m ((c.tc : Thread Cert.RgZIdeal.nD Cert.RgZIdeal.τ).loc Cert.RgZIdeal.main_arg1))
      ∧ r.2.sem = fun _ => 0)

def quiescent_RgZRefIdeal [hRgZRefIdeal : Cert.RgZRefIdeal.Facts] : Prop :=
  ∀ (m : (ℓ : Loc Cert.RgZRefIdeal.nD Cert.RgZRefIdeal.τ Cert.RgZRefIdeal.sig) → Buf (Elt Ideal) ℓ) (g : Dev Cert.RgZRefIdeal.nD → PrngReg), Pre_RgZRefIdeal m →
    θ_run (Cert.RgZRefIdeal.defs (F := Ideal)) (onTc (τ := Cert.RgZRefIdeal.τ) (Cert.RgZRefIdeal.main (F := Ideal))) ⟨m, fun _ => 0, g⟩ (fun r => (∀ c : Dev Cert.RgZRefIdeal.nD,
      r.2.mem ((c.tc : Thread Cert.RgZRefIdeal.nD Cert.RgZRefIdeal.τ).loc Cert.RgZRefIdeal.main_arg0) = m ((c.tc : Thread Cert.RgZRefIdeal.nD Cert.RgZRefIdeal.τ).loc Cert.RgZRefIdeal.main_arg0)
      ∧ r.2.mem ((c.tc : Thread Cert.RgZRefIdeal.nD Cert.RgZRefIdeal.τ).loc Cert.RgZRefIdeal.main_arg1) = m ((c.tc : Thread Cert.RgZRefIdeal.nD Cert.RgZRefIdeal.τ).loc Cert.RgZRefIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1))
      ∧ r.2.sem = fun _ => 0)

def quiescent_NsaOut [hNsaOut : Cert.NsaOut.Facts] : Prop :=
  ∀ (m : (ℓ : Loc Cert.NsaOut.nD Cert.NsaOut.τ Cert.NsaOut.sig) → Buf (Elt Bits) ℓ) (g : Dev Cert.NsaOut.nD → PrngReg), Pre_NsaOut m →
    θ_run (Cert.NsaOut.defs (F := Bits)) (onTc (τ := Cert.NsaOut.τ) (Cert.NsaOut.main (F := Bits))) ⟨m, fun _ => 0, g⟩ (fun r => (∀ c : Dev Cert.NsaOut.nD,
      r.2.mem ((c.tc : Thread Cert.NsaOut.nD Cert.NsaOut.τ).loc Cert.NsaOut.main_arg0) = m ((c.tc : Thread Cert.NsaOut.nD Cert.NsaOut.τ).loc Cert.NsaOut.main_arg0)
      ∧ r.2.mem ((c.tc : Thread Cert.NsaOut.nD Cert.NsaOut.τ).loc Cert.NsaOut.main_arg1) = m ((c.tc : Thread Cert.NsaOut.nD Cert.NsaOut.τ).loc Cert.NsaOut.main_arg1))
      ∧ r.2.sem = fun _ => 0)

def quiescent_NsaOutIdeal [hNsaOutIdeal : Cert.NsaOutIdeal.Facts] : Prop :=
  ∀ (m : (ℓ : Loc Cert.NsaOutIdeal.nD Cert.NsaOutIdeal.τ Cert.NsaOutIdeal.sig) → Buf (Elt Ideal) ℓ) (g : Dev Cert.NsaOutIdeal.nD → PrngReg), Pre_NsaOutIdeal m →
    θ_run (Cert.NsaOutIdeal.defs (F := Ideal)) (onTc (τ := Cert.NsaOutIdeal.τ) (Cert.NsaOutIdeal.main (F := Ideal))) ⟨m, fun _ => 0, g⟩ (fun r => (∀ c : Dev Cert.NsaOutIdeal.nD,
      r.2.mem ((c.tc : Thread Cert.NsaOutIdeal.nD Cert.NsaOutIdeal.τ).loc Cert.NsaOutIdeal.main_arg0) = m ((c.tc : Thread Cert.NsaOutIdeal.nD Cert.NsaOutIdeal.τ).loc Cert.NsaOutIdeal.main_arg0)
      ∧ r.2.mem ((c.tc : Thread Cert.NsaOutIdeal.nD Cert.NsaOutIdeal.τ).loc Cert.NsaOutIdeal.main_arg1) = m ((c.tc : Thread Cert.NsaOutIdeal.nD Cert.NsaOutIdeal.τ).loc Cert.NsaOutIdeal.main_arg1))
      ∧ r.2.sem = fun _ => 0)

def quiescent_NsaOutRefIdeal [hNsaOutRefIdeal : Cert.NsaOutRefIdeal.Facts] : Prop :=
  ∀ (m : (ℓ : Loc Cert.NsaOutRefIdeal.nD Cert.NsaOutRefIdeal.τ Cert.NsaOutRefIdeal.sig) → Buf (Elt Ideal) ℓ) (g : Dev Cert.NsaOutRefIdeal.nD → PrngReg), Pre_NsaOutRefIdeal m →
    θ_run (Cert.NsaOutRefIdeal.defs (F := Ideal)) (onTc (τ := Cert.NsaOutRefIdeal.τ) (Cert.NsaOutRefIdeal.main (F := Ideal))) ⟨m, fun _ => 0, g⟩ (fun r => (∀ c : Dev Cert.NsaOutRefIdeal.nD,
      r.2.mem ((c.tc : Thread Cert.NsaOutRefIdeal.nD Cert.NsaOutRefIdeal.τ).loc Cert.NsaOutRefIdeal.main_arg0) = m ((c.tc : Thread Cert.NsaOutRefIdeal.nD Cert.NsaOutRefIdeal.τ).loc Cert.NsaOutRefIdeal.main_arg0)
      ∧ r.2.mem ((c.tc : Thread Cert.NsaOutRefIdeal.nD Cert.NsaOutRefIdeal.τ).loc Cert.NsaOutRefIdeal.main_arg1) = m ((c.tc : Thread Cert.NsaOutRefIdeal.nD Cert.NsaOutRefIdeal.τ).loc Cert.NsaOutRefIdeal.main_arg1))
      ∧ r.2.sem = fun _ => 0)

def quiescent_NsaQkv [hNsaQkv : Cert.NsaQkv.Facts] : Prop :=
  ∀ (m : (ℓ : Loc Cert.NsaQkv.nD Cert.NsaQkv.τ Cert.NsaQkv.sig) → Buf (Elt Bits) ℓ) (g : Dev Cert.NsaQkv.nD → PrngReg), Pre_NsaQkv m →
    θ_run (Cert.NsaQkv.defs (F := Bits)) (onTc (τ := Cert.NsaQkv.τ) (Cert.NsaQkv.main (F := Bits))) ⟨m, fun _ => 0, g⟩ (fun r => (∀ c : Dev Cert.NsaQkv.nD,
      r.2.mem ((c.tc : Thread Cert.NsaQkv.nD Cert.NsaQkv.τ).loc Cert.NsaQkv.main_arg0) = m ((c.tc : Thread Cert.NsaQkv.nD Cert.NsaQkv.τ).loc Cert.NsaQkv.main_arg0)
      ∧ r.2.mem ((c.tc : Thread Cert.NsaQkv.nD Cert.NsaQkv.τ).loc Cert.NsaQkv.main_arg1) = m ((c.tc : Thread Cert.NsaQkv.nD Cert.NsaQkv.τ).loc Cert.NsaQkv.main_arg1))
      ∧ r.2.sem = fun _ => 0)

def quiescent_NsaQkvIdeal [hNsaQkvIdeal : Cert.NsaQkvIdeal.Facts] : Prop :=
  ∀ (m : (ℓ : Loc Cert.NsaQkvIdeal.nD Cert.NsaQkvIdeal.τ Cert.NsaQkvIdeal.sig) → Buf (Elt Ideal) ℓ) (g : Dev Cert.NsaQkvIdeal.nD → PrngReg), Pre_NsaQkvIdeal m →
    θ_run (Cert.NsaQkvIdeal.defs (F := Ideal)) (onTc (τ := Cert.NsaQkvIdeal.τ) (Cert.NsaQkvIdeal.main (F := Ideal))) ⟨m, fun _ => 0, g⟩ (fun r => (∀ c : Dev Cert.NsaQkvIdeal.nD,
      r.2.mem ((c.tc : Thread Cert.NsaQkvIdeal.nD Cert.NsaQkvIdeal.τ).loc Cert.NsaQkvIdeal.main_arg0) = m ((c.tc : Thread Cert.NsaQkvIdeal.nD Cert.NsaQkvIdeal.τ).loc Cert.NsaQkvIdeal.main_arg0)
      ∧ r.2.mem ((c.tc : Thread Cert.NsaQkvIdeal.nD Cert.NsaQkvIdeal.τ).loc Cert.NsaQkvIdeal.main_arg1) = m ((c.tc : Thread Cert.NsaQkvIdeal.nD Cert.NsaQkvIdeal.τ).loc Cert.NsaQkvIdeal.main_arg1))
      ∧ r.2.sem = fun _ => 0)

def quiescent_NsaQkvRefIdeal [hNsaQkvRefIdeal : Cert.NsaQkvRefIdeal.Facts] : Prop :=
  ∀ (m : (ℓ : Loc Cert.NsaQkvRefIdeal.nD Cert.NsaQkvRefIdeal.τ Cert.NsaQkvRefIdeal.sig) → Buf (Elt Ideal) ℓ) (g : Dev Cert.NsaQkvRefIdeal.nD → PrngReg), Pre_NsaQkvRefIdeal m →
    θ_run (Cert.NsaQkvRefIdeal.defs (F := Ideal)) (onTc (τ := Cert.NsaQkvRefIdeal.τ) (Cert.NsaQkvRefIdeal.main (F := Ideal))) ⟨m, fun _ => 0, g⟩ (fun r => (∀ c : Dev Cert.NsaQkvRefIdeal.nD,
      r.2.mem ((c.tc : Thread Cert.NsaQkvRefIdeal.nD Cert.NsaQkvRefIdeal.τ).loc Cert.NsaQkvRefIdeal.main_arg0) = m ((c.tc : Thread Cert.NsaQkvRefIdeal.nD Cert.NsaQkvRefIdeal.τ).loc Cert.NsaQkvRefIdeal.main_arg0)
      ∧ r.2.mem ((c.tc : Thread Cert.NsaQkvRefIdeal.nD Cert.NsaQkvRefIdeal.τ).loc Cert.NsaQkvRefIdeal.main_arg1) = m ((c.tc : Thread Cert.NsaQkvRefIdeal.nD Cert.NsaQkvRefIdeal.τ).loc Cert.NsaQkvRefIdeal.main_arg1))
      ∧ r.2.sem = fun _ => 0)

def quiescent_NsaGl [hNsaGl : Cert.NsaGl.Facts] : Prop :=
  ∀ (m : (ℓ : Loc Cert.NsaGl.nD Cert.NsaGl.τ Cert.NsaGl.sig) → Buf (Elt Bits) ℓ) (g : Dev Cert.NsaGl.nD → PrngReg), Pre_NsaGl m →
    θ_run (Cert.NsaGl.defs (F := Bits)) (onTc (τ := Cert.NsaGl.τ) (Cert.NsaGl.main (F := Bits))) ⟨m, fun _ => 0, g⟩ (fun r => (∀ c : Dev Cert.NsaGl.nD,
      r.2.mem ((c.tc : Thread Cert.NsaGl.nD Cert.NsaGl.τ).loc Cert.NsaGl.main_arg0) = m ((c.tc : Thread Cert.NsaGl.nD Cert.NsaGl.τ).loc Cert.NsaGl.main_arg0)
      ∧ r.2.mem ((c.tc : Thread Cert.NsaGl.nD Cert.NsaGl.τ).loc Cert.NsaGl.main_arg1) = m ((c.tc : Thread Cert.NsaGl.nD Cert.NsaGl.τ).loc Cert.NsaGl.main_arg1))
      ∧ r.2.sem = fun _ => 0)

def quiescent_NsaGlIdeal [hNsaGlIdeal : Cert.NsaGlIdeal.Facts] : Prop :=
  ∀ (m : (ℓ : Loc Cert.NsaGlIdeal.nD Cert.NsaGlIdeal.τ Cert.NsaGlIdeal.sig) → Buf (Elt Ideal) ℓ) (g : Dev Cert.NsaGlIdeal.nD → PrngReg), Pre_NsaGlIdeal m →
    θ_run (Cert.NsaGlIdeal.defs (F := Ideal)) (onTc (τ := Cert.NsaGlIdeal.τ) (Cert.NsaGlIdeal.main (F := Ideal))) ⟨m, fun _ => 0, g⟩ (fun r => (∀ c : Dev Cert.NsaGlIdeal.nD,
      r.2.mem ((c.tc : Thread Cert.NsaGlIdeal.nD Cert.NsaGlIdeal.τ).loc Cert.NsaGlIdeal.main_arg0) = m ((c.tc : Thread Cert.NsaGlIdeal.nD Cert.NsaGlIdeal.τ).loc Cert.NsaGlIdeal.main_arg0)
      ∧ r.2.mem ((c.tc : Thread Cert.NsaGlIdeal.nD Cert.NsaGlIdeal.τ).loc Cert.NsaGlIdeal.main_arg1) = m ((c.tc : Thread Cert.NsaGlIdeal.nD Cert.NsaGlIdeal.τ).loc Cert.NsaGlIdeal.main_arg1))
      ∧ r.2.sem = fun _ => 0)

def quiescent_NsaGlRefIdeal [hNsaGlRefIdeal : Cert.NsaGlRefIdeal.Facts] : Prop :=
  ∀ (m : (ℓ : Loc Cert.NsaGlRefIdeal.nD Cert.NsaGlRefIdeal.τ Cert.NsaGlRefIdeal.sig) → Buf (Elt Ideal) ℓ) (g : Dev Cert.NsaGlRefIdeal.nD → PrngReg), Pre_NsaGlRefIdeal m →
    θ_run (Cert.NsaGlRefIdeal.defs (F := Ideal)) (onTc (τ := Cert.NsaGlRefIdeal.τ) (Cert.NsaGlRefIdeal.main (F := Ideal))) ⟨m, fun _ => 0, g⟩ (fun r => (∀ c : Dev Cert.NsaGlRefIdeal.nD,
      r.2.mem ((c.tc : Thread Cert.NsaGlRefIdeal.nD Cert.NsaGlRefIdeal.τ).loc Cert.NsaGlRefIdeal.main_arg0) = m ((c.tc : Thread Cert.NsaGlRefIdeal.nD Cert.NsaGlRefIdeal.τ).loc Cert.NsaGlRefIdeal.main_arg0)
      ∧ r.2.mem ((c.tc : Thread Cert.NsaGlRefIdeal.nD Cert.NsaGlRefIdeal.τ).loc Cert.NsaGlRefIdeal.main_arg1) = m ((c.tc : Thread Cert.NsaGlRefIdeal.nD Cert.NsaGlRefIdeal.τ).loc Cert.NsaGlRefIdeal.main_arg1))
      ∧ r.2.sem = fun _ => 0)

def quiescent_NsaZ [hNsaZ : Cert.NsaZ.Facts] : Prop :=
  ∀ (m : (ℓ : Loc Cert.NsaZ.nD Cert.NsaZ.τ Cert.NsaZ.sig) → Buf (Elt Bits) ℓ) (g : Dev Cert.NsaZ.nD → PrngReg), Pre_NsaZ m →
    θ_run (Cert.NsaZ.defs (F := Bits)) (onTc (τ := Cert.NsaZ.τ) (Cert.NsaZ.main (F := Bits))) ⟨m, fun _ => 0, g⟩ (fun r => (∀ c : Dev Cert.NsaZ.nD,
      r.2.mem ((c.tc : Thread Cert.NsaZ.nD Cert.NsaZ.τ).loc Cert.NsaZ.main_arg0) = m ((c.tc : Thread Cert.NsaZ.nD Cert.NsaZ.τ).loc Cert.NsaZ.main_arg0)
      ∧ r.2.mem ((c.tc : Thread Cert.NsaZ.nD Cert.NsaZ.τ).loc Cert.NsaZ.main_arg1) = m ((c.tc : Thread Cert.NsaZ.nD Cert.NsaZ.τ).loc Cert.NsaZ.main_arg1))
      ∧ r.2.sem = fun _ => 0)

def quiescent_NsaZIdeal [hNsaZIdeal : Cert.NsaZIdeal.Facts] : Prop :=
  ∀ (m : (ℓ : Loc Cert.NsaZIdeal.nD Cert.NsaZIdeal.τ Cert.NsaZIdeal.sig) → Buf (Elt Ideal) ℓ) (g : Dev Cert.NsaZIdeal.nD → PrngReg), Pre_NsaZIdeal m →
    θ_run (Cert.NsaZIdeal.defs (F := Ideal)) (onTc (τ := Cert.NsaZIdeal.τ) (Cert.NsaZIdeal.main (F := Ideal))) ⟨m, fun _ => 0, g⟩ (fun r => (∀ c : Dev Cert.NsaZIdeal.nD,
      r.2.mem ((c.tc : Thread Cert.NsaZIdeal.nD Cert.NsaZIdeal.τ).loc Cert.NsaZIdeal.main_arg0) = m ((c.tc : Thread Cert.NsaZIdeal.nD Cert.NsaZIdeal.τ).loc Cert.NsaZIdeal.main_arg0)
      ∧ r.2.mem ((c.tc : Thread Cert.NsaZIdeal.nD Cert.NsaZIdeal.τ).loc Cert.NsaZIdeal.main_arg1) = m ((c.tc : Thread Cert.NsaZIdeal.nD Cert.NsaZIdeal.τ).loc Cert.NsaZIdeal.main_arg1))
      ∧ r.2.sem = fun _ => 0)

def quiescent_NsaZRefIdeal [hNsaZRefIdeal : Cert.NsaZRefIdeal.Facts] : Prop :=
  ∀ (m : (ℓ : Loc Cert.NsaZRefIdeal.nD Cert.NsaZRefIdeal.τ Cert.NsaZRefIdeal.sig) → Buf (Elt Ideal) ℓ) (g : Dev Cert.NsaZRefIdeal.nD → PrngReg), Pre_NsaZRefIdeal m →
    θ_run (Cert.NsaZRefIdeal.defs (F := Ideal)) (onTc (τ := Cert.NsaZRefIdeal.τ) (Cert.NsaZRefIdeal.main (F := Ideal))) ⟨m, fun _ => 0, g⟩ (fun r => (∀ c : Dev Cert.NsaZRefIdeal.nD,
      r.2.mem ((c.tc : Thread Cert.NsaZRefIdeal.nD Cert.NsaZRefIdeal.τ).loc Cert.NsaZRefIdeal.main_arg0) = m ((c.tc : Thread Cert.NsaZRefIdeal.nD Cert.NsaZRefIdeal.τ).loc Cert.NsaZRefIdeal.main_arg0)
      ∧ r.2.mem ((c.tc : Thread Cert.NsaZRefIdeal.nD Cert.NsaZRefIdeal.τ).loc Cert.NsaZRefIdeal.main_arg1) = m ((c.tc : Thread Cert.NsaZRefIdeal.nD Cert.NsaZRefIdeal.τ).loc Cert.NsaZRefIdeal.main_arg1))
      ∧ r.2.sem = fun _ => 0)

def quiescent_PreNorm [hPreNorm : Cert.PreNorm.Facts] : Prop :=
  ∀ (m : (ℓ : Loc Cert.PreNorm.nD Cert.PreNorm.τ Cert.PreNorm.sig) → Buf (Elt Bits) ℓ) (g : Dev Cert.PreNorm.nD → PrngReg), Pre_PreNorm m →
    θ_run (Cert.PreNorm.defs (F := Bits)) (onTc (τ := Cert.PreNorm.τ) (Cert.PreNorm.main (F := Bits))) ⟨m, fun _ => 0, g⟩ (fun r => (∀ c : Dev Cert.PreNorm.nD,
      r.2.mem ((c.tc : Thread Cert.PreNorm.nD Cert.PreNorm.τ).loc Cert.PreNorm.main_arg0) = m ((c.tc : Thread Cert.PreNorm.nD Cert.PreNorm.τ).loc Cert.PreNorm.main_arg0)
      ∧ r.2.mem ((c.tc : Thread Cert.PreNorm.nD Cert.PreNorm.τ).loc Cert.PreNorm.main_arg1) = m ((c.tc : Thread Cert.PreNorm.nD Cert.PreNorm.τ).loc Cert.PreNorm.main_arg1))
      ∧ r.2.sem = fun _ => 0)

def quiescent_PreNormIdeal [hPreNormIdeal : Cert.PreNormIdeal.Facts] : Prop :=
  ∀ (m : (ℓ : Loc Cert.PreNormIdeal.nD Cert.PreNormIdeal.τ Cert.PreNormIdeal.sig) → Buf (Elt Ideal) ℓ) (g : Dev Cert.PreNormIdeal.nD → PrngReg), Pre_PreNormIdeal m →
    θ_run (Cert.PreNormIdeal.defs (F := Ideal)) (onTc (τ := Cert.PreNormIdeal.τ) (Cert.PreNormIdeal.main (F := Ideal))) ⟨m, fun _ => 0, g⟩ (fun r => (∀ c : Dev Cert.PreNormIdeal.nD,
      r.2.mem ((c.tc : Thread Cert.PreNormIdeal.nD Cert.PreNormIdeal.τ).loc Cert.PreNormIdeal.main_arg0) = m ((c.tc : Thread Cert.PreNormIdeal.nD Cert.PreNormIdeal.τ).loc Cert.PreNormIdeal.main_arg0)
      ∧ r.2.mem ((c.tc : Thread Cert.PreNormIdeal.nD Cert.PreNormIdeal.τ).loc Cert.PreNormIdeal.main_arg1) = m ((c.tc : Thread Cert.PreNormIdeal.nD Cert.PreNormIdeal.τ).loc Cert.PreNormIdeal.main_arg1))
      ∧ r.2.sem = fun _ => 0)

def quiescent_PreNormRefIdeal [hPreNormRefIdeal : Cert.PreNormRefIdeal.Facts] : Prop :=
  ∀ (m : (ℓ : Loc Cert.PreNormRefIdeal.nD Cert.PreNormRefIdeal.τ Cert.PreNormRefIdeal.sig) → Buf (Elt Ideal) ℓ) (g : Dev Cert.PreNormRefIdeal.nD → PrngReg), Pre_PreNormRefIdeal m →
    θ_run (Cert.PreNormRefIdeal.defs (F := Ideal)) (onTc (τ := Cert.PreNormRefIdeal.τ) (Cert.PreNormRefIdeal.main (F := Ideal))) ⟨m, fun _ => 0, g⟩ (fun r => (∀ c : Dev Cert.PreNormRefIdeal.nD,
      r.2.mem ((c.tc : Thread Cert.PreNormRefIdeal.nD Cert.PreNormRefIdeal.τ).loc Cert.PreNormRefIdeal.main_arg0) = m ((c.tc : Thread Cert.PreNormRefIdeal.nD Cert.PreNormRefIdeal.τ).loc Cert.PreNormRefIdeal.main_arg0)
      ∧ r.2.mem ((c.tc : Thread Cert.PreNormRefIdeal.nD Cert.PreNormRefIdeal.τ).loc Cert.PreNormRefIdeal.main_arg1) = m ((c.tc : Thread Cert.PreNormRefIdeal.nD Cert.PreNormRefIdeal.τ).loc Cert.PreNormRefIdeal.main_arg1))
      ∧ r.2.sem = fun _ => 0)

def quiescent_PostNorm [hPostNorm : Cert.PostNorm.Facts] : Prop :=
  ∀ (m : (ℓ : Loc Cert.PostNorm.nD Cert.PostNorm.τ Cert.PostNorm.sig) → Buf (Elt Bits) ℓ) (g : Dev Cert.PostNorm.nD → PrngReg), Pre_PostNorm m →
    θ_run (Cert.PostNorm.defs (F := Bits)) (onTc (τ := Cert.PostNorm.τ) (Cert.PostNorm.main (F := Bits))) ⟨m, fun _ => 0, g⟩ (fun r => (∀ c : Dev Cert.PostNorm.nD,
      r.2.mem ((c.tc : Thread Cert.PostNorm.nD Cert.PostNorm.τ).loc Cert.PostNorm.main_arg0) = m ((c.tc : Thread Cert.PostNorm.nD Cert.PostNorm.τ).loc Cert.PostNorm.main_arg0)
      ∧ r.2.mem ((c.tc : Thread Cert.PostNorm.nD Cert.PostNorm.τ).loc Cert.PostNorm.main_arg1) = m ((c.tc : Thread Cert.PostNorm.nD Cert.PostNorm.τ).loc Cert.PostNorm.main_arg1)
      ∧ r.2.mem ((c.tc : Thread Cert.PostNorm.nD Cert.PostNorm.τ).loc Cert.PostNorm.main_arg2) = m ((c.tc : Thread Cert.PostNorm.nD Cert.PostNorm.τ).loc Cert.PostNorm.main_arg2)
      ∧ r.2.mem ((c.tc : Thread Cert.PostNorm.nD Cert.PostNorm.τ).loc Cert.PostNorm.main_arg3) = m ((c.tc : Thread Cert.PostNorm.nD Cert.PostNorm.τ).loc Cert.PostNorm.main_arg3))
      ∧ r.2.sem = fun _ => 0)

def quiescent_PostNormIdeal [hPostNormIdeal : Cert.PostNormIdeal.Facts] : Prop :=
  ∀ (m : (ℓ : Loc Cert.PostNormIdeal.nD Cert.PostNormIdeal.τ Cert.PostNormIdeal.sig) → Buf (Elt Ideal) ℓ) (g : Dev Cert.PostNormIdeal.nD → PrngReg), Pre_PostNormIdeal m →
    θ_run (Cert.PostNormIdeal.defs (F := Ideal)) (onTc (τ := Cert.PostNormIdeal.τ) (Cert.PostNormIdeal.main (F := Ideal))) ⟨m, fun _ => 0, g⟩ (fun r => (∀ c : Dev Cert.PostNormIdeal.nD,
      r.2.mem ((c.tc : Thread Cert.PostNormIdeal.nD Cert.PostNormIdeal.τ).loc Cert.PostNormIdeal.main_arg0) = m ((c.tc : Thread Cert.PostNormIdeal.nD Cert.PostNormIdeal.τ).loc Cert.PostNormIdeal.main_arg0)
      ∧ r.2.mem ((c.tc : Thread Cert.PostNormIdeal.nD Cert.PostNormIdeal.τ).loc Cert.PostNormIdeal.main_arg1) = m ((c.tc : Thread Cert.PostNormIdeal.nD Cert.PostNormIdeal.τ).loc Cert.PostNormIdeal.main_arg1)
      ∧ r.2.mem ((c.tc : Thread Cert.PostNormIdeal.nD Cert.PostNormIdeal.τ).loc Cert.PostNormIdeal.main_arg2) = m ((c.tc : Thread Cert.PostNormIdeal.nD Cert.PostNormIdeal.τ).loc Cert.PostNormIdeal.main_arg2)
      ∧ r.2.mem ((c.tc : Thread Cert.PostNormIdeal.nD Cert.PostNormIdeal.τ).loc Cert.PostNormIdeal.main_arg3) = m ((c.tc : Thread Cert.PostNormIdeal.nD Cert.PostNormIdeal.τ).loc Cert.PostNormIdeal.main_arg3))
      ∧ r.2.sem = fun _ => 0)

def quiescent_PostNormRefIdeal [hPostNormRefIdeal : Cert.PostNormRefIdeal.Facts] : Prop :=
  ∀ (m : (ℓ : Loc Cert.PostNormRefIdeal.nD Cert.PostNormRefIdeal.τ Cert.PostNormRefIdeal.sig) → Buf (Elt Ideal) ℓ) (g : Dev Cert.PostNormRefIdeal.nD → PrngReg), Pre_PostNormRefIdeal m →
    θ_run (Cert.PostNormRefIdeal.defs (F := Ideal)) (onTc (τ := Cert.PostNormRefIdeal.τ) (Cert.PostNormRefIdeal.main (F := Ideal))) ⟨m, fun _ => 0, g⟩ (fun r => (∀ c : Dev Cert.PostNormRefIdeal.nD,
      r.2.mem ((c.tc : Thread Cert.PostNormRefIdeal.nD Cert.PostNormRefIdeal.τ).loc Cert.PostNormRefIdeal.main_arg0) = m ((c.tc : Thread Cert.PostNormRefIdeal.nD Cert.PostNormRefIdeal.τ).loc Cert.PostNormRefIdeal.main_arg0)
      ∧ r.2.mem ((c.tc : Thread Cert.PostNormRefIdeal.nD Cert.PostNormRefIdeal.τ).loc Cert.PostNormRefIdeal.main_arg1) = m ((c.tc : Thread Cert.PostNormRefIdeal.nD Cert.PostNormRefIdeal.τ).loc Cert.PostNormRefIdeal.main_arg1)
      ∧ r.2.mem ((c.tc : Thread Cert.PostNormRefIdeal.nD Cert.PostNormRefIdeal.τ).loc Cert.PostNormRefIdeal.main_arg2) = m ((c.tc : Thread Cert.PostNormRefIdeal.nD Cert.PostNormRefIdeal.τ).loc Cert.PostNormRefIdeal.main_arg2)
      ∧ r.2.mem ((c.tc : Thread Cert.PostNormRefIdeal.nD Cert.PostNormRefIdeal.τ).loc Cert.PostNormRefIdeal.main_arg3) = m ((c.tc : Thread Cert.PostNormRefIdeal.nD Cert.PostNormRefIdeal.τ).loc Cert.PostNormRefIdeal.main_arg3))
      ∧ r.2.sem = fun _ => 0)

def quiescent_LastNorm [hLastNorm : Cert.LastNorm.Facts] : Prop :=
  ∀ (m : (ℓ : Loc Cert.LastNorm.nD Cert.LastNorm.τ Cert.LastNorm.sig) → Buf (Elt Bits) ℓ) (g : Dev Cert.LastNorm.nD → PrngReg), Pre_LastNorm m →
    θ_run (Cert.LastNorm.defs (F := Bits)) (onTc (τ := Cert.LastNorm.τ) (Cert.LastNorm.main (F := Bits))) ⟨m, fun _ => 0, g⟩ (fun r => (∀ c : Dev Cert.LastNorm.nD,
      r.2.mem ((c.tc : Thread Cert.LastNorm.nD Cert.LastNorm.τ).loc Cert.LastNorm.main_arg0) = m ((c.tc : Thread Cert.LastNorm.nD Cert.LastNorm.τ).loc Cert.LastNorm.main_arg0)
      ∧ r.2.mem ((c.tc : Thread Cert.LastNorm.nD Cert.LastNorm.τ).loc Cert.LastNorm.main_arg1) = m ((c.tc : Thread Cert.LastNorm.nD Cert.LastNorm.τ).loc Cert.LastNorm.main_arg1)
      ∧ r.2.mem ((c.tc : Thread Cert.LastNorm.nD Cert.LastNorm.τ).loc Cert.LastNorm.main_arg2) = m ((c.tc : Thread Cert.LastNorm.nD Cert.LastNorm.τ).loc Cert.LastNorm.main_arg2))
      ∧ r.2.sem = fun _ => 0)

def quiescent_LastNormIdeal [hLastNormIdeal : Cert.LastNormIdeal.Facts] : Prop :=
  ∀ (m : (ℓ : Loc Cert.LastNormIdeal.nD Cert.LastNormIdeal.τ Cert.LastNormIdeal.sig) → Buf (Elt Ideal) ℓ) (g : Dev Cert.LastNormIdeal.nD → PrngReg), Pre_LastNormIdeal m →
    θ_run (Cert.LastNormIdeal.defs (F := Ideal)) (onTc (τ := Cert.LastNormIdeal.τ) (Cert.LastNormIdeal.main (F := Ideal))) ⟨m, fun _ => 0, g⟩ (fun r => (∀ c : Dev Cert.LastNormIdeal.nD,
      r.2.mem ((c.tc : Thread Cert.LastNormIdeal.nD Cert.LastNormIdeal.τ).loc Cert.LastNormIdeal.main_arg0) = m ((c.tc : Thread Cert.LastNormIdeal.nD Cert.LastNormIdeal.τ).loc Cert.LastNormIdeal.main_arg0)
      ∧ r.2.mem ((c.tc : Thread Cert.LastNormIdeal.nD Cert.LastNormIdeal.τ).loc Cert.LastNormIdeal.main_arg1) = m ((c.tc : Thread Cert.LastNormIdeal.nD Cert.LastNormIdeal.τ).loc Cert.LastNormIdeal.main_arg1)
      ∧ r.2.mem ((c.tc : Thread Cert.LastNormIdeal.nD Cert.LastNormIdeal.τ).loc Cert.LastNormIdeal.main_arg2) = m ((c.tc : Thread Cert.LastNormIdeal.nD Cert.LastNormIdeal.τ).loc Cert.LastNormIdeal.main_arg2))
      ∧ r.2.sem = fun _ => 0)

def quiescent_LastNormRefIdeal [hLastNormRefIdeal : Cert.LastNormRefIdeal.Facts] : Prop :=
  ∀ (m : (ℓ : Loc Cert.LastNormRefIdeal.nD Cert.LastNormRefIdeal.τ Cert.LastNormRefIdeal.sig) → Buf (Elt Ideal) ℓ) (g : Dev Cert.LastNormRefIdeal.nD → PrngReg), Pre_LastNormRefIdeal m →
    θ_run (Cert.LastNormRefIdeal.defs (F := Ideal)) (onTc (τ := Cert.LastNormRefIdeal.τ) (Cert.LastNormRefIdeal.main (F := Ideal))) ⟨m, fun _ => 0, g⟩ (fun r => (∀ c : Dev Cert.LastNormRefIdeal.nD,
      r.2.mem ((c.tc : Thread Cert.LastNormRefIdeal.nD Cert.LastNormRefIdeal.τ).loc Cert.LastNormRefIdeal.main_arg0) = m ((c.tc : Thread Cert.LastNormRefIdeal.nD Cert.LastNormRefIdeal.τ).loc Cert.LastNormRefIdeal.main_arg0)
      ∧ r.2.mem ((c.tc : Thread Cert.LastNormRefIdeal.nD Cert.LastNormRefIdeal.τ).loc Cert.LastNormRefIdeal.main_arg1) = m ((c.tc : Thread Cert.LastNormRefIdeal.nD Cert.LastNormRefIdeal.τ).loc Cert.LastNormRefIdeal.main_arg1)
      ∧ r.2.mem ((c.tc : Thread Cert.LastNormRefIdeal.nD Cert.LastNormRefIdeal.τ).loc Cert.LastNormRefIdeal.main_arg2) = m ((c.tc : Thread Cert.LastNormRefIdeal.nD Cert.LastNormRefIdeal.τ).loc Cert.LastNormRefIdeal.main_arg2))
      ∧ r.2.sem = fun _ => 0)

def quiescent_Compress [hCompress : Cert.Compress.Facts] : Prop :=
  ∀ (m : (ℓ : Loc Cert.Compress.nD Cert.Compress.τ Cert.Compress.sig) → Buf (Elt Bits) ℓ) (g : Dev Cert.Compress.nD → PrngReg), Pre_Compress m →
    θ_run (Cert.Compress.defs (F := Bits)) (onTc (τ := Cert.Compress.τ) (Cert.Compress.main (F := Bits))) ⟨m, fun _ => 0, g⟩ (fun r => (∀ c : Dev Cert.Compress.nD,
      r.2.mem ((c.tc : Thread Cert.Compress.nD Cert.Compress.τ).loc Cert.Compress.main_arg0) = m ((c.tc : Thread Cert.Compress.nD Cert.Compress.τ).loc Cert.Compress.main_arg0)
      ∧ r.2.mem ((c.tc : Thread Cert.Compress.nD Cert.Compress.τ).loc Cert.Compress.main_arg1) = m ((c.tc : Thread Cert.Compress.nD Cert.Compress.τ).loc Cert.Compress.main_arg1)
      ∧ r.2.mem ((c.tc : Thread Cert.Compress.nD Cert.Compress.τ).loc Cert.Compress.main_arg2) = m ((c.tc : Thread Cert.Compress.nD Cert.Compress.τ).loc Cert.Compress.main_arg2)
      ∧ r.2.mem ((c.tc : Thread Cert.Compress.nD Cert.Compress.τ).loc Cert.Compress.main_arg3) = m ((c.tc : Thread Cert.Compress.nD Cert.Compress.τ).loc Cert.Compress.main_arg3))
      ∧ r.2.sem = fun _ => 0)

def quiescent_CompressIdeal [hCompressIdeal : Cert.CompressIdeal.Facts] : Prop :=
  ∀ (m : (ℓ : Loc Cert.CompressIdeal.nD Cert.CompressIdeal.τ Cert.CompressIdeal.sig) → Buf (Elt Ideal) ℓ) (g : Dev Cert.CompressIdeal.nD → PrngReg), Pre_CompressIdeal m →
    θ_run (Cert.CompressIdeal.defs (F := Ideal)) (onTc (τ := Cert.CompressIdeal.τ) (Cert.CompressIdeal.main (F := Ideal))) ⟨m, fun _ => 0, g⟩ (fun r => (∀ c : Dev Cert.CompressIdeal.nD,
      r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
      ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
      ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
      ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3))
      ∧ r.2.sem = fun _ => 0)

def quiescent_CompressRefIdeal [hCompressRefIdeal : Cert.CompressRefIdeal.Facts] : Prop :=
  ∀ (m : (ℓ : Loc Cert.CompressRefIdeal.nD Cert.CompressRefIdeal.τ Cert.CompressRefIdeal.sig) → Buf (Elt Ideal) ℓ) (g : Dev Cert.CompressRefIdeal.nD → PrngReg), Pre_CompressRefIdeal m →
    θ_run (Cert.CompressRefIdeal.defs (F := Ideal)) (onTc (τ := Cert.CompressRefIdeal.τ) (Cert.CompressRefIdeal.main (F := Ideal))) ⟨m, fun _ => 0, g⟩ (fun r => (∀ c : Dev Cert.CompressRefIdeal.nD,
      r.2.mem ((c.tc : Thread Cert.CompressRefIdeal.nD Cert.CompressRefIdeal.τ).loc Cert.CompressRefIdeal.main_arg0) = m ((c.tc : Thread Cert.CompressRefIdeal.nD Cert.CompressRefIdeal.τ).loc Cert.CompressRefIdeal.main_arg0)
      ∧ r.2.mem ((c.tc : Thread Cert.CompressRefIdeal.nD Cert.CompressRefIdeal.τ).loc Cert.CompressRefIdeal.main_arg1) = m ((c.tc : Thread Cert.CompressRefIdeal.nD Cert.CompressRefIdeal.τ).loc Cert.CompressRefIdeal.main_arg1)
      ∧ r.2.mem ((c.tc : Thread Cert.CompressRefIdeal.nD Cert.CompressRefIdeal.τ).loc Cert.CompressRefIdeal.main_arg2) = m ((c.tc : Thread Cert.CompressRefIdeal.nD Cert.CompressRefIdeal.τ).loc Cert.CompressRefIdeal.main_arg2)
      ∧ r.2.mem ((c.tc : Thread Cert.CompressRefIdeal.nD Cert.CompressRefIdeal.τ).loc Cert.CompressRefIdeal.main_arg3) = m ((c.tc : Thread Cert.CompressRefIdeal.nD Cert.CompressRefIdeal.τ).loc Cert.CompressRefIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_HgQf_HgQfIdeal : Prop :=
  True

def algebraic_HgQfIdeal_HgQfRefIdeal [hHgQfIdeal : Cert.HgQfIdeal.Facts] [hHgQfRefIdeal : Cert.HgQfRefIdeal.Facts] : Prop :=
  ∀ (m : (ℓ : Loc Cert.HgQfIdeal.nD Cert.HgQfIdeal.τ Cert.HgQfIdeal.sig) → Buf (Elt Ideal) ℓ) (g : Dev Cert.HgQfIdeal.nD → PrngReg)
    (m' : (ℓ : Loc Cert.HgQfRefIdeal.nD Cert.HgQfRefIdeal.τ Cert.HgQfRefIdeal.sig) → Buf (Elt Ideal) ℓ) (g' : Dev Cert.HgQfRefIdeal.nD → PrngReg), Pre_HgQfIdeal m →
    (∀ c : Dev Cert.HgQfIdeal.nD,
      m' ((c.tc : Thread Cert.HgQfRefIdeal.nD Cert.HgQfRefIdeal.τ).loc Cert.HgQfRefIdeal.main_arg0) = m ((c.tc : Thread Cert.HgQfIdeal.nD Cert.HgQfIdeal.τ).loc Cert.HgQfIdeal.main_arg0)
      ∧ m' ((c.tc : Thread Cert.HgQfRefIdeal.nD Cert.HgQfRefIdeal.τ).loc Cert.HgQfRefIdeal.main_arg1) = m ((c.tc : Thread Cert.HgQfIdeal.nD Cert.HgQfIdeal.τ).loc Cert.HgQfIdeal.main_arg1)) →
    ∃ (v0 : (c : Dev Cert.HgQfIdeal.nD) → Buf (Elt Ideal) ((c.tc : Thread Cert.HgQfIdeal.nD Cert.HgQfIdeal.τ).loc Cert.HgQfIdeal.main_v1)),
      θ_run (Cert.HgQfIdeal.defs (F := Ideal)) (onTc (τ := Cert.HgQfIdeal.τ) (Cert.HgQfIdeal.main (F := Ideal))) ⟨m, fun _ => 0, g⟩ (fun r => ∀ c : Dev Cert.HgQfIdeal.nD,
          r.2.mem ((c.tc : Thread Cert.HgQfIdeal.nD Cert.HgQfIdeal.τ).loc Cert.HgQfIdeal.main_v1) = v0 c
          ∧ r.2.mem ((c.tc : Thread Cert.HgQfIdeal.nD Cert.HgQfIdeal.τ).loc Cert.HgQfIdeal.main_arg0) = m ((c.tc : Thread Cert.HgQfIdeal.nD Cert.HgQfIdeal.τ).loc Cert.HgQfIdeal.main_arg0)
          ∧ r.2.mem ((c.tc : Thread Cert.HgQfIdeal.nD Cert.HgQfIdeal.τ).loc Cert.HgQfIdeal.main_arg1) = m ((c.tc : Thread Cert.HgQfIdeal.nD Cert.HgQfIdeal.τ).loc Cert.HgQfIdeal.main_arg1))
      ∧ θ_run (Cert.HgQfRefIdeal.defs (F := Ideal)) (onTc (τ := Cert.HgQfRefIdeal.τ) (Cert.HgQfRefIdeal.main (F := Ideal))) ⟨m', fun _ => 0, g'⟩ (fun r => ∀ c : Dev Cert.HgQfRefIdeal.nD,
          r.2.mem ((c.tc : Thread Cert.HgQfRefIdeal.nD Cert.HgQfRefIdeal.τ).loc Cert.HgQfRefIdeal.main_v2) = v0 c
          ∧ r.2.mem ((c.tc : Thread Cert.HgQfRefIdeal.nD Cert.HgQfRefIdeal.τ).loc Cert.HgQfRefIdeal.main_arg0) = m' ((c.tc : Thread Cert.HgQfRefIdeal.nD Cert.HgQfRefIdeal.τ).loc Cert.HgQfRefIdeal.main_arg0)
          ∧ r.2.mem ((c.tc : Thread Cert.HgQfRefIdeal.nD Cert.HgQfRefIdeal.τ).loc Cert.HgQfRefIdeal.main_arg1) = m' ((c.tc : Thread Cert.HgQfRefIdeal.nD Cert.HgQfRefIdeal.τ).loc Cert.HgQfRefIdeal.main_arg1))

def preserves_HgVg_HgVgIdeal : Prop :=
  True

def algebraic_HgVgIdeal_HgVgRefIdeal [hHgVgIdeal : Cert.HgVgIdeal.Facts] [hHgVgRefIdeal : Cert.HgVgRefIdeal.Facts] : Prop :=
  ∀ (m : (ℓ : Loc Cert.HgVgIdeal.nD Cert.HgVgIdeal.τ Cert.HgVgIdeal.sig) → Buf (Elt Ideal) ℓ) (g : Dev Cert.HgVgIdeal.nD → PrngReg)
    (m' : (ℓ : Loc Cert.HgVgRefIdeal.nD Cert.HgVgRefIdeal.τ Cert.HgVgRefIdeal.sig) → Buf (Elt Ideal) ℓ) (g' : Dev Cert.HgVgRefIdeal.nD → PrngReg), Pre_HgVgIdeal m →
    (∀ c : Dev Cert.HgVgIdeal.nD,
      m' ((c.tc : Thread Cert.HgVgRefIdeal.nD Cert.HgVgRefIdeal.τ).loc Cert.HgVgRefIdeal.main_arg0) = m ((c.tc : Thread Cert.HgVgIdeal.nD Cert.HgVgIdeal.τ).loc Cert.HgVgIdeal.main_arg0)
      ∧ m' ((c.tc : Thread Cert.HgVgRefIdeal.nD Cert.HgVgRefIdeal.τ).loc Cert.HgVgRefIdeal.main_arg1) = m ((c.tc : Thread Cert.HgVgIdeal.nD Cert.HgVgIdeal.τ).loc Cert.HgVgIdeal.main_arg1)) →
    ∃ (v0 : (c : Dev Cert.HgVgIdeal.nD) → Buf (Elt Ideal) ((c.tc : Thread Cert.HgVgIdeal.nD Cert.HgVgIdeal.τ).loc Cert.HgVgIdeal.main_v1)),
      θ_run (Cert.HgVgIdeal.defs (F := Ideal)) (onTc (τ := Cert.HgVgIdeal.τ) (Cert.HgVgIdeal.main (F := Ideal))) ⟨m, fun _ => 0, g⟩ (fun r => ∀ c : Dev Cert.HgVgIdeal.nD,
          r.2.mem ((c.tc : Thread Cert.HgVgIdeal.nD Cert.HgVgIdeal.τ).loc Cert.HgVgIdeal.main_v1) = v0 c
          ∧ r.2.mem ((c.tc : Thread Cert.HgVgIdeal.nD Cert.HgVgIdeal.τ).loc Cert.HgVgIdeal.main_arg0) = m ((c.tc : Thread Cert.HgVgIdeal.nD Cert.HgVgIdeal.τ).loc Cert.HgVgIdeal.main_arg0)
          ∧ r.2.mem ((c.tc : Thread Cert.HgVgIdeal.nD Cert.HgVgIdeal.τ).loc Cert.HgVgIdeal.main_arg1) = m ((c.tc : Thread Cert.HgVgIdeal.nD Cert.HgVgIdeal.τ).loc Cert.HgVgIdeal.main_arg1))
      ∧ θ_run (Cert.HgVgRefIdeal.defs (F := Ideal)) (onTc (τ := Cert.HgVgRefIdeal.τ) (Cert.HgVgRefIdeal.main (F := Ideal))) ⟨m', fun _ => 0, g'⟩ (fun r => ∀ c : Dev Cert.HgVgRefIdeal.nD,
          r.2.mem ((c.tc : Thread Cert.HgVgRefIdeal.nD Cert.HgVgRefIdeal.τ).loc Cert.HgVgRefIdeal.main_v3) = v0 c
          ∧ r.2.mem ((c.tc : Thread Cert.HgVgRefIdeal.nD Cert.HgVgRefIdeal.τ).loc Cert.HgVgRefIdeal.main_arg0) = m' ((c.tc : Thread Cert.HgVgRefIdeal.nD Cert.HgVgRefIdeal.τ).loc Cert.HgVgRefIdeal.main_arg0)
          ∧ r.2.mem ((c.tc : Thread Cert.HgVgRefIdeal.nD Cert.HgVgRefIdeal.τ).loc Cert.HgVgRefIdeal.main_arg1) = m' ((c.tc : Thread Cert.HgVgRefIdeal.nD Cert.HgVgRefIdeal.τ).loc Cert.HgVgRefIdeal.main_arg1))

def preserves_RgXb_RgXbIdeal : Prop :=
  True

def algebraic_RgXbIdeal_RgXbRefIdeal [hRgXbIdeal : Cert.RgXbIdeal.Facts] [hRgXbRefIdeal : Cert.RgXbRefIdeal.Facts] : Prop :=
  ∀ (m : (ℓ : Loc Cert.RgXbIdeal.nD Cert.RgXbIdeal.τ Cert.RgXbIdeal.sig) → Buf (Elt Ideal) ℓ) (g : Dev Cert.RgXbIdeal.nD → PrngReg)
    (m' : (ℓ : Loc Cert.RgXbRefIdeal.nD Cert.RgXbRefIdeal.τ Cert.RgXbRefIdeal.sig) → Buf (Elt Ideal) ℓ) (g' : Dev Cert.RgXbRefIdeal.nD → PrngReg), Pre_RgXbIdeal m →
    (∀ c : Dev Cert.RgXbIdeal.nD,
      m' ((c.tc : Thread Cert.RgXbRefIdeal.nD Cert.RgXbRefIdeal.τ).loc Cert.RgXbRefIdeal.main_arg0) = m ((c.tc : Thread Cert.RgXbIdeal.nD Cert.RgXbIdeal.τ).loc Cert.RgXbIdeal.main_arg0)
      ∧ m' ((c.tc : Thread Cert.RgXbRefIdeal.nD Cert.RgXbRefIdeal.τ).loc Cert.RgXbRefIdeal.main_arg1) = m ((c.tc : Thread Cert.RgXbIdeal.nD Cert.RgXbIdeal.τ).loc Cert.RgXbIdeal.main_arg1)) →
    ∃ (v0 : (c : Dev Cert.RgXbIdeal.nD) → Buf (Elt Ideal) ((c.tc : Thread Cert.RgXbIdeal.nD Cert.RgXbIdeal.τ).loc Cert.RgXbIdeal.main_v1)),
      θ_run (Cert.RgXbIdeal.defs (F := Ideal)) (onTc (τ := Cert.RgXbIdeal.τ) (Cert.RgXbIdeal.main (F := Ideal))) ⟨m, fun _ => 0, g⟩ (fun r => ∀ c : Dev Cert.RgXbIdeal.nD,
          r.2.mem ((c.tc : Thread Cert.RgXbIdeal.nD Cert.RgXbIdeal.τ).loc Cert.RgXbIdeal.main_v1) = v0 c
          ∧ r.2.mem ((c.tc : Thread Cert.RgXbIdeal.nD Cert.RgXbIdeal.τ).loc Cert.RgXbIdeal.main_arg0) = m ((c.tc : Thread Cert.RgXbIdeal.nD Cert.RgXbIdeal.τ).loc Cert.RgXbIdeal.main_arg0)
          ∧ r.2.mem ((c.tc : Thread Cert.RgXbIdeal.nD Cert.RgXbIdeal.τ).loc Cert.RgXbIdeal.main_arg1) = m ((c.tc : Thread Cert.RgXbIdeal.nD Cert.RgXbIdeal.τ).loc Cert.RgXbIdeal.main_arg1))
      ∧ θ_run (Cert.RgXbRefIdeal.defs (F := Ideal)) (onTc (τ := Cert.RgXbRefIdeal.τ) (Cert.RgXbRefIdeal.main (F := Ideal))) ⟨m', fun _ => 0, g'⟩ (fun r => ∀ c : Dev Cert.RgXbRefIdeal.nD,
          r.2.mem ((c.tc : Thread Cert.RgXbRefIdeal.nD Cert.RgXbRefIdeal.τ).loc Cert.RgXbRefIdeal.main_v2) = v0 c
          ∧ r.2.mem ((c.tc : Thread Cert.RgXbRefIdeal.nD Cert.RgXbRefIdeal.τ).loc Cert.RgXbRefIdeal.main_arg0) = m' ((c.tc : Thread Cert.RgXbRefIdeal.nD Cert.RgXbRefIdeal.τ).loc Cert.RgXbRefIdeal.main_arg0)
          ∧ r.2.mem ((c.tc : Thread Cert.RgXbRefIdeal.nD Cert.RgXbRefIdeal.τ).loc Cert.RgXbRefIdeal.main_arg1) = m' ((c.tc : Thread Cert.RgXbRefIdeal.nD Cert.RgXbRefIdeal.τ).loc Cert.RgXbRefIdeal.main_arg1))

def preserves_RgZ_RgZIdeal : Prop :=
  True

def algebraic_RgZIdeal_RgZRefIdeal [hRgZIdeal : Cert.RgZIdeal.Facts] [hRgZRefIdeal : Cert.RgZRefIdeal.Facts] : Prop :=
  ∀ (m : (ℓ : Loc Cert.RgZIdeal.nD Cert.RgZIdeal.τ Cert.RgZIdeal.sig) → Buf (Elt Ideal) ℓ) (g : Dev Cert.RgZIdeal.nD → PrngReg)
    (m' : (ℓ : Loc Cert.RgZRefIdeal.nD Cert.RgZRefIdeal.τ Cert.RgZRefIdeal.sig) → Buf (Elt Ideal) ℓ) (g' : Dev Cert.RgZRefIdeal.nD → PrngReg), Pre_RgZIdeal m →
    (∀ c : Dev Cert.RgZIdeal.nD,
      m' ((c.tc : Thread Cert.RgZRefIdeal.nD Cert.RgZRefIdeal.τ).loc Cert.RgZRefIdeal.main_arg0) = m ((c.tc : Thread Cert.RgZIdeal.nD Cert.RgZIdeal.τ).loc Cert.RgZIdeal.main_arg0)
      ∧ m' ((c.tc : Thread Cert.RgZRefIdeal.nD Cert.RgZRefIdeal.τ).loc Cert.RgZRefIdeal.main_arg1) = m ((c.tc : Thread Cert.RgZIdeal.nD Cert.RgZIdeal.τ).loc Cert.RgZIdeal.main_arg1)) →
    ∃ (v0 : (c : Dev Cert.RgZIdeal.nD) → Buf (Elt Ideal) ((c.tc : Thread Cert.RgZIdeal.nD Cert.RgZIdeal.τ).loc Cert.RgZIdeal.main_v1)),
      θ_run (Cert.RgZIdeal.defs (F := Ideal)) (onTc (τ := Cert.RgZIdeal.τ) (Cert.RgZIdeal.main (F := Ideal))) ⟨m, fun _ => 0, g⟩ (fun r => ∀ c : Dev Cert.RgZIdeal.nD,
          r.2.mem ((c.tc : Thread Cert.RgZIdeal.nD Cert.RgZIdeal.τ).loc Cert.RgZIdeal.main_v1) = v0 c
          ∧ r.2.mem ((c.tc : Thread Cert.RgZIdeal.nD Cert.RgZIdeal.τ).loc Cert.RgZIdeal.main_arg0) = m ((c.tc : Thread Cert.RgZIdeal.nD Cert.RgZIdeal.τ).loc Cert.RgZIdeal.main_arg0)
          ∧ r.2.mem ((c.tc : Thread Cert.RgZIdeal.nD Cert.RgZIdeal.τ).loc Cert.RgZIdeal.main_arg1) = m ((c.tc : Thread Cert.RgZIdeal.nD Cert.RgZIdeal.τ).loc Cert.RgZIdeal.main_arg1))
      ∧ θ_run (Cert.RgZRefIdeal.defs (F := Ideal)) (onTc (τ := Cert.RgZRefIdeal.τ) (Cert.RgZRefIdeal.main (F := Ideal))) ⟨m', fun _ => 0, g'⟩ (fun r => ∀ c : Dev Cert.RgZRefIdeal.nD,
          r.2.mem ((c.tc : Thread Cert.RgZRefIdeal.nD Cert.RgZRefIdeal.τ).loc Cert.RgZRefIdeal.main_v3) = v0 c
          ∧ r.2.mem ((c.tc : Thread Cert.RgZRefIdeal.nD Cert.RgZRefIdeal.τ).loc Cert.RgZRefIdeal.main_arg0) = m' ((c.tc : Thread Cert.RgZRefIdeal.nD Cert.RgZRefIdeal.τ).loc Cert.RgZRefIdeal.main_arg0)
          ∧ r.2.mem ((c.tc : Thread Cert.RgZRefIdeal.nD Cert.RgZRefIdeal.τ).loc Cert.RgZRefIdeal.main_arg1) = m' ((c.tc : Thread Cert.RgZRefIdeal.nD Cert.RgZRefIdeal.τ).loc Cert.RgZRefIdeal.main_arg1))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)) →
    ∃ (v0 : (c : Dev Cert.MixOutIdeal.nD) → Buf (Elt Ideal) ((c.tc : Thread Cert.MixOutIdeal.nD Cert.MixOutIdeal.τ).loc Cert.MixOutIdeal.main_v1)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v1) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v2) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1))

def preserves_NsaOut_NsaOutIdeal : Prop :=
  True

def algebraic_NsaOutIdeal_NsaOutRefIdeal [hNsaOutIdeal : Cert.NsaOutIdeal.Facts] [hNsaOutRefIdeal : Cert.NsaOutRefIdeal.Facts] : Prop :=
  ∀ (m : (ℓ : Loc Cert.NsaOutIdeal.nD Cert.NsaOutIdeal.τ Cert.NsaOutIdeal.sig) → Buf (Elt Ideal) ℓ) (g : Dev Cert.NsaOutIdeal.nD → PrngReg)
    (m' : (ℓ : Loc Cert.NsaOutRefIdeal.nD Cert.NsaOutRefIdeal.τ Cert.NsaOutRefIdeal.sig) → Buf (Elt Ideal) ℓ) (g' : Dev Cert.NsaOutRefIdeal.nD → PrngReg), Pre_NsaOutIdeal m →
    (∀ c : Dev Cert.NsaOutIdeal.nD,
      m' ((c.tc : Thread Cert.NsaOutRefIdeal.nD Cert.NsaOutRefIdeal.τ).loc Cert.NsaOutRefIdeal.main_arg0) = m ((c.tc : Thread Cert.NsaOutIdeal.nD Cert.NsaOutIdeal.τ).loc Cert.NsaOutIdeal.main_arg0)
      ∧ m' ((c.tc : Thread Cert.NsaOutRefIdeal.nD Cert.NsaOutRefIdeal.τ).loc Cert.NsaOutRefIdeal.main_arg1) = m ((c.tc : Thread Cert.NsaOutIdeal.nD Cert.NsaOutIdeal.τ).loc Cert.NsaOutIdeal.main_arg1)) →
    ∃ (v0 : (c : Dev Cert.NsaOutIdeal.nD) → Buf (Elt Ideal) ((c.tc : Thread Cert.NsaOutIdeal.nD Cert.NsaOutIdeal.τ).loc Cert.NsaOutIdeal.main_v0)),
      θ_run (Cert.NsaOutIdeal.defs (F := Ideal)) (onTc (τ := Cert.NsaOutIdeal.τ) (Cert.NsaOutIdeal.main (F := Ideal))) ⟨m, fun _ => 0, g⟩ (fun r => ∀ c : Dev Cert.NsaOutIdeal.nD,
          r.2.mem ((c.tc : Thread Cert.NsaOutIdeal.nD Cert.NsaOutIdeal.τ).loc Cert.NsaOutIdeal.main_v0) = v0 c
          ∧ r.2.mem ((c.tc : Thread Cert.NsaOutIdeal.nD Cert.NsaOutIdeal.τ).loc Cert.NsaOutIdeal.main_arg0) = m ((c.tc : Thread Cert.NsaOutIdeal.nD Cert.NsaOutIdeal.τ).loc Cert.NsaOutIdeal.main_arg0)
          ∧ r.2.mem ((c.tc : Thread Cert.NsaOutIdeal.nD Cert.NsaOutIdeal.τ).loc Cert.NsaOutIdeal.main_arg1) = m ((c.tc : Thread Cert.NsaOutIdeal.nD Cert.NsaOutIdeal.τ).loc Cert.NsaOutIdeal.main_arg1))
      ∧ θ_run (Cert.NsaOutRefIdeal.defs (F := Ideal)) (onTc (τ := Cert.NsaOutRefIdeal.τ) (Cert.NsaOutRefIdeal.main (F := Ideal))) ⟨m', fun _ => 0, g'⟩ (fun r => ∀ c : Dev Cert.NsaOutRefIdeal.nD,
          r.2.mem ((c.tc : Thread Cert.NsaOutRefIdeal.nD Cert.NsaOutRefIdeal.τ).loc Cert.NsaOutRefIdeal.main_v4) = v0 c
          ∧ r.2.mem ((c.tc : Thread Cert.NsaOutRefIdeal.nD Cert.NsaOutRefIdeal.τ).loc Cert.NsaOutRefIdeal.main_arg0) = m' ((c.tc : Thread Cert.NsaOutRefIdeal.nD Cert.NsaOutRefIdeal.τ).loc Cert.NsaOutRefIdeal.main_arg0)
          ∧ r.2.mem ((c.tc : Thread Cert.NsaOutRefIdeal.nD Cert.NsaOutRefIdeal.τ).loc Cert.NsaOutRefIdeal.main_arg1) = m' ((c.tc : Thread Cert.NsaOutRefIdeal.nD Cert.NsaOutRefIdeal.τ).loc Cert.NsaOutRefIdeal.main_arg1))

def preserves_NsaQkv_NsaQkvIdeal : Prop :=
  True

def algebraic_NsaQkvIdeal_NsaQkvRefIdeal [hNsaQkvIdeal : Cert.NsaQkvIdeal.Facts] [hNsaQkvRefIdeal : Cert.NsaQkvRefIdeal.Facts] : Prop :=
  ∀ (m : (ℓ : Loc Cert.NsaQkvIdeal.nD Cert.NsaQkvIdeal.τ Cert.NsaQkvIdeal.sig) → Buf (Elt Ideal) ℓ) (g : Dev Cert.NsaQkvIdeal.nD → PrngReg)
    (m' : (ℓ : Loc Cert.NsaQkvRefIdeal.nD Cert.NsaQkvRefIdeal.τ Cert.NsaQkvRefIdeal.sig) → Buf (Elt Ideal) ℓ) (g' : Dev Cert.NsaQkvRefIdeal.nD → PrngReg), Pre_NsaQkvIdeal m →
    (∀ c : Dev Cert.NsaQkvIdeal.nD,
      m' ((c.tc : Thread Cert.NsaQkvRefIdeal.nD Cert.NsaQkvRefIdeal.τ).loc Cert.NsaQkvRefIdeal.main_arg0) = m ((c.tc : Thread Cert.NsaQkvIdeal.nD Cert.NsaQkvIdeal.τ).loc Cert.NsaQkvIdeal.main_arg0)
      ∧ m' ((c.tc : Thread Cert.NsaQkvRefIdeal.nD Cert.NsaQkvRefIdeal.τ).loc Cert.NsaQkvRefIdeal.main_arg1) = m ((c.tc : Thread Cert.NsaQkvIdeal.nD Cert.NsaQkvIdeal.τ).loc Cert.NsaQkvIdeal.main_arg1)) →
    ∃ (v0 : (c : Dev Cert.NsaQkvIdeal.nD) → Buf (Elt Ideal) ((c.tc : Thread Cert.NsaQkvIdeal.nD Cert.NsaQkvIdeal.τ).loc Cert.NsaQkvIdeal.main_v1)),
      θ_run (Cert.NsaQkvIdeal.defs (F := Ideal)) (onTc (τ := Cert.NsaQkvIdeal.τ) (Cert.NsaQkvIdeal.main (F := Ideal))) ⟨m, fun _ => 0, g⟩ (fun r => ∀ c : Dev Cert.NsaQkvIdeal.nD,
          r.2.mem ((c.tc : Thread Cert.NsaQkvIdeal.nD Cert.NsaQkvIdeal.τ).loc Cert.NsaQkvIdeal.main_v1) = v0 c
          ∧ r.2.mem ((c.tc : Thread Cert.NsaQkvIdeal.nD Cert.NsaQkvIdeal.τ).loc Cert.NsaQkvIdeal.main_arg0) = m ((c.tc : Thread Cert.NsaQkvIdeal.nD Cert.NsaQkvIdeal.τ).loc Cert.NsaQkvIdeal.main_arg0)
          ∧ r.2.mem ((c.tc : Thread Cert.NsaQkvIdeal.nD Cert.NsaQkvIdeal.τ).loc Cert.NsaQkvIdeal.main_arg1) = m ((c.tc : Thread Cert.NsaQkvIdeal.nD Cert.NsaQkvIdeal.τ).loc Cert.NsaQkvIdeal.main_arg1))
      ∧ θ_run (Cert.NsaQkvRefIdeal.defs (F := Ideal)) (onTc (τ := Cert.NsaQkvRefIdeal.τ) (Cert.NsaQkvRefIdeal.main (F := Ideal))) ⟨m', fun _ => 0, g'⟩ (fun r => ∀ c : Dev Cert.NsaQkvRefIdeal.nD,
          r.2.mem ((c.tc : Thread Cert.NsaQkvRefIdeal.nD Cert.NsaQkvRefIdeal.τ).loc Cert.NsaQkvRefIdeal.main_v5) = v0 c
          ∧ r.2.mem ((c.tc : Thread Cert.NsaQkvRefIdeal.nD Cert.NsaQkvRefIdeal.τ).loc Cert.NsaQkvRefIdeal.main_arg0) = m' ((c.tc : Thread Cert.NsaQkvRefIdeal.nD Cert.NsaQkvRefIdeal.τ).loc Cert.NsaQkvRefIdeal.main_arg0)
          ∧ r.2.mem ((c.tc : Thread Cert.NsaQkvRefIdeal.nD Cert.NsaQkvRefIdeal.τ).loc Cert.NsaQkvRefIdeal.main_arg1) = m' ((c.tc : Thread Cert.NsaQkvRefIdeal.nD Cert.NsaQkvRefIdeal.τ).loc Cert.NsaQkvRefIdeal.main_arg1))

def preserves_NsaGl_NsaGlIdeal : Prop :=
  True

def algebraic_NsaGlIdeal_NsaGlRefIdeal [hNsaGlIdeal : Cert.NsaGlIdeal.Facts] [hNsaGlRefIdeal : Cert.NsaGlRefIdeal.Facts] : Prop :=
  ∀ (m : (ℓ : Loc Cert.NsaGlIdeal.nD Cert.NsaGlIdeal.τ Cert.NsaGlIdeal.sig) → Buf (Elt Ideal) ℓ) (g : Dev Cert.NsaGlIdeal.nD → PrngReg)
    (m' : (ℓ : Loc Cert.NsaGlRefIdeal.nD Cert.NsaGlRefIdeal.τ Cert.NsaGlRefIdeal.sig) → Buf (Elt Ideal) ℓ) (g' : Dev Cert.NsaGlRefIdeal.nD → PrngReg), Pre_NsaGlIdeal m →
    (∀ c : Dev Cert.NsaGlIdeal.nD,
      m' ((c.tc : Thread Cert.NsaGlRefIdeal.nD Cert.NsaGlRefIdeal.τ).loc Cert.NsaGlRefIdeal.main_arg0) = m ((c.tc : Thread Cert.NsaGlIdeal.nD Cert.NsaGlIdeal.τ).loc Cert.NsaGlIdeal.main_arg0)
      ∧ m' ((c.tc : Thread Cert.NsaGlRefIdeal.nD Cert.NsaGlRefIdeal.τ).loc Cert.NsaGlRefIdeal.main_arg1) = m ((c.tc : Thread Cert.NsaGlIdeal.nD Cert.NsaGlIdeal.τ).loc Cert.NsaGlIdeal.main_arg1)) →
    ∃ (v0 : (c : Dev Cert.NsaGlIdeal.nD) → Buf (Elt Ideal) ((c.tc : Thread Cert.NsaGlIdeal.nD Cert.NsaGlIdeal.τ).loc Cert.NsaGlIdeal.main_v1)),
      θ_run (Cert.NsaGlIdeal.defs (F := Ideal)) (onTc (τ := Cert.NsaGlIdeal.τ) (Cert.NsaGlIdeal.main (F := Ideal))) ⟨m, fun _ => 0, g⟩ (fun r => ∀ c : Dev Cert.NsaGlIdeal.nD,
          r.2.mem ((c.tc : Thread Cert.NsaGlIdeal.nD Cert.NsaGlIdeal.τ).loc Cert.NsaGlIdeal.main_v1) = v0 c
          ∧ r.2.mem ((c.tc : Thread Cert.NsaGlIdeal.nD Cert.NsaGlIdeal.τ).loc Cert.NsaGlIdeal.main_arg0) = m ((c.tc : Thread Cert.NsaGlIdeal.nD Cert.NsaGlIdeal.τ).loc Cert.NsaGlIdeal.main_arg0)
          ∧ r.2.mem ((c.tc : Thread Cert.NsaGlIdeal.nD Cert.NsaGlIdeal.τ).loc Cert.NsaGlIdeal.main_arg1) = m ((c.tc : Thread Cert.NsaGlIdeal.nD Cert.NsaGlIdeal.τ).loc Cert.NsaGlIdeal.main_arg1))
      ∧ θ_run (Cert.NsaGlRefIdeal.defs (F := Ideal)) (onTc (τ := Cert.NsaGlRefIdeal.τ) (Cert.NsaGlRefIdeal.main (F := Ideal))) ⟨m', fun _ => 0, g'⟩ (fun r => ∀ c : Dev Cert.NsaGlRefIdeal.nD,
          r.2.mem ((c.tc : Thread Cert.NsaGlRefIdeal.nD Cert.NsaGlRefIdeal.τ).loc Cert.NsaGlRefIdeal.main_v4) = v0 c
          ∧ r.2.mem ((c.tc : Thread Cert.NsaGlRefIdeal.nD Cert.NsaGlRefIdeal.τ).loc Cert.NsaGlRefIdeal.main_arg0) = m' ((c.tc : Thread Cert.NsaGlRefIdeal.nD Cert.NsaGlRefIdeal.τ).loc Cert.NsaGlRefIdeal.main_arg0)
          ∧ r.2.mem ((c.tc : Thread Cert.NsaGlRefIdeal.nD Cert.NsaGlRefIdeal.τ).loc Cert.NsaGlRefIdeal.main_arg1) = m' ((c.tc : Thread Cert.NsaGlRefIdeal.nD Cert.NsaGlRefIdeal.τ).loc Cert.NsaGlRefIdeal.main_arg1))

def preserves_NsaZ_NsaZIdeal : Prop :=
  True

def algebraic_NsaZIdeal_NsaZRefIdeal [hNsaZIdeal : Cert.NsaZIdeal.Facts] [hNsaZRefIdeal : Cert.NsaZRefIdeal.Facts] : Prop :=
  ∀ (m : (ℓ : Loc Cert.NsaZIdeal.nD Cert.NsaZIdeal.τ Cert.NsaZIdeal.sig) → Buf (Elt Ideal) ℓ) (g : Dev Cert.NsaZIdeal.nD → PrngReg)
    (m' : (ℓ : Loc Cert.NsaZRefIdeal.nD Cert.NsaZRefIdeal.τ Cert.NsaZRefIdeal.sig) → Buf (Elt Ideal) ℓ) (g' : Dev Cert.NsaZRefIdeal.nD → PrngReg), Pre_NsaZIdeal m →
    (∀ c : Dev Cert.NsaZIdeal.nD,
      m' ((c.tc : Thread Cert.NsaZRefIdeal.nD Cert.NsaZRefIdeal.τ).loc Cert.NsaZRefIdeal.main_arg0) = m ((c.tc : Thread Cert.NsaZIdeal.nD Cert.NsaZIdeal.τ).loc Cert.NsaZIdeal.main_arg0)
      ∧ m' ((c.tc : Thread Cert.NsaZRefIdeal.nD Cert.NsaZRefIdeal.τ).loc Cert.NsaZRefIdeal.main_arg1) = m ((c.tc : Thread Cert.NsaZIdeal.nD Cert.NsaZIdeal.τ).loc Cert.NsaZIdeal.main_arg1)) →
    ∃ (v0 : (c : Dev Cert.NsaZIdeal.nD) → Buf (Elt Ideal) ((c.tc : Thread Cert.NsaZIdeal.nD Cert.NsaZIdeal.τ).loc Cert.NsaZIdeal.main_v1)),
      θ_run (Cert.NsaZIdeal.defs (F := Ideal)) (onTc (τ := Cert.NsaZIdeal.τ) (Cert.NsaZIdeal.main (F := Ideal))) ⟨m, fun _ => 0, g⟩ (fun r => ∀ c : Dev Cert.NsaZIdeal.nD,
          r.2.mem ((c.tc : Thread Cert.NsaZIdeal.nD Cert.NsaZIdeal.τ).loc Cert.NsaZIdeal.main_v1) = v0 c
          ∧ r.2.mem ((c.tc : Thread Cert.NsaZIdeal.nD Cert.NsaZIdeal.τ).loc Cert.NsaZIdeal.main_arg0) = m ((c.tc : Thread Cert.NsaZIdeal.nD Cert.NsaZIdeal.τ).loc Cert.NsaZIdeal.main_arg0)
          ∧ r.2.mem ((c.tc : Thread Cert.NsaZIdeal.nD Cert.NsaZIdeal.τ).loc Cert.NsaZIdeal.main_arg1) = m ((c.tc : Thread Cert.NsaZIdeal.nD Cert.NsaZIdeal.τ).loc Cert.NsaZIdeal.main_arg1))
      ∧ θ_run (Cert.NsaZRefIdeal.defs (F := Ideal)) (onTc (τ := Cert.NsaZRefIdeal.τ) (Cert.NsaZRefIdeal.main (F := Ideal))) ⟨m', fun _ => 0, g'⟩ (fun r => ∀ c : Dev Cert.NsaZRefIdeal.nD,
          r.2.mem ((c.tc : Thread Cert.NsaZRefIdeal.nD Cert.NsaZRefIdeal.τ).loc Cert.NsaZRefIdeal.main_v5) = v0 c
          ∧ r.2.mem ((c.tc : Thread Cert.NsaZRefIdeal.nD Cert.NsaZRefIdeal.τ).loc Cert.NsaZRefIdeal.main_arg0) = m' ((c.tc : Thread Cert.NsaZRefIdeal.nD Cert.NsaZRefIdeal.τ).loc Cert.NsaZRefIdeal.main_arg0)
          ∧ r.2.mem ((c.tc : Thread Cert.NsaZRefIdeal.nD Cert.NsaZRefIdeal.τ).loc Cert.NsaZRefIdeal.main_arg1) = m' ((c.tc : Thread Cert.NsaZRefIdeal.nD Cert.NsaZRefIdeal.τ).loc Cert.NsaZRefIdeal.main_arg1))

def preserves_PreNorm_PreNormIdeal : Prop :=
  True

def algebraic_PreNormIdeal_PreNormRefIdeal [hPreNormIdeal : Cert.PreNormIdeal.Facts] [hPreNormRefIdeal : Cert.PreNormRefIdeal.Facts] : Prop :=
  ∀ (m : (ℓ : Loc Cert.PreNormIdeal.nD Cert.PreNormIdeal.τ Cert.PreNormIdeal.sig) → Buf (Elt Ideal) ℓ) (g : Dev Cert.PreNormIdeal.nD → PrngReg)
    (m' : (ℓ : Loc Cert.PreNormRefIdeal.nD Cert.PreNormRefIdeal.τ Cert.PreNormRefIdeal.sig) → Buf (Elt Ideal) ℓ) (g' : Dev Cert.PreNormRefIdeal.nD → PrngReg), Pre_PreNormIdeal m →
    (∀ c : Dev Cert.PreNormIdeal.nD,
      m' ((c.tc : Thread Cert.PreNormRefIdeal.nD Cert.PreNormRefIdeal.τ).loc Cert.PreNormRefIdeal.main_arg0) = m ((c.tc : Thread Cert.PreNormIdeal.nD Cert.PreNormIdeal.τ).loc Cert.PreNormIdeal.main_arg0)
      ∧ m' ((c.tc : Thread Cert.PreNormRefIdeal.nD Cert.PreNormRefIdeal.τ).loc Cert.PreNormRefIdeal.main_arg1) = m ((c.tc : Thread Cert.PreNormIdeal.nD Cert.PreNormIdeal.τ).loc Cert.PreNormIdeal.main_arg1)) →
    ∃ (v0 : (c : Dev Cert.PreNormIdeal.nD) → Buf (Elt Ideal) ((c.tc : Thread Cert.PreNormIdeal.nD Cert.PreNormIdeal.τ).loc Cert.PreNormIdeal.main_v1)),
      θ_run (Cert.PreNormIdeal.defs (F := Ideal)) (onTc (τ := Cert.PreNormIdeal.τ) (Cert.PreNormIdeal.main (F := Ideal))) ⟨m, fun _ => 0, g⟩ (fun r => ∀ c : Dev Cert.PreNormIdeal.nD,
          r.2.mem ((c.tc : Thread Cert.PreNormIdeal.nD Cert.PreNormIdeal.τ).loc Cert.PreNormIdeal.main_v1) = v0 c
          ∧ r.2.mem ((c.tc : Thread Cert.PreNormIdeal.nD Cert.PreNormIdeal.τ).loc Cert.PreNormIdeal.main_arg0) = m ((c.tc : Thread Cert.PreNormIdeal.nD Cert.PreNormIdeal.τ).loc Cert.PreNormIdeal.main_arg0)
          ∧ r.2.mem ((c.tc : Thread Cert.PreNormIdeal.nD Cert.PreNormIdeal.τ).loc Cert.PreNormIdeal.main_arg1) = m ((c.tc : Thread Cert.PreNormIdeal.nD Cert.PreNormIdeal.τ).loc Cert.PreNormIdeal.main_arg1))
      ∧ θ_run (Cert.PreNormRefIdeal.defs (F := Ideal)) (onTc (τ := Cert.PreNormRefIdeal.τ) (Cert.PreNormRefIdeal.main (F := Ideal))) ⟨m', fun _ => 0, g'⟩ (fun r => ∀ c : Dev Cert.PreNormRefIdeal.nD,
          r.2.mem ((c.tc : Thread Cert.PreNormRefIdeal.nD Cert.PreNormRefIdeal.τ).loc Cert.PreNormRefIdeal.main_v13) = v0 c
          ∧ r.2.mem ((c.tc : Thread Cert.PreNormRefIdeal.nD Cert.PreNormRefIdeal.τ).loc Cert.PreNormRefIdeal.main_arg0) = m' ((c.tc : Thread Cert.PreNormRefIdeal.nD Cert.PreNormRefIdeal.τ).loc Cert.PreNormRefIdeal.main_arg0)
          ∧ r.2.mem ((c.tc : Thread Cert.PreNormRefIdeal.nD Cert.PreNormRefIdeal.τ).loc Cert.PreNormRefIdeal.main_arg1) = m' ((c.tc : Thread Cert.PreNormRefIdeal.nD Cert.PreNormRefIdeal.τ).loc Cert.PreNormRefIdeal.main_arg1))

def preserves_PostNorm_PostNormIdeal : Prop :=
  True

def algebraic_PostNormIdeal_PostNormRefIdeal [hPostNormIdeal : Cert.PostNormIdeal.Facts] [hPostNormRefIdeal : Cert.PostNormRefIdeal.Facts] : Prop :=
  ∀ (m : (ℓ : Loc Cert.PostNormIdeal.nD Cert.PostNormIdeal.τ Cert.PostNormIdeal.sig) → Buf (Elt Ideal) ℓ) (g : Dev Cert.PostNormIdeal.nD → PrngReg)
    (m' : (ℓ : Loc Cert.PostNormRefIdeal.nD Cert.PostNormRefIdeal.τ Cert.PostNormRefIdeal.sig) → Buf (Elt Ideal) ℓ) (g' : Dev Cert.PostNormRefIdeal.nD → PrngReg), Pre_PostNormIdeal m →
    (∀ c : Dev Cert.PostNormIdeal.nD,
      m' ((c.tc : Thread Cert.PostNormRefIdeal.nD Cert.PostNormRefIdeal.τ).loc Cert.PostNormRefIdeal.main_arg0) = m ((c.tc : Thread Cert.PostNormIdeal.nD Cert.PostNormIdeal.τ).loc Cert.PostNormIdeal.main_arg0)
      ∧ m' ((c.tc : Thread Cert.PostNormRefIdeal.nD Cert.PostNormRefIdeal.τ).loc Cert.PostNormRefIdeal.main_arg1) = m ((c.tc : Thread Cert.PostNormIdeal.nD Cert.PostNormIdeal.τ).loc Cert.PostNormIdeal.main_arg1)
      ∧ m' ((c.tc : Thread Cert.PostNormRefIdeal.nD Cert.PostNormRefIdeal.τ).loc Cert.PostNormRefIdeal.main_arg2) = m ((c.tc : Thread Cert.PostNormIdeal.nD Cert.PostNormIdeal.τ).loc Cert.PostNormIdeal.main_arg2)
      ∧ m' ((c.tc : Thread Cert.PostNormRefIdeal.nD Cert.PostNormRefIdeal.τ).loc Cert.PostNormRefIdeal.main_arg3) = m ((c.tc : Thread Cert.PostNormIdeal.nD Cert.PostNormIdeal.τ).loc Cert.PostNormIdeal.main_arg3)) →
    ∃ (v0 : (c : Dev Cert.PostNormIdeal.nD) → Buf (Elt Ideal) ((c.tc : Thread Cert.PostNormIdeal.nD Cert.PostNormIdeal.τ).loc Cert.PostNormIdeal.main_v2_0)) (v1 : (c : Dev Cert.PostNormIdeal.nD) → Buf (Elt Ideal) ((c.tc : Thread Cert.PostNormIdeal.nD Cert.PostNormIdeal.τ).loc Cert.PostNormIdeal.main_v2_1)),
      θ_run (Cert.PostNormIdeal.defs (F := Ideal)) (onTc (τ := Cert.PostNormIdeal.τ) (Cert.PostNormIdeal.main (F := Ideal))) ⟨m, fun _ => 0, g⟩ (fun r => ∀ c : Dev Cert.PostNormIdeal.nD,
          r.2.mem ((c.tc : Thread Cert.PostNormIdeal.nD Cert.PostNormIdeal.τ).loc Cert.PostNormIdeal.main_v2_0) = v0 c
          ∧ r.2.mem ((c.tc : Thread Cert.PostNormIdeal.nD Cert.PostNormIdeal.τ).loc Cert.PostNormIdeal.main_v2_1) = v1 c
          ∧ r.2.mem ((c.tc : Thread Cert.PostNormIdeal.nD Cert.PostNormIdeal.τ).loc Cert.PostNormIdeal.main_arg0) = m ((c.tc : Thread Cert.PostNormIdeal.nD Cert.PostNormIdeal.τ).loc Cert.PostNormIdeal.main_arg0)
          ∧ r.2.mem ((c.tc : Thread Cert.PostNormIdeal.nD Cert.PostNormIdeal.τ).loc Cert.PostNormIdeal.main_arg1) = m ((c.tc : Thread Cert.PostNormIdeal.nD Cert.PostNormIdeal.τ).loc Cert.PostNormIdeal.main_arg1)
          ∧ r.2.mem ((c.tc : Thread Cert.PostNormIdeal.nD Cert.PostNormIdeal.τ).loc Cert.PostNormIdeal.main_arg2) = m ((c.tc : Thread Cert.PostNormIdeal.nD Cert.PostNormIdeal.τ).loc Cert.PostNormIdeal.main_arg2)
          ∧ r.2.mem ((c.tc : Thread Cert.PostNormIdeal.nD Cert.PostNormIdeal.τ).loc Cert.PostNormIdeal.main_arg3) = m ((c.tc : Thread Cert.PostNormIdeal.nD Cert.PostNormIdeal.τ).loc Cert.PostNormIdeal.main_arg3))
      ∧ θ_run (Cert.PostNormRefIdeal.defs (F := Ideal)) (onTc (τ := Cert.PostNormRefIdeal.τ) (Cert.PostNormRefIdeal.main (F := Ideal))) ⟨m', fun _ => 0, g'⟩ (fun r => ∀ c : Dev Cert.PostNormRefIdeal.nD,
          r.2.mem ((c.tc : Thread Cert.PostNormRefIdeal.nD Cert.PostNormRefIdeal.τ).loc Cert.PostNormRefIdeal.main_v14) = v0 c
          ∧ r.2.mem ((c.tc : Thread Cert.PostNormRefIdeal.nD Cert.PostNormRefIdeal.τ).loc Cert.PostNormRefIdeal.main_v28) = v1 c
          ∧ r.2.mem ((c.tc : Thread Cert.PostNormRefIdeal.nD Cert.PostNormRefIdeal.τ).loc Cert.PostNormRefIdeal.main_arg0) = m' ((c.tc : Thread Cert.PostNormRefIdeal.nD Cert.PostNormRefIdeal.τ).loc Cert.PostNormRefIdeal.main_arg0)
          ∧ r.2.mem ((c.tc : Thread Cert.PostNormRefIdeal.nD Cert.PostNormRefIdeal.τ).loc Cert.PostNormRefIdeal.main_arg1) = m' ((c.tc : Thread Cert.PostNormRefIdeal.nD Cert.PostNormRefIdeal.τ).loc Cert.PostNormRefIdeal.main_arg1)
          ∧ r.2.mem ((c.tc : Thread Cert.PostNormRefIdeal.nD Cert.PostNormRefIdeal.τ).loc Cert.PostNormRefIdeal.main_arg2) = m' ((c.tc : Thread Cert.PostNormRefIdeal.nD Cert.PostNormRefIdeal.τ).loc Cert.PostNormRefIdeal.main_arg2)
          ∧ r.2.mem ((c.tc : Thread Cert.PostNormRefIdeal.nD Cert.PostNormRefIdeal.τ).loc Cert.PostNormRefIdeal.main_arg3) = m' ((c.tc : Thread Cert.PostNormRefIdeal.nD Cert.PostNormRefIdeal.τ).loc Cert.PostNormRefIdeal.main_arg3))

def preserves_LastNorm_LastNormIdeal : Prop :=
  True

def algebraic_LastNormIdeal_LastNormRefIdeal [hLastNormIdeal : Cert.LastNormIdeal.Facts] [hLastNormRefIdeal : Cert.LastNormRefIdeal.Facts] : Prop :=
  ∀ (m : (ℓ : Loc Cert.LastNormIdeal.nD Cert.LastNormIdeal.τ Cert.LastNormIdeal.sig) → Buf (Elt Ideal) ℓ) (g : Dev Cert.LastNormIdeal.nD → PrngReg)
    (m' : (ℓ : Loc Cert.LastNormRefIdeal.nD Cert.LastNormRefIdeal.τ Cert.LastNormRefIdeal.sig) → Buf (Elt Ideal) ℓ) (g' : Dev Cert.LastNormRefIdeal.nD → PrngReg), Pre_LastNormIdeal m →
    (∀ c : Dev Cert.LastNormIdeal.nD,
      m' ((c.tc : Thread Cert.LastNormRefIdeal.nD Cert.LastNormRefIdeal.τ).loc Cert.LastNormRefIdeal.main_arg0) = m ((c.tc : Thread Cert.LastNormIdeal.nD Cert.LastNormIdeal.τ).loc Cert.LastNormIdeal.main_arg0)
      ∧ m' ((c.tc : Thread Cert.LastNormRefIdeal.nD Cert.LastNormRefIdeal.τ).loc Cert.LastNormRefIdeal.main_arg1) = m ((c.tc : Thread Cert.LastNormIdeal.nD Cert.LastNormIdeal.τ).loc Cert.LastNormIdeal.main_arg1)
      ∧ m' ((c.tc : Thread Cert.LastNormRefIdeal.nD Cert.LastNormRefIdeal.τ).loc Cert.LastNormRefIdeal.main_arg2) = m ((c.tc : Thread Cert.LastNormIdeal.nD Cert.LastNormIdeal.τ).loc Cert.LastNormIdeal.main_arg2)) →
    ∃ (v0 : (c : Dev Cert.LastNormIdeal.nD) → Buf (Elt Ideal) ((c.tc : Thread Cert.LastNormIdeal.nD Cert.LastNormIdeal.τ).loc Cert.LastNormIdeal.main_v1)),
      θ_run (Cert.LastNormIdeal.defs (F := Ideal)) (onTc (τ := Cert.LastNormIdeal.τ) (Cert.LastNormIdeal.main (F := Ideal))) ⟨m, fun _ => 0, g⟩ (fun r => ∀ c : Dev Cert.LastNormIdeal.nD,
          r.2.mem ((c.tc : Thread Cert.LastNormIdeal.nD Cert.LastNormIdeal.τ).loc Cert.LastNormIdeal.main_v1) = v0 c
          ∧ r.2.mem ((c.tc : Thread Cert.LastNormIdeal.nD Cert.LastNormIdeal.τ).loc Cert.LastNormIdeal.main_arg0) = m ((c.tc : Thread Cert.LastNormIdeal.nD Cert.LastNormIdeal.τ).loc Cert.LastNormIdeal.main_arg0)
          ∧ r.2.mem ((c.tc : Thread Cert.LastNormIdeal.nD Cert.LastNormIdeal.τ).loc Cert.LastNormIdeal.main_arg1) = m ((c.tc : Thread Cert.LastNormIdeal.nD Cert.LastNormIdeal.τ).loc Cert.LastNormIdeal.main_arg1)
          ∧ r.2.mem ((c.tc : Thread Cert.LastNormIdeal.nD Cert.LastNormIdeal.τ).loc Cert.LastNormIdeal.main_arg2) = m ((c.tc : Thread Cert.LastNormIdeal.nD Cert.LastNormIdeal.τ).loc Cert.LastNormIdeal.main_arg2))
      ∧ θ_run (Cert.LastNormRefIdeal.defs (F := Ideal)) (onTc (τ := Cert.LastNormRefIdeal.τ) (Cert.LastNormRefIdeal.main (F := Ideal))) ⟨m', fun _ => 0, g'⟩ (fun r => ∀ c : Dev Cert.LastNormRefIdeal.nD,
          r.2.mem ((c.tc : Thread Cert.LastNormRefIdeal.nD Cert.LastNormRefIdeal.τ).loc Cert.LastNormRefIdeal.main_v14) = v0 c
          ∧ r.2.mem ((c.tc : Thread Cert.LastNormRefIdeal.nD Cert.LastNormRefIdeal.τ).loc Cert.LastNormRefIdeal.main_arg0) = m' ((c.tc : Thread Cert.LastNormRefIdeal.nD Cert.LastNormRefIdeal.τ).loc Cert.LastNormRefIdeal.main_arg0)
          ∧ r.2.mem ((c.tc : Thread Cert.LastNormRefIdeal.nD Cert.LastNormRefIdeal.τ).loc Cert.LastNormRefIdeal.main_arg1) = m' ((c.tc : Thread Cert.LastNormRefIdeal.nD Cert.LastNormRefIdeal.τ).loc Cert.LastNormRefIdeal.main_arg1)
          ∧ r.2.mem ((c.tc : Thread Cert.LastNormRefIdeal.nD Cert.LastNormRefIdeal.τ).loc Cert.LastNormRefIdeal.main_arg2) = m' ((c.tc : Thread Cert.LastNormRefIdeal.nD Cert.LastNormRefIdeal.τ).loc Cert.LastNormRefIdeal.main_arg2))

def preserves_Compress_CompressIdeal : Prop :=
  True

def algebraic_CompressIdeal_CompressRefIdeal [hCompressIdeal : Cert.CompressIdeal.Facts] [hCompressRefIdeal : Cert.CompressRefIdeal.Facts] : Prop :=
  ∀ (m : (ℓ : Loc Cert.CompressIdeal.nD Cert.CompressIdeal.τ Cert.CompressIdeal.sig) → Buf (Elt Ideal) ℓ) (g : Dev Cert.CompressIdeal.nD → PrngReg)
    (m' : (ℓ : Loc Cert.CompressRefIdeal.nD Cert.CompressRefIdeal.τ Cert.CompressRefIdeal.sig) → Buf (Elt Ideal) ℓ) (g' : Dev Cert.CompressRefIdeal.nD → PrngReg), Pre_CompressIdeal m →
    (∀ c : Dev Cert.CompressIdeal.nD,
      m' ((c.tc : Thread Cert.CompressRefIdeal.nD Cert.CompressRefIdeal.τ).loc Cert.CompressRefIdeal.main_arg0) = m ((c.tc : Thread Cert.CompressIdeal.nD Cert.CompressIdeal.τ).loc Cert.CompressIdeal.main_arg0)
      ∧ m' ((c.tc : Thread Cert.CompressRefIdeal.nD Cert.CompressRefIdeal.τ).loc Cert.CompressRefIdeal.main_arg1) = m ((c.tc : Thread Cert.CompressIdeal.nD Cert.CompressIdeal.τ).loc Cert.CompressIdeal.main_arg1)
      ∧ m' ((c.tc : Thread Cert.CompressRefIdeal.nD Cert.CompressRefIdeal.τ).loc Cert.CompressRefIdeal.main_arg2) = m ((c.tc : Thread Cert.CompressIdeal.nD Cert.CompressIdeal.τ).loc Cert.CompressIdeal.main_arg2)
      ∧ m' ((c.tc : Thread Cert.CompressRefIdeal.nD Cert.CompressRefIdeal.τ).loc Cert.CompressRefIdeal.main_arg3) = m ((c.tc : Thread Cert.CompressIdeal.nD Cert.CompressIdeal.τ).loc Cert.CompressIdeal.main_arg3)) →
    ∃ (v0 : (c : Dev Cert.CompressIdeal.nD) → Buf (Elt Ideal) ((c.tc : Thread Cert.CompressIdeal.nD Cert.CompressIdeal.τ).loc Cert.CompressIdeal.main_v2)),
      θ_run (Cert.CompressIdeal.defs (F := Ideal)) (onTc (τ := Cert.CompressIdeal.τ) (Cert.CompressIdeal.main (F := Ideal))) ⟨m, fun _ => 0, g⟩ (fun r => ∀ c : Dev Cert.CompressIdeal.nD,
          r.2.mem ((c.tc : Thread Cert.CompressIdeal.nD Cert.CompressIdeal.τ).loc Cert.CompressIdeal.main_v2) = v0 c
          ∧ r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
          ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
          ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
          ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3))
      ∧ θ_run (Cert.CompressRefIdeal.defs (F := Ideal)) (onTc (τ := Cert.CompressRefIdeal.τ) (Cert.CompressRefIdeal.main (F := Ideal))) ⟨m', fun _ => 0, g'⟩ (fun r => ∀ c : Dev Cert.CompressRefIdeal.nD,
          r.2.mem ((c.tc : Thread Cert.CompressRefIdeal.nD Cert.CompressRefIdeal.τ).loc Cert.CompressRefIdeal.main_v75) = v0 c
          ∧ r.2.mem ((c.tc : Thread Cert.CompressRefIdeal.nD Cert.CompressRefIdeal.τ).loc Cert.CompressRefIdeal.main_arg0) = m' ((c.tc : Thread Cert.CompressRefIdeal.nD Cert.CompressRefIdeal.τ).loc Cert.CompressRefIdeal.main_arg0)
          ∧ r.2.mem ((c.tc : Thread Cert.CompressRefIdeal.nD Cert.CompressRefIdeal.τ).loc Cert.CompressRefIdeal.main_arg1) = m' ((c.tc : Thread Cert.CompressRefIdeal.nD Cert.CompressRefIdeal.τ).loc Cert.CompressRefIdeal.main_arg1)
          ∧ r.2.mem ((c.tc : Thread Cert.CompressRefIdeal.nD Cert.CompressRefIdeal.τ).loc Cert.CompressRefIdeal.main_arg2) = m' ((c.tc : Thread Cert.CompressRefIdeal.nD Cert.CompressRefIdeal.τ).loc Cert.CompressRefIdeal.main_arg2)
          ∧ r.2.mem ((c.tc : Thread Cert.CompressRefIdeal.nD Cert.CompressRefIdeal.τ).loc Cert.CompressRefIdeal.main_arg3) = m' ((c.tc : Thread Cert.CompressRefIdeal.nD Cert.CompressRefIdeal.τ).loc Cert.CompressRefIdeal.main_arg3))

def Claim : Prop :=
  ∃ (hKernel : Cert.Kernel.Facts) (hKernelIdeal : Cert.KernelIdeal.Facts) (hReferenceIdeal : Cert.ReferenceIdeal.Facts) (hHgQf : Cert.HgQf.Facts) (hHgQfIdeal : Cert.HgQfIdeal.Facts) (hHgQfRefIdeal : Cert.HgQfRefIdeal.Facts) (hHgVg : Cert.HgVg.Facts) (hHgVgIdeal : Cert.HgVgIdeal.Facts) (hHgVgRefIdeal : Cert.HgVgRefIdeal.Facts) (hRgXb : Cert.RgXb.Facts) (hRgXbIdeal : Cert.RgXbIdeal.Facts) (hRgXbRefIdeal : Cert.RgXbRefIdeal.Facts) (hRgZ : Cert.RgZ.Facts) (hRgZIdeal : Cert.RgZIdeal.Facts) (hRgZRefIdeal : Cert.RgZRefIdeal.Facts) (hMixOut : Cert.MixOut.Facts) (hMixOutIdeal : Cert.MixOutIdeal.Facts) (hMixOutRefIdeal : Cert.MixOutRefIdeal.Facts) (hNsaOut : Cert.NsaOut.Facts) (hNsaOutIdeal : Cert.NsaOutIdeal.Facts) (hNsaOutRefIdeal : Cert.NsaOutRefIdeal.Facts) (hNsaQkv : Cert.NsaQkv.Facts) (hNsaQkvIdeal : Cert.NsaQkvIdeal.Facts) (hNsaQkvRefIdeal : Cert.NsaQkvRefIdeal.Facts) (hNsaGl : Cert.NsaGl.Facts) (hNsaGlIdeal : Cert.NsaGlIdeal.Facts) (hNsaGlRefIdeal : Cert.NsaGlRefIdeal.Facts) (hNsaZ : Cert.NsaZ.Facts) (hNsaZIdeal : Cert.NsaZIdeal.Facts) (hNsaZRefIdeal : Cert.NsaZRefIdeal.Facts) (hPreNorm : Cert.PreNorm.Facts) (hPreNormIdeal : Cert.PreNormIdeal.Facts) (hPreNormRefIdeal : Cert.PreNormRefIdeal.Facts) (hPostNorm : Cert.PostNorm.Facts) (hPostNormIdeal : Cert.PostNormIdeal.Facts) (hPostNormRefIdeal : Cert.PostNormRefIdeal.Facts) (hLastNorm : Cert.LastNorm.Facts) (hLastNormIdeal : Cert.LastNormIdeal.Facts) (hLastNormRefIdeal : Cert.LastNormRefIdeal.Facts) (hCompress : Cert.Compress.Facts) (hCompressIdeal : Cert.CompressIdeal.Facts) (hCompressRefIdeal : Cert.CompressRefIdeal.Facts),
    quiescent_Kernel (hKernel := hKernel)
    ∧ quiescent_KernelIdeal (hKernelIdeal := hKernelIdeal)
    ∧ quiescent_ReferenceIdeal (hReferenceIdeal := hReferenceIdeal)
    ∧ quiescent_HgQf (hHgQf := hHgQf)
    ∧ quiescent_HgQfIdeal (hHgQfIdeal := hHgQfIdeal)
    ∧ quiescent_HgQfRefIdeal (hHgQfRefIdeal := hHgQfRefIdeal)
    ∧ quiescent_HgVg (hHgVg := hHgVg)
    ∧ quiescent_HgVgIdeal (hHgVgIdeal := hHgVgIdeal)
    ∧ quiescent_HgVgRefIdeal (hHgVgRefIdeal := hHgVgRefIdeal)
    ∧ quiescent_RgXb (hRgXb := hRgXb)
    ∧ quiescent_RgXbIdeal (hRgXbIdeal := hRgXbIdeal)
    ∧ quiescent_RgXbRefIdeal (hRgXbRefIdeal := hRgXbRefIdeal)
    ∧ quiescent_RgZ (hRgZ := hRgZ)
    ∧ quiescent_RgZIdeal (hRgZIdeal := hRgZIdeal)
    ∧ quiescent_RgZRefIdeal (hRgZRefIdeal := hRgZRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_NsaOut (hNsaOut := hNsaOut)
    ∧ quiescent_NsaOutIdeal (hNsaOutIdeal := hNsaOutIdeal)
    ∧ quiescent_NsaOutRefIdeal (hNsaOutRefIdeal := hNsaOutRefIdeal)
    ∧ quiescent_NsaQkv (hNsaQkv := hNsaQkv)
    ∧ quiescent_NsaQkvIdeal (hNsaQkvIdeal := hNsaQkvIdeal)
    ∧ quiescent_NsaQkvRefIdeal (hNsaQkvRefIdeal := hNsaQkvRefIdeal)
    ∧ quiescent_NsaGl (hNsaGl := hNsaGl)
    ∧ quiescent_NsaGlIdeal (hNsaGlIdeal := hNsaGlIdeal)
    ∧ quiescent_NsaGlRefIdeal (hNsaGlRefIdeal := hNsaGlRefIdeal)
    ∧ quiescent_NsaZ (hNsaZ := hNsaZ)
    ∧ quiescent_NsaZIdeal (hNsaZIdeal := hNsaZIdeal)
    ∧ quiescent_NsaZRefIdeal (hNsaZRefIdeal := hNsaZRefIdeal)
    ∧ quiescent_PreNorm (hPreNorm := hPreNorm)
    ∧ quiescent_PreNormIdeal (hPreNormIdeal := hPreNormIdeal)
    ∧ quiescent_PreNormRefIdeal (hPreNormRefIdeal := hPreNormRefIdeal)
    ∧ quiescent_PostNorm (hPostNorm := hPostNorm)
    ∧ quiescent_PostNormIdeal (hPostNormIdeal := hPostNormIdeal)
    ∧ quiescent_PostNormRefIdeal (hPostNormRefIdeal := hPostNormRefIdeal)
    ∧ quiescent_LastNorm (hLastNorm := hLastNorm)
    ∧ quiescent_LastNormIdeal (hLastNormIdeal := hLastNormIdeal)
    ∧ quiescent_LastNormRefIdeal (hLastNormRefIdeal := hLastNormRefIdeal)
    ∧ quiescent_Compress (hCompress := hCompress)
    ∧ quiescent_CompressIdeal (hCompressIdeal := hCompressIdeal)
    ∧ quiescent_CompressRefIdeal (hCompressRefIdeal := hCompressRefIdeal)
    ∧ preserves_Kernel_KernelIdeal
    ∧ algebraic_KernelIdeal_ReferenceIdeal (hKernelIdeal := hKernelIdeal) (hReferenceIdeal := hReferenceIdeal)
    ∧ preserves_HgQf_HgQfIdeal
    ∧ algebraic_HgQfIdeal_HgQfRefIdeal (hHgQfIdeal := hHgQfIdeal) (hHgQfRefIdeal := hHgQfRefIdeal)
    ∧ preserves_HgVg_HgVgIdeal
    ∧ algebraic_HgVgIdeal_HgVgRefIdeal (hHgVgIdeal := hHgVgIdeal) (hHgVgRefIdeal := hHgVgRefIdeal)
    ∧ preserves_RgXb_RgXbIdeal
    ∧ algebraic_RgXbIdeal_RgXbRefIdeal (hRgXbIdeal := hRgXbIdeal) (hRgXbRefIdeal := hRgXbRefIdeal)
    ∧ preserves_RgZ_RgZIdeal
    ∧ algebraic_RgZIdeal_RgZRefIdeal (hRgZIdeal := hRgZIdeal) (hRgZRefIdeal := hRgZRefIdeal)
    ∧ preserves_MixOut_MixOutIdeal
    ∧ algebraic_MixOutIdeal_MixOutRefIdeal (hMixOutIdeal := hMixOutIdeal) (hMixOutRefIdeal := hMixOutRefIdeal)
    ∧ preserves_NsaOut_NsaOutIdeal
    ∧ algebraic_NsaOutIdeal_NsaOutRefIdeal (hNsaOutIdeal := hNsaOutIdeal) (hNsaOutRefIdeal := hNsaOutRefIdeal)
    ∧ preserves_NsaQkv_NsaQkvIdeal
    ∧ algebraic_NsaQkvIdeal_NsaQkvRefIdeal (hNsaQkvIdeal := hNsaQkvIdeal) (hNsaQkvRefIdeal := hNsaQkvRefIdeal)
    ∧ preserves_NsaGl_NsaGlIdeal
    ∧ algebraic_NsaGlIdeal_NsaGlRefIdeal (hNsaGlIdeal := hNsaGlIdeal) (hNsaGlRefIdeal := hNsaGlRefIdeal)
    ∧ preserves_NsaZ_NsaZIdeal
    ∧ algebraic_NsaZIdeal_NsaZRefIdeal (hNsaZIdeal := hNsaZIdeal) (hNsaZRefIdeal := hNsaZRefIdeal)
    ∧ preserves_PreNorm_PreNormIdeal
    ∧ algebraic_PreNormIdeal_PreNormRefIdeal (hPreNormIdeal := hPreNormIdeal) (hPreNormRefIdeal := hPreNormRefIdeal)
    ∧ preserves_PostNorm_PostNormIdeal
    ∧ algebraic_PostNormIdeal_PostNormRefIdeal (hPostNormIdeal := hPostNormIdeal) (hPostNormRefIdeal := hPostNormRefIdeal)
    ∧ preserves_LastNorm_LastNormIdeal
    ∧ algebraic_LastNormIdeal_LastNormRefIdeal (hLastNormIdeal := hLastNormIdeal) (hLastNormRefIdeal := hLastNormRefIdeal)
    ∧ preserves_Compress_CompressIdeal
    ∧ algebraic_CompressIdeal_CompressRefIdeal (hCompressIdeal := hCompressIdeal) (hCompressRefIdeal := hCompressRefIdeal)
-- ==== Kernel.lean ====
abbrev S4x2048x4096 : Shape := ⟨3, ![4, 2048, 4096]⟩
abbrev S4x4096 : Shape := ⟨2, ![4, 4096]⟩
abbrev S4096 : Shape := ⟨1, ![4096]⟩
abbrev S2x16x256x256 : Shape := ⟨4, ![2, 16, 256, 256]⟩
abbrev S2x16x256 : Shape := ⟨3, ![2, 16, 256]⟩
abbrev S1x4096 : Shape := ⟨2, ![1, 4096]⟩
abbrev S2x16x1x256 : Shape := ⟨4, ![2, 16, 1, 256]⟩
abbrev S1x1024x256 : Shape := ⟨3, ![1, 1024, 256]⟩
abbrev S4x256 : Shape := ⟨2, ![4, 256]⟩
abbrev S1x256 : Shape := ⟨2, ![1, 256]⟩
abbrev S2x1x256x256 : Shape := ⟨4, ![2, 1, 256, 256]⟩
abbrev S2x1x1x256 : Shape := ⟨4, ![2, 1, 1, 256]⟩
abbrev S1032x256 : Shape := ⟨2, ![1032, 256]⟩
abbrev S8x256 : Shape := ⟨2, ![8, 256]⟩
abbrev S1024x256 : Shape := ⟨2, ![1024, 256]⟩
abbrev S1x1x256x256 : Shape := ⟨4, ![1, 1, 256, 256]⟩
abbrev S256x256 : Shape := ⟨2, ![256, 256]⟩
abbrev S1x1x1x256 : Shape := ⟨4, ![1, 1, 1, 256]⟩
abbrev S1024x1 : Shape := ⟨2, ![1024, 1]⟩

abbrev nBuf : Space → Nat
  | .hbm => 12
  | .vmem => 18
  | .smem => 0
  | _ => 0

abbrev bufTy : (tb : Table) → Fin (tcTables nBuf tb) → BufTy
  | .hbm, ⟨0, _⟩ => ⟨S4x2048x4096, .f32⟩
  | .hbm, ⟨1, _⟩ => ⟨S4x2048x4096, .bf16⟩
  | .hbm, ⟨2, _⟩ => ⟨S4x4096, .f32⟩
  | .hbm, ⟨3, _⟩ => ⟨S4096, .f32⟩
  | .hbm, ⟨4, _⟩ => ⟨S2x16x256x256, .f32⟩
  | .hbm, ⟨5, _⟩ => ⟨S2x16x256, .f32⟩
  | .hbm, ⟨6, _⟩ => ⟨S4096, .f32⟩
  | .hbm, ⟨7, _⟩ => ⟨S1x4096, .f32⟩
  | .hbm, ⟨8, _⟩ => ⟨S2x16x256x256, .bf16⟩
  | .hbm, ⟨9, _⟩ => ⟨S2x16x1x256, .f32⟩
  | .hbm, ⟨10, _⟩ => ⟨S1x4096, .f32⟩
  | .hbm, ⟨11, _⟩ => ⟨S4x2048x4096, .bf16⟩
  | .local _ .vmem, ⟨0, _⟩ => ⟨S1x1024x256, .f32⟩
  | .local _ .vmem, ⟨1, _⟩ => ⟨S1x1024x256, .f32⟩
  | .local _ .vmem, ⟨2, _⟩ => ⟨S1x1024x256, .bf16⟩
  | .local _ .vmem, ⟨3, _⟩ => ⟨S1x1024x256, .bf16⟩
  | .local _ .vmem, ⟨4, _⟩ => ⟨S4x256, .f32⟩
  | .local _ .vmem, ⟨5, _⟩ => ⟨S4x256, .f32⟩
  | .local _ .vmem, ⟨6, _⟩ => ⟨S1x256, .f32⟩
  | .local _ .vmem, ⟨7, _⟩ => ⟨S1x256, .f32⟩
  | .local _ .vmem, ⟨8, _⟩ => ⟨S2x1x256x256, .bf16⟩
  | .local _ .vmem, ⟨9, _⟩ => ⟨S2x1x256x256, .bf16⟩
  | .local _ .vmem, ⟨10, _⟩ => ⟨S2x1x1x256, .f32⟩
  | .local _ .vmem, ⟨11, _⟩ => ⟨S2x1x1x256, .f32⟩
  | .local _ .vmem, ⟨12, _⟩ => ⟨S1x256, .f32⟩
  | .local _ .vmem, ⟨13, _⟩ => ⟨S1x256, .f32⟩
  | .local _ .vmem, ⟨14, _⟩ => ⟨S1x1024x256, .bf16⟩
  | .local _ .vmem, ⟨15, _⟩ => ⟨S1x1024x256, .bf16⟩
  | .local _ .vmem, ⟨16, _⟩ => ⟨S1032x256, .f32⟩
  | .local _ .vmem, ⟨17, _⟩ => ⟨S1x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 16, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2x1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S2x1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S4x2048x4096 : Shape := ⟨3, ![4, 2048, 4096]⟩
abbrev S4x4096 : Shape := ⟨2, ![4, 4096]⟩
abbrev S4096 : Shape := ⟨1, ![4096]⟩
abbrev S2x16x256x256 : Shape := ⟨4, ![2, 16, 256, 256]⟩
abbrev S2x16x256 : Shape := ⟨3, ![2, 16, 256]⟩
abbrev S_ : Shape := ⟨0, ![]⟩
abbrev S4x2051x4096 : Shape := ⟨3, ![4, 2051, 4096]⟩
abbrev S1x4096 : Shape := ⟨2, ![1, 4096]⟩
abbrev S1x1x4096 : Shape := ⟨3, ![1, 1, 4096]⟩
abbrev S4x2048x16x256 : Shape := ⟨4, ![4, 2048, 16, 256]⟩
abbrev S16x2x256x4x2048 : Shape := ⟨5, ![16, 2, 256, 4, 2048]⟩
abbrev S2x4x2048x16x256 : Shape := ⟨5, ![2, 4, 2048, 16, 256]⟩
abbrev S2x1x1x16x256 : Shape := ⟨5, ![2, 1, 1, 16, 256]⟩
abbrev S2x4x2048x4096 : Shape := ⟨4, ![2, 4, 2048, 4096]⟩
abbrev S1x4x2048x4096 : Shape := ⟨4, ![1, 4, 2048, 4096]⟩
abbrev S2048 : Shape := ⟨1, ![2048]⟩
abbrev S1x2048x1 : Shape := ⟨3, ![1, 2048, 1]⟩
abbrev S2048x4x4096 : Shape := ⟨3, ![2048, 4, 4096]⟩
abbrev S1x4x4096 : Shape := ⟨3, ![1, 4, 4096]⟩

abbrev nBuf : Space → Nat
  | .hbm => 145
  | .vmem => 0
  | .smem => 0
  | _ => 0

abbrev hbmTy0_0 (i : Nat) : BufTy := match i % 128 with
  | 0 => ⟨S4x2048x4096, .f32⟩
  | 1 => ⟨S4x2048x4096, .bf16⟩
  | 2 => ⟨S4x4096, .f32⟩
  | 3 => ⟨S4096, .f32⟩
  | 4 => ⟨S2x16x256x256, .f32⟩
  | 5 => ⟨S2x16x256, .f32⟩
  | 6 => ⟨S4096, .f32⟩
  | 7 => ⟨S_, .i32⟩
  | 8 => ⟨S_, .f32⟩
  | 9 => ⟨S4x2051x4096, .f32⟩
  | 10 => ⟨S4x2048x4096, .f32⟩
  | 11 => ⟨S1x4096, .f32⟩
  | 12 => ⟨S4096, .f32⟩
  | 13 => ⟨S1x1x4096, .f32⟩
  | 14 => ⟨S4x2048x4096, .f32⟩
  | 15 => ⟨S4x2048x4096, .f32⟩
  | 16 => ⟨S_, .f32⟩
  | 17 => ⟨S4x2048x4096, .f32⟩
  | 18 => ⟨S4x2048x4096, .f32⟩
  | 19 => ⟨S4x2048x4096, .f32⟩
  | 20 => ⟨S1x4096, .f32⟩
  | 21 => ⟨S4096, .f32⟩
  | 22 => ⟨S1x1x4096, .f32⟩
  | 23 => ⟨S4x2048x4096, .f32⟩
  | 24 => ⟨S4x2048x4096, .f32⟩
  | 25 => ⟨S4x2048x4096, .f32⟩
  | 26 => ⟨S4x2048x4096, .f32⟩
  | 27 => ⟨S1x4096, .f32⟩
  | 28 => ⟨S4096, .f32⟩
  | 29 => ⟨S1x1x4096, .f32⟩
  | 30 => ⟨S4x2048x4096, .f32⟩
  | 31 => ⟨S4x2048x4096, .f32⟩
  | 32 => ⟨S4x2048x4096, .f32⟩
  | 33 => ⟨S4x2048x4096, .f32⟩
  | 34 => ⟨S1x4096, .f32⟩
  | 35 => ⟨S4096, .f32⟩
  | 36 => ⟨S1x1x4096, .f32⟩
  | 37 => ⟨S4x2048x4096, .f32⟩
  | 38 => ⟨S4x2048x4096, .f32⟩
  | 39 => ⟨S4x2048x4096, .f32⟩
  | 40 => ⟨S1x1x4096, .f32⟩
  | 41 => ⟨S4x2048x4096, .f32⟩
  | 42 => ⟨S4x2048x4096, .f32⟩
  | 43 => ⟨S4x2048x16x256, .f32⟩
  | 44 => ⟨S16x2x256x4x2048, .f32⟩
  | 45 => ⟨S2x4x2048x16x256, .f32⟩
  | 46 => ⟨S2x1x1x16x256, .f32⟩
  | 47 => ⟨S2x4x2048x16x256, .f32⟩
  | 48 => ⟨S2x4x2048x16x256, .f32⟩
  | 49 => ⟨S2x4x2048x16x256, .f32⟩
  | 50 => ⟨S2x4x2048x16x256, .f32⟩
  | 51 => ⟨S_, .f32⟩
  | 52 => ⟨S2x4x2048x16x256, .f32⟩
  | 53 => ⟨S2x4x2048x16x256, .f32⟩
  | 54 => ⟨S_, .f32⟩
  | 55 => ⟨S2x4x2048x16x256, .f32⟩
  | 56 => ⟨S2x4x2048x16x256, .f32⟩
  | 57 => ⟨S2x4x2048x4096, .f32⟩
  | 58 => ⟨S1x4x2048x4096, .f32⟩
  | 59 => ⟨S4x2048x4096, .f32⟩
  | 60 => ⟨S1x4x2048x4096, .f32⟩
  | 61 => ⟨S4x2048x4096, .f32⟩
  | 62 => ⟨S_, .f32⟩
  | 63 => ⟨S4x2048x4096, .f32⟩
  | 64 => ⟨S4x2048x4096, .f32⟩
  | 65 => ⟨S4096, .f32⟩
  | 66 => ⟨S_, .f32⟩
  | 67 => ⟨S4096, .f32⟩
  | 68 => ⟨S4096, .f32⟩
  | 69 => ⟨S4096, .f32⟩
  | 70 => ⟨S4096, .f32⟩
  | 71 => ⟨S4096, .i1⟩
  | 72 => ⟨S4096, .f32⟩
  | 73 => ⟨S4096, .f32⟩
  | 74 => ⟨S4096, .f32⟩
  | 75 => ⟨S4096, .f32⟩
  | 76 => ⟨S4096, .f32⟩
  | 77 => ⟨S4096, .f32⟩
  | 78 => ⟨S4096, .f32⟩
  | 79 => ⟨S4096, .f32⟩
  | 80 => ⟨S1x1x4096, .f32⟩
  | 81 => ⟨S4x2048x4096, .f32⟩
  | 82 => ⟨S4x2048x4096, .f32⟩
  | 83 => ⟨S4x2048x4096, .f32⟩
  | 84 => ⟨S_, .f32⟩
  | 85 => ⟨S4x2048x4096, .f32⟩
  | 86 => ⟨S4x2048x4096, .f32⟩
  | 87 => ⟨S4x2048x4096, .f32⟩
  | 88 => ⟨S4x2048x4096, .f32⟩
  | 89 => ⟨S4x2048x4096, .f32⟩
  | 90 => ⟨S2048, .i32⟩
  | 91 => ⟨S_, .i32⟩
  | 92 => ⟨S2048, .i32⟩
  | 93 => ⟨S2048, .i1⟩
  | 94 => ⟨S1x2048x1, .i1⟩
  | 95 => ⟨S_, .f32⟩
  | 96 => ⟨S_, .f32⟩
  | 97 => ⟨S4x2048x4096, .i1⟩
  | 98 => ⟨S4x2048x4096, .f32⟩
  | 99 => ⟨S4x2048x4096, .f32⟩
  | 100 => ⟨S4x2048x4096, .f32⟩
  | 101 => ⟨S4x2048x4096, .f32⟩
  | 102 => ⟨S_, .f32⟩
  | 103 => ⟨S4x4096, .f32⟩
  | 104 => ⟨S2048x4x4096, .f32⟩
  | 105 => ⟨S2048x4x4096, .f32⟩
  | 106 => ⟨S_, .f32⟩
  | 107 => ⟨S2048x4x4096, .f32⟩
  | 108 => ⟨S_, .i32⟩
  | 109 => ⟨S2048x4x4096, .f32⟩
  | 110 => ⟨S2048x4x4096, .f32⟩
  | 111 => ⟨S_, .i32⟩
  | 112 => ⟨S4x4096, .f32⟩
  | 113 => ⟨S2048x4x4096, .f32⟩
  | 114 => ⟨S_, .i32⟩
  | 115 => ⟨S_, .i1⟩
  | 116 => ⟨S_, .i32⟩
  | 117 => ⟨S_, .i32⟩
  | 118 => ⟨S1x4x4096, .f32⟩
  | 119 => ⟨S4x4096, .f32⟩
  | 120 => ⟨S_, .i32⟩
  | 121 => ⟨S_, .i32⟩
  | 122 => ⟨S1x4x4096, .f32⟩
  | 123 => ⟨S4x4096, .f32⟩
  | 124 => ⟨S4x4096, .f32⟩
  | 125 => ⟨S4x4096, .f32⟩
  | 126 => ⟨S1x4x4096, .f32⟩
  | 127 => ⟨S_, .i32⟩
  | _ => ⟨S4x2048x4096, .f32⟩

abbrev hbmTy0_1 (i : Nat) : BufTy := match i % 128 with
  | 0 => ⟨S_, .i32⟩
  | 1 => ⟨S2048x4x4096, .f32⟩
  | 2 => ⟨S_, .i32⟩
  | 3 => ⟨S_, .i32⟩
  | 4 => ⟨S4x2048x4096, .f32⟩
  | 5 => ⟨S4x2048x4096, .f32⟩
  | 6 => ⟨S4x2048x4096, .f32⟩
  | 7 => ⟨S4x2048x4096, .f32⟩
  | 8 => ⟨S_, .f32⟩
  | 9 => ⟨S4x2048x4096, .f32⟩
  | 10 => ⟨S4x2048x4096, .f32⟩
  | 11 => ⟨S_, .f32⟩
  | 12 => ⟨S4x2048x4096, .f32⟩
  | 13 => ⟨S4x2048x4096, .f32⟩
  | 14 => ⟨S4x2048x4096, .f32⟩
  | 15 => ⟨S4x2048x4096, .f32⟩
  | 16 => ⟨S4x2048x4096, .bf16⟩
  | _ => ⟨S4x2048x4096, .f32⟩

abbrev hbmTy (i : Nat) : BufTy := match i / 128 with
  | 0 => hbmTy0_0 i
  | 1 => hbmTy0_1 i
  | _ => ⟨S4x2048x4096, .f32⟩

abbrev bufTy : (tb : Table) → Fin (tcTables nBuf tb) → BufTy
  | .hbm, ⟨i, _⟩ => hbmTy i
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_0 : Ref sig .tc := ⟨.hbm, 51, rfl⟩
abbrev main_v41 : Ref sig .tc := ⟨.hbm, 52, rfl⟩
abbrev main_v42 : Ref sig .tc := ⟨.hbm, 53, rfl⟩
abbrev main_cst_1 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_2 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_call1_cst : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_v6 : Ref sig .tc := ⟨.hbm, 73, rfl⟩
abbrev main_call1_v7 : Ref sig .tc := ⟨.hbm, 74, rfl⟩
abbrev main_call1_v8 : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_3 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_4 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_5 : Ref sig .tc := ⟨.hbm, 95, rfl⟩
abbrev main_call2_v0 : Ref sig .tc := ⟨.hbm, 96, rfl⟩
abbrev main_call2_v1 : Ref sig .tc := ⟨.hbm, 97, rfl⟩
abbrev main_call2_v2 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_6 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_7 : Ref sig .tc := ⟨.hbm, 106, rfl⟩
abbrev main_v73 : Ref sig .tc := ⟨.hbm, 107, rfl⟩
abbrev main_c_8 : Ref sig .tc := ⟨.hbm, 108, rfl⟩
abbrev main_v74_0 : Ref sig .tc := ⟨.hbm, 109, rfl⟩
abbrev main_v74_1 : Ref sig .tc := ⟨.hbm, 110, rfl⟩
abbrev main_v74_2 : Ref sig .tc := ⟨.hbm, 111, rfl⟩
abbrev main_v74_3 : Ref sig .tc := ⟨.hbm, 112, rfl⟩
abbrev main_v74_4 : Ref sig .tc := ⟨.hbm, 113, rfl⟩
abbrev main_while0c_c_13 : Ref sig .tc := ⟨.hbm, 114, rfl⟩
abbrev main_while0c_v80 : Ref sig .tc := ⟨.hbm, 115, rfl⟩
abbrev main_while0b_call3_c : Ref sig .tc := ⟨.hbm, 116, rfl⟩
abbrev main_while0b_call3_c_0 : Ref sig .tc := ⟨.hbm, 117, rfl⟩
abbrev main_while0b_call3_v0 : Ref sig .tc := ⟨.hbm, 118, rfl⟩
abbrev main_while0b_v80 : Ref sig .tc := ⟨.hbm, 119, rfl⟩
abbrev main_while0b_call4_c : Ref sig .tc := ⟨.hbm, 120, rfl⟩
abbrev main_while0b_call4_c_0 : Ref sig .tc := ⟨.hbm, 121, rfl⟩
abbrev main_while0b_call4_v0 : Ref sig .tc := ⟨.hbm, 122, rfl⟩
abbrev main_while0b_v81 : Ref sig .tc := ⟨.hbm, 123, rfl⟩
abbrev main_while0b_v82 : Ref sig .tc := ⟨.hbm, 124, rfl⟩
abbrev main_while0b_v83 : Ref sig .tc := ⟨.hbm, 125, rfl⟩
abbrev main_while0b_call5_v0 : Ref sig .tc := ⟨.hbm, 126, rfl⟩
abbrev main_while0b_call5_c : Ref sig .tc := ⟨.hbm, 127, rfl⟩
abbrev main_while0b_call5_c_0 : Ref sig .tc := ⟨.hbm, 128, rfl⟩
abbrev main_while0b_v84 : Ref sig .tc := ⟨.hbm, 129, rfl⟩
abbrev main_while0b_c_13 : Ref sig .tc := ⟨.hbm, 130, rfl⟩
abbrev main_while0b_v85 : Ref sig .tc := ⟨.hbm, 131, rfl⟩
abbrev main_v75 : Ref sig .tc := ⟨.hbm, 132, rfl⟩
abbrev main_v76 : Ref sig .tc := ⟨.hbm, 133, rfl⟩
abbrev main_call6_v0 : Ref sig .tc := ⟨.hbm, 134, rfl⟩
abbrev main_call6_v1 : Ref sig .tc := ⟨.hbm, 135, rfl⟩
abbrev main_call6_cst : Ref sig .tc := ⟨.hbm, 136, rfl⟩
abbrev main_call6_v2 : Ref sig .tc := ⟨.hbm, 137, rfl⟩
abbrev main_call6_v3 : Ref sig .tc := ⟨.hbm, 138, rfl⟩
abbrev main_call6_cst_0 : Ref sig .tc := ⟨.hbm, 139, rfl⟩
abbrev main_call6_v4 : Ref sig .tc := ⟨.hbm, 140, rfl⟩
abbrev main_call6_v5 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩

abbrev nD : Nat := 1
abbrev τ : Topo := Topo.v7x

variable {F : FTy → Type} [FloatOps F]

abbrev main_while0_count : Scf.Loop 32 := ⟨0#32, 2048#32, 1#32⟩
-- ==== HgQf.lean ====
abbrev S8192x4096 : Shape := ⟨2, ![8192, 4096]⟩
abbrev S4096x16384 : Shape := ⟨2, ![4096, 16384]⟩
abbrev S1x4096x16384 : Shape := ⟨3, ![1, 4096, 16384]⟩
abbrev S8192x8192 : Shape := ⟨2, ![8192, 8192]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x16384, .f32⟩
  | .hbm, ⟨2, _⟩ => ⟨S1x4096x16384, .f32⟩
  | .hbm, ⟨3, _⟩ => ⟨S8192x8192, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .f32⟩
  | .local _ .vmem, ⟨5, _⟩ => ⟨S1024x512, .f32⟩
  | .local _ .vmem, ⟨6, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== HgQfRefIdeal.lean ====
abbrev S8192x4096 : Shape := ⟨2, ![8192, 4096]⟩
abbrev S4096x16384 : Shape := ⟨2, ![4096, 16384]⟩
abbrev S8192x16384 : Shape := ⟨2, ![8192, 16384]⟩
abbrev S8192x8192 : Shape := ⟨2, ![8192, 8192]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x16384, .f32⟩
  | .hbm, ⟨2, _⟩ => ⟨S8192x4096, .f32⟩
  | .hbm, ⟨3, _⟩ => ⟨S8192x16384, .f32⟩
  | .hbm, ⟨4, _⟩ => ⟨S8192x8192, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== HgVg.lean ====
abbrev S8192x4096 : Shape := ⟨2, ![8192, 4096]⟩
abbrev S4096x16384 : Shape := ⟨2, ![4096, 16384]⟩
abbrev S1x4096x16384 : Shape := ⟨3, ![1, 4096, 16384]⟩
abbrev S8192x8192 : Shape := ⟨2, ![8192, 8192]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x16384, .f32⟩
  | .hbm, ⟨2, _⟩ => ⟨S1x4096x16384, .f32⟩
  | .hbm, ⟨3, _⟩ => ⟨S8192x8192, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .bf16⟩
  | .local _ .vmem, ⟨5, _⟩ => ⟨S1024x512, .bf16⟩
  | .local _ .vmem, ⟨6, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== HgVgRefIdeal.lean ====
abbrev S8192x4096 : Shape := ⟨2, ![8192, 4096]⟩
abbrev S4096x16384 : Shape := ⟨2, ![4096, 16384]⟩
abbrev S8192x16384 : Shape := ⟨2, ![8192, 16384]⟩
abbrev S8192x8192 : Shape := ⟨2, ![8192, 8192]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x16384, .f32⟩
  | .hbm, ⟨2, _⟩ => ⟨S8192x4096, .f32⟩
  | .hbm, ⟨3, _⟩ => ⟨S8192x16384, .f32⟩
  | .hbm, ⟨4, _⟩ => ⟨S8192x8192, .f32⟩
  | .hbm, ⟨5, _⟩ => ⟨S8192x8192, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== RgXb.lean ====
abbrev S8192x4096 : Shape := ⟨2, ![8192, 4096]⟩
abbrev S4096x8192 : Shape := ⟨2, ![4096, 8192]⟩
abbrev S1x4096x8192 : Shape := ⟨3, ![1, 4096, 8192]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x8192, .f32⟩
  | .hbm, ⟨2, _⟩ => ⟨S1x4096x8192, .f32⟩
  | .hbm, ⟨3, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .f32⟩
  | .local _ .vmem, ⟨5, _⟩ => ⟨S1024x512, .f32⟩
  | .local _ .vmem, ⟨6, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RgXbRefIdeal.lean ====
abbrev S8192x4096 : Shape := ⟨2, ![8192, 4096]⟩
abbrev S4096x8192 : Shape := ⟨2, ![4096, 8192]⟩
abbrev S8192x8192 : Shape := ⟨2, ![8192, 8192]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x8192, .f32⟩
  | .hbm, ⟨2, _⟩ => ⟨S8192x4096, .f32⟩
  | .hbm, ⟨3, _⟩ => ⟨S8192x8192, .f32⟩
  | .hbm, ⟨4, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== RgZ.lean ====
abbrev S8192x4096 : Shape := ⟨2, ![8192, 4096]⟩
abbrev S4096x8192 : Shape := ⟨2, ![4096, 8192]⟩
abbrev S1x4096x8192 : Shape := ⟨3, ![1, 4096, 8192]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x8192, .f32⟩
  | .hbm, ⟨2, _⟩ => ⟨S1x4096x8192, .f32⟩
  | .hbm, ⟨3, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .bf16⟩
  | .local _ .vmem, ⟨5, _⟩ => ⟨S1024x512, .bf16⟩
  | .local _ .vmem, ⟨6, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RgZRefIdeal.lean ====
abbrev S8192x4096 : Shape := ⟨2, ![8192, 4096]⟩
abbrev S4096x8192 : Shape := ⟨2, ![4096, 8192]⟩
abbrev S8192x8192 : Shape := ⟨2, ![8192, 8192]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x8192, .f32⟩
  | .hbm, ⟨2, _⟩ => ⟨S8192x4096, .f32⟩
  | .hbm, ⟨3, _⟩ => ⟨S8192x8192, .f32⟩
  | .hbm, ⟨4, _⟩ => ⟨S8192x4096, .f32⟩
  | .hbm, ⟨5, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MixOut.lean ====
abbrev S8192x4096 : Shape := ⟨2, ![8192, 4096]⟩
abbrev S4096x4096 : Shape := ⟨2, ![4096, 4096]⟩
abbrev S1x4096x4096 : Shape := ⟨3, ![1, 4096, 4096]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S1x4096x4096, .f32⟩
  | .hbm, ⟨3, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .bf16⟩
  | .local _ .vmem, ⟨5, _⟩ => ⟨S1024x512, .bf16⟩
  | .local _ .vmem, ⟨6, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MixOutRefIdeal.lean ====
abbrev S8192x4096 : Shape := ⟨2, ![8192, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S8192x4096, .f32⟩
  | .hbm, ⟨4, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== NsaOut.lean ====
abbrev S8192x4096 : Shape := ⟨2, ![8192, 4096]⟩
abbrev S2x4096x4096 : Shape := ⟨3, ![2, 4096, 4096]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .f32⟩
  | .hbm, ⟨2, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .bf16⟩
  | .local _ .vmem, ⟨5, _⟩ => ⟨S1024x512, .bf16⟩
  | .local _ .vmem, ⟨6, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NsaOutRefIdeal.lean ====
abbrev S8192x4096 : Shape := ⟨2, ![8192, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .f32⟩
  | .hbm, ⟨2, _⟩ => ⟨S8192x4096, .f32⟩
  | .hbm, ⟨3, _⟩ => ⟨S1x4096x4096, .f32⟩
  | .hbm, ⟨4, _⟩ => ⟨S4096x4096, .f32⟩
  | .hbm, ⟨5, _⟩ => ⟨S8192x4096, .f32⟩
  | .hbm, ⟨6, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== NsaQkv.lean ====
abbrev S8192x4096 : Shape := ⟨2, ![8192, 4096]⟩
abbrev S2x4096x11360 : Shape := ⟨3, ![2, 4096, 11360]⟩
abbrev S2x11360x4096 : Shape := ⟨3, ![2, 11360, 4096]⟩
abbrev S8192x7168 : Shape := ⟨2, ![8192, 7168]⟩
abbrev S1024x4096 : Shape := ⟨2, ![1024, 4096]⟩
abbrev S1x512x4096 : Shape := ⟨3, ![1, 512, 4096]⟩
abbrev S1024x512 : Shape := ⟨2, ![1024, 512]⟩
abbrev S512x4096 : Shape := ⟨2, ![512, 4096]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S2x4096x11360, .f32⟩
  | .hbm, ⟨2, _⟩ => ⟨S2x11360x4096, .f32⟩
  | .hbm, ⟨3, _⟩ => ⟨S8192x7168, .bf16⟩
  | .local _ .vmem, ⟨0, _⟩ => ⟨S1024x4096, .bf16⟩
  | .local _ .vmem, ⟨1, _⟩ => ⟨S1024x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1024x512, .bf16⟩
  | .local _ .vmem, ⟨5, _⟩ => ⟨S1024x512, .bf16⟩
  | .local _ .vmem, ⟨6, _⟩ => ⟨S512x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![14, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NsaQkvRefIdeal.lean ====
abbrev S8192x4096 : Shape := ⟨2, ![8192, 4096]⟩
abbrev S2x4096x11360 : Shape := ⟨3, ![2, 4096, 11360]⟩
abbrev S1x4096x11360 : Shape := ⟨3, ![1, 4096, 11360]⟩
abbrev S4096x11360 : Shape := ⟨2, ![4096, 11360]⟩
abbrev S8192x11360 : Shape := ⟨2, ![8192, 11360]⟩
abbrev S8192x7168 : Shape := ⟨2, ![8192, 7168]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x11360, .f32⟩
  | .hbm, ⟨2, _⟩ => ⟨S8192x4096, .f32⟩
  | .hbm, ⟨3, _⟩ => ⟨S1x4096x11360, .f32⟩
  | .hbm, ⟨4, _⟩ => ⟨S4096x11360, .f32⟩
  | .hbm, ⟨5, _⟩ => ⟨S8192x11360, .f32⟩
  | .hbm, ⟨6, _⟩ => ⟨S8192x7168, .f32⟩
  | .hbm, ⟨7, _⟩ => ⟨S8192x7168, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== NsaGl.lean ====
abbrev S8192x4096 : Shape := ⟨2, ![8192, 4096]⟩
abbrev S2x4096x11360 : Shape := ⟨3, ![2, 4096, 11360]⟩
abbrev S2x11360x4096 : Shape := ⟨3, ![2, 11360, 4096]⟩
abbrev S8192x128 : Shape := ⟨2, ![8192, 128]⟩
abbrev S1024x4096 : Shape := ⟨2, ![1024, 4096]⟩
abbrev S1x128x4096 : Shape := ⟨3, ![1, 128, 4096]⟩
abbrev S1024x128 : Shape := ⟨2, ![1024, 128]⟩
abbrev S128x4096 : Shape := ⟨2, ![128, 4096]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S2x4096x11360, .f32⟩
  | .hbm, ⟨2, _⟩ => ⟨S2x11360x4096, .f32⟩
  | .hbm, ⟨3, _⟩ => ⟨S8192x128, .f32⟩
  | .local _ .vmem, ⟨0, _⟩ => ⟨S1024x4096, .bf16⟩
  | .local _ .vmem, ⟨1, _⟩ => ⟨S1024x4096, .bf16⟩
  | .local _ .vmem, ⟨2, _⟩ => ⟨S1x128x4096, .f32⟩
  | .local _ .vmem, ⟨3, _⟩ => ⟨S1024x128, .f32⟩
  | .local _ .vmem, ⟨4, _⟩ => ⟨S1024x128, .f32⟩
  | .local _ .vmem, ⟨5, _⟩ => ⟨S128x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c56_i32 : BitVec 32 := 56#32
  let v0 : BitVec 32 := Scalar.addi c56_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NsaGlRefIdeal.lean ====
abbrev S8192x4096 : Shape := ⟨2, ![8192, 4096]⟩
abbrev S2x4096x11360 : Shape := ⟨3, ![2, 4096, 11360]⟩
abbrev S1x4096x11360 : Shape := ⟨3, ![1, 4096, 11360]⟩
abbrev S4096x11360 : Shape := ⟨2, ![4096, 11360]⟩
abbrev S8192x11360 : Shape := ⟨2, ![8192, 11360]⟩
abbrev S8192x128 : Shape := ⟨2, ![8192, 128]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x11360, .f32⟩
  | .hbm, ⟨2, _⟩ => ⟨S8192x4096, .f32⟩
  | .hbm, ⟨3, _⟩ => ⟨S1x4096x11360, .f32⟩
  | .hbm, ⟨4, _⟩ => ⟨S4096x11360, .f32⟩
  | .hbm, ⟨5, _⟩ => ⟨S8192x11360, .f32⟩
  | .hbm, ⟨6, _⟩ => ⟨S8192x128, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== NsaZ.lean ====
abbrev S8192x4096 : Shape := ⟨2, ![8192, 4096]⟩
abbrev S2x4096x11360 : Shape := ⟨3, ![2, 4096, 11360]⟩
abbrev S2x11360x4096 : Shape := ⟨3, ![2, 11360, 4096]⟩
abbrev S1024x4096 : Shape := ⟨2, ![1024, 4096]⟩
abbrev S1x512x4096 : Shape := ⟨3, ![1, 512, 4096]⟩
abbrev S1x128x4096 : Shape := ⟨3, ![1, 128, 4096]⟩
abbrev S1024x512 : Shape := ⟨2, ![1024, 512]⟩
abbrev S512x4096 : Shape := ⟨2, ![512, 4096]⟩
abbrev S1x416x4096 : Shape := ⟨3, ![1, 416, 4096]⟩
abbrev S416x4096 : Shape := ⟨2, ![416, 4096]⟩
abbrev S1x96x4096 : Shape := ⟨3, ![1, 96, 4096]⟩
abbrev S96x4096 : Shape := ⟨2, ![96, 4096]⟩

abbrev nBuf : Space → Nat
  | .hbm => 4
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S2x4096x11360, .f32⟩
  | .hbm, ⟨2, _⟩ => ⟨S2x11360x4096, .f32⟩
  | .hbm, ⟨3, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1x128x4096, .f32⟩
  | .local _ .vmem, ⟨5, _⟩ => ⟨S1x128x4096, .f32⟩
  | .local _ .vmem, ⟨6, _⟩ => ⟨S1024x512, .bf16⟩
  | .local _ .vmem, ⟨7, _⟩ => ⟨S1024x512, .bf16⟩
  | .local _ .vmem, ⟨8, _⟩ => ⟨S512x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg0
  let c1_i32 : BitVec 32 := 1#32
  let v1 : BitVec 32 := Scalar.addi v0 c1_i32
  let c4_i32 : BitVec 32 := 4#32
  let v2 : BitVec 32 := Scalar.muli v1 c4_i32
  let c0_i32 : BitVec 32 := 0#32
  let c0_i32_0 : BitVec 32 := 0#32
  let c0_i32_1 : BitVec 32 := 0#32
  ![c0_i32.toNat, v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== NsaZRefIdeal.lean ====
abbrev S8192x4096 : Shape := ⟨2, ![8192, 4096]⟩
abbrev S2x4096x11360 : Shape := ⟨3, ![2, 4096, 11360]⟩
abbrev S1x4096x11360 : Shape := ⟨3, ![1, 4096, 11360]⟩
abbrev S4096x11360 : Shape := ⟨2, ![4096, 11360]⟩
abbrev S8192x11360 : Shape := ⟨2, ![8192, 11360]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x11360, .f32⟩
  | .hbm, ⟨2, _⟩ => ⟨S8192x4096, .f32⟩
  | .hbm, ⟨3, _⟩ => ⟨S1x4096x11360, .f32⟩
  | .hbm, ⟨4, _⟩ => ⟨S4096x11360, .f32⟩
  | .hbm, ⟨5, _⟩ => ⟨S8192x11360, .f32⟩
  | .hbm, ⟨6, _⟩ => ⟨S8192x4096, .f32⟩
  | .hbm, ⟨7, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== PreNorm.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PreNormRefIdeal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | .hbm, ⟨18, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== PostNorm.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S8192x4096, .bf16⟩
  | .hbm, ⟨2, _⟩ => ⟨S4096, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S8192x4096, .f32⟩
  | .hbm, ⟨7, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PostNormRefIdeal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 39
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .bf16⟩
  | .hbm, ⟨2, _⟩ => ⟨S4096, .f32⟩
  | .hbm, ⟨3, _⟩ => ⟨S4096, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x4096, .f32⟩
  | .hbm, ⟨17, _⟩ => ⟨S8192x4096, .f32⟩
  | .hbm, ⟨18, _⟩ => ⟨S1x4096, .f32⟩
  | .hbm, ⟨19, _⟩ => ⟨S8192x4096, .f32⟩
  | .hbm, ⟨20, _⟩ => ⟨S8192x4096, .f32⟩
  | .hbm, ⟨21, _⟩ => ⟨S8192x4096, .f32⟩
  | .hbm, ⟨22, _⟩ => ⟨S8192x4096, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x4096, .f32⟩
  | .hbm, ⟨34, _⟩ => ⟨S8192x4096, .f32⟩
  | .hbm, ⟨35, _⟩ => ⟨S1x4096, .f32⟩
  | .hbm, ⟨36, _⟩ => ⟨S8192x4096, .f32⟩
  | .hbm, ⟨37, _⟩ => ⟨S8192x4096, .f32⟩
  | .hbm, ⟨38, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== LastNorm.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S8192x4096, .bf16⟩
  | .hbm, ⟨2, _⟩ => ⟨S4096, .f32⟩
  | .hbm, ⟨3, _⟩ => ⟨S1x4096, .f32⟩
  | .hbm, ⟨4, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LastNormRefIdeal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .bf16⟩
  | .hbm, ⟨2, _⟩ => ⟨S4096, .f32⟩
  | .hbm, ⟨3, _⟩ => ⟨S8192x4096, .f32⟩
  | .hbm, ⟨4, _⟩ => ⟨S8192x4096, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x4096, .f32⟩
  | .hbm, ⟨16, _⟩ => ⟨S8192x4096, .f32⟩
  | .hbm, ⟨17, _⟩ => ⟨S1x4096, .f32⟩
  | .hbm, ⟨18, _⟩ => ⟨S8192x4096, .f32⟩
  | .hbm, ⟨19, _⟩ => ⟨S8192x4096, .f32⟩
  | .hbm, ⟨20, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Compress.lean ====
abbrev S4x2048x7168 : Shape := ⟨3, ![4, 2048, 7168]⟩
abbrev S2x32x128 : Shape := ⟨3, ![2, 32, 128]⟩
abbrev S2x4096x128 : Shape := ⟨3, ![2, 4096, 128]⟩
abbrev S2x128x128 : Shape := ⟨3, ![2, 128, 128]⟩
abbrev S4x2x4x128x128 : Shape := ⟨5, ![4, 2, 4, 128, 128]⟩
abbrev S1x2048x128 : Shape := ⟨3, ![1, 2048, 128]⟩
abbrev S1x32x128 : Shape := ⟨3, ![1, 32, 128]⟩
abbrev S1x4096x128 : Shape := ⟨3, ![1, 4096, 128]⟩
abbrev S1x128x128 : Shape := ⟨3, ![1, 128, 128]⟩
abbrev S1x1x1x128x128 : Shape := ⟨5, ![1, 1, 1, 128, 128]⟩
abbrev S2048x128 : Shape := ⟨2, ![2048, 128]⟩
abbrev S128x128 : Shape := ⟨2, ![128, 128]⟩
abbrev S1x1x128 : Shape := ⟨3, ![1, 1, 128]⟩
abbrev S1x128 : Shape := ⟨2, ![1, 128]⟩

abbrev nBuf : Space → Nat
  | .hbm => 7
  | .vmem => 11
  | .smem => 0
  | _ => 0

abbrev bufTy : (tb : Table) → Fin (tcTables nBuf tb) → BufTy
  | .hbm, ⟨0, _⟩ => ⟨S4x2048x7168, .bf16⟩
  | .hbm, ⟨1, _⟩ => ⟨S2x32x128, .f32⟩
  | .hbm, ⟨2, _⟩ => ⟨S2x4096x128, .f32⟩
  | .hbm, ⟨3, _⟩ => ⟨S2x128x128, .f32⟩
  | .hbm, ⟨4, _⟩ => ⟨S2x4096x128, .bf16⟩
  | .hbm, ⟨5, _⟩ => ⟨S2x128x128, .bf16⟩
  | .hbm, ⟨6, _⟩ => ⟨S4x2x4x128x128, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x32x128, .f32⟩
  | .local _ .vmem, ⟨3, _⟩ => ⟨S1x32x128, .f32⟩
  | .local _ .vmem, ⟨4, _⟩ => ⟨S1x4096x128, .bf16⟩
  | .local _ .vmem, ⟨5, _⟩ => ⟨S1x4096x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x1x1x128x128, .bf16⟩
  | .local _ .vmem, ⟨9, _⟩ => ⟨S1x1x1x128x128, .bf16⟩
  | .local _ .vmem, ⟨10, _⟩ => ⟨S2048x128, .f32⟩
  | _, _ => ⟨S4x2048x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c32_i32 : BitVec 32 := 32#32
  let v1 : BitVec 32 := Scalar.addi c32_i32 v0
  let v2 : BitVec 32 := Scalar.addi v1 arg2
  let c0_i32 : BitVec 32 := 0#32
  let c0_i32_0 : BitVec 32 := 0#32
  ![arg0.toNat, c0_i32.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1x1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== CompressRefIdeal.lean ====
abbrev S4x2048x7168 : Shape := ⟨3, ![4, 2048, 7168]⟩
abbrev S2x32x128 : Shape := ⟨3, ![2, 32, 128]⟩
abbrev S2x4096x128 : Shape := ⟨3, ![2, 4096, 128]⟩
abbrev S2x128x128 : Shape := ⟨3, ![2, 128, 128]⟩
abbrev S4x2048x512 : Shape := ⟨3, ![4, 2048, 512]⟩
abbrev S4x2048x4x128 : Shape := ⟨4, ![4, 2048, 4, 128]⟩
abbrev S1x32x128 : Shape := ⟨3, ![1, 32, 128]⟩
abbrev S32x128 : Shape := ⟨2, ![32, 128]⟩
abbrev S1x4096x128 : Shape := ⟨3, ![1, 4096, 128]⟩
abbrev S4096x128 : Shape := ⟨2, ![4096, 128]⟩
abbrev S1x128x128 : Shape := ⟨3, ![1, 128, 128]⟩
abbrev S128x128 : Shape := ⟨2, ![128, 128]⟩
abbrev S4x128x16x4x128 : Shape := ⟨5, ![4, 128, 16, 4, 128]⟩
abbrev S4x0x16x4x128 : Shape := ⟨5, ![4, 0, 16, 4, 128]⟩
abbrev S4x127x16x4x128 : Shape := ⟨5, ![4, 127, 16, 4, 128]⟩
abbrev S4x1x16x4x128 : Shape := ⟨5, ![4, 1, 16, 4, 128]⟩
abbrev S4x128x32x4x128 : Shape := ⟨5, ![4, 128, 32, 4, 128]⟩
abbrev S1x1x32x1x128 : Shape := ⟨5, ![1, 1, 32, 1, 128]⟩
abbrev S4x128x4x32x128 : Shape := ⟨5, ![4, 128, 4, 32, 128]⟩
abbrev S4x128x4x4096 : Shape := ⟨4, ![4, 128, 4, 4096]⟩
abbrev S4x128x4x128 : Shape := ⟨4, ![4, 128, 4, 128]⟩
abbrev S_ : Shape := ⟨0, ![]⟩
abbrev S4x1x128x4x128 : Shape := ⟨5, ![4, 1, 128, 4, 128]⟩
abbrev S4x2x128x4x128 : Shape := ⟨5, ![4, 2, 128, 4, 128]⟩
abbrev S4x2x4x128x128 : Shape := ⟨5, ![4, 2, 4, 128, 128]⟩

abbrev nBuf : Space → Nat
  | .hbm => 88
  | .vmem => 0
  | .smem => 0
  | _ => 0

abbrev bufTy : (tb : Table) → Fin (tcTables nBuf tb) → BufTy
  | .hbm, ⟨0, _⟩ => ⟨S4x2048x7168, .bf16⟩
  | .hbm, ⟨1, _⟩ => ⟨S2x32x128, .f32⟩
  | .hbm, ⟨2, _⟩ => ⟨S2x4096x128, .f32⟩
  | .hbm, ⟨3, _⟩ => ⟨S2x128x128, .f32⟩
  | .hbm, ⟨4, _⟩ => ⟨S4x2048x7168, .f32⟩
  | .hbm, ⟨5, _⟩ => ⟨S4x2048x512, .f32⟩
  | .hbm, ⟨6, _⟩ => ⟨S4x2048x4x128, .f32⟩
  | .hbm, ⟨7, _⟩ => ⟨S4x2048x512, .f32⟩
  | .hbm, ⟨8, _⟩ => ⟨S4x2048x4x128, .f32⟩
  | .hbm, ⟨9, _⟩ => ⟨S1x32x128, .f32⟩
  | .hbm, ⟨10, _⟩ => ⟨S32x128, .f32⟩
  | .hbm, ⟨11, _⟩ => ⟨S1x4096x128, .f32⟩
  | .hbm, ⟨12, _⟩ => ⟨S4096x128, .f32⟩
  | .hbm, ⟨13, _⟩ => ⟨S1x128x128, .f32⟩
  | .hbm, ⟨14, _⟩ => ⟨S128x128, .f32⟩
  | .hbm, ⟨15, _⟩ => ⟨S4x128x16x4x128, .f32⟩
  | .hbm, ⟨16, _⟩ => ⟨S4x0x16x4x128, .f32⟩
  | .hbm, ⟨17, _⟩ => ⟨S4x128x16x4x128, .f32⟩
  | .hbm, ⟨18, _⟩ => ⟨S4x127x16x4x128, .f32⟩
  | .hbm, ⟨19, _⟩ => ⟨S4x1x16x4x128, .f32⟩
  | .hbm, ⟨20, _⟩ => ⟨S4x128x16x4x128, .f32⟩
  | .hbm, ⟨21, _⟩ => ⟨S4x128x32x4x128, .f32⟩
  | .hbm, ⟨22, _⟩ => ⟨S1x1x32x1x128, .f32⟩
  | .hbm, ⟨23, _⟩ => ⟨S4x128x32x4x128, .f32⟩
  | .hbm, ⟨24, _⟩ => ⟨S4x128x32x4x128, .f32⟩
  | .hbm, ⟨25, _⟩ => ⟨S4x128x4x32x128, .f32⟩
  | .hbm, ⟨26, _⟩ => ⟨S4x128x4x4096, .f32⟩
  | .hbm, ⟨27, _⟩ => ⟨S4x128x4x128, .f32⟩
  | .hbm, ⟨28, _⟩ => ⟨S4x128x4x128, .f32⟩
  | .hbm, ⟨29, _⟩ => ⟨S4x128x4x128, .f32⟩
  | .hbm, ⟨30, _⟩ => ⟨S_, .f32⟩
  | .hbm, ⟨31, _⟩ => ⟨S4x128x4x128, .f32⟩
  | .hbm, ⟨32, _⟩ => ⟨S4x128x4x128, .f32⟩
  | .hbm, ⟨33, _⟩ => ⟨S4x128x4x128, .f32⟩
  | .hbm, ⟨34, _⟩ => ⟨S_, .f32⟩
  | .hbm, ⟨35, _⟩ => ⟨S4x128x4x128, .f32⟩
  | .hbm, ⟨36, _⟩ => ⟨S4x128x4x128, .f32⟩
  | .hbm, ⟨37, _⟩ => ⟨S4x128x4x128, .f32⟩
  | .hbm, ⟨38, _⟩ => ⟨S_, .f32⟩
  | .hbm, ⟨39, _⟩ => ⟨S4x128x4x128, .f32⟩
  | .hbm, ⟨40, _⟩ => ⟨S4x128x4x128, .f32⟩
  | .hbm, ⟨41, _⟩ => ⟨S_, .f32⟩
  | .hbm, ⟨42, _⟩ => ⟨S4x128x4x128, .f32⟩
  | .hbm, ⟨43, _⟩ => ⟨S4x128x4x128, .f32⟩
  | .hbm, ⟨44, _⟩ => ⟨S4x128x4x128, .f32⟩
  | .hbm, ⟨45, _⟩ => ⟨S4x128x4x128, .f32⟩
  | .hbm, ⟨46, _⟩ => ⟨S1x32x128, .f32⟩
  | .hbm, ⟨47, _⟩ => ⟨S32x128, .f32⟩
  | .hbm, ⟨48, _⟩ => ⟨S1x4096x128, .f32⟩
  | .hbm, ⟨49, _⟩ => ⟨S4096x128, .f32⟩
  | .hbm, ⟨50, _⟩ => ⟨S1x128x128, .f32⟩
  | .hbm, ⟨51, _⟩ => ⟨S128x128, .f32⟩
  | .hbm, ⟨52, _⟩ => ⟨S4x128x16x4x128, .f32⟩
  | .hbm, ⟨53, _⟩ => ⟨S4x0x16x4x128, .f32⟩
  | .hbm, ⟨54, _⟩ => ⟨S4x128x16x4x128, .f32⟩
  | .hbm, ⟨55, _⟩ => ⟨S4x127x16x4x128, .f32⟩
  | .hbm, ⟨56, _⟩ => ⟨S4x1x16x4x128, .f32⟩
  | .hbm, ⟨57, _⟩ => ⟨S4x128x16x4x128, .f32⟩
  | .hbm, ⟨58, _⟩ => ⟨S4x128x32x4x128, .f32⟩
  | .hbm, ⟨59, _⟩ => ⟨S1x1x32x1x128, .f32⟩
  | .hbm, ⟨60, _⟩ => ⟨S4x128x32x4x128, .f32⟩
  | .hbm, ⟨61, _⟩ => ⟨S4x128x32x4x128, .f32⟩
  | .hbm, ⟨62, _⟩ => ⟨S4x128x4x32x128, .f32⟩
  | .hbm, ⟨63, _⟩ => ⟨S4x128x4x4096, .f32⟩
  | .hbm, ⟨64, _⟩ => ⟨S4x128x4x128, .f32⟩
  | .hbm, ⟨65, _⟩ => ⟨S4x128x4x128, .f32⟩
  | .hbm, ⟨66, _⟩ => ⟨S4x128x4x128, .f32⟩
  | .hbm, ⟨67, _⟩ => ⟨S_, .f32⟩
  | .hbm, ⟨68, _⟩ => ⟨S4x128x4x128, .f32⟩
  | .hbm, ⟨69, _⟩ => ⟨S4x128x4x128, .f32⟩
  | .hbm, ⟨70, _⟩ => ⟨S4x128x4x128, .f32⟩
  | .hbm, ⟨71, _⟩ => ⟨S_, .f32⟩
  | .hbm, ⟨72, _⟩ => ⟨S4x128x4x128, .f32⟩
  | .hbm, ⟨73, _⟩ => ⟨S4x128x4x128, .f32⟩
  | .hbm, ⟨74, _⟩ => ⟨S4x128x4x128, .f32⟩
  | .hbm, ⟨75, _⟩ => ⟨S_, .f32⟩
  | .hbm, ⟨76, _⟩ => ⟨S4x128x4x128, .f32⟩
  | .hbm, ⟨77, _⟩ => ⟨S4x128x4x128, .f32⟩
  | .hbm, ⟨78, _⟩ => ⟨S_, .f32⟩
  | .hbm, ⟨79, _⟩ => ⟨S4x128x4x128, .f32⟩
  | .hbm, ⟨80, _⟩ => ⟨S4x128x4x128, .f32⟩
  | .hbm, ⟨81, _⟩ => ⟨S4x128x4x128, .f32⟩
  | .hbm, ⟨82, _⟩ => ⟨S4x128x4x128, .f32⟩
  | .hbm, ⟨83, _⟩ => ⟨S4x1x128x4x128, .f32⟩
  | .hbm, ⟨84, _⟩ => ⟨S4x1x128x4x128, .f32⟩
  | .hbm, ⟨85, _⟩ => ⟨S4x2x128x4x128, .f32⟩
  | .hbm, ⟨86, _⟩ => ⟨S4x2x4x128x128, .f32⟩
  | .hbm, ⟨87, _⟩ => ⟨S4x2x4x128x128, .bf16⟩
  | _, _ => ⟨S4x2048x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst_0 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_1 : Ref sig .tc := ⟨.hbm, 38, rfl⟩
abbrev main_v32 : Ref sig .tc := ⟨.hbm, 39, rfl⟩
abbrev main_v33 : Ref sig .tc := ⟨.hbm, 40, rfl⟩
abbrev main_cst_2 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_cst_3 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_cst_4 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_cst_5 : Ref sig .tc := ⟨.hbm, 75, rfl⟩
abbrev main_v65 : Ref sig .tc := ⟨.hbm, 76, rfl⟩
abbrev main_v66 : Ref sig .tc := ⟨.hbm, 77, rfl⟩
abbrev main_cst_6 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩

abbrev nD : Nat := 1
abbrev τ : Topo := Topo.v7x

variable {F : FTy → Type} [FloatOps F]
-- ==== Proof.Scan.lean ====
/- The linear recurrence `h ← a·h + u` over the extended reals, and why a block of it may be computed by doubling:
   the maps `v ↦ A·v + U` of adjacent stretches compose, as long as the factors are not negative and finite. -/
module

public import Idealize.ShloMosaic.PureOps.Ideal

@[expose] public section

noncomputable section

namespace Cert.Scan

/-- `n` steps of `h ← a·h + u`, the first of them step `s`, from `v`. -/
def steps (a u : ℕ → EReal) (s : ℕ) : ℕ → EReal → EReal
  | 0, v => v
  | n + 1, v => a (s + n) * steps a u s n v + u (s + n)

variable {a u : ℕ → EReal}

theorem steps_succ (s n : ℕ) (v : EReal) : steps a u s (n + 1) v = a (s + n) * steps a u s n v + u (s + n) := rfl

/-- `m + n` steps are `m` steps, then `n` more. -/
theorem steps_add (s m : ℕ) (v : EReal) : ∀ n, steps a u s (m + n) v = steps a u (s + m) n (steps a u s m v)
  | 0 => rfl
  | n + 1 => by
    rw [← Nat.add_assoc, steps_succ, steps_succ, steps_add s m v n, Nat.add_assoc]

/-- Steps depend on the coefficients they visit only. -/
theorem steps_congr {a' u' : ℕ → EReal} {s s' : ℕ} (v : EReal) :
    ∀ n, (∀ k < n, a (s + k) = a' (s' + k)) → (∀ k < n, u (s + k) = u' (s' + k)) →
      steps a u s n v = steps a' u' s' n v
  | 0, _, _ => rfl
  | n + 1, ha, hu => by
    rw [steps_succ, steps_succ, ha n (Nat.lt_succ_self n), hu n (Nat.lt_succ_self n),
      steps_congr v n (fun k hk => ha k (Nat.lt_succ_of_lt hk)) (fun k hk => hu k (Nat.lt_succ_of_lt hk))]

/-- The map `v ↦ A·v + U` is the last `len` steps up to and including step `r`, with a factor that distributes. -/
structure Tail (a u : ℕ → EReal) (r len : ℕ) (A U : EReal) : Prop where
  nonneg : 0 ≤ A
  ne_top : A ≠ ⊤
  le : len ≤ r + 1
  eq : ∀ v, A * v + U = steps a u (r + 1 - len) len v

/-- One step is such a map. -/
theorem Tail.one {r : ℕ} (h0 : 0 ≤ a r) (ht : a r ≠ ⊤) : Tail a u r 1 (a r) (u r) :=
  ⟨h0, ht, by omega, fun v => by
    rw [Nat.add_sub_cancel]
    rfl⟩

theorem mul_ne_top {x y : EReal} (hx0 : 0 ≤ x) (hx : x ≠ ⊤) (hy0 : 0 ≤ y) (hy : y ≠ ⊤) : x * y ≠ ⊤ := by
  lift x to ℝ using ⟨hx, (lt_of_lt_of_le EReal.bot_lt_zero hx0).ne'⟩
  lift y to ℝ using ⟨hy, (lt_of_lt_of_le EReal.bot_lt_zero hy0).ne'⟩
  rw [← EReal.coe_mul]
  exact EReal.coe_ne_top _

/-- Two adjacent stretches compose: the factor is the product, the offset the later map of the earlier offset. -/
theorem Tail.comp {r len len' q : ℕ} {A U A' U' : EReal} (h : Tail a u r len A U) (h' : Tail a u q len' A' U')
    (hq : q + len = r) : Tail a u r (len + len') (A * A') (A * U' + U) :=
  ⟨mul_nonneg h.nonneg h'.nonneg, mul_ne_top h.nonneg h.ne_top h'.nonneg h'.ne_top,
    by have := h'.le; omega, fun v => by
      have hl := h'.le
      rw [mul_assoc, ← add_assoc, ← EReal.left_distrib_of_nonneg_of_ne_top h.nonneg h.ne_top, h'.eq v, h.eq,
        Nat.add_comm len len', steps_add, show r + 1 - (len' + len) = q + 1 - len' by omega,
        show q + 1 - len' + len' = r + 1 - len by omega]⟩

theorem Tail.cast {r len len' : ℕ} {A U : EReal} (h : Tail a u r len A U) (e : len = len') : Tail a u r len' A U := e ▸ h

/-- ONE ROUND of the doubling: with stretches of `min (p + 1) d` steps behind every row (`p` its place in its group of
    eight), a row with `p ≥ d` composes with the row `d` before it; after it the stretches are `min (p + 1) (2 d)`. -/
theorem Tail.round {A U A' U' : ℕ → EReal} (d : ℕ) (hd : 0 < d)
    (h : ∀ r, Tail a u r (min (r % 8 + 1) d) (A r) (U r))
    (hA : ∀ r, A' r = if d ≤ r % 8 then A r * A (r - d) else A r)
    (hU : ∀ r, U' r = if d ≤ r % 8 then A r * U (r - d) + U r else U r) (r : ℕ) :
    Tail a u r (min (r % 8 + 1) (2 * d)) (A' r) (U' r) := by
  rw [hA, hU]
  split_ifs with hp
  · refine ((h r).comp (h (r - d)) ?_).cast ?_ <;> omega
  · exact (h r).cast (by omega)

end Cert.Scan

end
-- ==== Proof.Rounds.lean ====
/- The three rounds of the doubling inside a block's groups of eight rows: each multiplies a row's map into the map of
   the row `d` before it, where the row's place in its group is at least `d`. -/
module

public import proofs.«01_k».proof.Proof.Gen.KernelIdeal.Value
public import proofs.«01_k».proof.Proof.Scan
public import Idealize.ShloMosaic.Lib.Pointwise
public import Idealize.ShloMosaic.Lib.KernelVsHost

@[expose] public section

set_option maxRecDepth 16384

noncomputable section

namespace Cert.KernelIdeal.Rounds

open Cert.KernelIdeal Cert.KernelIdeal.Gen Idealize.ShloMosaic Idealize.ShloMosaic.TcCoe Cert.Scan

/-- Column `c` of a block of 1024 rows as a sequence (repeated past the last row). -/
def row (X : FVec Ideal S1024x256 .f32) (c : Fin 256) (r : ℕ) : EReal :=
  X (ix2 ⟨r % 1024, Nat.mod_lt _ (by norm_num)⟩ c)

theorem row_of_lt (X : FVec Ideal S1024x256 .f32) (c : Fin 256) {r : ℕ} (h : r < 1024) : row X c r = X (ix2 ⟨r, h⟩ c) := by
  unfold row
  congr 2
  exact Fin.ext (Nat.mod_eq_of_lt h)

/-- A row at place `d` or later of its group of eight reads, in the block rotated by `d`, the row `d` before it. -/
theorem row_rotate (d : ℕ) (sb : BitVec 32) (hsb : sb.toNat = d) (X : FVec Ideal S1024x256 .f32) (c : Fin 256) (r : ℕ)
    (hd : d ≤ r % 8) (h : S1024x256.Rotates 0 none) : row (dynamicRotate 0 sb none X h) c r = row X c (r - d) := by
  unfold row
  refine Idealize.ShloMosaic.dynamicRotate_apply 0 sb X h _ _ (Fin.forall_fin_two.mpr ⟨?_, rfl⟩)
  rw [if_pos rfl, hsb]
  show (r - d) % 1024 = (r % 1024 + 1024 - d % 1024) % 1024
  omega

/-- The masks of the rounds: is the row's place in its group at least 1, 2, 4? -/
theorem mask1 : ∀ r : Fin 1024, k0_pay15 (ix2 r (0 : Fin 1)) = if 1 ≤ r.val % 8 then 1#1 else 0#1 := by
  intro r
  pointwise [k0_pay15, k0_pay14]
  revert r
  decide +kernel

theorem mask2 : ∀ r : Fin 1024, k0_pay18 k0_pay14 (ix2 r (0 : Fin 1)) = if 2 ≤ r.val % 8 then 1#1 else 0#1 := by
  intro r
  pointwise [k0_pay18, k0_pay14]
  revert r
  decide +kernel

theorem mask4 : ∀ r : Fin 1024, k0_pay20 k0_pay14 (ix2 r (0 : Fin 1)) = if 4 ≤ r.val % 8 then 1#1 else 0#1 := by
  intro r
  pointwise [k0_pay20, k0_pay14]
  revert r
  decide +kernel

/-- A selection under such a mask, read in a row. -/
theorem row_select (d : ℕ) (m : IVec S1024x1 1)
    (hm : ∀ r : Fin 1024, m (ix2 r (0 : Fin 1)) = if d ≤ r.val % 8 then 1#1 else 0#1)
    (X Y : FVec Ideal S1024x256 .f32) (c : Fin 256) (r : ℕ) :
    row (select (broadcastTo S1024x256 (shapeCast S1024x1 m shapeCasts_S1024x1_S1024x1) broadcasts_S1024x1_S1024x256) X Y)
      c r = if d ≤ r % 8 then row X c r else row Y c r := by
  have h := hm ⟨r % 1024, Nat.mod_lt _ (by norm_num)⟩
  rw [show (⟨r % 1024, Nat.mod_lt _ (by norm_num)⟩ : Fin 1024).val % 8 = r % 8 from
    (by show r % 1024 % 8 = r % 8; omega)] at h
  unfold row
  pointwise
  rw [h]
  by_cases hd : d ≤ r % 8
  · rw [if_pos hd, if_pos hd]; rfl
  · rw [if_neg hd, if_neg hd]; rfl

theorem row_mulf (X Y : FVec Ideal S1024x256 .f32) (c : Fin 256) (r : ℕ) :
    row (mulf X Y) c r = row X c r * row Y c r := rfl

theorem row_addf (X Y : FVec Ideal S1024x256 .f32) (c : Fin 256) (r : ℕ) :
    row (addf X Y) c r = row X c r + row Y c r := rfl

/-- The factor's round of step `d`. -/
theorem round_A (d : ℕ) (sb : BitVec 32) (hsb : sb.toNat = d) (m : IVec S1024x1 1)
    (hm : ∀ r : Fin 1024, m (ix2 r (0 : Fin 1)) = if d ≤ r.val % 8 then 1#1 else 0#1)
    (A : FVec Ideal S1024x256 .f32) (h : S1024x256.Rotates 0 none) (c : Fin 256) (r : ℕ) :
    row (select (broadcastTo S1024x256 (shapeCast S1024x1 m shapeCasts_S1024x1_S1024x1) broadcasts_S1024x1_S1024x256)
      (mulf A (dynamicRotate 0 sb none A h)) A) c r
      = if d ≤ r % 8 then row A c r * row A c (r - d) else row A c r := by
  rw [row_select d m hm, row_mulf]
  by_cases hd : d ≤ r % 8
  · rw [if_pos hd, if_pos hd, row_rotate d sb hsb A c r hd]
  · rw [if_neg hd, if_neg hd]

/-- The offset's round of step `d`. -/
theorem round_U (d : ℕ) (sb : BitVec 32) (hsb : sb.toNat = d) (m : IVec S1024x1 1)
    (hm : ∀ r : Fin 1024, m (ix2 r (0 : Fin 1)) = if d ≤ r.val % 8 then 1#1 else 0#1)
    (A U : FVec Ideal S1024x256 .f32) (h : S1024x256.Rotates 0 none) (c : Fin 256) (r : ℕ) :
    row (select (broadcastTo S1024x256 (shapeCast S1024x1 m shapeCasts_S1024x1_S1024x1) broadcasts_S1024x1_S1024x256)
      (addf (mulf A (dynamicRotate 0 sb none U h)) U) U) c r
      = if d ≤ r % 8 then row A c r * row U c (r - d) + row U c r else row U c r := by
  rw [row_select d m hm, row_addf, row_mulf]
  by_cases hd : d ≤ r % 8
  · rw [if_pos hd, if_pos hd, row_rotate d sb hsb U c r hd]
  · rw [if_neg hd, if_neg hd]

/-- AFTER THE THREE ROUNDS every row holds the map of its group's rows up to and including itself, for any factors
    that are neither negative nor infinite. -/
theorem rounds (a u : FVec Ideal S1024x256 .f32) (h0 : ∀ i, 0 ≤ a i) (ht : ∀ i, a i ≠ (⊤ : EReal)) (c : Fin 256)
    (r : ℕ) :
    Tail (row a c) (row u c) r (r % 8 + 1)
      (row (k0_pay22 a k0_pay14 k0_pay15 (dynamicRotate 0 1#32 none a rotates_S1024x256_d0)) c r)
      (row (k0_pay21 a u k0_pay14 k0_pay15 (dynamicRotate 0 1#32 none a rotates_S1024x256_d0) 1#32) c r) := by
  have t0 : ∀ r, Tail (row a c) (row u c) r (min (r % 8 + 1) 1) (row a c r) (row u c r) := fun r =>
    (Tail.one (h0 _) (ht _)).cast (by omega)
  have t1 := Tail.round 1 (by norm_num) t0 (round_A 1 1#32 rfl k0_pay15 mask1 a rotates_S1024x256_d0 c)
    (round_U 1 1#32 rfl k0_pay15 mask1 a u rotates_S1024x256_d0 c)
  have t2 := Tail.round 2 (by norm_num) t1 (round_A 2 2#32 rfl (k0_pay18 k0_pay14) mask2 _ rotates_S1024x256_d0 c)
    (round_U 2 2#32 rfl (k0_pay18 k0_pay14) mask2 _ _ rotates_S1024x256_d0 c)
  have t4 := Tail.round 4 (by norm_num) t2 (round_A 4 4#32 rfl (k0_pay20 k0_pay14) mask4 _ rotates_S1024x256_d0 c)
    (round_U 4 4#32 rfl (k0_pay20 k0_pay14) mask4 _ _ rotates_S1024x256_d0 c)
  exact (t4 r).cast (by omega)

end Cert.KernelIdeal.Rounds

end
-- ==== Proof.Chain.lean ====
/- A block's 128 groups of eight rows in order: each group's rows are its rows' maps applied to the state the group
   before ended in, so row `r` of the block holds the recurrence after `r + 1` steps. -/
module

public import proofs.«01_k».proof.Proof.Rounds

@[expose] public section

set_option maxRecDepth 16384

noncomputable section

namespace Cert.KernelIdeal.Chain

open Cert.KernelIdeal Cert.KernelIdeal.Gen Idealize.ShloMosaic Idealize.ShloMosaic.TcCoe Cert.Scan
open Cert.KernelIdeal.Rounds (row row_of_lt)

/-- Groups `g`, `g + 1`, …, each eight rows of `A · carry + U` with the carry its predecessor's last row: from the carry
    `s` to the carry `e`. -/
inductive Chain (A U : FVec Ideal S1024x256 .f32) :
    ℕ → FVec Ideal S1x256 .f32 → List ((s : Shape) × (s.Idx → Ideal .f32)) → FVec Ideal S1x256 .f32 → Prop
  | nil (g : ℕ) (s : FVec Ideal S1x256 .f32) : Chain A U g s [] s
  | cons {g : ℕ} {s e : FVec Ideal S1x256 .f32} {L : List ((s : Shape) × (s.Idx → Ideal .f32))} (o : ℕ)
      (ho : o = 8 * g) (h : S1024x256.Slices ![o, 0] S8x256) (H : FVec Ideal S8x256 .f32)
      (hH : H = addf (mulf (extractStridedSlice S8x256 ![o, 0] A h) (broadcastTo S8x256 s broadcasts_S1x256_S8x256))
        (extractStridedSlice S8x256 ![o, 0] U h))
      (rest : Chain A U (g + 1) (extractStridedSlice S1x256 ![7, 0] H slices_S8x256_o7_0_S1x256) L e) :
      Chain A U g s (⟨S8x256, H⟩ :: L) e

/-- A row of a group of eight, sliced out of the block. -/
theorem slice_row (X : FVec Ideal S1024x256 .f32) (g : ℕ) (h : S1024x256.Slices ![8 * g, 0] S8x256) (p : Fin 8)
    (c : Fin 256) : extractStridedSlice S8x256 ![8 * g, 0] X h (ix2 p c) = row X c (8 * g + p.val) := by
  have hb : 8 * g + 8 ≤ 1024 := h.2 (0 : Fin 2)
  rw [row_of_lt X c (show 8 * g + p.val < 1024 by omega)]
  refine congrArg X (funext fun a => Fin.ext ?_)
  revert a
  exact Fin.forall_fin_two.mpr ⟨rfl, Nat.zero_add _⟩

/-- The last row of a group. -/
theorem last_row (H : FVec Ideal S8x256 .f32) (c : Fin 256) :
    extractStridedSlice S1x256 ![7, 0] H slices_S8x256_o7_0_S1x256 (ix2 (0 : Fin 1) c) = H (ix2 (7 : Fin 8) c) := by
  refine congrArg H (funext fun a => Fin.ext ?_)
  revert a
  exact Fin.forall_fin_two.mpr ⟨rfl, Nat.zero_add _⟩

variable {A U : FVec Ideal S1024x256 .f32} {a u : Fin 256 → ℕ → EReal} {v : Fin 256 → EReal}

/-- One group: its eight rows are the recurrence's next eight states. -/
theorem group_val (hT : ∀ c r, Tail (a c) (u c) r (r % 8 + 1) (row A c r) (row U c r)) {g : ℕ} {s : FVec Ideal S1x256 .f32}
    (hs : ∀ c : Fin 256, s (ix2 (0 : Fin 1) c) = steps (a c) (u c) 0 (8 * g) (v c))
    (h : S1024x256.Slices ![8 * g, 0] S8x256) (p : Fin 8) (c : Fin 256) :
    (addf (mulf (extractStridedSlice S8x256 ![8 * g, 0] A h) (broadcastTo S8x256 s broadcasts_S1x256_S8x256))
      (extractStridedSlice S8x256 ![8 * g, 0] U h) : FVec Ideal S8x256 .f32) (ix2 p c)
      = steps (a c) (u c) 0 (8 * g + (p.val + 1)) (v c) := by
  have e : (broadcastTo S8x256 s broadcasts_S1x256_S8x256 : FVec Ideal S8x256 .f32) (ix2 p c) = s (ix2 (0 : Fin 1) c) := by
    pointwise
  show extractStridedSlice S8x256 ![8 * g, 0] A h (ix2 p c)
      * (broadcastTo S8x256 s broadcasts_S1x256_S8x256 : FVec Ideal S8x256 .f32) (ix2 p c)
      + extractStridedSlice S8x256 ![8 * g, 0] U h (ix2 p c) = _
  have hp := p.isLt
  rw [e, slice_row, slice_row, hs, (hT c (8 * g + p.val)).eq, show (8 * g + p.val) % 8 + 1 = p.val + 1 by omega,
    show 8 * g + p.val + 1 - (p.val + 1) = 8 * g by omega, steps_add 0 (8 * g), Nat.zero_add]

/-- Every group of a chain, and the carry it ends with. -/
theorem Chain.val (hT : ∀ c r, Tail (a c) (u c) r (r % 8 + 1) (row A c r) (row U c r)) {g : ℕ} {s e : FVec Ideal S1x256 .f32}
    {L : List ((s : Shape) × (s.Idx → Ideal .f32))} (hC : Chain A U g s L e)
    (hs : ∀ c : Fin 256, s (ix2 (0 : Fin 1) c) = steps (a c) (u c) 0 (8 * g) (v c)) :
    (∀ (k : ℕ) (hk : k < L.length), ∃ H : FVec Ideal S8x256 .f32, L[k] = ⟨S8x256, H⟩ ∧
        ∀ (p : Fin 8) (c : Fin 256), H (ix2 p c) = steps (a c) (u c) 0 (8 * (g + k) + (p.val + 1)) (v c)) ∧
      ∀ c : Fin 256, e (ix2 (0 : Fin 1) c) = steps (a c) (u c) 0 (8 * (g + L.length)) (v c) := by
  induction hC with
  | nil g s => exact ⟨fun k hk => absurd hk (Nat.not_lt_zero k), hs⟩
  | @cons g s e L o ho h H hH rest ih =>
    subst ho hH
    have hv := group_val (A := A) (U := U) hT hs h
    obtain ⟨i1, i2⟩ := ih (fun c => (last_row _ c).trans (hv 7 c))
    refine ⟨fun k hk => ?_, fun c => ?_⟩
    · cases k with
      | zero => exact ⟨_, rfl, hv⟩
      | succ k =>
        obtain ⟨H', e1, e2⟩ := i1 k (Nat.lt_of_succ_lt_succ hk)
        refine ⟨H', e1, fun p c => ?_⟩
        rw [e2, show g + 1 + k = g + (k + 1) by omega]
    · rw [i2, List.length_cons, show g + 1 + L.length = g + (L.length + 1) by omega]

/-- Groups of a chain are eight rows each. -/
theorem Chain.sum_take {g : ℕ} {s e : FVec Ideal S1x256 .f32} {L : List ((s : Shape) × (s.Idx → Ideal .f32))}
    (hC : Chain A U g s L e) (k : ℕ) (hk : k ≤ L.length) :
    (((L.take k).map (·.1)).map fun s => if h : s.rank = S1024x256.rank then s.size ((0 : Fin 2).cast h.symm) else 0).sum
      = 8 * k := by
  induction hC generalizing k with
  | nil => rw [Nat.le_zero.mp hk]; rfl
  | cons o ho h H hH rest ih =>
    cases k with
    | zero => rfl
    | succ k =>
      rw [List.take_succ_cons, List.map_cons, List.map_cons, List.sum_cons, ih k (Nat.le_of_succ_le_succ hk)]
      show 8 + 8 * k = _
      omega

/-- THE BLOCK: the groups one under another hold the recurrence's states, row `r` the one after `r + 1` steps. -/
theorem Chain.concat (hT : ∀ c r, Tail (a c) (u c) r (r % 8 + 1) (row A c r) (row U c r)) {s e : FVec Ideal S1x256 .f32}
    {L : List ((s : Shape) × (s.Idx → Ideal .f32))} (hC : Chain A U 0 s L e) (hL : L.length = 128)
    (hs : ∀ c : Fin 256, s (ix2 (0 : Fin 1) c) = v c) (h : Shape.Concatenates (L.map (·.1)) S1024x256 0) (r : Fin 1024)
    (c : Fin 256) :
    concatenate S1024x256 0 L h (ix2 r c) = steps (a c) (u c) 0 (r.val + 1) (v c) := by
  have hr := r.isLt
  have hk : r.val / 8 < L.length := by rw [hL]; omega
  obtain ⟨H, e1, e2⟩ := (hC.val (v := v) hT hs).1 (r.val / 8) hk
  rw [concatenate_apply_piece (0 : Fin 2) L h (ix2 r c) (r.val / 8) hk S8x256 H e1 rfl (8 * (r.val / 8))
    (hC.sum_take _ hk.le) (ix2 (⟨r.val % 8, Nat.mod_lt _ (by norm_num)⟩ : Fin 8) c) (Fin.forall_fin_two.mpr ⟨fun hb => absurd rfl hb, fun _ => rfl⟩)
    (by show 8 * (r.val / 8) + r.val % 8 = r.val; omega), e2]
  congr 1
  show 8 * (0 + r.val / 8) + (r.val % 8 + 1) = r.val + 1
  omega

/-- The carry after the block: the last row's state. -/
theorem Chain.last (hT : ∀ c r, Tail (a c) (u c) r (r % 8 + 1) (row A c r) (row U c r)) {s e : FVec Ideal S1x256 .f32}
    {L : List ((s : Shape) × (s.Idx → Ideal .f32))} (hC : Chain A U 0 s L e) (hL : L.length = 128)
    (hs : ∀ c : Fin 256, s (ix2 (0 : Fin 1) c) = v c) (c : Fin 256) :
    e (ix2 (0 : Fin 1) c) = steps (a c) (u c) 0 1024 (v c) := by
  rw [(hC.val (v := v) hT hs).2 c, hL]

end Cert.KernelIdeal.Chain

end
-- ==== Proof.Run.lean ====
/- What one grid point's run leaves — the output block, the kept last rows of the input, the carried state — as one
   expression of its input blocks, the three shifted copies of the input and the incoming state. -/
module

public import proofs.«01_k».proof.Proof.Chain
public import Idealize.ShloMosaic.Lib.WritesUnit

@[expose] public section

set_option maxRecDepth 16384

noncomputable section

namespace Cert.KernelIdeal.Run

open Cert.KernelIdeal Cert.KernelIdeal.Gen Idealize.ShloMosaic Idealize.ShloMosaic.TcCoe Idealize.SL.Sem
open Cert.KernelIdeal.Chain (Chain)

theorem z2 : (![0, 0] : Fin 2 → ℕ) = fun _ => 0 := funext fun a => by fin_cases a <;> rfl
theorem z3 : (![0, 0, 0] : Fin 3 → ℕ) = fun _ => 0 := funext fun a => by fin_cases a <;> rfl

/-- Row `k` of the convolution's taps. -/
def tap (x2 : Vec Ideal S4x256 .f32) (k : ℕ) (h : ∀ a, (![k, 0] : Fin 2 → ℕ) a + S1x256.size a ≤ S4x256.size a) :
    Vec Ideal S1x256 .f32 := View.ld x2 (Rect.unit ![k, 0] S1x256.size h)

/-- Gate `k`'s weights and bias. -/
def gw (x4 : Vec Ideal S2x1x256x256 .bf16) (k : ℕ)
    (h : ∀ a, (![k, 0, 0, 0] : Fin 4 → ℕ) a + S1x1x256x256.size a ≤ S2x1x256x256.size a) : Vec Ideal S1x1x256x256 .bf16 :=
  View.ld x4 (Rect.unit ![k, 0, 0, 0] S1x1x256x256.size h)
def gb (x5 : Vec Ideal S2x1x1x256 .f32) (k : ℕ)
    (h : ∀ a, (![k, 0, 0, 0] : Fin 4 → ℕ) a + S1x1x1x256.size a ≤ S2x1x1x256.size a) : Vec Ideal S1x1x1x256 .f32 :=
  View.ld x5 (Rect.unit ![k, 0, 0, 0] S1x1x1x256.size h)

/-- The convolved block: `y5`, `y6`, `y7` are the input three, two and one row back. -/
def xcV (x0 : Vec Ideal S1x1024x256 .f32) (x2 : Vec Ideal S4x256 .f32) (x3 : Vec Ideal S1x256 .f32)
    (y5 y6 y7 : Vec Ideal S1024x256 .f32) : FVec Ideal S1024x256 .f32 :=
  k0_pay6 x0 x3 (tap x2 3 inb_S4x256_S1x256_3_0) (tap x2 0 inb_S4x256_S1x256_0_0) y5
    (tap x2 1 inb_S4x256_S1x256_1_0) y6 (tap x2 2 inb_S4x256_S1x256_2_0) y7

/-- The scratch a point reads its shifted inputs from: eight kept rows, then the point's own 1024. -/
def pad (x0 : Vec Ideal S1x1024x256 .f32) (xs : Vec Ideal S1032x256 .f32) : Vec Ideal S1032x256 .f32 := fun i =>
  if h : 8 ≤ (i 0).val then x0 (ix3 (0 : Fin 1) (⟨(i 0).val - 8, by have h' : (i 0).val < 1032 := (i 0).isLt; omega⟩ : Fin 1024) (i 1))
  else xs i

/-- The input moved `8 - k` rows back. -/
def sh (k : ℕ) (h : ∀ a, (![k, 0] : Fin 2 → ℕ) a + S1024x256.size a ≤ S1032x256.size a) (x0 : Vec Ideal S1x1024x256 .f32)
    (xs : Vec Ideal S1032x256 .f32) : Vec Ideal S1024x256 .f32 := View.ld (pad x0 xs) (Rect.unit ![k, 0] S1024x256.size h)

/-- The convolved block of a point, from its input and the kept rows. -/
def xcP (x0 : Vec Ideal S1x1024x256 .f32) (xs : Vec Ideal S1032x256 .f32) (x2 : Vec Ideal S4x256 .f32)
    (x3 : Vec Ideal S1x256 .f32) : FVec Ideal S1024x256 .f32 :=
  xcV x0 x2 x3 (sh 5 inb_S1032x256_S1024x256_5_0 x0 xs) (sh 6 inb_S1032x256_S1024x256_6_0 x0 xs)
    (sh 7 inb_S1032x256_S1024x256_7_0 x0 xs)

/-- The two gates of the convolved block, -/
def giV (xc : FVec Ideal S1024x256 .f32) (x4 : Vec Ideal S2x1x256x256 .bf16) (x5 : Vec Ideal S2x1x1x256 .f32) :
    FVec Ideal S1024x256 .f32 :=
  k0_pay10 xc (gw x4 0 inb_S2x1x256x256_S1x1x256x256_0_0_0_0) (gb x5 0 inb_S2x1x1x256_S1x1x1x256_0_0_0_0)
def grV (xc : FVec Ideal S1024x256 .f32) (x4 : Vec Ideal S2x1x256x256 .bf16) (x5 : Vec Ideal S2x1x1x256 .f32) :
    FVec Ideal S1024x256 .f32 :=
  k0_pay11 xc (gw x4 1 inb_S2x1x256x256_S1x1x256x256_1_0_0_0) (gb x5 1 inb_S2x1x1x256_S1x1x1x256_1_0_0_0)

/-- the factors and the offsets of the recurrence, -/
def aV (xc : FVec Ideal S1024x256 .f32) (x4 : Vec Ideal S2x1x256x256 .bf16) (x5 : Vec Ideal S2x1x1x256 .f32)
    (x6 : Vec Ideal S1x256 .f32) : FVec Ideal S1024x256 .f32 := k0_pay12 (grV xc x4 x5) x6
def uV (si : BitVec 32) (xc : FVec Ideal S1024x256 .f32) (x4 : Vec Ideal S2x1x256x256 .bf16)
    (x5 : Vec Ideal S2x1x1x256 .f32) (x6 : Vec Ideal S1x256 .f32) : FVec Ideal S1024x256 .f32 :=
  k0_pay13 si xc (giV xc x4 x5) (grV xc x4 x5) x6

/-- and both after the three rounds of doubling. -/
def AV (a : FVec Ideal S1024x256 .f32) : FVec Ideal S1024x256 .f32 :=
  k0_pay22 a k0_pay14 k0_pay15 (dynamicRotate 0 1#32 none a rotates_S1024x256_d0)
def UV (a u : FVec Ideal S1024x256 .f32) : FVec Ideal S1024x256 .f32 :=
  k0_pay21 a u k0_pay14 k0_pay15 (dynamicRotate 0 1#32 none a rotates_S1024x256_d0) 1#32

/-- The states times the gated second branch. -/
def outV (H : FVec Ideal S1024x256 .f32) (x1 : Vec Ideal S1x1024x256 .bf16) : FVec Ideal S1024x256 .bf16 :=
  have z : FVec Ideal S1024x256 .f32 := extf .f32 (shapeCast S1024x256 x1 shapeCasts_S1x1024x256_S1024x256 : FVec Ideal S1024x256 .bf16) bitsLt_bf16_f32
  have half : FVec Ideal S1024x256 .f32 := broadcast S1024x256 (Scalar.ofBits .f32 0x3F000000#32 : Ideal .f32)
  truncf .bf16 (mulf H (mulf z (addf (mulf half (tanh (mulf half z))) half))) bitsLt_bf16_f32

/-- Loads of a whole block, in the run's spelling. -/
theorem ld_x (X : Vec Ideal S1x1024x256 .f32) : View.ld X (Rect.unit ![0, 0, 0] ![1, 1024, 256] inb_S1x1024x256_S1x1024x256_0_0_0) = X :=
  View.ld_unit_zero z3 _ _
theorem ld_z (X : Vec Ideal S1x1024x256 .bf16) : View.ld X (Rect.unit ![0, 0, 0] ![1, 1024, 256] inb_S1x1024x256_S1x1024x256_0_0_0) = X :=
  View.ld_unit_zero z3 _ _
theorem ld_r (X : Vec Ideal S1x256 .f32) : View.ld X (Rect.unit ![0, 0] ![1, 256] inb_S1x256_S1x256_0_0) = X :=
  View.ld_unit_zero z2 _ _

/-- The point's own rows as the run stores them. -/
theorem pay5_at (x0 : Vec Ideal S1x1024x256 .f32) (r : Fin 1024) (c : Fin 256) :
    k0_pay5 x0 (ix2 r c) = x0 (ix3 (0 : Fin 1) r c) := by
  pointwise [k0_pay5, k0_pay4]

theorem pay2_at (j : S8x256.Idx) : k0_pay2 (F := Ideal) j = 0 := by
  pointwise [k0_pay2]

/-- The first point of a row of blocks stores eight zero rows, then its own. -/
theorem pad_A (x0 : Vec Ideal S1x1024x256 .f32) :
    View.canon (Val := Elt Ideal) (s := S1032x256) (e := .f32)
      [⟨Rect.unit ![8, 0] ![1024, 256] inb_S1032x256_S1024x256_8_0, k0_pay5 x0⟩,
       ⟨Rect.unit ![0, 0] ![8, 256] inb_S1032x256_S8x256_0_0, k0_pay2 (F := Ideal)⟩] = pad x0 (fun _ => 0) := by
  funext i
  have h0 : (i 0).val < 1032 := (i 0).isLt
  have h1 : (i 1).val < 256 := (i 1).isLt
  unfold pad
  by_cases h : 8 ≤ (i 0).val
  · rw [dif_pos h]
    have e : (Rect.unit (s := S1032x256) ![8, 0] ![1024, 256] inb_S1032x256_S1024x256_8_0).emb
        (ix2 (⟨(i 0).val - 8, by omega⟩ : Fin 1024) (i 1)) = i := by
      refine funext fun a => Fin.ext ?_
      revert a
      refine Fin.forall_fin_two.mpr ⟨?_, ?_⟩
      · show 8 + 1 * ((i 0).val - 8) = (i 0).val
        omega
      · show 0 + 1 * (i 1).val = (i 1).val
        omega
    refine Eq.trans (congrArg _ e.symm) ((View.canon_cons_emb _ _ _ _).trans ?_)
    exact pay5_at x0 _ _
  · rw [dif_neg h, View.canon_cons_of_not_mem]
    · have e : (Rect.unit (s := S1032x256) ![0, 0] ![8, 256] inb_S1032x256_S8x256_0_0).emb
          (ix2 (⟨(i 0).val, by omega⟩ : Fin 8) (i 1)) = i := by
        refine funext fun a => Fin.ext ?_
        revert a
        refine Fin.forall_fin_two.mpr ⟨?_, ?_⟩
        · show 0 + 1 * (i 0).val = (i 0).val
          omega
        · show 0 + 1 * (i 1).val = (i 1).val
          omega
      refine Eq.trans (congrArg _ e.symm) ((View.canon_cons_emb _ _ _ _).trans ?_)
      exact pay2_at _
    · rw [Rect.mem_set_unit]
      intro hm
      exact h (hm 0).1

/-- A later point stores its own rows over what the point before kept. -/
theorem pad_B {κ : Kind} {sp : Space} (v : View sig κ sp S1032x256 .f32) (f : v.ty.Contents (Elt Ideal))
    (x0 : Vec Ideal S1x1024x256 .f32) :
    v.read (Elt Ideal) (v.writes (Elt Ideal) f
      [⟨Rect.unit ![8, 0] ![1024, 256] inb_S1032x256_S1024x256_8_0, k0_pay5 x0⟩]) = pad x0 (v.read (Elt Ideal) f) := by
  funext i
  have h0 : (i 0).val < 1032 := (i 0).isLt
  unfold pad
  by_cases h : 8 ≤ (i 0).val
  · rw [dif_pos h]
    refine (View.read_writes_cons_rows_of_mem v f (o := 8) inb_S1032x256_S1024x256_8_0 (k0_pay5 x0) [] i
      (ix2 (⟨(i 0).val - 8, by omega⟩ : Fin 1024) (i 1)) rfl ?_ rfl).trans (pay5_at x0 _ _)
    show (i 0).val = 8 + ((i 0).val - 8)
    omega
  · rw [dif_neg h]
    exact View.read_writes_cons_rows_of_not_mem v f (o := 8) (W := 1024) inb_S1032x256_S1024x256_8_0 (k0_pay5 x0) [] i rfl rfl
      (Or.inl (by omega))

/-- The kept rows are the last store, and the input's last eight. -/
theorem kept_at (w : FVec Ideal S8x256 .f32) (L : List (View.Piece (Elt Ideal) S1032x256 .f32)) (r : Fin 1032) (hr : r.val < 8)
    (c : Fin 256) :
    View.canon (Val := Elt Ideal) (s := S1032x256) (e := .f32)
      (⟨Rect.unit ![0, 0] ![8, 256] inb_S1032x256_S8x256_0_0, k0_pay8 w⟩ :: L) (ix2 r c) = w (ix2 (⟨r.val, hr⟩ : Fin 8) c) := by
  have e : (Rect.unit (s := S1032x256) ![0, 0] ![8, 256] inb_S1032x256_S8x256_0_0).emb
      (ix2 (⟨r.val, hr⟩ : Fin 8) c) = ix2 r c := by
    refine funext fun a => Fin.ext ?_
    revert a
    refine Fin.forall_fin_two.mpr ⟨?_, ?_⟩
    · show 0 + 1 * r.val = r.val
      omega
    · show 0 + 1 * c.val = c.val
      omega
  refine Eq.trans (congrArg _ e.symm) ((View.canon_cons_emb _ _ _ _).trans ?_)
  exact shapeCast_apply _ _ _ _ rfl

theorem pay7_at (x0 : Vec Ideal S1x1024x256 .f32) (r : Fin 8) (c : Fin 256) :
    k0_pay7 x0 (ix2 r c) = x0 (ix3 (0 : Fin 1) (⟨1016 + r.val, by omega⟩ : Fin 1024) c) := by
  pointwise [k0_pay7, k0_pay4]

section CaseA

variable (c : Dev nD) (i : grid0.Coords) (arg3 : Memref sig .tc .vmem S1x1024x256 .f32) (harg3 : arg3.IsWhole) (arg4 : Memref sig .tc .vmem S1x1024x256 .bf16) (harg4 : arg4.IsWhole) (arg5 : Memref sig .tc .vmem S4x256 .f32) (harg5 : arg5.IsWhole) (arg6 : Memref sig .tc .vmem S1x256 .f32) (harg6 : arg6.IsWhole) (arg7 : Memref sig .tc .vmem S2x1x256x256 .bf16) (harg7 : arg7.IsWhole) (arg8 : Memref sig .tc .vmem S2x1x1x256 .f32) (harg8 : arg8.IsWhole) (arg9 : Memref sig .tc .vmem S1x256 .f32) (harg9 : arg9.IsWhole) (arg10 : Memref sig .tc .vmem S1x1024x256 .bf16) (harg10 : arg10.IsWhole) (arg11 : Memref sig .tc .vmem S1032x256 .f32) (harg11 : arg11.IsWhole) (arg12 : Memref sig .tc .vmem S1x256 .f32) (harg12 : arg12.IsWhole) (hc0 : cond0_0 i) (x0 : Vec Ideal S1x1024x256 .f32) (x1 : Vec Ideal S1x1024x256 .bf16) (x2 : Vec Ideal S4x256 .f32) (x3 : Vec Ideal S1x256 .f32) (x4 : Vec Ideal S2x1x256x256 .bf16) (x5 : Vec Ideal S2x1x1x256 .f32) (x6 : Vec Ideal S1x256 .f32)

theorem xc_A : kernelRun0_A.sl.r (F := Ideal) c arg3 harg3 arg5 harg5 arg6 harg6 arg11 x0 x2 x3 = xcP x0 (fun _ => 0) x2 x3 := by
  unfold kernelRun0_A.sl.r kernelRun0_A.sl.v16 kernelRun0_A.sl.v21 kernelRun0_A.sl.v26 kernelRun0_A.sl.HS0_2
  simp only [View.readCov_eq_canon', View.readAt_eq_ld, harg3.read_unread, harg5.read_unread, harg6.read_unread, ld_x, ld_r]
  simp only [pad_A]
  unfold xcP xcV sh tap
  rfl

theorem gi_A : kernelRun0_A.sl.r_2 (F := Ideal) c arg3 harg3 arg5 harg5 arg6 harg6 arg7 harg7 arg8 harg8 arg11 x0 x2 x3 x4 x5 = giV (xcP x0 (fun _ => 0) x2 x3) x4 x5 := by
  unfold kernelRun0_A.sl.r_2
  rw [xc_A]
  simp only [View.readAt_eq_ld, harg3.read_unread, harg5.read_unread, harg6.read_unread, harg7.read_unread, harg8.read_unread, ld_x, ld_r]
  rfl

theorem gr_A : kernelRun0_A.sl.r_3 (F := Ideal) c arg3 harg3 arg5 harg5 arg6 harg6 arg7 harg7 arg8 harg8 arg11 x0 x2 x3 x4 x5 = grV (xcP x0 (fun _ => 0) x2 x3) x4 x5 := by
  unfold kernelRun0_A.sl.r_3
  rw [xc_A]
  simp only [View.readAt_eq_ld, harg3.read_unread, harg5.read_unread, harg6.read_unread, harg7.read_unread, harg8.read_unread, ld_x, ld_r]
  rfl

theorem a_A : kernelRun0_A.sl.r_4 (F := Ideal) c arg3 harg3 arg5 harg5 arg6 harg6 arg7 harg7 arg8 harg8 arg9 harg9 arg11 x0 x2 x3 x4 x5 x6 = aV (xcP x0 (fun _ => 0) x2 x3) x4 x5 x6 := by
  unfold kernelRun0_A.sl.r_4
  rw [gr_A]
  simp only [View.readAt_eq_ld, harg3.read_unread, harg5.read_unread, harg6.read_unread, harg7.read_unread, harg8.read_unread, harg9.read_unread, ld_x, ld_r]
  rfl

theorem rot_A : kernelRun0_A.sl.r_6 (F := Ideal) c arg3 harg3 arg5 harg5 arg6 harg6 arg7 harg7 arg8 harg8 arg9 harg9 arg11 x0 x2 x3 x4 x5 x6 = dynamicRotate 0 1#32 none (aV (xcP x0 (fun _ => 0) x2 x3) x4 x5 x6) rotates_S1024x256_d0 := by
  unfold kernelRun0_A.sl.r_6
  rw [gr_A]
  simp only [View.readAt_eq_ld, harg3.read_unread, harg5.read_unread, harg6.read_unread, harg7.read_unread, harg8.read_unread, harg9.read_unread, ld_x, ld_r]
  rfl

theorem u_A : kernelRun0_A.sl.r_5 (F := Ideal) c i arg3 harg3 arg5 harg5 arg6 harg6 arg7 harg7 arg8 harg8 arg9 harg9 arg11 x0 x2 x3 x4 x5 x6 = uV (BitVec.ofNat 32 (i 2).val) (xcP x0 (fun _ => 0) x2 x3) x4 x5 x6 := by
  unfold kernelRun0_A.sl.r_5
  rw [xc_A, gi_A, gr_A]
  simp only [View.readAt_eq_ld, harg3.read_unread, harg5.read_unread, harg6.read_unread, harg7.read_unread, harg8.read_unread, harg9.read_unread, ld_x, ld_r]
  rfl

theorem A_A : kernelRun0_A.sl.r_8 (F := Ideal) c arg3 harg3 arg5 harg5 arg6 harg6 arg7 harg7 arg8 harg8 arg9 harg9 arg11 x0 x2 x3 x4 x5 x6 = AV (aV (xcP x0 (fun _ => 0) x2 x3) x4 x5 x6) := by
  unfold kernelRun0_A.sl.r_8
  rw [a_A, rot_A]
  rfl

theorem U_A : kernelRun0_A.sl.r_7 (F := Ideal) c i arg3 harg3 arg5 harg5 arg6 harg6 arg7 harg7 arg8 harg8 arg9 harg9 arg11 x0 x2 x3 x4 x5 x6 = UV (aV (xcP x0 (fun _ => 0) x2 x3) x4 x5 x6) (uV (BitVec.ofNat 32 (i 2).val) (xcP x0 (fun _ => 0) x2 x3) x4 x5 x6) := by
  unfold kernelRun0_A.sl.r_7
  rw [a_A, u_A, rot_A]
  rfl

/-- The run's groups are a chain from the incoming state, and the output block is made of them. -/
theorem chain_A :
    ∃ (L : List ((s : Shape) × (s.Idx → Ideal .f32))) (e : FVec Ideal S1x256 .f32)
      (h : Shape.Concatenates (L.map (·.1)) S1024x256 0),
      Chain (kernelRun0_A.sl.r_8 (F := Ideal) c arg3 harg3 arg5 harg5 arg6 harg6 arg7 harg7 arg8 harg8 arg9 harg9 arg11 x0 x2 x3 x4 x5 x6) (kernelRun0_A.sl.r_7 (F := Ideal) c i arg3 harg3 arg5 harg5 arg6 harg6 arg7 harg7 arg8 harg8 arg9 harg9 arg11 x0 x2 x3 x4 x5 x6) 0 (kernelRun0_A.sl.v144 (F := Ideal) c arg12) L e ∧ L.length = 128 ∧
      kernelRun0_A.sl.r_144 (F := Ideal) c i arg3 harg3 arg4 harg4 arg5 harg5 arg6 harg6 arg7 harg7 arg8 harg8 arg9 harg9 arg11 arg12 x0 x1 x2 x3 x4 x5 x6 = outV (concatenate S1024x256 0 L h)
        (View.readAt (Elt Ideal) arg4.view (Rect.unit ![0, 0, 0] S1x1024x256.size inb_S1x1024x256_S1x1024x256_0_0_0).toLoadRect (harg4.unread x1)) ∧
      k0_pay164 (kernelRun0_A.sl.r_7 (F := Ideal) c i arg3 harg3 arg5 harg5 arg6 harg6 arg7 harg7 arg8 harg8 arg9 harg9 arg11 x0 x2 x3 x4 x5 x6) (kernelRun0_A.sl.r_8 (F := Ideal) c arg3 harg3 arg5 harg5 arg6 harg6 arg7 harg7 arg8 harg8 arg9 harg9 arg11 x0 x2 x3 x4 x5 x6) (kernelRun0_A.sl.r_143 (F := Ideal) c i arg3 harg3 arg5 harg5 arg6 harg6 arg7 harg7 arg8 harg8 arg9 harg9 arg11 arg12 x0 x2 x3 x4 x5 x6) = shapeCast S1x256 e shapeCasts_S1x256_S1x256 := by
  apply Exists.intro
  apply Exists.intro
  apply Exists.intro
  refine ⟨?c, ?l, ?r, ?s⟩
  case r =>
    unfold kernelRun0_A.sl.r_144 k0_pay165
    rfl
  case s => exact rfl
  case l => rfl
  case c => repeat' first | exact Chain.nil _ _ | refine Chain.cons _ rfl _ _ rfl ?_

end CaseA

section CaseB

variable (c : Dev nD) (i : grid0.Coords) (arg3 : Memref sig .tc .vmem S1x1024x256 .f32) (harg3 : arg3.IsWhole) (arg4 : Memref sig .tc .vmem S1x1024x256 .bf16) (harg4 : arg4.IsWhole) (arg5 : Memref sig .tc .vmem S4x256 .f32) (harg5 : arg5.IsWhole) (arg6 : Memref sig .tc .vmem S1x256 .f32) (harg6 : arg6.IsWhole) (arg7 : Memref sig .tc .vmem S2x1x256x256 .bf16) (harg7 : arg7.IsWhole) (arg8 : Memref sig .tc .vmem S2x1x1x256 .f32) (harg8 : arg8.IsWhole) (arg9 : Memref sig .tc .vmem S1x256 .f32) (harg9 : arg9.IsWhole) (arg10 : Memref sig .tc .vmem S1x1024x256 .bf16) (harg10 : arg10.IsWhole) (arg11 : Memref sig .tc .vmem S1032x256 .f32) (harg11 : arg11.IsWhole) (arg12 : Memref sig .tc .vmem S1x256 .f32) (harg12 : arg12.IsWhole) (hc0 : ¬cond0_0 i) (x0 : Vec Ideal S1x1024x256 .f32) (x1 : Vec Ideal S1x1024x256 .bf16) (x2 : Vec Ideal S4x256 .f32) (x3 : Vec Ideal S1x256 .f32) (x4 : Vec Ideal S2x1x256x256 .bf16) (x5 : Vec Ideal S2x1x1x256 .f32) (x6 : Vec Ideal S1x256 .f32) (xs0 : Vec Ideal S1032x256 .f32) (xs1 : Vec Ideal S1x256 .f32)

theorem xc_B : kernelRun0_B.sl.r (F := Ideal) c arg3 harg3 arg5 harg5 arg6 harg6 arg11 harg11 x0 x2 x3 xs0 = xcP x0 xs0 x2 x3 := by
  unfold kernelRun0_B.sl.r    kernelRun0_B.sl.HS0_1
  simp only [View.readCov_eq_canon', View.readAt_eq_ld, harg3.read_unread, harg5.read_unread, harg6.read_unread, harg11.read_unread, ld_x, ld_r]
  simp only [pad_B, harg11.read_unread]
  unfold xcP xcV sh tap
  rfl

theorem gi_B : kernelRun0_B.sl.r_2 (F := Ideal) c arg3 harg3 arg5 harg5 arg6 harg6 arg7 harg7 arg8 harg8 arg11 harg11 x0 x2 x3 x4 x5 xs0 = giV (xcP x0 xs0 x2 x3) x4 x5 := by
  unfold kernelRun0_B.sl.r_2
  rw [xc_B]
  simp only [View.readAt_eq_ld, harg3.read_unread, harg5.read_unread, harg6.read_unread, harg7.read_unread, harg8.read_unread, harg11.read_unread, ld_x, ld_r]
  rfl

theorem gr_B : kernelRun0_B.sl.r_3 (F := Ideal) c arg3 harg3 arg5 harg5 arg6 harg6 arg7 harg7 arg8 harg8 arg11 harg11 x0 x2 x3 x4 x5 xs0 = grV (xcP x0 xs0 x2 x3) x4 x5 := by
  unfold kernelRun0_B.sl.r_3
  rw [xc_B]
  simp only [View.readAt_eq_ld, harg3.read_unread, harg5.read_unread, harg6.read_unread, harg7.read_unread, harg8.read_unread, harg11.read_unread, ld_x, ld_r]
  rfl

theorem a_B : kernelRun0_B.sl.r_4 (F := Ideal) c arg3 harg3 arg5 harg5 arg6 harg6 arg7 harg7 arg8 harg8 arg9 harg9 arg11 harg11 x0 x2 x3 x4 x5 x6 xs0 = aV (xcP x0 xs0 x2 x3) x4 x5 x6 := by
  unfold kernelRun0_B.sl.r_4
  rw [gr_B]
  simp only [View.readAt_eq_ld, harg3.read_unread, harg5.read_unread, harg6.read_unread, harg7.read_unread, harg8.read_unread, harg9.read_unread, harg11.read_unread, ld_x, ld_r]
  rfl

theorem rot_B : kernelRun0_B.sl.r_6 (F := Ideal) c arg3 harg3 arg5 harg5 arg6 harg6 arg7 harg7 arg8 harg8 arg9 harg9 arg11 harg11 x0 x2 x3 x4 x5 x6 xs0 = dynamicRotate 0 1#32 none (aV (xcP x0 xs0 x2 x3) x4 x5 x6) rotates_S1024x256_d0 := by
  unfold kernelRun0_B.sl.r_6
  rw [gr_B]
  simp only [View.readAt_eq_ld, harg3.read_unread, harg5.read_unread, harg6.read_unread, harg7.read_unread, harg8.read_unread, harg9.read_unread, harg11.read_unread, ld_x, ld_r]
  rfl

theorem u_B : kernelRun0_B.sl.r_5 (F := Ideal) c i arg3 harg3 arg5 harg5 arg6 harg6 arg7 harg7 arg8 harg8 arg9 harg9 arg11 harg11 x0 x2 x3 x4 x5 x6 xs0 = uV (BitVec.ofNat 32 (i 2).val) (xcP x0 xs0 x2 x3) x4 x5 x6 := by
  unfold kernelRun0_B.sl.r_5
  rw [xc_B, gi_B, gr_B]
  simp only [View.readAt_eq_ld, harg3.read_unread, harg5.read_unread, harg6.read_unread, harg7.read_unread, harg8.read_unread, harg9.read_unread, harg11.read_unread, ld_x, ld_r]
  rfl

theorem A_B : kernelRun0_B.sl.r_8 (F := Ideal) c arg3 harg3 arg5 harg5 arg6 harg6 arg7 harg7 arg8 harg8 arg9 harg9 arg11 harg11 x0 x2 x3 x4 x5 x6 xs0 = AV (aV (xcP x0 xs0 x2 x3) x4 x5 x6) := by
  unfold kernelRun0_B.sl.r_8
  rw [a_B, rot_B]
  rfl

theorem U_B : kernelRun0_B.sl.r_7 (F := Ideal) c i arg3 harg3 arg5 harg5 arg6 harg6 arg7 harg7 arg8 harg8 arg9 harg9 arg11 harg11 x0 x2 x3 x4 x5 x6 xs0 = UV (aV (xcP x0 xs0 x2 x3) x4 x5 x6) (uV (BitVec.ofNat 32 (i 2).val) (xcP x0 xs0 x2 x3) x4 x5 x6) := by
  unfold kernelRun0_B.sl.r_7
  rw [a_B, u_B, rot_B]
  rfl

/-- The run's groups are a chain from the incoming state, and the output block is made of them. -/
theorem chain_B :
    ∃ (L : List ((s : Shape) × (s.Idx → Ideal .f32))) (e : FVec Ideal S1x256 .f32)
      (h : Shape.Concatenates (L.map (·.1)) S1024x256 0),
      Chain (kernelRun0_B.sl.r_8 (F := Ideal) c arg3 harg3 arg5 harg5 arg6 harg6 arg7 harg7 arg8 harg8 arg9 harg9 arg11 harg11 x0 x2 x3 x4 x5 x6 xs0) (kernelRun0_B.sl.r_7 (F := Ideal) c i arg3 harg3 arg5 harg5 arg6 harg6 arg7 harg7 arg8 harg8 arg9 harg9 arg11 harg11 x0 x2 x3 x4 x5 x6 xs0) 0 (View.readAt (Elt Ideal) arg12.view (Rect.unit ![0, 0] S1x256.size inb_S1x256_S1x256_0_0).toLoadRect (harg12.unread xs1)) L e ∧ L.length = 128 ∧
      kernelRun0_B.sl.r_144 (F := Ideal) c i arg3 harg3 arg4 harg4 arg5 harg5 arg6 harg6 arg7 harg7 arg8 harg8 arg9 harg9 arg11 harg11 arg12 harg12 x0 x1 x2 x3 x4 x5 x6 xs0 xs1 = outV (concatenate S1024x256 0 L h)
        (View.readAt (Elt Ideal) arg4.view (Rect.unit ![0, 0, 0] S1x1024x256.size inb_S1x1024x256_S1x1024x256_0_0_0).toLoadRect (harg4.unread x1)) ∧
      k0_pay164 (kernelRun0_B.sl.r_7 (F := Ideal) c i arg3 harg3 arg5 harg5 arg6 harg6 arg7 harg7 arg8 harg8 arg9 harg9 arg11 harg11 x0 x2 x3 x4 x5 x6 xs0) (kernelRun0_B.sl.r_8 (F := Ideal) c arg3 harg3 arg5 harg5 arg6 harg6 arg7 harg7 arg8 harg8 arg9 harg9 arg11 harg11 x0 x2 x3 x4 x5 x6 xs0) (kernelRun0_B.sl.r_143 (F := Ideal) c i arg3 harg3 arg5 harg5 arg6 harg6 arg7 harg7 arg8 harg8 arg9 harg9 arg11 harg11 arg12 harg12 x0 x2 x3 x4 x5 x6 xs0 xs1) = shapeCast S1x256 e shapeCasts_S1x256_S1x256 := by
  apply Exists.intro
  apply Exists.intro
  apply Exists.intro
  refine ⟨?c, ?l, ?r, ?s⟩
  case r =>
    unfold kernelRun0_B.sl.r_144 k0_pay165
    rfl
  case s => exact rfl
  case l => rfl
  case c => repeat' first | exact Chain.nil _ _ | refine Chain.cons _ rfl _ _ rfl ?_

end CaseB

section CaseA

variable (c : Dev nD) (i : grid0.Coords) (arg3 : Memref sig .tc .vmem S1x1024x256 .f32) (harg3 : arg3.IsWhole) (arg4 : Memref sig .tc .vmem S1x1024x256 .bf16) (harg4 : arg4.IsWhole) (arg5 : Memref sig .tc .vmem S4x256 .f32) (harg5 : arg5.IsWhole) (arg6 : Memref sig .tc .vmem S1x256 .f32) (harg6 : arg6.IsWhole) (arg7 : Memref sig .tc .vmem S2x1x256x256 .bf16) (harg7 : arg7.IsWhole) (arg8 : Memref sig .tc .vmem S2x1x1x256 .f32) (harg8 : arg8.IsWhole) (arg9 : Memref sig .tc .vmem S1x256 .f32) (harg9 : arg9.IsWhole) (arg10 : Memref sig .tc .vmem S1x1024x256 .bf16) (harg10 : arg10.IsWhole) (arg11 : Memref sig .tc .vmem S1032x256 .f32) (harg11 : arg11.IsWhole) (arg12 : Memref sig .tc .vmem S1x256 .f32) (harg12 : arg12.IsWhole) (hc0 : cond0_0 i) (x0 : Vec Ideal S1x1024x256 .f32) (x1 : Vec Ideal S1x1024x256 .bf16) (x2 : Vec Ideal S4x256 .f32) (x3 : Vec Ideal S1x256 .f32) (x4 : Vec Ideal S2x1x256x256 .bf16) (x5 : Vec Ideal S2x1x1x256 .f32) (x6 : Vec Ideal S1x256 .f32)

/-- What the run leaves: the output block and the carried state from one chain of groups, -/
theorem block_A :
    ∃ (L : List ((s : Shape) × (s.Idx → Ideal .f32))) (e : FVec Ideal S1x256 .f32)
      (h : Shape.Concatenates (L.map (·.1)) S1024x256 0),
      Chain (AV (aV (xcP x0 (fun _ => 0) x2 x3) x4 x5 x6)) (UV (aV (xcP x0 (fun _ => 0) x2 x3) x4 x5 x6) (uV (BitVec.ofNat 32 (i 2).val) (xcP x0 (fun _ => 0) x2 x3) x4 x5 x6)) 0 (k0_pay3 (F := Ideal)) L e ∧ L.length = 128 ∧
      out0_A_7 (F := Ideal) c i arg3 harg3 arg4 harg4 arg5 harg5 arg6 harg6 arg7 harg7 arg8 harg8 arg9 harg9 arg10 harg10 arg11 harg11 arg12 harg12 hc0 x0 x1 x2 x3 x4 x5 x6 = k0_pay1 (outV (concatenate S1024x256 0 L h) x1) ∧
      sout0_A_1 (F := Ideal) c i arg3 harg3 arg4 harg4 arg5 harg5 arg6 harg6 arg7 harg7 arg8 harg8 arg9 harg9 arg10 harg10 arg11 harg11 arg12 harg12 hc0 x0 x1 x2 x3 x4 x5 x6 = e := by
  obtain ⟨L, e, h, hC, hL, h1, h2⟩ := chain_A c i arg3 harg3 arg4 harg4 arg5 harg5 arg6 harg6 arg7 harg7 arg8 harg8 arg9 harg9 arg11 arg12 x0 x1 x2 x3 x4 x5 x6
  rw [A_A, U_A] at hC h2
  refine ⟨L, e, h, ?_, hL, ?_, ?_⟩
  · have hv : kernelRun0_A.sl.v144 (F := Ideal) c arg12 = (k0_pay3 (F := Ideal)) := by
      exact View.readCov_unit_zero _ z2 _ _
    rw [← hv]
    exact hC
  · unfold out0_A_7
    rw [View.read_writes_eq_canon _ _ _ (cover0_A_7 c i arg3 harg3 arg4 harg4 arg5 harg5 arg6 harg6 arg7 harg7 arg8 harg8 arg9 harg9 arg10 harg10 arg11 harg11 arg12 harg12 hc0 x0 x1 x2 x3 x4 x5 x6)]
    unfold kernelRun0_A
    dsimp only
    rw [h1]
    simp only [View.readAt_eq_ld, harg4.read_unread, ld_z]
    exact View.canon_unit_zero z3 _ _
  · unfold sout0_A_1
    rw [View.read_writes_eq_canon _ _ _ (scover0_A_1 c i arg3 harg3 arg4 harg4 arg5 harg5 arg6 harg6 arg7 harg7 arg8 harg8 arg9 harg9 arg10 harg10 arg11 harg11 arg12 harg12 hc0 x0 x1 x2 x3 x4 x5 x6)]
    unfold kernelRun0_A
    dsimp only
    rw [A_A, U_A, h2]
    refine (View.canon_cons_unit_zero z2 _ _ _).trans ?_
    funext j
    exact shapeCast_apply _ _ _ _ rfl

/-- and the input's last eight rows. -/
theorem kept_A (r : Fin 1032) (hr : r.val < 8) (cc : Fin 256) :
    sout0_A_0 (F := Ideal) c i arg3 harg3 arg4 harg4 arg5 harg5 arg6 harg6 arg7 harg7 arg8 harg8 arg9 harg9 arg10 harg10 arg11 harg11 arg12 harg12 hc0 x0 x1 x2 x3 x4 x5 x6 (ix2 r cc) = x0 (ix3 (0 : Fin 1) (⟨1016 + r.val, by omega⟩ : Fin 1024) cc) := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  refine (kept_at _ _ r hr cc).trans ?_
  unfold kernelRun0_A.sl.r_1
  simp only [View.readAt_eq_ld, harg3.read_unread, ld_x]
  exact pay7_at x0 ⟨r.val, hr⟩ cc

end CaseA

section CaseB

variable (c : Dev nD) (i : grid0.Coords) (arg3 : Memref sig .tc .vmem S1x1024x256 .f32) (harg3 : arg3.IsWhole) (arg4 : Memref sig .tc .vmem S1x1024x256 .bf16) (harg4 : arg4.IsWhole) (arg5 : Memref sig .tc .vmem S4x256 .f32) (harg5 : arg5.IsWhole) (arg6 : Memref sig .tc .vmem S1x256 .f32) (harg6 : arg6.IsWhole) (arg7 : Memref sig .tc .vmem S2x1x256x256 .bf16) (harg7 : arg7.IsWhole) (arg8 : Memref sig .tc .vmem S2x1x1x256 .f32) (harg8 : arg8.IsWhole) (arg9 : Memref sig .tc .vmem S1x256 .f32) (harg9 : arg9.IsWhole) (arg10 : Memref sig .tc .vmem S1x1024x256 .bf16) (harg10 : arg10.IsWhole) (arg11 : Memref sig .tc .vmem S1032x256 .f32) (harg11 : arg11.IsWhole) (arg12 : Memref sig .tc .vmem S1x256 .f32) (harg12 : arg12.IsWhole) (hc0 : ¬cond0_0 i) (x0 : Vec Ideal S1x1024x256 .f32) (x1 : Vec Ideal S1x1024x256 .bf16) (x2 : Vec Ideal S4x256 .f32) (x3 : Vec Ideal S1x256 .f32) (x4 : Vec Ideal S2x1x256x256 .bf16) (x5 : Vec Ideal S2x1x1x256 .f32) (x6 : Vec Ideal S1x256 .f32) (xs0 : Vec Ideal S1032x256 .f32) (xs1 : Vec Ideal S1x256 .f32)

/-- What the run leaves: the output block and the carried state from one chain of groups, -/
theorem block_B :
    ∃ (L : List ((s : Shape) × (s.Idx → Ideal .f32))) (e : FVec Ideal S1x256 .f32)
      (h : Shape.Concatenates (L.map (·.1)) S1024x256 0),
      Chain (AV (aV (xcP x0 xs0 x2 x3) x4 x5 x6)) (UV (aV (xcP x0 xs0 x2 x3) x4 x5 x6) (uV (BitVec.ofNat 32 (i 2).val) (xcP x0 xs0 x2 x3) x4 x5 x6)) 0 xs1 L e ∧ L.length = 128 ∧
      out0_B_7 (F := Ideal) c i arg3 harg3 arg4 harg4 arg5 harg5 arg6 harg6 arg7 harg7 arg8 harg8 arg9 harg9 arg10 harg10 arg11 harg11 arg12 harg12 hc0 x0 x1 x2 x3 x4 x5 x6 xs0 xs1 = k0_pay1 (outV (concatenate S1024x256 0 L h) x1) ∧
      sout0_B_1 (F := Ideal) c i arg3 harg3 arg4 harg4 arg5 harg5 arg6 harg6 arg7 harg7 arg8 harg8 arg9 harg9 arg10 harg10 arg11 harg11 arg12 harg12 hc0 x0 x1 x2 x3 x4 x5 x6 xs0 xs1 = e := by
  obtain ⟨L, e, h, hC, hL, h1, h2⟩ := chain_B c i arg3 harg3 arg4 harg4 arg5 harg5 arg6 harg6 arg7 harg7 arg8 harg8 arg9 harg9 arg11 harg11 arg12 harg12 x0 x1 x2 x3 x4 x5 x6 xs0 xs1
  rw [A_B, U_B] at hC h2
  refine ⟨L, e, h, ?_, hL, ?_, ?_⟩
  · have hv : View.readAt (Elt Ideal) arg12.view (Rect.unit ![0, 0] S1x256.size inb_S1x256_S1x256_0_0).toLoadRect (harg12.unread xs1) = xs1 := by
      simp only [View.readAt_eq_ld, harg12.read_unread, ld_r]
    rw [← hv]
    exact hC
  · unfold out0_B_7
    rw [View.read_writes_eq_canon _ _ _ (cover0_B_7 c i arg3 harg3 arg4 harg4 arg5 harg5 arg6 harg6 arg7 harg7 arg8 harg8 arg9 harg9 arg10 harg10 arg11 harg11 arg12 harg12 hc0 x0 x1 x2 x3 x4 x5 x6 xs0 xs1)]
    unfold kernelRun0_B
    dsimp only
    rw [h1]
    simp only [View.readAt_eq_ld, harg4.read_unread, ld_z]
    exact View.canon_unit_zero z3 _ _
  · unfold sout0_B_1
    rw [View.read_writes_eq_canon _ _ _ (scover0_B_1 c i arg3 harg3 arg4 harg4 arg5 harg5 arg6 harg6 arg7 harg7 arg8 harg8 arg9 harg9 arg10 harg10 arg11 harg11 arg12 harg12 hc0 x0 x1 x2 x3 x4 x5 x6 xs0 xs1)]
    unfold kernelRun0_B
    dsimp only
    rw [A_B, U_B, h2]
    refine (View.canon_cons_unit_zero z2 _ _ _).trans ?_
    funext j
    exact shapeCast_apply _ _ _ _ rfl

/-- and the input's last eight rows. -/
theorem kept_B (r : Fin 1032) (hr : r.val < 8) (cc : Fin 256) :
    sout0_B_0 (F := Ideal) c i arg3 harg3 arg4 harg4 arg5 harg5 arg6 harg6 arg7 harg7 arg8 harg8 arg9 harg9 arg10 harg10 arg11 harg11 arg12 harg12 hc0 x0 x1 x2 x3 x4 x5 x6 xs0 xs1 (ix2 r cc) = x0 (ix3 (0 : Fin 1) (⟨1016 + r.val, by omega⟩ : Fin 1024) cc) := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 hc0 x0 x1 x2 x3 x4 x5 x6 xs0 xs1)]
  unfold kernelRun0_B
  dsimp only
  refine (kept_at _ _ r hr cc).trans ?_
  unfold kernelRun0_B.sl.r_1
  simp only [View.readAt_eq_ld, harg3.read_unread, ld_x]
  exact pay7_at x0 ⟨r.val, hr⟩ cc

end CaseB

end Cert.KernelIdeal.Run

end
-- ==== Proof.Scalar.lean ====
/- The scalar facts of the gated linear recurrence at the extended reals: the sigmoid written with `tanh` is the
   sigmoid written with `exp`; the two softplus expressions agree; the decay `a = exp (log a)` lies between 0 and 1;
   and the input's factor `√(1 - a²)` is the same through `rsqrt` as through `exp (2 log a) - 1`. -/
module

public import Idealize.ShloMosaic.PureOps.Ideal
public import Idealize.ShloMosaic.Lib.IdealHost
public import Idealize.ShloMosaic.Lib.Pointwise

@[expose] public section

noncomputable section

namespace Cert.Scalar

open Idealize.ShloMosaic

/-- The pattern of `0.5`. -/
theorem half_eq : Ideal.ofBits .f32 0x3F000000#32 = ((1 / 2 : ℝ) : EReal) := by
  simp only [Ideal.ofBits, Ideal.ieee]
  norm_num [BitVec.extractLsb', Nat.shiftRight_eq_div_pow]

/-- The pattern of `2.0`. -/
theorem two_eq : Ideal.ofBits .f32 0x40000000#32 = ((2 : ℝ) : EReal) := by
  simp only [Ideal.ofBits, Ideal.ieee]
  norm_num [BitVec.extractLsb', Nat.shiftRight_eq_div_pow]

/-- The pattern of `-8.0`. -/
theorem neg_eight_eq : Ideal.ofBits .f32 0xC1000000#32 = ((-8 : ℝ) : EReal) := by
  simp only [Ideal.ofBits, Ideal.ieee]
  norm_num [BitVec.extractLsb', Nat.shiftRight_eq_div_pow]

/-- The sigmoid, as the reference spells it. -/
def sg (x : EReal) : EReal := Ideal.div 1 (1 + Ideal.exp (-x))

theorem sg_bot : sg ⊥ = 0 := by
  unfold sg
  rw [EReal.neg_bot, Ideal.exp_top, EReal.add_top_of_ne_bot (show (1 : EReal) ≠ ⊥ from EReal.coe_ne_bot 1), Ideal.div, if_neg EReal.top_ne_zero]
  simp

theorem sg_top : sg ⊤ = 1 := by
  unfold sg
  rw [EReal.neg_top, Ideal.exp_bot, add_zero, Ideal.div, if_neg one_ne_zero]
  simp

theorem sg_coe (r : ℝ) : sg (r : EReal) = ((1 / (1 + Real.exp (-r)) : ℝ) : EReal) := by
  have h : (0 : ℝ) < 1 + Real.exp (-r) := by positivity
  have hne : ((1 + Real.exp (-r) : ℝ) : EReal) ≠ 0 := fun e => h.ne' (by exact_mod_cast e)
  unfold sg
  rw [← EReal.coe_neg, Ideal.exp_coe, ← EReal.coe_one, ← EReal.coe_add, Ideal.div, if_neg hne, ← EReal.coe_inv,
    ← EReal.coe_mul, one_div, one_mul]

/-- The sigmoid through the hyperbolic tangent: `0.5 · tanh (0.5 x) + 0.5`. -/
theorem sg_tanh (x : EReal) :
    Ideal.ofBits .f32 0x3F000000#32 * Ideal.tanh (Ideal.ofBits .f32 0x3F000000#32 * x)
      + Ideal.ofBits .f32 0x3F000000#32 = sg x := by
  have h2 : (0 : ℝ) < 1 / 2 := by norm_num
  rw [half_eq]
  induction x with
  | bot =>
    rw [EReal.coe_mul_bot_of_pos h2, Ideal.tanh_bot, sg_bot, ← EReal.coe_one, ← EReal.coe_neg, ← EReal.coe_mul, ← EReal.coe_add]
    norm_num
  | top =>
    rw [EReal.coe_mul_top_of_pos h2, Ideal.tanh_top, sg_top, ← EReal.coe_one, ← EReal.coe_mul, ← EReal.coe_add]
    norm_num
  | coe r =>
    rw [sg_coe, ← EReal.coe_mul, Ideal.tanh_coe, ← EReal.coe_mul, ← EReal.coe_add, EReal.coe_eq_coe_iff]
    have e1 : Real.exp (-r) = Real.exp (-(1 / 2 * r)) * Real.exp (-(1 / 2 * r)) := by rw [← Real.exp_add]; ring_nf
    have e2 : Real.exp (1 / 2 * r) * Real.exp (-(1 / 2 * r)) = 1 := by rw [← Real.exp_add]; simp
    rw [Real.tanh_eq_sinh_div_cosh, Real.sinh_eq, Real.cosh_eq, e1]
    generalize Real.exp (1 / 2 * r) = p at *
    have hq : 0 < Real.exp (-(1 / 2 * r)) := Real.exp_pos _
    generalize Real.exp (-(1 / 2 * r)) = q at *
    have hp : 0 < p := (mul_pos_iff_of_pos_right hq).1 (by rw [e2]; norm_num)
    have h3 : p + q ≠ 0 := by positivity
    have h4 : 1 + q * q ≠ 0 := by positivity
    field_simp
    have : p * (q * q) = q := by rw [← mul_assoc, e2, one_mul]
    ring_nf
    nlinarith

theorem sg_nonneg (x : EReal) : 0 ≤ sg x := by
  induction x with
  | bot => rw [sg_bot]
  | top => rw [sg_top]; exact zero_le_one
  | coe r => rw [sg_coe]; exact_mod_cast (by positivity : (0 : ℝ) ≤ 1 / (1 + Real.exp (-r)))

/-- Softplus of `-l`, as the kernel spells it. -/
def sp (l : EReal) : EReal :=
  max (0 - l) 0 + Ideal.log (1 + Ideal.exp (0 - max (0 - l) (-(0 - l))))

/-- The logarithm of one plus an exponential is not negative. -/
theorem log_one_add_nonneg (y : EReal) : 0 ≤ Ideal.log (1 + Ideal.exp y) := by
  induction y with
  | bot => rw [Ideal.exp_bot, add_zero, ← EReal.coe_one, Ideal.log_coe, if_neg (by norm_num)]; simp
  | top => rw [Ideal.exp_top, EReal.add_top_of_ne_bot (show (1 : EReal) ≠ ⊥ from EReal.coe_ne_bot 1), Ideal.log_top]; exact le_top
  | coe r =>
    have h : 0 < Real.exp r := Real.exp_pos r
    rw [Ideal.exp_coe, ← EReal.coe_one, ← EReal.coe_add, Ideal.log_coe, if_neg (by linarith)]
    exact_mod_cast Real.log_nonneg (by linarith)

theorem sp_nonneg (l : EReal) : 0 ≤ sp l :=
  add_nonneg (le_max_right _ _) (log_one_add_nonneg _)

/-- Softplus of `-l`, as the reference spells it (its guard against a NaN included). -/
theorem sp_host (l : EReal) (c : Prop) [Decidable c] (hc : ¬ c) (y : EReal) :
    (if c then y else max (-l) 0 + Ideal.log1p (Ideal.exp (-(max (-l - 0) (-(-l - 0)))))) = sp l := by
  rw [if_neg hc]
  simp only [sp, Ideal.log1p, zero_sub, sub_zero]

/-- The logarithm of the decay: `-8 · sigmoid g · softplus (-l)`. -/
def la (g l : EReal) : EReal := Ideal.ofBits .f32 0xC1000000#32 * sg g * sp l

theorem la_nonpos (g l : EReal) : la g l ≤ 0 := by
  unfold la
  rw [neg_eight_eq]
  have h8 : ((-8 : ℝ) : EReal) ≤ 0 := by exact_mod_cast (by norm_num : (-8 : ℝ) ≤ 0)
  exact EReal.mul_nonpos_iff.2 (Or.inr ⟨EReal.mul_nonpos_iff.2 (Or.inr ⟨h8, sg_nonneg g⟩), sp_nonneg l⟩)

theorem exp_nonneg (x : EReal) : 0 ≤ Ideal.exp x := by
  induction x with
  | bot => rw [Ideal.exp_bot]
  | top => rw [Ideal.exp_top]; exact le_top
  | coe r => rw [Ideal.exp_coe]; exact_mod_cast (Real.exp_pos r).le

theorem exp_ne_top {x : EReal} (h : x ≤ 0) : Ideal.exp x ≠ ⊤ := by
  induction x with
  | bot => rw [Ideal.exp_bot]; exact EReal.zero_ne_top
  | top => exact absurd h (by simp)
  | coe r => rw [Ideal.exp_coe]; exact EReal.coe_ne_top _

/-- `√(1 - a²)` for `a = exp x`, `x ≤ 0`: the product with the inverse root (zero where `1 - a²` is not positive)
    is the root of `-(exp (2 x) - 1)`. -/
theorem root_eq {x : EReal} (h : x ≤ 0) :
    (if 0 < 1 - Ideal.exp x * Ideal.exp x then
        (1 - Ideal.exp x * Ideal.exp x) * Ideal.rsqrt (1 - Ideal.exp x * Ideal.exp x) else 0)
      = Ideal.sqrt (-(Ideal.exp (Ideal.ofBits .f32 0x40000000#32 * x) - 1)) := by
  rw [two_eq]
  induction x with
  | bot =>
    rw [EReal.coe_mul_bot_of_pos (by norm_num), Ideal.exp_bot, mul_zero, sub_zero, zero_sub, neg_neg, if_pos zero_lt_one,
      ← EReal.coe_one, Ideal.rsqrt_coe, Ideal.sqrt_coe]
    norm_num
  | top => exact absurd h (by simp)
  | coe r =>
    have hr : r ≤ 0 := by exact_mod_cast h
    have e : Real.exp (2 * r) = Real.exp r * Real.exp r := by rw [← Real.exp_add]; ring_nf
    have h1 : Real.exp r ≤ 1 := Real.exp_le_one_iff.2 hr
    have h0 : 0 < Real.exp r := Real.exp_pos r
    rw [← EReal.coe_mul, Ideal.exp_coe, Ideal.exp_coe, e, ← EReal.coe_one, ← EReal.coe_mul, ← EReal.coe_sub,
      ← EReal.coe_sub, ← EReal.coe_neg]
    generalize Real.exp r = p at *
    have hw : 0 ≤ 1 - p * p := by nlinarith
    have hn : -(p * p - 1) = 1 - p * p := by ring
    rw [hn, Ideal.sqrt_coe, if_neg (not_lt.2 hw), Ideal.rsqrt_coe, if_neg (not_lt.2 hw)]
    by_cases hz : 1 - p * p = 0
    · rw [hz]; simp
    · have hp : 0 < 1 - p * p := lt_of_le_of_ne hw (Ne.symm hz)
      rw [if_neg hz, if_pos (by exact_mod_cast hp), ← EReal.coe_mul, EReal.coe_eq_coe_iff]
      rw [← div_eq_mul_inv, Real.div_sqrt]

end Cert.Scalar

end
-- ==== Proof.Block.lean ====
/- One grid point's blocks at an index: the convolution, the two gates, the recurrence's factor and offset, and with the
   chain of groups the output block and the state carried on. -/
module

public import proofs.«01_k».proof.Proof.Run
public import proofs.«01_k».proof.Proof.Scalar

@[expose] public section

set_option maxRecDepth 16384

noncomputable section

namespace Cert.KernelIdeal.Block

open Cert.KernelIdeal Cert.KernelIdeal.Gen Idealize.ShloMosaic Idealize.ShloMosaic.TcCoe Cert.Scan Cert.Scalar
open Cert.KernelIdeal.Run Cert.KernelIdeal.Chain Cert.KernelIdeal.Rounds

/-- A gate before its sigmoid. -/
def pre (xc : FVec Ideal S1024x256 .f32) (x4 : Vec Ideal S2x1x256x256 .bf16) (x5 : Vec Ideal S2x1x1x256 .f32) (k : Fin 2)
    (r : Fin 1024) (c : Fin 256) : EReal :=
  (∑ j : Fin 256, xc (ix2 r j) * x4 (ix4 k (0 : Fin 1) j c)) + x5 (ix4 k (0 : Fin 1) (0 : Fin 1) c)

theorem xc_at (x0 : Vec Ideal S1x1024x256 .f32) (x2 : Vec Ideal S4x256 .f32) (x3 : Vec Ideal S1x256 .f32)
    (y5 y6 y7 : Vec Ideal S1024x256 .f32) (r : Fin 1024) (c : Fin 256) :
    xcV x0 x2 x3 y5 y6 y7 (ix2 r c)
      = (((x3 (ix2 (0 : Fin 1) c) + x2 (ix2 (3 : Fin 4) c) * x0 (ix3 (0 : Fin 1) r c))
          + x2 (ix2 (0 : Fin 4) c) * y5 (ix2 r c)) + x2 (ix2 (1 : Fin 4) c) * y6 (ix2 r c))
          + x2 (ix2 (2 : Fin 4) c) * y7 (ix2 r c) := by
  pointwise [xcV, k0_pay6, k0_pay4, tap]

theorem gi_at (xc : FVec Ideal S1024x256 .f32) (x4 : Vec Ideal S2x1x256x256 .bf16) (x5 : Vec Ideal S2x1x1x256 .f32)
    (r : Fin 1024) (c : Fin 256) : giV xc x4 x5 (ix2 r c) = sg (pre xc x4 x5 0 r c) := by
  rw [← sg_tanh]
  pointwise [giV, k0_pay10, k0_pay9, gw, gb, pre]

theorem gr_at (xc : FVec Ideal S1024x256 .f32) (x4 : Vec Ideal S2x1x256x256 .bf16) (x5 : Vec Ideal S2x1x1x256 .f32)
    (r : Fin 1024) (c : Fin 256) : grV xc x4 x5 (ix2 r c) = sg (pre xc x4 x5 1 r c) := by
  rw [← sg_tanh]
  pointwise [grV, k0_pay11, k0_pay9, gw, gb, pre]

/-- The factor is an exponential of a number that is not positive. -/
theorem a_at (xc : FVec Ideal S1024x256 .f32) (x4 : Vec Ideal S2x1x256x256 .bf16) (x5 : Vec Ideal S2x1x1x256 .f32)
    (x6 : Vec Ideal S1x256 .f32) (r : Fin 1024) (c : Fin 256) :
    aV xc x4 x5 x6 (ix2 r c) = Ideal.exp (la (pre xc x4 x5 1 r c) (x6 (ix2 (0 : Fin 1) c))) := by
  pointwise [aV, k0_pay12]
  rw [gr_at]
  rfl

/-- Is the row the sequence's first? -/
theorem first_at : ∀ (q : Fin 2) (r : Fin 1024),
    IntOp.cmpi .eq (IntOp.addi (BitVec.ofNat 32 r.val) (Scalar.muli (BitVec.ofNat 32 q.val) 1024#32)) 0#32
      = if q.val * 1024 + r.val = 0 then 1#1 else 0#1 := by
  decide +kernel

/-- The offset: the input gate times the convolved input, scaled except in the sequence's first row. -/
theorem u_at (q : Fin 2) (xc : FVec Ideal S1024x256 .f32) (x4 : Vec Ideal S2x1x256x256 .bf16) (x5 : Vec Ideal S2x1x1x256 .f32)
    (x6 : Vec Ideal S1x256 .f32) (r : Fin 1024) (c : Fin 256) :
    uV (BitVec.ofNat 32 q.val) xc x4 x5 x6 (ix2 r c)
      = (if q.val * 1024 + r.val = 0 then 1
          else Ideal.sqrt (-(Ideal.exp (Ideal.ofBits .f32 0x40000000#32 * la (pre xc x4 x5 1 r c) (x6 (ix2 (0 : Fin 1) c))) - 1)))
        * sg (pre xc x4 x5 0 r c) * xc (ix2 r c) := by
  pointwise [uV, k0_pay13]
  rw [show k0_pay12 (grV xc x4 x5) x6 (ix2 r c) = _ from a_at xc x4 x5 x6 r c, gi_at, first_at,
    root_eq (la_nonpos _ _)]
  by_cases h : q.val * 1024 + r.val = 0
  · rw [if_pos h, if_pos h]; rfl
  · rw [if_neg h, if_neg h]; rfl

theorem out_at (H : FVec Ideal S1024x256 .f32) (x1 : Vec Ideal S1x1024x256 .bf16) (r : Fin 1024) (c : Fin 256) :
    k0_pay1 (outV H x1) (ix3 (0 : Fin 1) r c) = H (ix2 r c) * (x1 (ix3 (0 : Fin 1) r c) * sg (x1 (ix3 (0 : Fin 1) r c))) := by
  rw [← sg_tanh]
  pointwise [k0_pay1, outV]

theorem a_nonneg (xc : FVec Ideal S1024x256 .f32) (x4 : Vec Ideal S2x1x256x256 .bf16) (x5 : Vec Ideal S2x1x1x256 .f32)
    (x6 : Vec Ideal S1x256 .f32) (i : S1024x256.Idx) : 0 ≤ aV xc x4 x5 x6 i := by
  rw [eq_ix2 i]
  exact (exp_nonneg _).trans_eq (a_at xc x4 x5 x6 (i 0) (i 1)).symm

theorem a_ne_top (xc : FVec Ideal S1024x256 .f32) (x4 : Vec Ideal S2x1x256x256 .bf16) (x5 : Vec Ideal S2x1x1x256 .f32)
    (x6 : Vec Ideal S1x256 .f32) (i : S1024x256.Idx) : aV xc x4 x5 x6 i ≠ (⊤ : EReal) := by
  rw [eq_ix2 i]
  exact fun h => exp_ne_top (la_nonpos _ _) ((a_at xc x4 x5 x6 (i 0) (i 1)).symm.trans h)

/-- The states of a block, from sequences `α`, `υ` that agree with its factors and offsets from step `o` on, and a
    carry that is the state before step `o`. -/
theorem states_at {a u : FVec Ideal S1024x256 .f32} (h0 : ∀ i, 0 ≤ a i) (ht : ∀ i, a i ≠ (⊤ : EReal))
    {s e : FVec Ideal S1x256 .f32} {L : List ((s : Shape) × (s.Idx → Ideal .f32))} (hC : Chain (AV a) (UV a u) 0 s L e)
    (hL : L.length = 128) (h : Shape.Concatenates (L.map (·.1)) S1024x256 0) (α υ : Fin 256 → ℕ → EReal) (o : ℕ)
    (ha : ∀ (r : Fin 1024) c, a (ix2 r c) = α c (o + r.val)) (hu : ∀ (r : Fin 1024) c, u (ix2 r c) = υ c (o + r.val))
    (hs : ∀ c : Fin 256, s (ix2 (0 : Fin 1) c) = steps (α c) (υ c) 0 o 0) :
    (∀ (r : Fin 1024) (c : Fin 256),
        concatenate S1024x256 0 L h (ix2 r c) = steps (α c) (υ c) 0 (o + r.val + 1) 0) ∧
      ∀ c : Fin 256, e (ix2 (0 : Fin 1) c) = steps (α c) (υ c) 0 (o + 1024) 0 := by
  have hT := rounds a u h0 ht
  have key : ∀ (c : Fin 256) (n : ℕ), n ≤ 1024 →
      steps (row a c) (row u c) 0 n (s (ix2 (0 : Fin 1) c)) = steps (α c) (υ c) 0 (o + n) 0 := fun c n hn => by
    rw [steps_add 0 o, hs, Nat.zero_add]
    refine steps_congr _ n (fun k hk => ?_) (fun k hk => ?_)
    · rw [Nat.zero_add, row_of_lt a c (lt_of_lt_of_le hk hn), ha]
    · rw [Nat.zero_add, row_of_lt u c (lt_of_lt_of_le hk hn), hu]
  refine ⟨fun r c => ?_, fun c => ?_⟩
  · rw [hC.concat (v := fun c => s (ix2 (0 : Fin 1) c)) hT hL (fun _ => rfl) h r c, key c _ r.isLt, Nat.add_assoc]
  · rw [hC.last (v := fun c => s (ix2 (0 : Fin 1) c)) hT hL (fun _ => rfl) c, key c _ le_rfl]

end Cert.KernelIdeal.Block

end
-- ==== Proof.Spec.lean ====
/- What the layer's recurrent block is, index by index over the extended reals: a causal depthwise convolution of four
   taps, two block-diagonal gates, the linear recurrence, and the gated branch. -/
module

public import proofs.«01_k».proof.Proof.Scan
public import proofs.«01_k».proof.Proof.Scalar
public import Idealize.ShloMosaic.Lib.Pointwise

@[expose] public section

noncomputable section

namespace Cert.Spec

open Idealize.ShloMosaic Cert.Scan Cert.Scalar

/-- Channel `j` of group `n`. -/
def ch (n : Fin 16) (j : Fin 256) : Fin 4096 := ⟨256 * n.val + j.val, by omega⟩

variable (x : (⟨3, ![4, 2048, 4096]⟩ : Shape).Idx → EReal) (z : (⟨3, ![4, 2048, 4096]⟩ : Shape).Idx → EReal)
  (cw : (⟨2, ![4, 4096]⟩ : Shape).Idx → EReal) (cb : (⟨1, ![4096]⟩ : Shape).Idx → EReal)
  (gw : (⟨4, ![2, 16, 256, 256]⟩ : Shape).Idx → EReal) (gb : (⟨3, ![2, 16, 256]⟩ : Shape).Idx → EReal)
  (lam : (⟨1, ![4096]⟩ : Shape).Idx → EReal)

/-- The input three steps back, zero before the sequence. -/
def back (b : Fin 4) (h : Fin 4096) (s : ℕ) : EReal :=
  if hs : 3 ≤ s ∧ s < 2051 then x (ix3 b (⟨s - 3, by omega⟩ : Fin 2048) h) else 0

/-- The convolution at step `t`. -/
def conv (b : Fin 4) (h : Fin 4096) (t : ℕ) : EReal :=
  (((back x b h t * cw (ix2 (0 : Fin 4) h) + back x b h (t + 1) * cw (ix2 (1 : Fin 4) h))
    + back x b h (t + 2) * cw (ix2 (2 : Fin 4) h)) + back x b h (t + 3) * cw (ix2 (3 : Fin 4) h)) + cb (ix1 h)

/-- Gate `k` of channel `e` of group `n` before its sigmoid. -/
def gate (b : Fin 4) (n : Fin 16) (k : Fin 2) (e : Fin 256) (t : ℕ) : EReal :=
  (∑ j : Fin 256, conv x cw cb b (ch n j) t * gw (ix4 k n j e)) + gb (ix3 k n e)

/-- The recurrence's factor, -/
def al (b : Fin 4) (n : Fin 16) (e : Fin 256) (t : ℕ) : EReal :=
  Ideal.exp (la (gate x cw cb gw gb b n 1 e t) (lam (ix1 (ch n e))))

/-- its offset, -/
def up (b : Fin 4) (n : Fin 16) (e : Fin 256) (t : ℕ) : EReal :=
  (if t = 0 then 1
    else Ideal.sqrt (-(Ideal.exp (Ideal.ofBits .f32 0x40000000#32 * la (gate x cw cb gw gb b n 1 e t) (lam (ix1 (ch n e)))) - 1)))
    * sg (gate x cw cb gw gb b n 0 e t) * conv x cw cb b (ch n e) t

/-- and its state after `t` steps. -/
def state (b : Fin 4) (n : Fin 16) (e : Fin 256) (t : ℕ) : EReal :=
  steps (al x cw cb gw gb lam b n e) (up x cw cb gw gb lam b n e) 0 t 0

/-- The result. -/
def out (i : (⟨3, ![4, 2048, 4096]⟩ : Shape).Idx) : EReal :=
  state x cw cb gw gb lam (i 0) (⟨(i 2).val / 256, by have h : (i 2).val < 4096 := (i 2).isLt; omega⟩ : Fin 16)
    (⟨(i 2).val % 256, by omega⟩ : Fin 256) ((i 1).val + 1) * (z i * sg (z i))

end Cert.Spec

end
-- ==== Proof.Point.lean ====
/- One grid point against the layer's block: when its blocks are rows of the arrays and the kept rows and the carry are
   what the point before left, its output is the result's block and its carry the state after its last row. -/
module

public import proofs.«01_k».proof.Proof.Block
public import proofs.«01_k».proof.Proof.Spec

@[expose] public section

set_option maxRecDepth 16384

noncomputable section

namespace Cert.KernelIdeal.Point

open Cert.KernelIdeal Cert.KernelIdeal.Gen Idealize.ShloMosaic Idealize.ShloMosaic.TcCoe Cert.Scan Cert.Scalar
open Cert.KernelIdeal.Run Cert.KernelIdeal.Chain Cert.KernelIdeal.Rounds Cert.KernelIdeal.Block Cert.Spec

/-- Row `r` of half `q` of the sequence. -/
def tm (q : Fin 2) (r : Fin 1024) : Fin 2048 := ⟨1024 * q.val + r.val, by omega⟩

variable (x : S4x2048x4096.Idx → EReal) (z : S4x2048x4096.Idx → EReal) (cw : S4x4096.Idx → EReal) (cb : S4096.Idx → EReal)
  (wg : S2x16x256x256.Idx → EReal) (bg : S2x16x256.Idx → EReal) (lam : S4096.Idx → EReal)
  (b : Fin 4) (n : Fin 16) (q : Fin 2)

/-- The blocks of a point are these rows of the arrays. -/
structure Blocks (x0 : Vec Ideal S1x1024x256 .f32) (x1 : Vec Ideal S1x1024x256 .bf16) (x2 : Vec Ideal S4x256 .f32)
    (x3 : Vec Ideal S1x256 .f32) (x4 : Vec Ideal S2x1x256x256 .bf16) (x5 : Vec Ideal S2x1x1x256 .f32)
    (x6 : Vec Ideal S1x256 .f32) : Prop where
  h0 : ∀ (r : Fin 1024) (c : Fin 256), x0 (ix3 (0 : Fin 1) r c) = x (ix3 b (tm q r) (ch n c))
  h1 : ∀ (r : Fin 1024) (c : Fin 256), x1 (ix3 (0 : Fin 1) r c) = z (ix3 b (tm q r) (ch n c))
  h2 : ∀ (k : Fin 4) (c : Fin 256), x2 (ix2 k c) = cw (ix2 k (ch n c))
  h3 : ∀ c : Fin 256, x3 (ix2 (0 : Fin 1) c) = cb (ix1 (ch n c))
  h4 : ∀ (k : Fin 2) (j c : Fin 256), x4 (ix4 k (0 : Fin 1) j c) = wg (ix4 k n j c)
  h5 : ∀ (k : Fin 2) (c : Fin 256), x5 (ix4 k (0 : Fin 1) (0 : Fin 1) c) = bg (ix3 k n c)
  h6 : ∀ c : Fin 256, x6 (ix2 (0 : Fin 1) c) = lam (ix1 (ch n c))

/-- The kept rows are the three before the block. -/
def Kept (xs : Vec Ideal S1032x256 .f32) : Prop :=
  ∀ (k : Fin 1032) (c : Fin 256), 5 ≤ k.val → k.val < 8 → xs (ix2 k c) = back x b (ch n c) (1024 * q.val + k.val - 5)

variable {x z cw cb wg bg lam b n q}
variable {x0 : Vec Ideal S1x1024x256 .f32} {x1 : Vec Ideal S1x1024x256 .bf16} {x2 : Vec Ideal S4x256 .f32}
  {x3 : Vec Ideal S1x256 .f32} {x4 : Vec Ideal S2x1x256x256 .bf16} {x5 : Vec Ideal S2x1x1x256 .f32}
  {x6 : Vec Ideal S1x256 .f32} {xs : Vec Ideal S1032x256 .f32}

theorem back_in (s : ℕ) (hs : s < 2048) (h : Fin 4096) : back x b h (s + 3) = x (ix3 b (⟨s, hs⟩ : Fin 2048) h) := by
  unfold back
  rw [dif_pos ⟨by omega, by omega⟩]
  rfl

theorem pad_at (hB : Blocks x z cw cb wg bg lam b n q x0 x1 x2 x3 x4 x5 x6) (hK : Kept x b n q xs) (k : Fin 1032)
    (c : Fin 256) (hk : 5 ≤ k.val) : Run.pad x0 xs (ix2 k c) = back x b (ch n c) (1024 * q.val + k.val - 5) := by
  unfold Run.pad
  by_cases h : 8 ≤ k.val
  · rw [dif_pos (show 8 ≤ ((ix2 k c : S1032x256.Idx) 0).val from h)]
    refine (hB.h0 ⟨k.val - 8, by omega⟩ c).trans ?_
    rw [show 1024 * q.val + k.val - 5 = (1024 * q.val + (k.val - 8)) + 3 by omega, back_in _ (by omega)]
    rfl
  · rw [dif_neg (show ¬ 8 ≤ ((ix2 k c : S1032x256.Idx) 0).val from h)]
    exact hK k c hk (by omega)

theorem sh_at (hB : Blocks x z cw cb wg bg lam b n q x0 x1 x2 x3 x4 x5 x6) (hK : Kept x b n q xs) (k : ℕ)
    (h : ∀ a, (![k, 0] : Fin 2 → ℕ) a + S1024x256.size a ≤ S1032x256.size a) (hk : 5 ≤ k) (hk' : k < 8) (r : Fin 1024) (c : Fin 256) :
    sh k h x0 xs (ix2 r c) = back x b (ch n c) ((1024 * q.val + r.val) + (k - 5)) := by
  have e : (Rect.unit (s := S1032x256) ![k, 0] S1024x256.size h).emb (ix2 r c) = ix2 (⟨k + r.val, by omega⟩ : Fin 1032) c := by
    refine funext fun a => Fin.ext ?_
    revert a
    refine Fin.forall_fin_two.mpr ⟨?_, ?_⟩
    · show k + 1 * r.val = k + r.val
      omega
    · show 0 + 1 * c.val = c.val
      omega
  refine Eq.trans (congrArg (Run.pad x0 xs) e) ((pad_at hB hK ⟨k + r.val, by omega⟩ c (by show 5 ≤ k + r.val; omega)).trans ?_)
  congr 1
  show 1024 * q.val + (k + r.val) - 5 = 1024 * q.val + r.val + (k - 5)
  omega

/-- The convolved block. -/
theorem conv_at (hB : Blocks x z cw cb wg bg lam b n q x0 x1 x2 x3 x4 x5 x6) (hK : Kept x b n q xs) (r : Fin 1024) (c : Fin 256) :
    xcP x0 xs x2 x3 (ix2 r c) = conv x cw cb b (ch n c) (1024 * q.val + r.val) := by
  unfold xcP
  rw [xc_at, sh_at hB hK 5 _ (by omega) (by omega), sh_at hB hK 6 _ (by omega) (by omega),
    sh_at hB hK 7 _ (by omega) (by omega), hB.h0, hB.h3, hB.h2, hB.h2, hB.h2, hB.h2]
  unfold conv tm
  rw [back_in (1024 * q.val + r.val) (by omega)]
  simp only [mul_comm (cw _), Nat.add_zero, Nat.reduceSub]
  generalize back x b (ch n c) (1024 * q.val + r.val) * cw (ix2 0 (ch n c)) = A
  abel

theorem gate_at (hB : Blocks x z cw cb wg bg lam b n q x0 x1 x2 x3 x4 x5 x6) (hK : Kept x b n q xs) (k : Fin 2) (r : Fin 1024)
    (c : Fin 256) : pre (xcP x0 xs x2 x3) x4 x5 k r c = gate x cw cb wg bg b n k c (1024 * q.val + r.val) := by
  unfold pre gate
  rw [hB.h5]
  refine congrArg (· + bg (ix3 k n c)) (Finset.sum_congr rfl fun j _ => ?_)
  rw [conv_at hB hK, hB.h4]

theorem al_at (hB : Blocks x z cw cb wg bg lam b n q x0 x1 x2 x3 x4 x5 x6) (hK : Kept x b n q xs) (r : Fin 1024) (c : Fin 256) :
    aV (xcP x0 xs x2 x3) x4 x5 x6 (ix2 r c) = al x cw cb wg bg lam b n c (1024 * q.val + r.val) := by
  rw [a_at, gate_at hB hK, hB.h6]
  rfl

theorem up_at (hB : Blocks x z cw cb wg bg lam b n q x0 x1 x2 x3 x4 x5 x6) (hK : Kept x b n q xs) (r : Fin 1024) (c : Fin 256) :
    uV (BitVec.ofNat 32 q.val) (xcP x0 xs x2 x3) x4 x5 x6 (ix2 r c) = up x cw cb wg bg lam b n c (1024 * q.val + r.val) := by
  rw [u_at, gate_at hB hK, gate_at hB hK, hB.h6, conv_at hB hK, Nat.mul_comm]
  rfl

/-- The point's output and carry. -/
theorem point (hB : Blocks x z cw cb wg bg lam b n q x0 x1 x2 x3 x4 x5 x6) (hK : Kept x b n q xs) {s e : FVec Ideal S1x256 .f32}
    {L : List ((s : Shape) × (s.Idx → Ideal .f32))}
    (hC : Chain (AV (aV (xcP x0 xs x2 x3) x4 x5 x6))
      (UV (aV (xcP x0 xs x2 x3) x4 x5 x6) (uV (BitVec.ofNat 32 q.val) (xcP x0 xs x2 x3) x4 x5 x6)) 0 s L e)
    (hL : L.length = 128) (h : Shape.Concatenates (L.map (·.1)) S1024x256 0)
    (hs : ∀ c : Fin 256, s (ix2 (0 : Fin 1) c) = state x cw cb wg bg lam b n c (1024 * q.val)) :
    (∀ (r : Fin 1024) (c : Fin 256), k0_pay1 (outV (concatenate S1024x256 0 L h) x1) (ix3 (0 : Fin 1) r c)
        = out x z cw cb wg bg lam (ix3 b (tm q r) (ch n c))) ∧
      ∀ c : Fin 256, e (ix2 (0 : Fin 1) c) = state x cw cb wg bg lam b n c (1024 * q.val + 1024) := by
  obtain ⟨hO, hE⟩ := states_at (a_nonneg (xcP x0 xs x2 x3) x4 x5 x6) (a_ne_top (xcP x0 xs x2 x3) x4 x5 x6) hC hL h
    (fun c => al x cw cb wg bg lam b n c) (fun c => up x cw cb wg bg lam b n c) (1024 * q.val)
    (fun r c => al_at hB hK r c) (fun r c => up_at hB hK r c) hs
  refine ⟨fun r c => ?_, hE⟩
  rw [out_at, hO, hB.h1]
  unfold out
  have e1 : (⟨(ch n c).val / 256, by have := (ch n c).isLt; omega⟩ : Fin 16) = n := Fin.ext (by show (256 * n.val + c.val) / 256 = n.val; omega)
  have e2 : (⟨(ch n c).val % 256, by omega⟩ : Fin 256) = c := Fin.ext (by show (256 * n.val + c.val) % 256 = c.val; omega)
  show _ = state x cw cb wg bg lam b ⟨(ch n c).val / 256, _⟩ ⟨(ch n c).val % 256, _⟩ (1024 * q.val + r.val + 1) * _
  rw [e1, e2]
  rfl

end Cert.KernelIdeal.Point

end
-- ==== Proof.Array.lean ====
/- The kernel's result array: the host's reshapes and the windows' blocks read at an index, what each grid point leaves,
   and the blocks put together. -/
module

public import proofs.«01_k».proof.Proof.Point
public import proofs.«01_k».proof.Proof.Gen.KernelIdeal.Value

@[expose] public section

set_option maxRecDepth 16384

noncomputable section

namespace Cert.KernelIdeal.Array

open Cert.KernelIdeal Cert.KernelIdeal.Gen Idealize.ShloMosaic Idealize.ShloMosaic.TcCoe Idealize.SL.Sem
open Idealize.ShloMosaic.Pipeline (Dat)
open Cert.KernelIdeal.Run Cert.KernelIdeal.Chain Cert.KernelIdeal.Point Cert.Spec Cert.Scan

variable (m : (ℓ : Loc nD τ sig) → Buf (Elt Ideal) ℓ)

/-- The arguments as arrays of reals. -/
abbrev aX (c : Dev nD) : S4x2048x4096.Idx → EReal := m ((c : Thread nD τ).loc main_arg0)
abbrev aZ (c : Dev nD) : S4x2048x4096.Idx → EReal := m ((c : Thread nD τ).loc main_arg1)
abbrev aW (c : Dev nD) : S4x4096.Idx → EReal := m ((c : Thread nD τ).loc main_arg2)
abbrev aB (c : Dev nD) : S4096.Idx → EReal := m ((c : Thread nD τ).loc main_arg3)
abbrev aG (c : Dev nD) : S2x16x256x256.Idx → EReal := m ((c : Thread nD τ).loc main_arg4)
abbrev aH (c : Dev nD) : S2x16x256.Idx → EReal := m ((c : Thread nD τ).loc main_arg5)
abbrev aL (c : Dev nD) : S4096.Idx → EReal := m ((c : Thread nD τ).loc main_arg6)

/-- A vector of channels as one row, and the gates' biases with a unit row, at an index. -/
theorem row_at (X : FVec Ideal S4096 .f32) (j : Fin 4096) :
    shapeCast S1x4096 X shapeCasts_S4096_S1x4096 (ix2 (0 : Fin 1) j) = X (ix1 j) := by
  refine shapeCast_apply _ _ _ _ ?_
  rw [Shape.rowMajor_val_one, Shape.rowMajor_val_two]
  show j.val = 0 * 4096 + j.val
  omega
theorem bias_at (X : FVec Ideal S2x16x256 .f32) (k : Fin 2) (n : Fin 16) (j : Fin 256) :
    shapeCast S2x16x1x256 X shapeCasts_S2x16x256_S2x16x1x256 (ix4 k n (0 : Fin 1) j) = X (ix3 k n j) := by
  refine shapeCast_apply _ _ _ _ ?_
  rw [Shape.rowMajor_val_three, Shape.rowMajor_val_four]
  show (k.val * 16 + n.val) * 256 + j.val = ((k.val * 16 + n.val) * 1 + 0) * 256 + j.val
  omega

theorem V_v0 (c : Dev nD) (j : Fin 4096) : (V m c main_v0 : FVec Ideal S1x4096 .f32) (ix2 (0 : Fin 1) j) = aB m c (ix1 j) :=
  row_at (m ((c : Thread nD τ).loc main_arg3) : FVec Ideal S4096 .f32) j
theorem V_v1 (c : Dev nD) (j : S2x16x256x256.Idx) : (V m c main_v1 : FVec Ideal S2x16x256x256 .bf16) j = aG m c j := rfl
theorem V_v2 (c : Dev nD) (k : Fin 2) (n : Fin 16) (j : Fin 256) :
    (V m c main_v2 : FVec Ideal S2x16x1x256 .f32) (ix4 k n (0 : Fin 1) j) = aH m c (ix3 k n j) :=
  bias_at (m ((c : Thread nD τ).loc main_arg5) : FVec Ideal S2x16x256 .f32) k n j
theorem V_v3 (c : Dev nD) (j : Fin 4096) : (V m c main_v3 : FVec Ideal S1x4096 .f32) (ix2 (0 : Fin 1) j) = aL m c (ix1 j) :=
  row_at (m ((c : Thread nD τ).loc main_arg6) : FVec Ideal S4096 .f32) j

/-- A point's batch, group and half. -/
theorem lt_N (t : Fin cfg0.N) : t.val < 128 := lt_of_lt_of_eq t.isLt N_0
def bt (t : Fin cfg0.N) : Fin 4 := ⟨t.val / 32, by have := lt_N t; omega⟩
def nt (t : Fin cfg0.N) : Fin 16 := ⟨t.val / 2 % 16, by omega⟩
def qt (t : Fin cfg0.N) : Fin 2 := ⟨t.val % 2, by omega⟩

theorem coords2 : ∀ t : Fin cfg0.N, ((grid0.coords t) 2).val = t.val % 2 :=
  (by decide +kernel : ∀ t : Fin grid0.N, ((grid0.coords t) 2).val = t.val % 2)

/-- The index maps: rows of batch and half, the group's columns, the group's gates. -/
theorem idx0 : ∀ t : Fin cfg0.N, win0_0.index t = ![t.val / 32, t.val % 2, t.val / 2 % 16] :=
  (by decide +kernel : ∀ t : Fin grid0.N, win0_0.index t = ![t.val / 32, t.val % 2, t.val / 2 % 16])
theorem idx1 : ∀ t : Fin cfg0.N, win0_1.index t = ![t.val / 32, t.val % 2, t.val / 2 % 16] := idx0
theorem idx7 : ∀ t : Fin cfg0.N, win0_7.index t = ![t.val / 32, t.val % 2, t.val / 2 % 16] := idx0
theorem idx2 : ∀ t : Fin cfg0.N, win0_2.index t = ![0, t.val / 2 % 16] :=
  (by decide +kernel : ∀ t : Fin grid0.N, win0_2.index t = ![0, t.val / 2 % 16])
theorem idx3 : ∀ t : Fin cfg0.N, win0_3.index t = ![0, t.val / 2 % 16] := idx2
theorem idx6 : ∀ t : Fin cfg0.N, win0_6.index t = ![0, t.val / 2 % 16] := idx2
theorem idx4 : ∀ t : Fin cfg0.N, win0_4.index t = ![0, t.val / 2 % 16, 0, 0] :=
  (by decide +kernel : ∀ t : Fin grid0.N, win0_4.index t = ![0, t.val / 2 % 16, 0, 0])
theorem idx5 : ∀ t : Fin cfg0.N, win0_5.index t = ![0, t.val / 2 % 16, 0, 0] := idx4

/-- Where a block's entry lies in its array, from the block's index. -/
theorem pos3 (t : Fin cfg0.N) (r : Fin 1024) (j : Fin 256) (f : Fin 3 → ℕ) (hf : f = ![t.val / 32, t.val % 2, t.val / 2 % 16])
    (i : S4x2048x4096.Idx) (h0 : (i 0).val = f 0 * 1 + 1 * 0) (h1 : (i 1).val = f 1 * 1024 + 1 * r.val)
    (h2 : (i 2).val = f 2 * 256 + 1 * j.val) : i = ix3 (bt t) (tm (qt t) r) (ch (nt t) j) := by
  subst hf
  refine funext fun a => Fin.ext ?_
  match a with
  | ⟨0, _⟩ => exact h0.trans (show t.val / 32 * 1 + 1 * 0 = t.val / 32 by omega)
  | ⟨1, _⟩ => exact h1.trans (show t.val % 2 * 1024 + 1 * r.val = 1024 * (t.val % 2) + r.val by omega)
  | ⟨2, _⟩ => exact h2.trans (show t.val / 2 % 16 * 256 + 1 * j.val = 256 * (t.val / 2 % 16) + j.val by omega)

theorem pos2 {M : ℕ} (t : Fin cfg0.N) (r : Fin M) (j : Fin 256) (f : Fin 2 → ℕ) (hf : f = ![0, t.val / 2 % 16])
    (i : (⟨2, ![M, 4096]⟩ : Shape).Idx) (h0 : (i 0).val = f 0 * M + 1 * r.val) (h1 : (i 1).val = f 1 * 256 + 1 * j.val) :
    i = ix2 r (ch (nt t) j) := by
  subst hf
  refine funext fun a => Fin.ext ?_
  match a with
  | ⟨0, _⟩ => exact h0.trans (by show 0 * M + 1 * r.val = r.val; rw [Nat.zero_mul, Nat.zero_add, Nat.one_mul])
  | ⟨1, _⟩ => exact h1.trans (show t.val / 2 % 16 * 256 + 1 * j.val = 256 * (t.val / 2 % 16) + j.val by omega)

theorem pos4 {M : ℕ} (t : Fin cfg0.N) (k : Fin 2) (r : Fin M) (j : Fin 256) (f : Fin 4 → ℕ)
    (hf : f = ![0, t.val / 2 % 16, 0, 0]) (i : (⟨4, ![2, 16, M, 256]⟩ : Shape).Idx) (h0 : (i 0).val = f 0 * 2 + 1 * k.val)
    (h1 : (i 1).val = f 1 * 1 + 1 * 0) (h2 : (i 2).val = f 2 * M + 1 * r.val) (h3 : (i 3).val = f 3 * 256 + 1 * j.val) :
    i = ix4 k (nt t) r j := by
  subst hf
  refine funext fun a => Fin.ext ?_
  match a with
  | ⟨0, _⟩ => exact h0.trans (by show 0 * 2 + 1 * k.val = k.val; omega)
  | ⟨1, _⟩ => exact h1.trans (show t.val / 2 % 16 * 1 + 1 * 0 = t.val / 2 % 16 by omega)
  | ⟨2, _⟩ => exact h2.trans (by show 0 * M + 1 * r.val = r.val; rw [Nat.zero_mul, Nat.zero_add, Nat.one_mul])
  | ⟨3, _⟩ => exact h3.trans (by show 0 * 256 + 1 * j.val = j.val; omega)

theorem iblk0 (c : Dev nD) (t : Fin cfg0.N) (r : Fin 1024) (j : Fin 256) :
    iblk m c 0 t (ix3 (0 : Fin 1) r j) = aX m c (ix3 (bt t) (tm (qt t) r) (ch (nt t) j)) := by
  unfold iblk
  rw [show V m c (Pipeline.arrRef spec0 0) = m ((c : Thread nD τ).loc main_arg0) from V_main_arg0 m c]
  exact congrArg (aX m c) (pos3 t r j _ (idx0 t) _ rfl rfl rfl)

theorem iblk1 (c : Dev nD) (t : Fin cfg0.N) (r : Fin 1024) (j : Fin 256) :
    iblk m c 1 t (ix3 (0 : Fin 1) r j) = aZ m c (ix3 (bt t) (tm (qt t) r) (ch (nt t) j)) := by
  unfold iblk
  rw [show V m c (Pipeline.arrRef spec0 1) = m ((c : Thread nD τ).loc main_arg1) from V_main_arg1 m c]
  exact congrArg (aZ m c) (pos3 t r j _ (idx1 t) _ rfl rfl rfl)

theorem iblk2 (c : Dev nD) (t : Fin cfg0.N) (k : Fin 4) (j : Fin 256) :
    iblk m c 2 t (ix2 k j) = aW m c (ix2 k (ch (nt t) j)) := by
  unfold iblk
  rw [show V m c (Pipeline.arrRef spec0 2) = m ((c : Thread nD τ).loc main_arg2) from V_main_arg2 m c]
  exact congrArg (aW m c) (pos2 t k j _ (idx2 t) _ rfl rfl)

theorem iblk3 (c : Dev nD) (t : Fin cfg0.N) (j : Fin 256) :
    iblk m c 3 t (ix2 (0 : Fin 1) j) = aB m c (ix1 (ch (nt t) j)) := by
  unfold iblk
  exact (congrArg (V m c main_v0 : FVec Ideal S1x4096 .f32) (pos2 t (0 : Fin 1) j _ (idx3 t) _ rfl rfl)).trans (V_v0 m c _)

theorem iblk4 (c : Dev nD) (t : Fin cfg0.N) (k : Fin 2) (r j : Fin 256) :
    iblk m c 4 t (ix4 k (0 : Fin 1) r j) = aG m c (ix4 k (nt t) r j) := by
  unfold iblk
  exact (congrArg (V m c main_v1 : FVec Ideal S2x16x256x256 .bf16) (pos4 t k r j _ (idx4 t) _ rfl rfl rfl rfl)).trans (V_v1 m c _)

theorem iblk5 (c : Dev nD) (t : Fin cfg0.N) (k : Fin 2) (j : Fin 256) :
    iblk m c 5 t (ix4 k (0 : Fin 1) (0 : Fin 1) j) = aH m c (ix3 k (nt t) j) := by
  unfold iblk
  exact (congrArg (V m c main_v2 : FVec Ideal S2x16x1x256 .f32) (pos4 t k (0 : Fin 1) j _ (idx5 t) _ rfl rfl rfl rfl)).trans (V_v2 m c _ _ _)

theorem iblk6 (c : Dev nD) (t : Fin cfg0.N) (j : Fin 256) :
    iblk m c 6 t (ix2 (0 : Fin 1) j) = aL m c (ix1 (ch (nt t) j)) := by
  unfold iblk
  exact (congrArg (V m c main_v3 : FVec Ideal S1x4096 .f32) (pos2 t (0 : Fin 1) j _ (idx6 t) _ rfl rfl)).trans (V_v3 m c _)

theorem blocks (c : Dev nD) (t : Fin cfg0.N) :
    Blocks (aX m c) (aZ m c) (aW m c) (aB m c) (aG m c) (aH m c) (aL m c) (bt t) (nt t) (qt t) (iblk m c 0 t) (iblk m c 1 t)
      (iblk m c 2 t) (iblk m c 3 t) (iblk m c 4 t) (iblk m c 5 t) (iblk m c 6 t) :=
  ⟨iblk0 m c t, iblk1 m c t, iblk2 m c t, iblk3 m c t, iblk4 m c t, iblk5 m c t, iblk6 m c t⟩

/-- The result: the layer's block over the arguments. -/
def G (c : Dev nD) : S4x2048x4096.Idx → EReal := out (aX m c) (aZ m c) (aW m c) (aB m c) (aG m c) (aH m c) (aL m c)

/-- What a point leaves: its block of the result, the rows kept for the next and the state after its last row. -/
def Leaves (c : Dev nD) (t : Fin cfg0.N) (o : Vec Ideal S1x1024x256 .bf16 × Vec Ideal S1032x256 .f32 × Vec Ideal S1x256 .f32) : Prop :=
  (∀ (r : Fin 1024) (j : Fin 256), o.1 (ix3 (0 : Fin 1) r j) = G m c (ix3 (bt t) (tm (qt t) r) (ch (nt t) j))) ∧
  (∀ (k : Fin 1032) (hk : k.val < 8) (j : Fin 256), o.2.1 (ix2 k j)
    = aX m c (ix3 (bt t) (tm (qt t) (⟨1016 + k.val, by omega⟩ : Fin 1024)) (ch (nt t) j))) ∧
  ∀ j : Fin 256, o.2.2 (ix2 (0 : Fin 1) j)
    = state (aX m c) (aW m c) (aB m c) (aG m c) (aH m c) (aL m c) (bt t) (nt t) j (1024 * (qt t).val + 1024)

theorem qt_eq (t : Fin cfg0.N) : BitVec.ofNat 32 ((grid0.coords t) 2).val = BitVec.ofNat 32 (qt t).val :=
  congrArg (BitVec.ofNat 32) (coords2 t)

/-- A sequence's first half starts from nothing; -/
theorem first (c : Dev nD) (t : Fin cfg0.N) (h0 : t.val % 2 = 0) {L : List ((s : Shape) × (s.Idx → Ideal .f32))}
    {e : FVec Ideal S1x256 .f32} (h : Shape.Concatenates (L.map (·.1)) S1024x256 0)
    (hC : Chain (AV (aV (xcP (iblk m c 0 t) (fun _ => 0) (iblk m c 2 t) (iblk m c 3 t)) (iblk m c 4 t) (iblk m c 5 t) (iblk m c 6 t)))
      (UV (aV (xcP (iblk m c 0 t) (fun _ => 0) (iblk m c 2 t) (iblk m c 3 t)) (iblk m c 4 t) (iblk m c 5 t) (iblk m c 6 t))
        (uV (BitVec.ofNat 32 ((grid0.coords t) 2).val) (xcP (iblk m c 0 t) (fun _ => 0) (iblk m c 2 t) (iblk m c 3 t)) (iblk m c 4 t)
          (iblk m c 5 t) (iblk m c 6 t))) 0 (k0_pay3 (F := Ideal)) L e) (hL : L.length = 128) :
    (∀ (r : Fin 1024) (j : Fin 256), k0_pay1 (outV (concatenate S1024x256 0 L h) (iblk m c 1 t)) (ix3 (0 : Fin 1) r j)
        = G m c (ix3 (bt t) (tm (qt t) r) (ch (nt t) j))) ∧
      ∀ j : Fin 256, e (ix2 (0 : Fin 1) j)
        = state (aX m c) (aW m c) (aB m c) (aG m c) (aH m c) (aL m c) (bt t) (nt t) j (1024 * (qt t).val + 1024) := by
  have hq : (qt t).val = 0 := h0
  rw [qt_eq] at hC
  have hK : Kept (aX m c) (bt t) (nt t) (qt t) (fun _ => 0) := fun k j hk hk' => by
    unfold back
    rw [dif_neg (by rw [hq]; omega)]
  refine point (blocks m c t) hK hC hL h (fun j => ?_)
  rw [hq]
  show (k0_pay3 (F := Ideal)) (ix2 (0 : Fin 1) j) = 0
  pointwise [k0_pay3]

/-- its second half goes on from what the first left. -/
theorem second (c : Dev nD) (t t' : Fin cfg0.N) (h0 : t.val % 2 = 1) (ht' : t'.val = t.val - 1)
    {p : Vec Ideal S1x1024x256 .bf16 × Vec Ideal S1032x256 .f32 × Vec Ideal S1x256 .f32} (hp : Leaves m c t' p)
    {L : List ((s : Shape) × (s.Idx → Ideal .f32))}
    {e : FVec Ideal S1x256 .f32} (h : Shape.Concatenates (L.map (·.1)) S1024x256 0)
    (hC : Chain (AV (aV (xcP (iblk m c 0 t) p.2.1 (iblk m c 2 t) (iblk m c 3 t)) (iblk m c 4 t) (iblk m c 5 t) (iblk m c 6 t)))
      (UV (aV (xcP (iblk m c 0 t) p.2.1 (iblk m c 2 t) (iblk m c 3 t)) (iblk m c 4 t) (iblk m c 5 t) (iblk m c 6 t))
        (uV (BitVec.ofNat 32 ((grid0.coords t) 2).val) (xcP (iblk m c 0 t) p.2.1 (iblk m c 2 t) (iblk m c 3 t)) (iblk m c 4 t)
          (iblk m c 5 t) (iblk m c 6 t))) 0 p.2.2 L e) (hL : L.length = 128) :
    (∀ (r : Fin 1024) (j : Fin 256), k0_pay1 (outV (concatenate S1024x256 0 L h) (iblk m c 1 t)) (ix3 (0 : Fin 1) r j)
        = G m c (ix3 (bt t) (tm (qt t) r) (ch (nt t) j))) ∧
      ∀ j : Fin 256, e (ix2 (0 : Fin 1) j)
        = state (aX m c) (aW m c) (aB m c) (aG m c) (aH m c) (aL m c) (bt t) (nt t) j (1024 * (qt t).val + 1024) := by
  obtain ⟨-, hp1, hp2⟩ := hp
  have hq : (qt t).val = 1 := h0
  have hb : bt t' = bt t := Fin.ext (by show t'.val / 32 = t.val / 32; omega)
  have hn : nt t' = nt t := Fin.ext (by show t'.val / 2 % 16 = t.val / 2 % 16; omega)
  have hq' : (qt t').val = 0 := by show t'.val % 2 = 0; omega
  rw [hb, hn] at hp1 hp2
  rw [qt_eq] at hC
  have hK : Kept (aX m c) (bt t) (nt t) (qt t) p.2.1 := fun k j hk hk' => by
    rw [hp1 k hk' j, hq, show 1024 * 1 + k.val - 5 = (1016 + k.val) + 3 by omega, back_in _ (by omega)]
    refine congrArg (fun s => aX m c (ix3 (bt t) s (ch (nt t) j))) (Fin.ext ?_)
    show 1024 * _ + (1016 + k.val) = 1016 + k.val
    rw [hq']
    omega
  exact point (blocks m c t) hK hC hL h (fun j => by rw [hp2 j, hq, hq'])

theorem leaves_mk (c : Dev nD) (t : Fin cfg0.N) {o : Vec Ideal S1x1024x256 .bf16} {k : Vec Ideal S1032x256 .f32}
    {s : Vec Ideal S1x256 .f32} {o' : Vec Ideal S1x1024x256 .bf16} {e : Vec Ideal S1x256 .f32} (ho : o = o') (hs : s = e)
    (hk : ∀ (r : Fin 1032) (hr : r.val < 8) (j : Fin 256), k (ix2 r j)
      = (iblk m c 0 t : Vec Ideal S1x1024x256 .f32) (ix3 (0 : Fin 1) (⟨1016 + r.val, by omega⟩ : Fin 1024) j))
    (h : (∀ (r : Fin 1024) (j : Fin 256), o' (ix3 (0 : Fin 1) r j) = G m c (ix3 (bt t) (tm (qt t) r) (ch (nt t) j))) ∧
      ∀ j : Fin 256, e (ix2 (0 : Fin 1) j)
        = state (aX m c) (aW m c) (aB m c) (aG m c) (aH m c) (aL m c) (bt t) (nt t) j (1024 * (qt t).val + 1024)) :
    Leaves m c t (o, k, s) := by
  subst ho hs
  exact ⟨h.1, fun r hr j => (hk r hr j).trans (iblk0 m c t _ j), h.2⟩

theorem leaves_A (c : Dev nD) (t : Fin cfg0.N) (h0 : t.val % 2 = 0) : Leaves m c t (outsAt0 m c t.val t.isLt) := by
  rw [outsAt0_A m c t h0]
  have hb := block_A c (grid0.coords t) (ms0_0 t) (hs0_0 t) (ms0_1 t) (hs0_1 t) (ms0_2 t) (hs0_2 t)
    (ms0_3 t) (hs0_3 t) (ms0_4 t) (hs0_4 t) (ms0_5 t) (hs0_5 t) (ms0_6 t) (hs0_6 t) (ms0_7 t) (hs0_7 t) scM0_0
    (Memref.isWhole_whole _) scM0_1 (Memref.isWhole_whole _) ((hcond0_0 t).mpr h0) (iblk m c 0 t) (iblk m c 1 t)
    (iblk m c 2 t) (iblk m c 3 t) (iblk m c 4 t) (iblk m c 5 t) (iblk m c 6 t)
  have hk := kept_A c (grid0.coords t) (ms0_0 t) (hs0_0 t) (ms0_1 t) (hs0_1 t) (ms0_2 t) (hs0_2 t)
    (ms0_3 t) (hs0_3 t) (ms0_4 t) (hs0_4 t) (ms0_5 t) (hs0_5 t) (ms0_6 t) (hs0_6 t) (ms0_7 t) (hs0_7 t) scM0_0
    (Memref.isWhole_whole _) scM0_1 (Memref.isWhole_whole _) ((hcond0_0 t).mpr h0) (iblk m c 0 t) (iblk m c 1 t)
    (iblk m c 2 t) (iblk m c 3 t) (iblk m c 4 t) (iblk m c 5 t) (iblk m c 6 t)
  obtain ⟨L, e, h, hC, hL, h1, h2⟩ := hb
  exact leaves_mk m c t h1 h2 hk (first m c t h0 h hC hL)

theorem leaves_B (c : Dev nD) (t : Fin cfg0.N) (h0 : ¬ t.val % 2 = 0) : Leaves m c t (outsAt0 m c t.val t.isLt) := by
  have hp := leaves_A m c (⟨t.val - 1, Nat.lt_of_le_of_lt (Nat.sub_le _ _) t.isLt⟩ : Fin cfg0.N) (by show (t.val - 1) % 2 = 0; omega)
  rw [outsAt0_B m c t h0]
  revert hp
  dsimp only
  generalize outsAt0 m c (t.val - 1) (Nat.lt_of_le_of_lt (Nat.sub_le _ _) t.isLt) = p
  intro hp
  have hb := block_B c (grid0.coords t) (ms0_0 t) (hs0_0 t) (ms0_1 t) (hs0_1 t) (ms0_2 t) (hs0_2 t)
    (ms0_3 t) (hs0_3 t) (ms0_4 t) (hs0_4 t) (ms0_5 t) (hs0_5 t) (ms0_6 t) (hs0_6 t) (ms0_7 t) (hs0_7 t) scM0_0
    (Memref.isWhole_whole _) scM0_1 (Memref.isWhole_whole _) (fun h => h0 ((hcond0_0 t).mp h)) (iblk m c 0 t) (iblk m c 1 t)
    (iblk m c 2 t) (iblk m c 3 t) (iblk m c 4 t) (iblk m c 5 t) (iblk m c 6 t) p.2.1 p.2.2
  have hk := kept_B c (grid0.coords t) (ms0_0 t) (hs0_0 t) (ms0_1 t) (hs0_1 t) (ms0_2 t) (hs0_2 t)
    (ms0_3 t) (hs0_3 t) (ms0_4 t) (hs0_4 t) (ms0_5 t) (hs0_5 t) (ms0_6 t) (hs0_6 t) (ms0_7 t) (hs0_7 t) scM0_0
    (Memref.isWhole_whole _) scM0_1 (Memref.isWhole_whole _) (fun h => h0 ((hcond0_0 t).mp h)) (iblk m c 0 t) (iblk m c 1 t)
    (iblk m c 2 t) (iblk m c 3 t) (iblk m c 4 t) (iblk m c 5 t) (iblk m c 6 t) p.2.1 p.2.2
  obtain ⟨L, e, h, hC, hL, h1, h2⟩ := hb
  exact leaves_mk m c t h1 h2 hk (second m c t _ (by omega) rfl hp h hC hL)

theorem leaves (c : Dev nD) (t : Fin cfg0.N) : Leaves m c t (outsAt0 m c t.val t.isLt) := by
  by_cases h0 : t.val % 2 = 0
  · exact leaves_A m c t h0
  · exact leaves_B m c t h0

/-- A point writes back its block of the result. -/
theorem flushed (c : Dev nD) (t : Fin cfg0.N) (hf : (cfg0.win 7).flush t = true) :
    (dats m 0 c).flushed 7 t = ((cfg0.win 7).blk t).view.read (Elt Ideal) (G m c : Buf (Elt Ideal) ((c : Thread nD τ).loc main_v4)) := by
  rw [Value.flushed7 m c t]
  funext y
  obtain ⟨r0, r, j, rfl⟩ : ∃ (r0 : Fin 1) (r : Fin 1024) (j : Fin 256), y = ix3 r0 r j := ⟨y 0, y 1, y 2, eq_ix3 y⟩
  obtain rfl : r0 = 0 := Subsingleton.elim _ _
  refine Eq.trans ((leaves m c t).1 r j) ?_
  exact (congrArg (G m c) (pos3 t r j _ (idx7 t) _ rfl rfl rfl)).symm

theorem mem_blk (t : Fin cfg0.N) (i : S4x2048x4096.Idx) :
    i ∈ ((cfg0.win 7).blk t).view.set ↔ (i 0).val = t.val / 32 ∧ (i 1).val / 1024 = t.val % 2 ∧ (i 2).val / 256 = t.val / 2 % 16 := by
  show i ∈ ((View.whole main_v4).slice (win0_7.rect t)).set ↔ _
  rw [View.set_slice_whole, Rect.mem_set_unit]
  have h := idx7 t
  have e0 : win0_7.index t 0 = t.val / 32 := congrFun h 0
  have e1 : win0_7.index t 1 = t.val % 2 := congrFun h 1
  have e2 : win0_7.index t 2 = t.val / 2 % 16 := congrFun h 2
  refine ⟨fun h => ?_, fun h a => ?_⟩
  · have a0 : win0_7.index t 0 * 1 ≤ (i 0).val ∧ (i 0).val < win0_7.index t 0 * 1 + 1 := h 0
    have a1 : win0_7.index t 1 * 1024 ≤ (i 1).val ∧ (i 1).val < win0_7.index t 1 * 1024 + 1024 := h 1
    have a2 : win0_7.index t 2 * 256 ≤ (i 2).val ∧ (i 2).val < win0_7.index t 2 * 256 + 256 := h 2
    rw [e0] at a0
    rw [e1] at a1
    rw [e2] at a2
    omega
  · match a with
    | ⟨0, _⟩ =>
      show win0_7.index t 0 * 1 ≤ (i 0).val ∧ (i 0).val < win0_7.index t 0 * 1 + 1
      rw [e0]; omega
    | ⟨1, _⟩ =>
      show win0_7.index t 1 * 1024 ≤ (i 1).val ∧ (i 1).val < win0_7.index t 1 * 1024 + 1024
      rw [e1]; omega
    | ⟨2, _⟩ =>
      show win0_7.index t 2 * 256 ≤ (i 2).val ∧ (i 2).val < win0_7.index t 2 * 256 + 256
      rw [e2]; omega

theorem cover (i : S4x2048x4096.Idx) : ∃ t : Fin cfg0.N, (cfg0.win 7).flush t = true ∧ i ∈ ((cfg0.win 7).blk t).view.set := by
  have h0 : (i 0).val < 4 := (i 0).isLt
  have h1 : (i 1).val < 2048 := (i 1).isLt
  have h2 : (i 2).val < 4096 := (i 2).isLt
  have hN : cfg0.N = 128 := N_0
  refine ⟨⟨(i 0).val * 32 + (i 2).val / 256 * 2 + (i 1).val / 1024, by omega⟩, flush0_7 _, ?_⟩
  rw [mem_blk]
  dsimp only
  omega

/-- So the result array is the layer's block. -/
theorem final (c : Dev nD) : (dats m 0 c).arrAt 7 cfg0.N = (G m c : Buf (Elt Ideal) ((c : Thread nD τ).loc main_v4)) :=
  (dats m 0 c).arrAt_eq_of_cover 7 _ (fun t hf => flushed m c t hf) cover

end Cert.KernelIdeal.Array

end
-- ==== Proof.RefHost.lean ====
/- What the reference computes before its loop, read operation by operation. -/
module

public import proofs.«01_k».proof.Proof.Spec
public import proofs.«01_k».proof.Proof.Gen.ReferenceIdeal.Run

@[expose] public section

set_option maxRecDepth 16384

noncomputable section

namespace Cert.ReferenceIdeal.Before

open Cert.ReferenceIdeal Cert.ReferenceIdeal.Gen Cert.ReferenceIdeal.Value
open Idealize.ShloMosaic Idealize.ShloMosaic.TcCoe Idealize.ShloMosaic.StableHlo

/-- A number over a shape. -/
def con (s : Shape) (h : (⟨0, ![]⟩ : Shape).BroadcastsInDim s ![]) (w : BitVec 32) : FVec Ideal s .f32 :=
  broadcastInDim s ![] h (constant S_ .f32 w)

/-- A vector of channels over the whole array. -/
def chan (v : FVec Ideal S4096 .f32) : FVec Ideal S4x2048x4096 .f32 :=
  broadcastInDim S4x2048x4096 ![0, 1, 2] bcast_S1x1x4096_S4x2048x4096_0_1_2 (broadcastInDim S1x1x4096 ![2] bcast_S4096_S1x1x4096_2 v)

/-- One tap of the convolution. -/
def tap (o : Fin 2 → ℕ) (h : S4x4096.Slices o S1x4096) (p : Fin 3 → ℕ) (hp : S4x2051x4096.Slices p S4x2048x4096)
    (xp : FVec Ideal S4x2051x4096 .f32) (w : FVec Ideal S4x4096 .f32) : FVec Ideal S4x2048x4096 .f32 :=
  mulf (extractStridedSlice S4x2048x4096 p xp hp) (chan (shapeCast S4096 (extractStridedSlice S1x4096 o w h) shapeCasts_S1x4096_S4096))

def convT (xp : FVec Ideal S4x2051x4096 .f32) (w : FVec Ideal S4x4096 .f32) (cb : FVec Ideal S4096 .f32) : FVec Ideal S4x2048x4096 .f32 :=
  addf (addf (addf (addf (addf (con S4x2048x4096 bcast_S_S4x2048x4096 0x00000000#32)
    (tap ![0, 0] slices_S4x4096_S1x4096_0_0 ![0, 0, 0] slices_S4x2051x4096_S4x2048x4096_0_0_0 xp w))
    (tap ![1, 0] slices_S4x4096_S1x4096_1_0 ![0, 1, 0] slices_S4x2051x4096_S4x2048x4096_0_1_0 xp w))
    (tap ![2, 0] slices_S4x4096_S1x4096_2_0 ![0, 2, 0] slices_S4x2051x4096_S4x2048x4096_0_2_0 xp w))
    (tap ![3, 0] slices_S4x4096_S1x4096_3_0 ![0, 3, 0] slices_S4x2051x4096_S4x2048x4096_0_3_0 xp w)) (chan cb)

/-- The gates' products with their biases. -/
def preT (xc : FVec Ideal S4x2048x4096 .f32) (g : FVec Ideal S2x16x256x256 .f32) (gb : FVec Ideal S2x16x256 .f32) :
    FVec Ideal S2x4x2048x16x256 .f32 :=
  addf (transpose S2x4x2048x16x256 [1, 3, 4, 0, 2]
      (Host.dotGeneral dot_S2x16x256x256_S4x2048x16x256_S16x2x256x4x2048_2_3_03_01_1_2 none g
        (shapeCast S4x2048x16x256 xc shapeCasts_S4x2048x4096_S4x2048x16x256) : FVec Ideal S16x2x256x4x2048 .f32)
      transposes_S16x2x256x4x2048_S2x4x2048x16x256_1_3_4_0_2)
    (broadcastInDim S2x4x2048x16x256 ![0, 1, 2, 3, 4] bcast_S2x1x1x16x256_S2x4x2048x16x256_0_1_2_3_4
      (broadcastInDim S2x1x1x16x256 ![0, 3, 4] bcast_S2x16x256_S2x1x1x16x256_0_3_4 gb))

/-- Their sigmoids, -/
def sigT (xc : FVec Ideal S4x2048x4096 .f32) (g : FVec Ideal S2x16x256x256 .f32) (gb : FVec Ideal S2x16x256 .f32) :
    FVec Ideal S2x4x2048x4096 .f32 :=
  shapeCast S2x4x2048x4096 (Host.divf (con S2x4x2048x16x256 bcast_S_S2x4x2048x16x256 0x3F800000#32)
    (addf (con S2x4x2048x16x256 bcast_S_S2x4x2048x16x256 0x3F800000#32) (Host.exp (Host.negf (preT xc g gb)))))
    shapeCasts_S2x4x2048x16x256_S2x4x2048x4096

/-- and one of the two. -/
def oneT (o : Fin 4 → ℕ) (h : S2x4x2048x4096.Slices o S1x4x2048x4096) (s : FVec Ideal S2x4x2048x4096 .f32) : FVec Ideal S4x2048x4096 .f32 :=
  shapeCast S4x2048x4096 (extractStridedSlice S1x4x2048x4096 o s h) shapeCasts_S1x4x2048x4096_S4x2048x4096

/-- The softplus of a vector of channels. -/
def softT (l : FVec Ideal S4096 .f32) : FVec Ideal S4096 .f32 :=
  select (cmpf .une (subf l (con S4096 bcast_S_S4096 0x00000000#32)) (subf l (con S4096 bcast_S_S4096 0x00000000#32)))
    (addf l (con S4096 bcast_S_S4096 0x00000000#32))
    (addf (maximumf l (con S4096 bcast_S_S4096 0x00000000#32))
      (Host.log1p (Host.exp (Host.negf (Host.absf (subf l (con S4096 bcast_S_S4096 0x00000000#32)))))))

/-- The root of the offset's scale, and the scale with its first row. -/
def rootT (la : FVec Ideal S4x2048x4096 .f32) : FVec Ideal S4x2048x4096 .f32 :=
  Host.sqrt (Host.negf (Host.expm1 (mulf (con S4x2048x4096 bcast_S_S4x2048x4096 0x40000000#32) la)))
def maskT : IVec S4x2048x4096 1 :=
  broadcastInDim S4x2048x4096 ![0, 1, 2] bcast_S1x2048x1_S4x2048x4096_0_1_2 (broadcastInDim S1x2048x1 ![1] bcast_S2048_S1x2048x1_1
    (cmpi .eq (iotaInDim S2048 32 0) (broadcastInDim S2048 ![] bcast_S_S2048 (constantI S_ 32 0#32))))
def scaleT (la : FVec Ideal S4x2048x4096 .f32) : FVec Ideal S4x2048x4096 .f32 :=
  select maskT (con S4x2048x4096 bcast_S_S4x2048x4096 0x3F800000#32) (rootT la)

variable (V : Valuation τ sig (Elt Ideal))

/-- The padding. -/
theorem s1_v0 : (after hostOps0_1 V (Proc.devRef .tc main_v0) : FVec Ideal S4x2051x4096 .f32)
    = pad S4x2051x4096 ![0, 3, 0] ![0, 0, 0] ![0, 0, 0] (V (Proc.devRef .tc main_arg0)) (sitofp .f32 (V (Proc.devRef .tc main_c)) : FVec Ideal S_ .f32)
      pads_S4x2048x4096_S4x2051x4096_000_300_000 h_S_ := by
  after_results_entrywise []
theorem s0_c : after hostOps0 V (Proc.devRef .tc main_c) = (constantI S_ 32 0#32 : IVec S_ 32) := by
  after_results_entrywise []

set_option maxHeartbeats 2000000 in
theorem s2_v32 : (after hostOps0_2 V (Proc.devRef .tc main_v32) : FVec Ideal S4x2048x4096 .f32)
    = convT (V (Proc.devRef .tc main_v0)) (V (Proc.devRef .tc main_arg2)) (V (Proc.devRef .tc main_arg3)) := by
  after_results_entrywise []
set_option maxHeartbeats 2000000 in
theorem s2_v47 : (after hostOps0_2 V (Proc.devRef .tc main_v47) : FVec Ideal S4x2048x4096 .f32)
    = oneT ![0, 0, 0, 0] slices_S2x4x2048x4096_S1x4x2048x4096_0_0_0_0
      (sigT (convT (V (Proc.devRef .tc main_v0)) (V (Proc.devRef .tc main_arg2)) (V (Proc.devRef .tc main_arg3)))
        (V (Proc.devRef .tc main_arg4)) (V (Proc.devRef .tc main_arg5))) := by
  after_results_entrywise []
set_option maxHeartbeats 2000000 in
theorem s2_v51 : (after hostOps0_2 V (Proc.devRef .tc main_v51) : FVec Ideal S4x2048x4096 .f32)
    = mulf (con S4x2048x4096 bcast_S_S4x2048x4096 0xC1000000#32) (oneT ![1, 0, 0, 0] slices_S2x4x2048x4096_S1x4x2048x4096_1_0_0_0
      (sigT (convT (V (Proc.devRef .tc main_v0)) (V (Proc.devRef .tc main_arg2)) (V (Proc.devRef .tc main_arg3)))
        (V (Proc.devRef .tc main_arg4)) (V (Proc.devRef .tc main_arg5)))) := by
  after_results_entrywise []
set_option maxHeartbeats 2000000 in
theorem s2_v52 : (after hostOps0_2 V (Proc.devRef .tc main_v52) : FVec Ideal S4096 .f32)
    = (Host.negf (V (Proc.devRef .tc main_arg6) : FVec Ideal S4096 .f32) : FVec Ideal S4096 .f32) := by
  after_results_entrywise []

theorem s3_v53 : (after hostOps0_3 V (Proc.devRef .tc main_v53) : FVec Ideal S4096 .f32) = softT (V (Proc.devRef .tc main_v52)) := by
  after_results_entrywise []
theorem s3_v51 : after hostOps0_3 V (Proc.devRef .tc main_v51) = V (Proc.devRef .tc main_v51) := by
  after_results_entrywise []
theorem s3_v47 : after hostOps0_3 V (Proc.devRef .tc main_v47) = V (Proc.devRef .tc main_v47) := by
  after_results_entrywise []
theorem s3_v32 : after hostOps0_3 V (Proc.devRef .tc main_v32) = V (Proc.devRef .tc main_v32) := by
  after_results_entrywise []

theorem s4_v57 : (after hostOps0_4 V (Proc.devRef .tc main_v57) : FVec Ideal S4x2048x4096 .f32)
    = Host.exp (mulf (V (Proc.devRef .tc main_v51)) (chan (V (Proc.devRef .tc main_v53)))) := by
  after_results_entrywise []
theorem s4_v62 : (after hostOps0_4 V (Proc.devRef .tc main_v62) : FVec Ideal S4x2048x4096 .f32)
    = rootT (mulf (V (Proc.devRef .tc main_v51)) (chan (V (Proc.devRef .tc main_v53)))) := by
  after_results_entrywise []
theorem s4_v66 : (after hostOps0_4 V (Proc.devRef .tc main_v66) : IVec S1x2048x1 1)
    = broadcastInDim S1x2048x1 ![1] bcast_S2048_S1x2048x1_1
      (cmpi .eq (iotaInDim S2048 32 0) (broadcastInDim S2048 ![] bcast_S_S2048 (constantI S_ 32 0#32))) := by
  after_results_entrywise []
theorem s4_cst : (after hostOps0_4 V (Proc.devRef .tc main_cst_5) : FVec Ideal S_ .f32) = (constant S_ .f32 0x3F800000#32 : FVec Ideal S_ .f32) := by
  after_results_entrywise []
theorem s4_v47 : after hostOps0_4 V (Proc.devRef .tc main_v47) = V (Proc.devRef .tc main_v47) := by
  after_results_entrywise []
theorem s4_v32 : after hostOps0_4 V (Proc.devRef .tc main_v32) = V (Proc.devRef .tc main_v32) := by
  after_results_entrywise []

theorem s5_v67 : (after hostOps0_5 V (Proc.devRef .tc main_v67) : FVec Ideal S4x2048x4096 .f32)
    = select (broadcastInDim S4x2048x4096 ![0, 1, 2] bcast_S1x2048x1_S4x2048x4096_0_1_2 (V (Proc.devRef .tc main_v66) : IVec S1x2048x1 1))
      (broadcastInDim S4x2048x4096 ![] bcast_S_S4x2048x4096 (V (Proc.devRef .tc main_cst_5) : FVec Ideal S_ .f32))
      (V (Proc.devRef .tc main_v62)) := by
  after_results_entrywise []
theorem s5_v57 : after hostOps0_5 V (Proc.devRef .tc main_v57) = V (Proc.devRef .tc main_v57) := by
  after_results_entrywise []
theorem s5_v47 : after hostOps0_5 V (Proc.devRef .tc main_v47) = V (Proc.devRef .tc main_v47) := by
  after_results_entrywise []
theorem s5_v32 : after hostOps0_5 V (Proc.devRef .tc main_v32) = V (Proc.devRef .tc main_v32) := by
  after_results_entrywise []

theorem s6_0 : (after hostOps0_6 V (Proc.devRef .tc main_v74_0) : FVec Ideal S2048x4x4096 .f32)
    = transpose S2048x4x4096 [1, 0, 2] (V (Proc.devRef .tc main_v57)) transposes_S4x2048x4096_S2048x4x4096_1_0_2 := by
  after_results_entrywise []
theorem s6_1 : (after hostOps0_6 V (Proc.devRef .tc main_v74_1) : FVec Ideal S2048x4x4096 .f32)
    = transpose S2048x4x4096 [1, 0, 2]
      (mulf (mulf (V (Proc.devRef .tc main_v67)) (V (Proc.devRef .tc main_v47))) (V (Proc.devRef .tc main_v32)) : FVec Ideal S4x2048x4096 .f32)
      transposes_S4x2048x4096_S2048x4x4096_1_0_2 := by
  after_results_entrywise []
theorem s6_3 : (after hostOps0_6 V (Proc.devRef .tc main_v74_3) : FVec Ideal S4x4096 .f32) = con S4x4096 bcast_S_S4x4096 0x00000000#32 := by
  after_results_entrywise []

/-- The convolution, the exponent and the two arrays of the recurrence, of the arguments. -/
def cT (x : FVec Ideal S4x2048x4096 .f32) (w : FVec Ideal S4x4096 .f32) (cb : FVec Ideal S4096 .f32) : FVec Ideal S4x2048x4096 .f32 :=
  convT (pad S4x2051x4096 ![0, 3, 0] ![0, 0, 0] ![0, 0, 0] x (sitofp .f32 (constantI S_ 32 0#32) : FVec Ideal S_ .f32)
      pads_S4x2048x4096_S4x2051x4096_000_300_000 h_S_) w cb
def lT (s : FVec Ideal S2x4x2048x4096 .f32) (l : FVec Ideal S4096 .f32) : FVec Ideal S4x2048x4096 .f32 :=
  mulf (mulf (con S4x2048x4096 bcast_S_S4x2048x4096 0xC1000000#32) (oneT ![1, 0, 0, 0] slices_S2x4x2048x4096_S1x4x2048x4096_1_0_0_0 s))
    (chan (softT (Host.negf l)))
def uT (c : FVec Ideal S4x2048x4096 .f32) (s : FVec Ideal S2x4x2048x4096 .f32) (l : FVec Ideal S4096 .f32) : FVec Ideal S4x2048x4096 .f32 :=
  mulf (mulf (scaleT (lT s l)) (oneT ![0, 0, 0, 0] slices_S2x4x2048x4096_S1x4x2048x4096_0_0_0_0 s)) c

variable (m : (ℓ : Loc nD τ sig) → Buf (Elt Ideal) ℓ) (c : Dev nD)

abbrev mX : FVec Ideal S4x2048x4096 .f32 := m ((c.tc : Thread nD τ).loc main_arg0)
abbrev mW : FVec Ideal S4x4096 .f32 := m ((c.tc : Thread nD τ).loc main_arg2)
abbrev mB : FVec Ideal S4096 .f32 := m ((c.tc : Thread nD τ).loc main_arg3)
abbrev mG : FVec Ideal S2x16x256x256 .f32 := m ((c.tc : Thread nD τ).loc main_arg4)
abbrev mH : FVec Ideal S2x16x256 .f32 := m ((c.tc : Thread nD τ).loc main_arg5)
abbrev mL : FVec Ideal S4096 .f32 := m ((c.tc : Thread nD τ).loc main_arg6)

/-- The device's buffers after the padding. -/
abbrev E1 : Valuation τ sig (Elt Ideal) := after hostOps0_1 (after hostOps0 (fun b => m (c, b)))

theorem e1_v0 : (E1 m c (Proc.devRef .tc main_v0) : FVec Ideal S4x2051x4096 .f32)
    = pad S4x2051x4096 ![0, 3, 0] ![0, 0, 0] ![0, 0, 0] (mX m c) (sitofp .f32 (constantI S_ 32 0#32) : FVec Ideal S_ .f32)
      pads_S4x2048x4096_S4x2051x4096_000_300_000 h_S_ := by
  refine (s1_v0 (after hostOps0 (fun b => m (c, b)))).trans ?_
  rw [s0_c, keep_main_arg0_hostOps0]
theorem e1_2 : E1 m c (Proc.devRef .tc main_arg2) = mW m c := (keep_main_arg2_hostOps0_1 _).trans (keep_main_arg2_hostOps0 _)
theorem e1_3 : E1 m c (Proc.devRef .tc main_arg3) = mB m c := (keep_main_arg3_hostOps0_1 _).trans (keep_main_arg3_hostOps0 _)
theorem e1_4 : E1 m c (Proc.devRef .tc main_arg4) = mG m c := (keep_main_arg4_hostOps0_1 _).trans (keep_main_arg4_hostOps0 _)
theorem e1_5 : E1 m c (Proc.devRef .tc main_arg5) = mH m c := (keep_main_arg5_hostOps0_1 _).trans (keep_main_arg5_hostOps0 _)
theorem e1_6 : E1 m c (Proc.devRef .tc main_arg6) = mL m c := (keep_main_arg6_hostOps0_1 _).trans (keep_main_arg6_hostOps0 _)

theorem entry_eq : entryContents preI m c
    = after hostOps0_6 (after hostOps0_5 (after hostOps0_4 (after hostOps0_3 (after hostOps0_2 (E1 m c))))) := rfl

/-- What the loop starts from: the factors, -/
theorem entry_0 : (entryContents preI m c (Proc.devRef .tc main_v74_0) : FVec Ideal S2048x4x4096 .f32)
    = transpose S2048x4x4096 [1, 0, 2] (Host.exp (lT (sigT (cT (mX m c) (mW m c) (mB m c)) (mG m c) (mH m c)) (mL m c)))
      transposes_S4x2048x4096_S2048x4x4096_1_0_2 := by
  rw [entry_eq, s6_0, s5_v57, s4_v57, s3_v51, s2_v51, s3_v53, s2_v52, e1_v0, e1_2, e1_3, e1_4, e1_5, e1_6]
  rfl

/-- the offsets, -/
theorem entry_1 : (entryContents preI m c (Proc.devRef .tc main_v74_1) : FVec Ideal S2048x4x4096 .f32)
    = transpose S2048x4x4096 [1, 0, 2] (uT (cT (mX m c) (mW m c) (mB m c)) (sigT (cT (mX m c) (mW m c) (mB m c)) (mG m c) (mH m c)) (mL m c))
      transposes_S4x2048x4096_S2048x4x4096_1_0_2 := by
  rw [entry_eq, s6_1, s5_v67, s5_v47, s5_v32, s4_v66, s4_cst, s4_v62, s4_v47, s4_v32, s3_v51, s2_v51, s3_v53, s2_v52, s3_v47, s2_v47,
    s3_v32, s2_v32, e1_v0, e1_2, e1_3, e1_4, e1_5, e1_6]
  rfl

/-- and no state. -/
theorem entry_3 : (entryContents preI m c (Proc.devRef .tc main_v74_3) : FVec Ideal S4x4096 .f32) = con S4x4096 bcast_S_S4x4096 0x00000000#32 := by
  rw [entry_eq, s6_3]

end Cert.ReferenceIdeal.Before

end
-- ==== Proof.RefAt.lean ====
/- The reference's arrays before its loop at an index: the convolution, the gates, the factors and the offsets are the
   layer's. -/
module

public import proofs.«01_k».proof.Proof.RefHost
public import Idealize.ShloMosaic.Lib.KernelVsHost
public import Idealize.ShloMosaic.Lib.Pointwise

@[expose] public section

set_option maxRecDepth 16384

noncomputable section

namespace Cert.ReferenceIdeal.Before

open Cert.ReferenceIdeal Cert.ReferenceIdeal.Gen Cert.ReferenceIdeal.Value
open Idealize.ShloMosaic Idealize.ShloMosaic.TcCoe Idealize.ShloMosaic.StableHlo Cert.Spec Cert.Scalar

theorem zero_bits : Ideal.ofBits .f32 0x00000000#32 = 0 := by pointwise
theorem one_bits : Ideal.ofBits .f32 0x3F800000#32 = 1 := by pointwise

theorem con_at {s : Shape} (h : (⟨0, ![]⟩ : Shape).BroadcastsInDim s ![]) (w : BitVec 32) (i : s.Idx) :
    con s h w i = Ideal.ofBits .f32 w := rfl

theorem chan_at (v : FVec Ideal S4096 .f32) (b : Fin 4) (t : Fin 2048) (h : Fin 4096) : chan v (ix3 b t h) = v (ix1 h) := by
  pointwise [chan]

/-- The padded input. -/
theorem pad_at (x : FVec Ideal S4x2048x4096 .f32) (b : Fin 4) (s : Fin 2051) (h : Fin 4096) :
    pad S4x2051x4096 ![0, 3, 0] ![0, 0, 0] ![0, 0, 0] x (sitofp .f32 (constantI S_ 32 0#32) : FVec Ideal S_ .f32)
      pads_S4x2048x4096_S4x2051x4096_000_300_000 h_S_ (ix3 b s h) = back x b h s.val := by
  unfold back
  by_cases hs : 3 ≤ s.val
  · rw [dif_pos ⟨hs, s.isLt⟩]
    refine pad_apply_of_inside _ _ _ x _ _ _ _ (ix3 b (⟨s.val - 3, by omega⟩ : Fin 2048) h) fun a => ?_
    match a with
    | ⟨0, _⟩ => show b.val = 0 + b.val * (0 + 1); omega
    | ⟨1, _⟩ => show s.val = 3 + (s.val - 3) * (0 + 1); omega
    | ⟨2, _⟩ => show h.val = 0 + h.val * (0 + 1); omega
  · rw [dif_neg (fun hc => hs hc.1)]
    refine (pad_apply_of_not_inside _ _ _ x _ _ _ _ (⟨1, by decide⟩ : Fin 3) fun hc => hs hc.1).trans ?_
    show ((((0#32 : BitVec 32).toInt : ℤ) : ℝ) : EReal) = 0
    simp

theorem tap_at (k : ℕ) (hk : k < 4) (ho : S4x4096.Slices ![k, 0] S1x4096) (hp : S4x2051x4096.Slices ![0, k, 0] S4x2048x4096)
    (xp : FVec Ideal S4x2051x4096 .f32) (w : FVec Ideal S4x4096 .f32) (b : Fin 4) (t : Fin 2048) (h : Fin 4096) :
    tap ![k, 0] ho ![0, k, 0] hp xp w (ix3 b t h)
      = xp (ix3 b (⟨k + t.val, by omega⟩ : Fin 2051) h) * w (ix2 (⟨k, hk⟩ : Fin 4) h) := by
  unfold tap
  refine congrArg₂ (· * ·) (congrArg xp (funext fun a => Fin.ext ?_)) ?_
  · match a with
    | ⟨0, _⟩ => exact Nat.zero_add _
    | ⟨1, _⟩ => rfl
    | ⟨2, _⟩ => exact Nat.zero_add _
  · rw [chan_at]
    refine (shapeCast_apply _ _ (ix1 h) (ix2 (0 : Fin 1) h) ?_).trans (congrArg w (funext fun a => Fin.ext ?_))
    · rw [Shape.rowMajor_val_two, Shape.rowMajor_val_one]
      show 0 * 4096 + h.val = h.val
      omega
    · match a with
      | ⟨0, _⟩ => exact Nat.add_zero k
      | ⟨1, _⟩ => exact Nat.zero_add _

theorem conv_at (x : FVec Ideal S4x2048x4096 .f32) (w : FVec Ideal S4x4096 .f32) (cb : FVec Ideal S4096 .f32) (b : Fin 4)
    (t : Fin 2048) (h : Fin 4096) : cT x w cb (ix3 b t h) = conv x w cb b h t.val := by
  unfold cT convT
  refine Eq.trans (congrArg₂ (· + ·) (congrArg₂ (· + ·) (congrArg₂ (· + ·) (congrArg₂ (· + ·) (congrArg₂ (· + ·)
    ((con_at _ _ _).trans zero_bits)
    (tap_at 0 (by omega) _ _ _ _ b t h)) (tap_at 1 (by omega) _ _ _ _ b t h)) (tap_at 2 (by omega) _ _ _ _ b t h))
    (tap_at 3 (by omega) _ _ _ _ b t h)) (chan_at cb b t h)) ?_
  rw [pad_at, pad_at, pad_at, pad_at, zero_add]
  unfold conv
  show (((back x b h (0 + t.val) * w (ix2 0 h) + back x b h (1 + t.val) * w (ix2 1 h)) + back x b h (2 + t.val) * w (ix2 2 h))
    + back x b h (3 + t.val) * w (ix2 3 h)) + cb (ix1 h) = _
  rw [Nat.zero_add, Nat.add_comm 1, Nat.add_comm 2, Nat.add_comm 3]

/-- The gates' products. -/
theorem dot_at (g : FVec Ideal S2x16x256x256 .f32) (y : FVec Ideal S4x2048x16x256 .f32) (n : Fin 16) (k : Fin 2) (e : Fin 256)
    (b : Fin 4) (t : Fin 2048) :
    (Host.dotGeneral dot_S2x16x256x256_S4x2048x16x256_S16x2x256x4x2048_2_3_03_01_1_2 none g y : FVec Ideal S16x2x256x4x2048 .f32)
      (ix5 n k e b t) = ∑ j : Fin 256, g (ix4 k n j e) * y (ix4 b t n j) := by
  pointwise

theorem tr_at (y : FVec Ideal S16x2x256x4x2048 .f32) (k : Fin 2) (b : Fin 4) (t : Fin 2048) (n : Fin 16) (e : Fin 256) :
    transpose S2x4x2048x16x256 [1, 3, 4, 0, 2] y transposes_S16x2x256x4x2048_S2x4x2048x16x256_1_3_4_0_2 (ix5 k b t n e)
      = y (ix5 n k e b t) := by
  pointwise

theorem biasT_at (gb : FVec Ideal S2x16x256 .f32) (k : Fin 2) (b : Fin 4) (t : Fin 2048) (n : Fin 16) (e : Fin 256) :
    broadcastInDim S2x4x2048x16x256 ![0, 1, 2, 3, 4] bcast_S2x1x1x16x256_S2x4x2048x16x256_0_1_2_3_4
      (broadcastInDim S2x1x1x16x256 ![0, 3, 4] bcast_S2x16x256_S2x1x1x16x256_0_3_4 gb) (ix5 k b t n e) = gb (ix3 k n e) := by
  pointwise

theorem group_at (xc : FVec Ideal S4x2048x4096 .f32) (b : Fin 4) (t : Fin 2048) (n : Fin 16) (j : Fin 256) :
    shapeCast S4x2048x16x256 xc shapeCasts_S4x2048x4096_S4x2048x16x256 (ix4 b t n j) = xc (ix3 b t (ch n j)) := by
  refine shapeCast_apply _ _ _ _ ?_
  rw [Shape.rowMajor_val_three, Shape.rowMajor_val_four]
  show (b.val * 2048 + t.val) * 4096 + (256 * n.val + j.val) = ((b.val * 2048 + t.val) * 16 + n.val) * 256 + j.val
  omega

theorem pre_at (xc : FVec Ideal S4x2048x4096 .f32) (g : FVec Ideal S2x16x256x256 .f32) (gb : FVec Ideal S2x16x256 .f32)
    (k : Fin 2) (b : Fin 4) (t : Fin 2048) (n : Fin 16) (e : Fin 256) :
    preT xc g gb (ix5 k b t n e) = (∑ j : Fin 256, xc (ix3 b t (ch n j)) * g (ix4 k n j e)) + gb (ix3 k n e) := by
  unfold preT
  refine congrArg₂ (· + ·) ?_ (biasT_at gb k b t n e)
  rw [tr_at, dot_at]
  refine Finset.sum_congr rfl fun j _ => ?_
  rw [group_at, mul_comm]

theorem sig_at (xc : FVec Ideal S4x2048x4096 .f32) (g : FVec Ideal S2x16x256x256 .f32) (gb : FVec Ideal S2x16x256 .f32)
    (k : Fin 2) (b : Fin 4) (t : Fin 2048) (n : Fin 16) (e : Fin 256) :
    sigT xc g gb (ix4 k b t (ch n e)) = sg (preT xc g gb (ix5 k b t n e)) := by
  unfold sigT
  refine (shapeCast_apply _ _ _ (ix5 k b t n e) ?_).trans ?_
  · rw [Shape.rowMajor_val_five, Shape.rowMajor_val_four]
    show (((k.val * 4 + b.val) * 2048 + t.val) * 16 + n.val) * 256 + e.val = ((k.val * 4 + b.val) * 2048 + t.val) * 4096 + (256 * n.val + e.val)
    omega
  · generalize preT xc g gb = P
    show Ideal.div (Ideal.ofBits .f32 0x3F800000#32) (Ideal.ofBits .f32 0x3F800000#32 + Ideal.exp (-(P (ix5 k b t n e)))) = _
    rw [one_bits]
    rfl

theorem one_at (k : Fin 2) (h : S2x4x2048x4096.Slices ![k.val, 0, 0, 0] S1x4x2048x4096) (s : FVec Ideal S2x4x2048x4096 .f32)
    (b : Fin 4) (t : Fin 2048) (c : Fin 4096) : oneT ![k.val, 0, 0, 0] h s (ix3 b t c) = s (ix4 k b t c) := by
  unfold oneT
  refine (shapeCast_apply _ _ _ (ix4 (0 : Fin 1) b t c) ?_).trans (congrArg s (funext fun a => Fin.ext ?_))
  · rw [Shape.rowMajor_val_four, Shape.rowMajor_val_three]
    show ((0 * 4 + b.val) * 2048 + t.val) * 4096 + c.val = (b.val * 2048 + t.val) * 4096 + c.val
    omega
  · match a with
    | ⟨0, _⟩ => exact Nat.add_zero _
    | ⟨1, _⟩ => exact Nat.zero_add _
    | ⟨2, _⟩ => exact Nat.zero_add _
    | ⟨3, _⟩ => exact Nat.zero_add _

theorem soft_at (l : FVec Ideal S4096 .f32) (h : Fin 4096) : softT (Host.negf l) (ix1 h) = sp (l (ix1 h)) := by
  generalize hl : l (ix1 h) = v
  pointwise [softT, con, hl]
  rw [if_neg (fun hc => hc rfl)]
  show max (-v) 0 + Ideal.log (1 + Ideal.exp (-(max (-v) (-(-v))))) = sp v
  simp only [sp, zero_sub]

theorem l_at (s : FVec Ideal S2x4x2048x4096 .f32) (l : FVec Ideal S4096 .f32) (b : Fin 4) (t : Fin 2048) (h : Fin 4096) :
    lT s l (ix3 b t h) = Ideal.ofBits .f32 0xC1000000#32 * s (ix4 (1 : Fin 2) b t h) * sp (l (ix1 h)) := by
  unfold lT
  refine congrArg₂ (· * ·) (congrArg₂ (· * ·) (con_at _ _ _) (one_at 1 _ s b t h)) ?_
  rw [chan_at, soft_at]

theorem mask_at (b : Fin 4) (t : Fin 2048) (h : Fin 4096) : maskT (ix3 b t h) = if t.val = 0 then 1#1 else 0#1 := by
  have e : maskT (ix3 b t h) = IntOp.cmpi CmpIPredicate.eq (BitVec.ofNat 32 t.val) 0#32 := by pointwise [maskT]
  have key : ∀ t : Fin 2048, IntOp.cmpi CmpIPredicate.eq (BitVec.ofNat 32 t.val) 0#32 = if t.val = 0 then 1#1 else 0#1 := by
    decide +kernel
  rw [e, key]

theorem scale_at (la : FVec Ideal S4x2048x4096 .f32) (b : Fin 4) (t : Fin 2048) (h : Fin 4096) :
    scaleT la (ix3 b t h) = if t.val = 0 then 1
      else Ideal.sqrt (-(Ideal.exp (Ideal.ofBits .f32 0x40000000#32 * la (ix3 b t h)) - 1)) := by
  show Scalar.select (maskT (ix3 b t h)) (Ideal.ofBits .f32 0x3F800000#32)
    (Ideal.sqrt (-(Ideal.exp (Ideal.ofBits .f32 0x40000000#32 * la (ix3 b t h)) - 1))) = _
  rw [mask_at, one_bits]
  by_cases h0 : t.val = 0
  · rw [if_pos h0, if_pos h0]; rfl
  · rw [if_neg h0, if_neg h0]; rfl

variable (x : FVec Ideal S4x2048x4096 .f32) (w : FVec Ideal S4x4096 .f32) (cb : FVec Ideal S4096 .f32)
  (g : FVec Ideal S2x16x256x256 .f32) (gb : FVec Ideal S2x16x256 .f32) (l : FVec Ideal S4096 .f32)

theorem gate_at (k : Fin 2) (b : Fin 4) (t : Fin 2048) (n : Fin 16) (e : Fin 256) :
    sigT (cT x w cb) g gb (ix4 k b t (ch n e)) = sg (gate x w cb g gb b n k e t.val) := by
  rw [sig_at, pre_at]
  unfold gate
  simp only [conv_at]

theorem al_at (b : Fin 4) (t : Fin 2048) (n : Fin 16) (e : Fin 256) :
    Host.exp (lT (sigT (cT x w cb) g gb) l) (ix3 b t (ch n e)) = al x w cb g gb l b n e t.val := by
  show Ideal.exp (lT (sigT (cT x w cb) g gb) l (ix3 b t (ch n e))) = _
  rw [l_at, gate_at]
  rfl

theorem up_at (b : Fin 4) (t : Fin 2048) (n : Fin 16) (e : Fin 256) :
    uT (cT x w cb) (sigT (cT x w cb) g gb) l (ix3 b t (ch n e)) = up x w cb g gb l b n e t.val := by
  unfold uT
  refine Eq.trans (congrArg₂ (· * ·) (congrArg₂ (· * ·) (scale_at _ b t (ch n e)) (one_at 0 _ _ b t (ch n e))) (conv_at x w cb b t (ch n e))) ?_
  rw [l_at, gate_at, gate_at]
  rfl

end Cert.ReferenceIdeal.Before

end
-- ==== Proof.RefLoop.lean ====
/- The reference's loop over the sequence: before trip `k` it carries the state after `k` steps and the states so far. -/
module

public import proofs.«01_k».proof.Proof.Scan
public import proofs.«01_k».proof.Proof.Gen.ReferenceIdeal.Run
public import Idealize.ShloMosaic.Lib.Pointwise

@[expose] public section

set_option maxRecDepth 16384

noncomputable section

namespace Cert.ReferenceIdeal.Loop

open Cert.ReferenceIdeal Cert.ReferenceIdeal.Gen Cert.ReferenceIdeal.Value
open Idealize.ShloMosaic Idealize.ShloMosaic.TcCoe Idealize.ShloMosaic.StableHlo Cert.Scan

/-- A trip's number as the program carries it, read back. -/
theorem toInt_ofNat (k : ℕ) (hk : k < 2048) : (BitVec.ofNat 32 k).toInt = (k : Int) := by
  rw [BitVec.toInt_eq_toNat_of_lt (by rw [BitVec.toNat_ofNat]; omega), BitVec.toNat_ofNat]
  omega

/-- The trip's slab of an array of slabs. -/
theorem slab_at (X : FVec Ideal S2048x4x4096 .f32) (s : Fin 3 → Int) (k : Fin 2048) (h0 : s 0 = (k.val : Int)) (h1 : s 1 = 0)
    (h2 : s 2 = 0) (b : Fin 4) (h : Fin 4096) :
    shapeCast S4x4096 (Host.dynamicSlice S1x4x4096 X s sliceFits_S2048x4x4096_S1x4x4096) shapeCasts_S1x4x4096_S4x4096 (ix2 b h)
      = X (ix3 k b h) := by
  refine (shapeCast_apply _ _ (ix2 b h) (ix3 (0 : Fin 1) b h) ?_).trans ?_
  · rw [Shape.rowMajor_val_three, Shape.rowMajor_val_two]
    show (0 * 4 + b.val) * 4096 + h.val = b.val * 4096 + h.val
    omega
  · refine congrArg X (funext fun a => Fin.ext ?_)
    match a with
    | ⟨0, _⟩ =>
      show (min (max (s 0) 0) ((2048 - 1 : ℕ) : Int)).toNat + 0 = k.val
      rw [h0]; omega
    | ⟨1, _⟩ =>
      show (min (max (s 1) 0) ((4 - 4 : ℕ) : Int)).toNat + b.val = b.val
      rw [h1]; omega
    | ⟨2, _⟩ =>
      show (min (max (s 2) 0) ((4096 - 4096 : ℕ) : Int)).toNat + h.val = h.val
      rw [h2]; omega

/-- Storing a slab: the trip's rows are the new ones, the others stay. -/
theorem put_at (X : FVec Ideal S2048x4x4096 .f32) (Y : FVec Ideal S4x4096 .f32) (s : Fin 3 → Int) (k : Fin 2048)
    (h0 : s 0 = (k.val : Int)) (h1 : s 1 = 0) (h2 : s 2 = 0) (t : Fin 2048) (b : Fin 4) (h : Fin 4096) :
    Host.dynamicUpdateSlice X (broadcastInDim S1x4x4096 ![1, 2] bcast_S4x4096_S1x4x4096_1_2 Y) s
      updateFits_S2048x4x4096_S1x4x4096 (ix3 t b h) = if t = k then Y (ix2 b h) else X (ix3 t b h) := by
  have e0 : (min (max (s 0) 0) ((2048 - 1 : ℕ) : Int)).toNat = k.val := by rw [h0]; omega
  have e1 : (min (max (s 1) 0) ((4 - 4 : ℕ) : Int)).toNat = 0 := by rw [h1]; omega
  have e2 : (min (max (s 2) 0) ((4096 - 4096 : ℕ) : Int)).toNat = 0 := by rw [h2]; omega
  unfold Host.dynamicUpdateSlice updateSlice
  by_cases ht : t = k
  · rw [if_pos ht, dif_pos]
    · refine congrArg Y (funext fun a => Fin.ext ?_)
      match a with
      | ⟨0, _⟩ =>
        show b.val - (min (max (s 1) 0) ((4 - 4 : ℕ) : Int)).toNat = b.val
        rw [e1]; rfl
      | ⟨1, _⟩ =>
        show h.val - (min (max (s 2) 0) ((4096 - 4096 : ℕ) : Int)).toNat = h.val
        rw [e2]; rfl
    · intro a
      match a with
      | ⟨0, _⟩ =>
        show (min (max (s 0) 0) ((2048 - 1 : ℕ) : Int)).toNat ≤ t.val ∧ t.val < (min (max (s 0) 0) ((2048 - 1 : ℕ) : Int)).toNat + 1
        rw [e0, ht]; omega
      | ⟨1, _⟩ =>
        show (min (max (s 1) 0) ((4 - 4 : ℕ) : Int)).toNat ≤ b.val ∧ b.val < (min (max (s 1) 0) ((4 - 4 : ℕ) : Int)).toNat + 4
        rw [e1]; omega
      | ⟨2, _⟩ =>
        show (min (max (s 2) 0) ((4096 - 4096 : ℕ) : Int)).toNat ≤ h.val ∧ h.val < (min (max (s 2) 0) ((4096 - 4096 : ℕ) : Int)).toNat + 4096
        rw [e2]; omega
  · rw [if_neg ht, dif_neg]
    intro hc
    have := hc 0
    change (min (max (s 0) 0) ((2048 - 1 : ℕ) : Int)).toNat ≤ t.val ∧ t.val < (min (max (s 0) 0) ((2048 - 1 : ℕ) : Int)).toNat + 1 at this
    rw [e0] at this
    exact ht (Fin.ext (by omega))

/-- What the loop carries before trip `k`, of the factors `A` and offsets `U` it reads. -/
structure At (A U : FVec Ideal S2048x4x4096 .f32) (α υ : Fin 4 → Fin 4096 → ℕ → EReal) (k : ℕ) (V : Valuation τ sig (Elt Ideal)) : Prop where
  hA : V (Proc.devRef .tc main_v74_0) = A
  hU : V (Proc.devRef .tc main_v74_1) = U
  hk : V (Proc.devRef .tc main_v74_2) = fun _ => BitVec.ofNat 32 k
  hh : ∀ (b : Fin 4) (h : Fin 4096), (V (Proc.devRef .tc main_v74_3) : FVec Ideal S4x4096 .f32) (ix2 b h) = steps (α b h) (υ b h) 0 k 0
  hy : ∀ (t : Fin 2048) (b : Fin 4) (h : Fin 4096), t.val < k →
    (V (Proc.devRef .tc main_v74_4) : FVec Ideal S2048x4x4096 .f32) (ix3 t b h) = steps (α b h) (υ b h) 0 (t.val + 1) 0

variable {A U : FVec Ideal S2048x4x4096 .f32} {α υ : Fin 4 → Fin 4096 → ℕ → EReal}

theorem v83_at (hA : ∀ (t : Fin 2048) b h, A (ix3 t b h) = α b h t.val) (hU : ∀ (t : Fin 2048) b h, U (ix3 t b h) = υ b h t.val)
    {k : ℕ} (hk : k < 2048) {V : Valuation τ sig (Elt Ideal)} (hV : At A U α υ k V) (b : Fin 4) (h : Fin 4096) :
    (res_main_while0b_v83 V : FVec Ideal S4x4096 .f32) (ix2 b h) = steps (α b h) (υ b h) 0 (k + 1) 0 := by
  unfold res_main_while0b_v83
  rw [hV.hA, hV.hU, hV.hk]
  refine Eq.trans (congrArg₂ (· + ·) (congrArg₂ (· * ·)
    (slab_at A _ ⟨k, hk⟩ (toInt_ofNat k hk) rfl rfl b h) (hV.hh b h)) (slab_at U _ ⟨k, hk⟩ (toInt_ofNat k hk) rfl rfl b h)) ?_
  rw [hA, hU, steps_succ, Nat.zero_add]

theorem step_at (hA : ∀ (t : Fin 2048) b h, A (ix3 t b h) = α b h t.val) (hU : ∀ (t : Fin 2048) b h, U (ix3 t b h) = υ b h t.val)
    {k : ℕ} (hk : k < 2048) {V : Valuation τ sig (Elt Ideal)} (hV : At A U α υ k V) : At A U α υ (k + 1) (STEP V) := by
  refine ⟨(STEP_main_v74_0 V).trans hV.hA, (STEP_main_v74_1 V).trans hV.hU, ?_, fun b h => ?_, fun t b h ht => ?_⟩
  · rw [STEP_main_v74_2]
    unfold step_main_v74_2
    rw [hV.hk]
    funext i
    show BitVec.ofNat 32 k + 1#32 = BitVec.ofNat 32 (k + 1)
    rw [BitVec.ofNat_add]
  · rw [STEP_main_v74_3]
    exact v83_at hA hU hk hV b h
  · rw [STEP_main_v74_4]
    unfold step_main_v74_4
    rw [hV.hk]
    refine (put_at (V (Proc.devRef .tc main_v74_4)) (res_main_while0b_v83 V) _ ⟨k, hk⟩ (toInt_ofNat k hk) rfl rfl t b h).trans ?_
    by_cases e : t = ⟨k, hk⟩
    · rw [if_pos e, v83_at hA hU hk hV b h, e]
    · rw [if_neg e]
      refine hV.hy t b h ?_
      have : t.val ≠ k := fun hc => e (Fin.ext hc)
      omega

theorem iter_at (hA : ∀ (t : Fin 2048) b h, A (ix3 t b h) = α b h t.val) (hU : ∀ (t : Fin 2048) b h, U (ix3 t b h) = υ b h t.val)
    {V : Valuation τ sig (Elt Ideal)} (hV : At A U α υ 0 V) : ∀ k, k ≤ 2048 → At A U α υ k (STEP^[k] V)
  | 0, _ => hV
  | k + 1, hk => by
    rw [Function.iterate_succ_apply']
    exact step_at hA hU hk (iter_at hA hU hV k (Nat.le_of_lt hk))

end Cert.ReferenceIdeal.Loop

end
-- ==== Proof.RefOut.lean ====
/- The reference's result is the layer's: its loop over the arrays read before it, and the gating after it. -/
module

public import proofs.«01_k».proof.Proof.RefAt
public import proofs.«01_k».proof.Proof.RefLoop

@[expose] public section

set_option maxRecDepth 16384

noncomputable section

namespace Cert.ReferenceIdeal.Before

open Cert.ReferenceIdeal Cert.ReferenceIdeal.Gen Cert.ReferenceIdeal.Value Cert.ReferenceIdeal.Loop
open Idealize.ShloMosaic Idealize.ShloMosaic.TcCoe Idealize.ShloMosaic.StableHlo Cert.Spec Cert.Scalar Cert.Scan

/-- A channel's group, -/
abbrev grp (h : Fin 4096) : Fin 16 := ⟨h.val / 256, by omega⟩
/-- its place in the group, -/
abbrev plc (h : Fin 4096) : Fin 256 := ⟨h.val % 256, by omega⟩

/-- and the channel from the two. -/
theorem ch_eq (h : Fin 4096) : ch (grp h) (plc h) = h := Fin.ext (Nat.div_add_mod h.val 256)

variable (m : (ℓ : Loc nD τ sig) → Buf (Elt Ideal) ℓ) (c : Fin nD)

/-- The factor and the offset of a channel at a position. -/
abbrev fac (b : Fin 4) (h : Fin 4096) (t : ℕ) : EReal := al (mX m c) (mW m c) (mB m c) (mG m c) (mH m c) (mL m c) b (grp h) (plc h) t
abbrev ofs (b : Fin 4) (h : Fin 4096) (t : ℕ) : EReal := up (mX m c) (mW m c) (mB m c) (mG m c) (mH m c) (mL m c) b (grp h) (plc h) t

theorem turn_at (y : FVec Ideal S4x2048x4096 .f32) (t : Fin 2048) (b : Fin 4) (h : Fin 4096) :
    transpose S2048x4x4096 [1, 0, 2] y transposes_S4x2048x4096_S2048x4x4096_1_0_2 (ix3 t b h) = y (ix3 b t h) := by
  pointwise

theorem start0 (t : Fin 2048) (b : Fin 4) (h : Fin 4096) :
    (entryContents preI m c (Proc.devRef .tc main_v74_0) : FVec Ideal S2048x4x4096 .f32) (ix3 t b h) = fac m c b h t.val := by
  rw [entry_0, turn_at]
  have := al_at (mX m c) (mW m c) (mB m c) (mG m c) (mH m c) (mL m c) b t (grp h) (plc h)
  rw [ch_eq] at this
  exact this

theorem start1 (t : Fin 2048) (b : Fin 4) (h : Fin 4096) :
    (entryContents preI m c (Proc.devRef .tc main_v74_1) : FVec Ideal S2048x4x4096 .f32) (ix3 t b h) = ofs m c b h t.val := by
  rw [entry_1, turn_at]
  have := up_at (mX m c) (mW m c) (mB m c) (mG m c) (mH m c) (mL m c) b t (grp h) (plc h)
  rw [ch_eq] at this
  exact this

/-- The loop starts with no state. -/
theorem start : At (entryContents preI m c (Proc.devRef .tc main_v74_0)) (entryContents preI m c (Proc.devRef .tc main_v74_1))
    (fac m c) (ofs m c) 0 (entryContents preI m c) where
  hA := rfl
  hU := rfl
  hk := ctr_entry m c
  hh b h := by
    refine (congrFun (entry_3 m c) (ix2 b h)).trans ?_
    exact (con_at _ _ _).trans zero_bits
  hy t b h ht := absurd ht (Nat.not_lt_zero _)

/-- After the loop the states are the layer's. -/
theorem states (t : Fin 2048) (b : Fin 4) (h : Fin 4096) :
    ((STEP)^[2048] (entryContents preI m c) (Proc.devRef .tc main_v74_4) : FVec Ideal S2048x4x4096 .f32) (ix3 t b h)
      = steps (fac m c b h) (ofs m c b h) 0 (t.val + 1) 0 :=
  (iter_at (start0 m c) (start1 m c) (start m c) 2048 le_rfl).hy t b h t.isLt

theorem back_turn_at (y : FVec Ideal S2048x4x4096 .f32) (b : Fin 4) (t : Fin 2048) (h : Fin 4096) :
    transpose S4x2048x4096 [1, 0, 2] y transposes_S2048x4x4096_S4x2048x4096_1_0_2 (ix3 b t h) = y (ix3 t b h) := by
  pointwise

/-- The gating after the loop, over any final contents. -/
theorem gated (V : Valuation τ sig (Elt Ideal)) (y : FVec Ideal S2048x4x4096 .f32) (z : FVec Ideal S4x2048x4096 .bf16)
    (hy : V (Proc.devRef .tc main_v74_4) = y) (hz : V (Proc.devRef .tc main_arg1) = z) (b : Fin 4) (t : Fin 2048) (h : Fin 4096) :
    (out_main_v79 V : FVec Ideal S4x2048x4096 .bf16) (ix3 b t h) = y (ix3 t b h) * (z (ix3 b t h) * sg (z (ix3 b t h))) := by
  unfold out_main_v79
  rw [hy, hz]
  refine congrArg₂ (· * ·) (back_turn_at y b t h) ?_
  show z (ix3 b t h) * Ideal.div (Ideal.ofBits .f32 0x3F800000#32) (Ideal.ofBits .f32 0x3F800000#32 + Ideal.exp (-(z (ix3 b t h)))) = _
  rw [one_bits]
  rfl

/-- The result. -/
theorem result (z : FVec Ideal S4x2048x4096 .bf16)
    (hz : ((STEP)^[2048] (entryContents preI m c) (Proc.devRef .tc main_arg1) : FVec Ideal S4x2048x4096 .bf16) = z) :
    out_main_v79 ((STEP)^[2048] (entryContents preI m c))
      = (out (mX m c) z (mW m c) (mB m c) (mG m c) (mH m c) (mL m c) : FVec Ideal S4x2048x4096 .bf16) := by
  have key : ∀ b t h, ((STEP)^[2048] (entryContents preI m c) (Proc.devRef .tc main_v74_4) : FVec Ideal S2048x4x4096 .f32) (ix3 t b h)
      = steps (fac m c b h) (ofs m c b h) 0 (t.val + 1) 0 := fun b t h => states m c t b h
  generalize (STEP)^[2048] (entryContents preI m c) = V at hz key ⊢
  funext i
  obtain ⟨b, t, h, rfl⟩ : ∃ b t h, i = ix3 b t h := ⟨i 0, i 1, i 2, eq_ix3 i⟩
  rw [gated V _ z rfl hz b t h, key b t h]
  rfl

end Cert.ReferenceIdeal.Before

end
-- ==== Proof.Proj.lean ====
/- A projection in blocks: the grid runs over the columns' tiles and, inside a tile, over the rows' tiles. The first point
   of a column tile copies the tile's weights into a buffer the points after it keep, and every point multiplies its rows
   with that buffer. Whatever the program, the blocks put together are the product of the rows and the weights' columns. -/
module

public import Idealize.ShloMosaic.Lib.Pipeline.Value
public import Idealize.ShloMosaic.Lib.Pointwise

@[expose] public section

set_option maxRecDepth 16384

noncomputable section

namespace Cert.Proj

open Idealize.ShloMosaic Idealize.SL.Sem

theorem z2 : (![0, 0] : Fin 2 → ℕ) = fun _ => 0 := funext fun a => by fin_cases a <;> rfl
theorem z3 : (![0, 0, 0] : Fin 3 → ℕ) = fun _ => 0 := funext fun a => by fin_cases a <;> rfl

/-- The layer's 8192 rows, each of 4096 entries. -/
abbrev Rows := (⟨2, ![8192, 4096]⟩ : Shape).Idx → EReal

/-- The product of the rows with the columns `W`. -/
def result {N : ℕ} (h : Rows) (W : Fin 4096 → Fin N → EReal) : (⟨2, ![8192, N]⟩ : Shape).Idx → EReal :=
  fun i => ∑ k : Fin 4096, h (ix2 (i 0 : Fin 8192) k) * W k (i 1 : Fin N)

section Points

variable {N₀ N C : ℕ} {S V : Type} (h : Rows) (W : Fin 4096 → Fin N → EReal)
  (outs : (n : ℕ) → n < N₀ → ((⟨2, ![1024, C]⟩ : Shape).Idx → EReal) × S)
  (x : Fin N₀ → (⟨2, ![1024, 4096]⟩ : Shape).Idx → EReal) (v : Fin N₀ → V) (keep : V → S)
  (mul : ((⟨2, ![1024, 4096]⟩ : Shape).Idx → EReal) → S → (⟨2, ![1024, C]⟩ : Shape).Idx → EReal) (rd : S → Fin 4096 → Fin C → EReal)
  (hA : ∀ t : Fin N₀, t.val % 8 = 0 → outs t.val t.isLt = (mul (x t) (keep (v t)), keep (v t)))
  (hB : ∀ t : Fin N₀, ¬ t.val % 8 = 0 → outs t.val t.isLt
    = (mul (x t) (outs (t.val - 1) (Nat.lt_of_le_of_lt (Nat.sub_le _ _) t.isLt)).2, (outs (t.val - 1) (Nat.lt_of_le_of_lt (Nat.sub_le _ _) t.isLt)).2))
  (hw : ∀ (t : Fin N₀) (k : Fin 4096) (e : Fin C) (j : Fin N), j.val = C * (t.val / 8) + e.val → rd (keep (v t)) k e = W k j)
  (hx : ∀ (t : Fin N₀) (r : Fin 1024) (k : Fin 4096) (i : Fin 8192), i.val = 1024 * (t.val % 8) + r.val → x t (ix2 r k) = h (ix2 i k))
  (hm : ∀ (a : (⟨2, ![1024, 4096]⟩ : Shape).Idx → EReal) (s : S) (r : Fin 1024) (e : Fin C),
    mul a s (ix2 r e) = ∑ k : Fin 4096, a (ix2 r k) * rd s k e)

include hA hB hw in
/-- The kept buffer holds the column tile's weights at every point of the tile, -/
theorem kept (n : ℕ) (hn : n < N₀) (k : Fin 4096) (e : Fin C) (j : Fin N) (hj : j.val = C * (n / 8) + e.val) :
    rd (outs n hn).2 k e = W k j := by
  induction n with
  | zero => rw [hA ⟨0, hn⟩ rfl]; exact hw ⟨0, hn⟩ k e j hj
  | succ n ih =>
    by_cases h0 : (n + 1) % 8 = 0
    · rw [hA ⟨n + 1, hn⟩ h0]; exact hw ⟨n + 1, hn⟩ k e j hj
    · rw [hB ⟨n + 1, hn⟩ h0]
      refine ih (Nat.lt_of_succ_lt hn) ?_
      rw [hj, show (n + 1) / 8 = n / 8 by omega]

include hA hB in
/-- a point's block is its rows times that buffer, -/
theorem block_eq (t : Fin N₀) : (outs t.val t.isLt).1 = mul (x t) (outs t.val t.isLt).2 := by
  by_cases h0 : t.val % 8 = 0
  · rw [hA t h0]
  · rw [hB t h0]

include hA hB hw hx hm in
/-- so each entry of a point's block is that of the product at its row and its column. -/
theorem block (i : (⟨2, ![8192, N]⟩ : Shape).Idx) (n : ℕ) (hn : n < N₀) (r : Fin 1024) (e : Fin C)
    (hr : (i 0).val = 1024 * (n % 8) + r.val) (he : (i 1).val = C * (n / 8) + e.val) :
    (outs n hn).1 (ix2 r e) = result h W i := by
  rw [block_eq outs x v keep mul hA hB ⟨n, hn⟩, hm]
  exact Finset.sum_congr rfl fun k _ => congrArg₂ (fun a b : EReal => a * b) (hx ⟨n, hn⟩ r k (i 0) hr)
    (kept W outs x v keep mul rd hA hB hw n hn k e (i 1) he)

end Points

/-- The point that writes an entry of the result, and the entry's place in the point's block. -/
theorem place {A B C : ℕ} (hA : A < 8192) : A = 1024 * ((1 * (A / 1024 - 0) + 8 * (B / C - 0)) % 8) + A % 1024
    ∧ B = C * ((1 * (A / 1024 - 0) + 8 * (B / C - 0)) / 8) + B % C := by
  have hd := (Nat.div_add_mod B C).symm
  revert hd
  generalize B / C = q
  intro hd
  have h0 : (1 * (A / 1024 - 0) + 8 * (q - 0)) % 8 = A / 1024 := by omega
  have h1 : (1 * (A / 1024 - 0) + 8 * (q - 0)) / 8 = q := by omega
  rw [h0, h1]
  exact ⟨(Nat.div_add_mod _ _).symm, hd⟩

/-- Where a block of rows lies in the rows, -/
theorem pos_rows (t : ℕ) (r : Fin 1024) (k : Fin 4096) (f : Fin 2 → ℕ) (hf : f = ![t % 8, 0]) (j : Fin 8192)
    (hj : j.val = 1024 * (t % 8) + r.val) (i : (⟨2, ![8192, 4096]⟩ : Shape).Idx) (h0 : (i 0).val = f 0 * 1024 + 1 * r.val)
    (h1 : (i 1).val = f 1 * 4096 + 1 * k.val) : i = ix2 j k := by
  subst hf
  refine funext fun a => Fin.ext ?_
  match a with
  | ⟨0, _⟩ => exact h0.trans (show t % 8 * 1024 + 1 * r.val = j.val by omega)
  | ⟨1, _⟩ => exact h1.trans (show 0 * 4096 + 1 * k.val = k.val by omega)

/-- and a tile of columns in the weights, laid out by rows -/
theorem pos_cols {L N C : ℕ} (k : Fin 4096) (e : Fin C) (b : ℕ) (f : Fin 3 → ℕ) (hf : f = ![0, 0, b]) (l : Fin L) (hl : l.val = 0)
    (j : Fin N) (hj : j.val = C * b + e.val) (i : (⟨3, ![L, 4096, N]⟩ : Shape).Idx) (h0 : (i 0).val = f 0 * 1 + 1 * 0)
    (h1 : (i 1).val = f 1 * 4096 + 1 * k.val) (h2 : (i 2).val = f 2 * C + 1 * e.val) : i = ix3 l k j := by
  subst hf
  refine funext fun a => Fin.ext ?_
  match a with
  | ⟨0, _⟩ => exact h0.trans (show 0 * 1 + 1 * 0 = l.val by omega)
  | ⟨1, _⟩ => exact h1.trans (show 0 * 4096 + 1 * k.val = k.val by omega)
  | ⟨2, _⟩ => exact h2.trans (show b * C + 1 * e.val = j.val by rw [hj, Nat.mul_comm, Nat.one_mul])

/-- or by columns. -/
theorem pos_cols_t {L N C : ℕ} (k : Fin 4096) (e : Fin C) (b : ℕ) (f : Fin 3 → ℕ) (hf : f = ![0, b, 0]) (l : Fin L) (hl : l.val = 0)
    (j : Fin N) (hj : j.val = C * b + e.val) (i : (⟨3, ![L, N, 4096]⟩ : Shape).Idx) (h0 : (i 0).val = f 0 * 1 + 1 * 0)
    (h1 : (i 1).val = f 1 * C + 1 * e.val) (h2 : (i 2).val = f 2 * 4096 + 1 * k.val) : i = ix3 l j k := by
  subst hf
  refine funext fun a => Fin.ext ?_
  match a with
  | ⟨0, _⟩ => exact h0.trans (show 0 * 1 + 1 * 0 = l.val by omega)
  | ⟨1, _⟩ => exact h1.trans (show b * C + 1 * e.val = j.val by rw [hj, Nat.mul_comm, Nat.one_mul])
  | ⟨2, _⟩ => exact h2.trans (show 0 * 4096 + 1 * k.val = k.val by omega)

/-- A matrix given a unit axis in front, and a matrix rid of one, at an index. -/
theorem front_at {α : Type} {A B : ℕ} (X : (⟨2, ![A, B]⟩ : Shape).Idx → α) (h : (⟨2, ![A, B]⟩ : Shape).ShapeCasts ⟨3, ![1, A, B]⟩)
    (k : Fin A) (j : Fin B) : shapeCast ⟨3, ![1, A, B]⟩ X h (ix3 (0 : Fin 1) k j) = X (ix2 k j) := by
  refine shapeCast_apply _ _ _ _ ?_
  rw [Shape.rowMajor_val_two, Shape.rowMajor_val_three]
  show k.val * B + j.val = (0 * A + k.val) * B + j.val
  rw [Nat.zero_mul, Nat.zero_add]
theorem back_at {α : Type} {A B : ℕ} (X : (⟨3, ![1, A, B]⟩ : Shape).Idx → α) (h : (⟨3, ![1, A, B]⟩ : Shape).ShapeCasts ⟨2, ![A, B]⟩)
    (k : Fin A) (j : Fin B) : shapeCast ⟨2, ![A, B]⟩ X h (ix2 k j) = X (ix3 (0 : Fin 1) k j) := by
  refine shapeCast_apply _ _ _ _ ?_
  rw [Shape.rowMajor_val_two, Shape.rowMajor_val_three]
  show (0 * A + k.val) * B + j.val = k.val * B + j.val
  rw [Nat.zero_mul, Nat.zero_add]

end Cert.Proj

end
-- ==== Proof.ProjHgQf.lean ====
/- The HGRN2 layer's query and forget-gate projection. -/
module

public import proofs.«01_k».proof.Proof.Proj
public import proofs.«01_k».proof.Proof.Gen.HgQfIdeal.Value
public import proofs.«01_k».proof.Proof.Gen.HgQfRefIdeal.Read
public import proofs.«01_k».proof.Defs

@[expose] public section

set_option maxRecDepth 16384

noncomputable section

namespace Cert.HgQfIdeal.Proj

open Cert.HgQfIdeal Cert.HgQfIdeal.Gen Idealize.ShloMosaic Idealize.ShloMosaic.TcCoe Idealize.SL.Sem
open Cert.Proj

/-- The kept weights by columns; the tile of weights as the buffer keeps it, and a block of the product, at an index. -/
def rd (s : Vec Ideal S4096x512 .bf16) (k : Fin 4096) (e : Fin 512) : EReal := s (ix2 k e)
theorem pay1_at (v : Vec Ideal S1x4096x512 .f32) (k : Fin 4096) (e : Fin 512) : k0_pay1 v (ix2 k e) = v (ix3 (0 : Fin 1) k e) := by
  unfold k0_pay1
  rw [shapeCast_self]
  exact back_at v _ k e
def mul (v : S1024x4096.Idx → EReal) (w : Vec Ideal S4096x512 .bf16) : S1024x512.Idx → EReal := k0_pay2 (F := Ideal) v w
theorem mul_at (v : S1024x4096.Idx → EReal) (w : Vec Ideal S4096x512 .bf16) (r : Fin 1024) (e : Fin 512) :
    mul v w (ix2 r e) = ∑ k : Fin 4096, v (ix2 r k) * rd w k e := by
  pointwise [mul, k0_pay2, rd]

section Body

variable (c : Dev nD) (i : grid0.Coords) (arg2 : Memref sig .tc .vmem S1024x4096 .bf16) (harg2 : arg2.IsWhole)
  (arg3 : Memref sig .tc .vmem S1x4096x512 .f32) (harg3 : arg3.IsWhole) (arg4 : Memref sig .tc .vmem S1024x512 .f32) (harg4 : arg4.IsWhole)
  (arg5 : Memref sig .tc .vmem S4096x512 .bf16) (harg5 : arg5.IsWhole) (x0 : Vec Ideal S1024x4096 .bf16) (x1 : Vec Ideal S1x4096x512 .f32)

/-- What the body leaves: at a tile's first point, -/
theorem kept_A (hc0 : cond0_0 i) :
    sout0_A_0 c i arg2 harg2 arg3 harg3 arg4 harg4 arg5 harg5 hc0 x0 x1 = k0_pay1 x1 := by
  unfold sout0_A_0
  rw [View.read_writes_eq_canon _ _ _ (scover0_A_0 c i arg2 harg2 arg3 harg3 arg4 harg4 arg5 harg5 hc0 x0 x1)]
  unfold kernelRun0_A
  dsimp only
  refine (View.canon_unit_zero z2 _ _).trans ?_
  rw [View.readAt_eq_ld, harg3.read_unread]
  exact congrArg k0_pay1 (View.ld_unit_zero z3 _ _)
theorem out_A (hc0 : cond0_0 i) :
    out0_A_2 c i arg2 harg2 arg3 harg3 arg4 harg4 arg5 harg5 hc0 x0 x1 = k0_pay2 x0 (k0_pay1 x1) := by
  unfold out0_A_2
  rw [View.read_writes_eq_canon _ _ _ (cover0_A_2 c i arg2 harg2 arg3 harg3 arg4 harg4 arg5 harg5 hc0 x0 x1)]
  unfold kernelRun0_A
  dsimp only
  refine (View.canon_unit_zero z2 _ _).trans ?_
  refine congrArg₂ k0_pay2 ?_ ?_
  · rw [View.readAt_eq_ld, harg2.read_unread]
    exact View.ld_unit_zero z2 _ _
  · refine (View.readCov_unit_zero _ z2 _ _).trans ?_
    rw [View.readAt_eq_ld, harg3.read_unread]
    exact congrArg k0_pay1 (View.ld_unit_zero z3 _ _)
/-- and at the others. -/
theorem out_B (hc0 : ¬ cond0_0 i) (s : Vec Ideal S4096x512 .bf16) :
    out0_B_2 c i arg2 harg2 arg3 harg3 arg4 harg4 arg5 harg5 hc0 x0 x1 s = k0_pay2 x0 s := by
  unfold out0_B_2
  rw [View.read_writes_eq_canon _ _ _ (cover0_B_2 c i arg2 harg2 arg3 harg3 arg4 harg4 arg5 harg5 hc0 x0 x1 s)]
  unfold kernelRun0_B
  dsimp only
  refine (View.canon_unit_zero z2 _ _).trans ?_
  rw [View.readAt_eq_ld, View.readAt_eq_ld, harg2.read_unread, harg5.read_unread]
  exact congrArg₂ k0_pay2 (View.ld_unit_zero z2 _ _) (View.ld_unit_zero z2 _ _)

end Body

variable (m : (ℓ : Loc nD τ sig) → Buf (Elt Ideal) ℓ)

/-- The rows, and the columns of the weights that the projection takes. -/
abbrev aH (c : Dev nD) : Rows := m ((c : Thread nD τ).loc main_arg0)
abbrev aW (c : Dev nD) : Fin 4096 → Fin 8192 → EReal := fun k j =>
  (m ((c : Thread nD τ).loc main_arg1) : S4096x16384.Idx → EReal) (ix2 k (⟨j.val, by omega⟩ : Fin 16384))

theorem idx0 : ∀ t : Fin cfg0.N, win0_0.index t = ![t.val % 8, 0] :=
  (by decide +kernel : ∀ t : Fin grid0.N, win0_0.index t = ![t.val % 8, 0])
theorem idx1 : ∀ t : Fin cfg0.N, win0_1.index t = ![0, 0, t.val / 8] :=
  (by decide +kernel : ∀ t : Fin grid0.N, win0_1.index t = ![0, 0, t.val / 8])

theorem iblk0 (c : Dev nD) (t : Fin cfg0.N) (r : Fin 1024) (k : Fin 4096) (i : Fin 8192) (hi : i.val = 1024 * (t.val % 8) + r.val) :
    (iblk m c 0 t : Vec Ideal S1024x4096 .bf16) (ix2 r k) = aH m c (ix2 i k) := by
  unfold iblk
  rw [show V m c (Pipeline.arrRef spec0 0) = m ((c : Thread nD τ).loc main_arg0) from V_main_arg0 m c]
  exact congrArg (aH m c) (pos_rows t.val r k _ (idx0 t) i hi _ rfl rfl)

theorem iblk1 (c : Dev nD) (t : Fin cfg0.N) (k : Fin 4096) (e : Fin 512) (j : Fin 8192) (hj : j.val = 512 * (t.val / 8) + e.val) :
    (iblk m c 1 t : Vec Ideal S1x4096x512 .f32) (ix3 (0 : Fin 1) k e) = aW m c k j := by
  unfold iblk
  refine (congrArg (V m c main_v0 : FVec Ideal S1x4096x16384 .f32) (pos_cols k e _ _ (idx1 t) (0 : Fin 1) rfl
    (⟨j.val, by omega⟩ : Fin 16384) hj _ rfl rfl rfl)).trans ?_
  exact front_at (m ((c : Thread nD τ).loc main_arg1) : FVec Ideal S4096x16384 .f32) _ k _

/-- What a point leaves. -/
theorem point_A (c : Dev nD) (t : Fin cfg0.N) (h0 : t.val % 8 = 0) :
    outsAt0 m c t.val t.isLt = (k0_pay2 (iblk m c 0 t) (k0_pay1 (iblk m c 1 t)), k0_pay1 (iblk m c 1 t)) := by
  rw [outsAt0_A m c t h0]
  exact congrArg₂ Prod.mk (out_A ..) (kept_A ..)
theorem point_B (c : Dev nD) (t : Fin cfg0.N) (h0 : ¬ t.val % 8 = 0) :
    outsAt0 m c t.val t.isLt = (k0_pay2 (iblk m c 0 t) (outsAt0 m c (t.val - 1) (Nat.lt_of_le_of_lt (Nat.sub_le _ _) t.isLt)).2,
      (outsAt0 m c (t.val - 1) (Nat.lt_of_le_of_lt (Nat.sub_le _ _) t.isLt)).2) := by
  rw [outsAt0_B m c t h0]
  exact congrArg₂ Prod.mk (out_B ..) rfl
/-- So the result array is the product. -/
theorem final (c : Dev nD) (i : S8192x8192.Idx) : Value.G2 m c i = result (aH m c) (aW m c) i := by
  have h0 : (i 0).val < 8192 := (i 0).isLt
  have h1 : (i 1).val < 8192 := (i 1).isLt
  have hN : cfg0.N = 128 := N_0
  have hp : Value.pt2Of i < cfg0.N := by show 1 * ((i 0).val / 1024 - 0) + 8 * ((i 1).val / 512 - 0) < cfg0.N; omega
  have hl : Value.loc2Of i = ix2 (⟨(i 0).val % 1024, Nat.mod_lt _ (by decide)⟩ : Fin 1024) (⟨(i 1).val % 512, Nat.mod_lt _ (by decide)⟩ : Fin 512) :=
    eq_ix2 _
  unfold Value.G2
  rw [dif_pos hp, ← Value.outsAt0_sweep m c (Value.pt2Of i) hp, hl]
  exact block (N₀ := cfg0.N) (N := 8192) (C := 512) (S := Vec Ideal S4096x512 .bf16) (V := Vec Ideal S1x4096x512 .f32) (aH m c) (aW m c)
    (outsAt0 m c) (fun t => iblk m c 0 t) (fun t => iblk m c 1 t) (k0_pay1 (F := Ideal)) mul rd (point_A m c) (point_B m c)
    (fun t k e j hj => (pay1_at (iblk m c 1 t) k e).trans (iblk1 m c t k e j hj)) (iblk0 m c) mul_at i _ hp _ _ (place h0).1 (place h0).2

end Cert.HgQfIdeal.Proj

namespace Cert.HgQfRefIdeal.Proj

open Cert.HgQfRefIdeal Cert.HgQfRefIdeal.Gen Cert.HgQfRefIdeal.Read Idealize.ShloMosaic Idealize.ShloMosaic.TcCoe Idealize.SL.Sem
open Cert.Proj

/-- The reference's result is the same product. -/
theorem ref (x0 : FVec Ideal S8192x4096 .bf16) (x1 : FVec Ideal S4096x16384 .f32) :
    val_main_v2 (F := Ideal) x0 x1 = result x0 (fun k (j : Fin 8192) => x1 (ix2 k (⟨j.val, by omega⟩ : Fin 16384))) := by
  funext i
  rw [val_main_v2_apply, val_main_v1_apply]
  refine Finset.sum_congr rfl fun k _ => ?_
  rw [val_main_v0_apply]
  refine congrArg₂ (fun a b : EReal => a * b) (congrArg x0 ?_) (congrArg x1 ?_)
  · exact funext fun a => match a with
      | ⟨0, _⟩ => rfl
      | ⟨1, _⟩ => rfl
  · exact funext fun a => match a with
      | ⟨0, _⟩ => rfl
      | ⟨1, _⟩ => rfl

end Cert.HgQfRefIdeal.Proj

namespace Cert.HgQfIdeal.Proj

open Idealize.ShloMosaic Idealize.ShloMosaic.TcCoe Idealize.SL.Sem

theorem frame_r : letI := Cert.HgQfRefIdeal.Gen.facts; Cert.quiescent_HgQfRefIdeal := fun m ρ _ =>
  (θ_run Cert.HgQfRefIdeal.defs _ _).mono (fun r h => ⟨fun c => (h c).2, Idealize.ShloMosaic.sem_eq_zero_of_no_sems (by decide) r.2⟩)
    (Cert.HgQfRefIdeal.Value.run (F := Ideal) m ρ)

theorem algebraic : letI := Cert.HgQfIdeal.Gen.facts; letI := Cert.HgQfRefIdeal.Gen.facts; Cert.algebraic_HgQfIdeal_HgQfRefIdeal := by
  intro m ρ m' ρ' _ hagree
  refine ⟨fun c => Cert.Proj.result (aH m c) (aW m c), ?_, ?_⟩
  · exact (θ_run Cert.HgQfIdeal.defs _ _).mono (fun _ h c => ⟨(h c).1.trans (funext (final m c)), (h c).2⟩)
      (Cert.HgQfIdeal.Value.run (F := Ideal) m ρ)
  · exact (θ_run Cert.HgQfRefIdeal.defs _ _).mono (fun _ h c => ⟨(h c).1.trans (by
      rw [Cert.HgQfRefIdeal.Read.val_main_v2_eq, Cert.HgQfRefIdeal.Proj.ref, (hagree c).1, (hagree c).2]), (h c).2⟩)
      (Cert.HgQfRefIdeal.Value.run (F := Ideal) m' ρ')

end Cert.HgQfIdeal.Proj

end
-- ==== Proof.ProjHgVg.lean ====
/- The HGRN2 layer's value and output-gate projection. -/
module

public import proofs.«01_k».proof.Proof.Proj
public import proofs.«01_k».proof.Proof.Gen.HgVgIdeal.Value
public import proofs.«01_k».proof.Proof.Gen.HgVgRefIdeal.Read
public import proofs.«01_k».proof.Defs

@[expose] public section

set_option maxRecDepth 16384

noncomputable section

namespace Cert.HgVgIdeal.Proj

open Cert.HgVgIdeal Cert.HgVgIdeal.Gen Idealize.ShloMosaic Idealize.ShloMosaic.TcCoe Idealize.SL.Sem
open Cert.Proj

/-- The kept weights by columns; the tile of weights as the buffer keeps it, and a block of the product, at an index. -/
def rd (s : Vec Ideal S4096x512 .bf16) (k : Fin 4096) (e : Fin 512) : EReal := s (ix2 k e)
theorem pay1_at (v : Vec Ideal S1x4096x512 .f32) (k : Fin 4096) (e : Fin 512) : k0_pay1 v (ix2 k e) = v (ix3 (0 : Fin 1) k e) := by
  unfold k0_pay1
  rw [shapeCast_self]
  exact back_at v _ k e
def mul (v : S1024x4096.Idx → EReal) (w : Vec Ideal S4096x512 .bf16) : S1024x512.Idx → EReal := k0_pay2 (F := Ideal) v w
theorem mul_at (v : S1024x4096.Idx → EReal) (w : Vec Ideal S4096x512 .bf16) (r : Fin 1024) (e : Fin 512) :
    mul v w (ix2 r e) = ∑ k : Fin 4096, v (ix2 r k) * rd w k e := by
  pointwise [mul, k0_pay2, rd]

section Body

variable (c : Dev nD) (i : grid0.Coords) (arg2 : Memref sig .tc .vmem S1024x4096 .bf16) (harg2 : arg2.IsWhole)
  (arg3 : Memref sig .tc .vmem S1x4096x512 .f32) (harg3 : arg3.IsWhole) (arg4 : Memref sig .tc .vmem S1024x512 .bf16) (harg4 : arg4.IsWhole)
  (arg5 : Memref sig .tc .vmem S4096x512 .bf16) (harg5 : arg5.IsWhole) (x0 : Vec Ideal S1024x4096 .bf16) (x1 : Vec Ideal S1x4096x512 .f32)

/-- What the body leaves: at a tile's first point, -/
theorem kept_A (hc0 : cond0_0 i) :
    sout0_A_0 c i arg2 harg2 arg3 harg3 arg4 harg4 arg5 harg5 hc0 x0 x1 = k0_pay1 x1 := by
  unfold sout0_A_0
  rw [View.read_writes_eq_canon _ _ _ (scover0_A_0 c i arg2 harg2 arg3 harg3 arg4 harg4 arg5 harg5 hc0 x0 x1)]
  unfold kernelRun0_A
  dsimp only
  refine (View.canon_unit_zero z2 _ _).trans ?_
  rw [View.readAt_eq_ld, harg3.read_unread]
  exact congrArg k0_pay1 (View.ld_unit_zero z3 _ _)
theorem out_A (hc0 : cond0_0 i) :
    out0_A_2 c i arg2 harg2 arg3 harg3 arg4 harg4 arg5 harg5 hc0 x0 x1 = k0_pay2 x0 (k0_pay1 x1) := by
  unfold out0_A_2
  rw [View.read_writes_eq_canon _ _ _ (cover0_A_2 c i arg2 harg2 arg3 harg3 arg4 harg4 arg5 harg5 hc0 x0 x1)]
  unfold kernelRun0_A
  dsimp only
  refine (View.canon_unit_zero z2 _ _).trans ?_
  refine congrArg₂ k0_pay2 ?_ ?_
  · rw [View.readAt_eq_ld, harg2.read_unread]
    exact View.ld_unit_zero z2 _ _
  · refine (View.readCov_unit_zero _ z2 _ _).trans ?_
    rw [View.readAt_eq_ld, harg3.read_unread]
    exact congrArg k0_pay1 (View.ld_unit_zero z3 _ _)
/-- and at the others. -/
theorem out_B (hc0 : ¬ cond0_0 i) (s : Vec Ideal S4096x512 .bf16) :
    out0_B_2 c i arg2 harg2 arg3 harg3 arg4 harg4 arg5 harg5 hc0 x0 x1 s = k0_pay2 x0 s := by
  unfold out0_B_2
  rw [View.read_writes_eq_canon _ _ _ (cover0_B_2 c i arg2 harg2 arg3 harg3 arg4 harg4 arg5 harg5 hc0 x0 x1 s)]
  unfold kernelRun0_B
  dsimp only
  refine (View.canon_unit_zero z2 _ _).trans ?_
  rw [View.readAt_eq_ld, View.readAt_eq_ld, harg2.read_unread, harg5.read_unread]
  exact congrArg₂ k0_pay2 (View.ld_unit_zero z2 _ _) (View.ld_unit_zero z2 _ _)

end Body

variable (m : (ℓ : Loc nD τ sig) → Buf (Elt Ideal) ℓ)

/-- The rows, and the columns of the weights that the projection takes. -/
abbrev aH (c : Dev nD) : Rows := m ((c : Thread nD τ).loc main_arg0)
abbrev aW (c : Dev nD) : Fin 4096 → Fin 8192 → EReal := fun k j =>
  (m ((c : Thread nD τ).loc main_arg1) : S4096x16384.Idx → EReal) (ix2 k (⟨8192 + j.val, by omega⟩ : Fin 16384))

theorem idx0 : ∀ t : Fin cfg0.N, win0_0.index t = ![t.val % 8, 0] :=
  (by decide +kernel : ∀ t : Fin grid0.N, win0_0.index t = ![t.val % 8, 0])
theorem idx1 : ∀ t : Fin cfg0.N, win0_1.index t = ![0, 0, 16 + t.val / 8] :=
  (by decide +kernel : ∀ t : Fin grid0.N, win0_1.index t = ![0, 0, 16 + t.val / 8])

theorem iblk0 (c : Dev nD) (t : Fin cfg0.N) (r : Fin 1024) (k : Fin 4096) (i : Fin 8192) (hi : i.val = 1024 * (t.val % 8) + r.val) :
    (iblk m c 0 t : Vec Ideal S1024x4096 .bf16) (ix2 r k) = aH m c (ix2 i k) := by
  unfold iblk
  rw [show V m c (Pipeline.arrRef spec0 0) = m ((c : Thread nD τ).loc main_arg0) from V_main_arg0 m c]
  exact congrArg (aH m c) (pos_rows t.val r k _ (idx0 t) i hi _ rfl rfl)

theorem iblk1 (c : Dev nD) (t : Fin cfg0.N) (k : Fin 4096) (e : Fin 512) (j : Fin 8192) (hj : j.val = 512 * (t.val / 8) + e.val) :
    (iblk m c 1 t : Vec Ideal S1x4096x512 .f32) (ix3 (0 : Fin 1) k e) = aW m c k j := by
  unfold iblk
  refine (congrArg (V m c main_v0 : FVec Ideal S1x4096x16384 .f32) (pos_cols k e _ _ (idx1 t) (0 : Fin 1) rfl
    (⟨8192 + j.val, by omega⟩ : Fin 16384) (show 8192 + j.val = 512 * (16 + t.val / 8) + e.val by omega) _ rfl rfl rfl)).trans ?_
  exact front_at (m ((c : Thread nD τ).loc main_arg1) : FVec Ideal S4096x16384 .f32) _ k _

/-- What a point leaves. -/
theorem point_A (c : Dev nD) (t : Fin cfg0.N) (h0 : t.val % 8 = 0) :
    outsAt0 m c t.val t.isLt = (k0_pay2 (iblk m c 0 t) (k0_pay1 (iblk m c 1 t)), k0_pay1 (iblk m c 1 t)) := by
  rw [outsAt0_A m c t h0]
  exact congrArg₂ Prod.mk (out_A ..) (kept_A ..)
theorem point_B (c : Dev nD) (t : Fin cfg0.N) (h0 : ¬ t.val % 8 = 0) :
    outsAt0 m c t.val t.isLt = (k0_pay2 (iblk m c 0 t) (outsAt0 m c (t.val - 1) (Nat.lt_of_le_of_lt (Nat.sub_le _ _) t.isLt)).2,
      (outsAt0 m c (t.val - 1) (Nat.lt_of_le_of_lt (Nat.sub_le _ _) t.isLt)).2) := by
  rw [outsAt0_B m c t h0]
  exact congrArg₂ Prod.mk (out_B ..) rfl
/-- So the result array is the product. -/
theorem final (c : Dev nD) (i : S8192x8192.Idx) : Value.G2 m c i = result (aH m c) (aW m c) i := by
  have h0 : (i 0).val < 8192 := (i 0).isLt
  have h1 : (i 1).val < 8192 := (i 1).isLt
  have hN : cfg0.N = 128 := N_0
  have hp : Value.pt2Of i < cfg0.N := by show 1 * ((i 0).val / 1024 - 0) + 8 * ((i 1).val / 512 - 0) < cfg0.N; omega
  have hl : Value.loc2Of i = ix2 (⟨(i 0).val % 1024, Nat.mod_lt _ (by decide)⟩ : Fin 1024) (⟨(i 1).val % 512, Nat.mod_lt _ (by decide)⟩ : Fin 512) :=
    eq_ix2 _
  unfold Value.G2
  rw [dif_pos hp, ← Value.outsAt0_sweep m c (Value.pt2Of i) hp, hl]
  exact block (N₀ := cfg0.N) (N := 8192) (C := 512) (S := Vec Ideal S4096x512 .bf16) (V := Vec Ideal S1x4096x512 .f32) (aH m c) (aW m c)
    (outsAt0 m c) (fun t => iblk m c 0 t) (fun t => iblk m c 1 t) (k0_pay1 (F := Ideal)) mul rd (point_A m c) (point_B m c)
    (fun t k e j hj => (pay1_at (iblk m c 1 t) k e).trans (iblk1 m c t k e j hj)) (iblk0 m c) mul_at i _ hp _ _ (place h0).1 (place h0).2

end Cert.HgVgIdeal.Proj

namespace Cert.HgVgRefIdeal.Proj

open Cert.HgVgRefIdeal Cert.HgVgRefIdeal.Gen Cert.HgVgRefIdeal.Read Idealize.ShloMosaic Idealize.ShloMosaic.TcCoe Idealize.SL.Sem
open Cert.Proj

/-- The reference's result is the same product. -/
theorem ref (x0 : FVec Ideal S8192x4096 .bf16) (x1 : FVec Ideal S4096x16384 .f32) :
    val_main_v3 (F := Ideal) x0 x1 = result x0 (fun k (j : Fin 8192) => x1 (ix2 k (⟨8192 + j.val, by omega⟩ : Fin 16384))) := by
  funext i
  show val_main_v2 (F := Ideal) x0 x1 i = _
  rw [val_main_v2_apply, val_main_v1_apply]
  refine Finset.sum_congr rfl fun k _ => ?_
  rw [val_main_v0_apply]
  refine congrArg₂ (fun a b : EReal => a * b) (congrArg x0 ?_) (congrArg x1 ?_)
  · exact funext fun a => match a with
      | ⟨0, _⟩ => rfl
      | ⟨1, _⟩ => rfl
  · exact funext fun a => match a with
      | ⟨0, _⟩ => rfl
      | ⟨1, _⟩ => rfl

end Cert.HgVgRefIdeal.Proj

namespace Cert.HgVgIdeal.Proj

open Idealize.ShloMosaic Idealize.ShloMosaic.TcCoe Idealize.SL.Sem

theorem frame_r : letI := Cert.HgVgRefIdeal.Gen.facts; Cert.quiescent_HgVgRefIdeal := fun m ρ _ =>
  (θ_run Cert.HgVgRefIdeal.defs _ _).mono (fun r h => ⟨fun c => (h c).2, Idealize.ShloMosaic.sem_eq_zero_of_no_sems (by decide) r.2⟩)
    (Cert.HgVgRefIdeal.Value.run (F := Ideal) m ρ)

theorem algebraic : letI := Cert.HgVgIdeal.Gen.facts; letI := Cert.HgVgRefIdeal.Gen.facts; Cert.algebraic_HgVgIdeal_HgVgRefIdeal := by
  intro m ρ m' ρ' _ hagree
  refine ⟨fun c => Cert.Proj.result (aH m c) (aW m c), ?_, ?_⟩
  · exact (θ_run Cert.HgVgIdeal.defs _ _).mono (fun _ h c => ⟨(h c).1.trans (funext (final m c)), (h c).2⟩)
      (Cert.HgVgIdeal.Value.run (F := Ideal) m ρ)
  · exact (θ_run Cert.HgVgRefIdeal.defs _ _).mono (fun _ h c => ⟨(h c).1.trans (by
      rw [Cert.HgVgRefIdeal.Read.val_main_v3_eq, Cert.HgVgRefIdeal.Proj.ref, (hagree c).1, (hagree c).2]), (h c).2⟩)
      (Cert.HgVgRefIdeal.Value.run (F := Ideal) m' ρ')

end Cert.HgVgIdeal.Proj

end
-- ==== Proof.ProjRgXb.lean ====
/- The recurrent layer's projection to its branch. -/
module

public import proofs.«01_k».proof.Proof.Proj
public import proofs.«01_k».proof.Proof.Gen.RgXbIdeal.Value
public import proofs.«01_k».proof.Proof.Gen.RgXbRefIdeal.Read
public import proofs.«01_k».proof.Defs

@[expose] public section

set_option maxRecDepth 16384

noncomputable section

namespace Cert.RgXbIdeal.Proj

open Cert.RgXbIdeal Cert.RgXbIdeal.Gen Idealize.ShloMosaic Idealize.ShloMosaic.TcCoe Idealize.SL.Sem
open Cert.Proj

/-- The kept weights by columns; the tile of weights as the buffer keeps it, and a block of the product, at an index. -/
def rd (s : Vec Ideal S4096x512 .bf16) (k : Fin 4096) (e : Fin 512) : EReal := s (ix2 k e)
theorem pay1_at (v : Vec Ideal S1x4096x512 .f32) (k : Fin 4096) (e : Fin 512) : k0_pay1 v (ix2 k e) = v (ix3 (0 : Fin 1) k e) := by
  unfold k0_pay1
  rw [shapeCast_self]
  exact back_at v _ k e
def mul (v : S1024x4096.Idx → EReal) (w : Vec Ideal S4096x512 .bf16) : S1024x512.Idx → EReal := k0_pay2 (F := Ideal) v w
theorem mul_at (v : S1024x4096.Idx → EReal) (w : Vec Ideal S4096x512 .bf16) (r : Fin 1024) (e : Fin 512) :
    mul v w (ix2 r e) = ∑ k : Fin 4096, v (ix2 r k) * rd w k e := by
  pointwise [mul, k0_pay2, rd]

section Body

variable (c : Dev nD) (i : grid0.Coords) (arg2 : Memref sig .tc .vmem S1024x4096 .bf16) (harg2 : arg2.IsWhole)
  (arg3 : Memref sig .tc .vmem S1x4096x512 .f32) (harg3 : arg3.IsWhole) (arg4 : Memref sig .tc .vmem S1024x512 .f32) (harg4 : arg4.IsWhole)
  (arg5 : Memref sig .tc .vmem S4096x512 .bf16) (harg5 : arg5.IsWhole) (x0 : Vec Ideal S1024x4096 .bf16) (x1 : Vec Ideal S1x4096x512 .f32)

/-- What the body leaves: at a tile's first point, -/
theorem kept_A (hc0 : cond0_0 i) :
    sout0_A_0 c i arg2 harg2 arg3 harg3 arg4 harg4 arg5 harg5 hc0 x0 x1 = k0_pay1 x1 := by
  unfold sout0_A_0
  rw [View.read_writes_eq_canon _ _ _ (scover0_A_0 c i arg2 harg2 arg3 harg3 arg4 harg4 arg5 harg5 hc0 x0 x1)]
  unfold kernelRun0_A
  dsimp only
  refine (View.canon_unit_zero z2 _ _).trans ?_
  rw [View.readAt_eq_ld, harg3.read_unread]
  exact congrArg k0_pay1 (View.ld_unit_zero z3 _ _)
theorem out_A (hc0 : cond0_0 i) :
    out0_A_2 c i arg2 harg2 arg3 harg3 arg4 harg4 arg5 harg5 hc0 x0 x1 = k0_pay2 x0 (k0_pay1 x1) := by
  unfold out0_A_2
  rw [View.read_writes_eq_canon _ _ _ (cover0_A_2 c i arg2 harg2 arg3 harg3 arg4 harg4 arg5 harg5 hc0 x0 x1)]
  unfold kernelRun0_A
  dsimp only
  refine (View.canon_unit_zero z2 _ _).trans ?_
  refine congrArg₂ k0_pay2 ?_ ?_
  · rw [View.readAt_eq_ld, harg2.read_unread]
    exact View.ld_unit_zero z2 _ _
  · refine (View.readCov_unit_zero _ z2 _ _).trans ?_
    rw [View.readAt_eq_ld, harg3.read_unread]
    exact congrArg k0_pay1 (View.ld_unit_zero z3 _ _)
/-- and at the others. -/
theorem out_B (hc0 : ¬ cond0_0 i) (s : Vec Ideal S4096x512 .bf16) :
    out0_B_2 c i arg2 harg2 arg3 harg3 arg4 harg4 arg5 harg5 hc0 x0 x1 s = k0_pay2 x0 s := by
  unfold out0_B_2
  rw [View.read_writes_eq_canon _ _ _ (cover0_B_2 c i arg2 harg2 arg3 harg3 arg4 harg4 arg5 harg5 hc0 x0 x1 s)]
  unfold kernelRun0_B
  dsimp only
  refine (View.canon_unit_zero z2 _ _).trans ?_
  rw [View.readAt_eq_ld, View.readAt_eq_ld, harg2.read_unread, harg5.read_unread]
  exact congrArg₂ k0_pay2 (View.ld_unit_zero z2 _ _) (View.ld_unit_zero z2 _ _)

end Body

variable (m : (ℓ : Loc nD τ sig) → Buf (Elt Ideal) ℓ)

/-- The rows, and the columns of the weights that the projection takes. -/
abbrev aH (c : Dev nD) : Rows := m ((c : Thread nD τ).loc main_arg0)
abbrev aW (c : Dev nD) : Fin 4096 → Fin 4096 → EReal := fun k j =>
  (m ((c : Thread nD τ).loc main_arg1) : S4096x8192.Idx → EReal) (ix2 k (⟨j.val, by omega⟩ : Fin 8192))

theorem idx0 : ∀ t : Fin cfg0.N, win0_0.index t = ![t.val % 8, 0] :=
  (by decide +kernel : ∀ t : Fin grid0.N, win0_0.index t = ![t.val % 8, 0])
theorem idx1 : ∀ t : Fin cfg0.N, win0_1.index t = ![0, 0, t.val / 8] :=
  (by decide +kernel : ∀ t : Fin grid0.N, win0_1.index t = ![0, 0, t.val / 8])

theorem iblk0 (c : Dev nD) (t : Fin cfg0.N) (r : Fin 1024) (k : Fin 4096) (i : Fin 8192) (hi : i.val = 1024 * (t.val % 8) + r.val) :
    (iblk m c 0 t : Vec Ideal S1024x4096 .bf16) (ix2 r k) = aH m c (ix2 i k) := by
  unfold iblk
  rw [show V m c (Pipeline.arrRef spec0 0) = m ((c : Thread nD τ).loc main_arg0) from V_main_arg0 m c]
  exact congrArg (aH m c) (pos_rows t.val r k _ (idx0 t) i hi _ rfl rfl)

theorem iblk1 (c : Dev nD) (t : Fin cfg0.N) (k : Fin 4096) (e : Fin 512) (j : Fin 4096) (hj : j.val = 512 * (t.val / 8) + e.val) :
    (iblk m c 1 t : Vec Ideal S1x4096x512 .f32) (ix3 (0 : Fin 1) k e) = aW m c k j := by
  unfold iblk
  refine (congrArg (V m c main_v0 : FVec Ideal S1x4096x8192 .f32) (pos_cols k e _ _ (idx1 t) (0 : Fin 1) rfl
    (⟨j.val, by omega⟩ : Fin 8192) hj _ rfl rfl rfl)).trans ?_
  exact front_at (m ((c : Thread nD τ).loc main_arg1) : FVec Ideal S4096x8192 .f32) _ k _

/-- What a point leaves. -/
theorem point_A (c : Dev nD) (t : Fin cfg0.N) (h0 : t.val % 8 = 0) :
    outsAt0 m c t.val t.isLt = (k0_pay2 (iblk m c 0 t) (k0_pay1 (iblk m c 1 t)), k0_pay1 (iblk m c 1 t)) := by
  rw [outsAt0_A m c t h0]
  exact congrArg₂ Prod.mk (out_A ..) (kept_A ..)
theorem point_B (c : Dev nD) (t : Fin cfg0.N) (h0 : ¬ t.val % 8 = 0) :
    outsAt0 m c t.val t.isLt = (k0_pay2 (iblk m c 0 t) (outsAt0 m c (t.val - 1) (Nat.lt_of_le_of_lt (Nat.sub_le _ _) t.isLt)).2,
      (outsAt0 m c (t.val - 1) (Nat.lt_of_le_of_lt (Nat.sub_le _ _) t.isLt)).2) := by
  rw [outsAt0_B m c t h0]
  exact congrArg₂ Prod.mk (out_B ..) rfl
/-- So the result array is the product. -/
theorem final (c : Dev nD) (i : S8192x4096.Idx) : Value.G2 m c i = result (aH m c) (aW m c) i := by
  have h0 : (i 0).val < 8192 := (i 0).isLt
  have h1 : (i 1).val < 4096 := (i 1).isLt
  have hN : cfg0.N = 64 := N_0
  have hp : Value.pt2Of i < cfg0.N := by show 1 * ((i 0).val / 1024 - 0) + 8 * ((i 1).val / 512 - 0) < cfg0.N; omega
  have hl : Value.loc2Of i = ix2 (⟨(i 0).val % 1024, Nat.mod_lt _ (by decide)⟩ : Fin 1024) (⟨(i 1).val % 512, Nat.mod_lt _ (by decide)⟩ : Fin 512) :=
    eq_ix2 _
  unfold Value.G2
  rw [dif_pos hp, ← Value.outsAt0_sweep m c (Value.pt2Of i) hp, hl]
  exact block (N₀ := cfg0.N) (N := 4096) (C := 512) (S := Vec Ideal S4096x512 .bf16) (V := Vec Ideal S1x4096x512 .f32) (aH m c) (aW m c)
    (outsAt0 m c) (fun t => iblk m c 0 t) (fun t => iblk m c 1 t) (k0_pay1 (F := Ideal)) mul rd (point_A m c) (point_B m c)
    (fun t k e j hj => (pay1_at (iblk m c 1 t) k e).trans (iblk1 m c t k e j hj)) (iblk0 m c) mul_at i _ hp _ _ (place h0).1 (place h0).2

end Cert.RgXbIdeal.Proj

namespace Cert.RgXbRefIdeal.Proj

open Cert.RgXbRefIdeal Cert.RgXbRefIdeal.Gen Cert.RgXbRefIdeal.Read Idealize.ShloMosaic Idealize.ShloMosaic.TcCoe Idealize.SL.Sem
open Cert.Proj

/-- The reference's result is the same product. -/
theorem ref (x0 : FVec Ideal S8192x4096 .bf16) (x1 : FVec Ideal S4096x8192 .f32) :
    val_main_v2 (F := Ideal) x0 x1 = result x0 (fun k (j : Fin 4096) => x1 (ix2 k (⟨j.val, by omega⟩ : Fin 8192))) := by
  funext i
  rw [val_main_v2_apply, val_main_v1_apply]
  refine Finset.sum_congr rfl fun k _ => ?_
  rw [val_main_v0_apply]
  refine congrArg₂ (fun a b : EReal => a * b) (congrArg x0 ?_) (congrArg x1 ?_)
  · exact funext fun a => match a with
      | ⟨0, _⟩ => rfl
      | ⟨1, _⟩ => rfl
  · exact funext fun a => match a with
      | ⟨0, _⟩ => rfl
      | ⟨1, _⟩ => rfl

end Cert.RgXbRefIdeal.Proj

namespace Cert.RgXbIdeal.Proj

open Idealize.ShloMosaic Idealize.ShloMosaic.TcCoe Idealize.SL.Sem

theorem frame_r : letI := Cert.RgXbRefIdeal.Gen.facts; Cert.quiescent_RgXbRefIdeal := fun m ρ _ =>
  (θ_run Cert.RgXbRefIdeal.defs _ _).mono (fun r h => ⟨fun c => (h c).2, Idealize.ShloMosaic.sem_eq_zero_of_no_sems (by decide) r.2⟩)
    (Cert.RgXbRefIdeal.Value.run (F := Ideal) m ρ)

theorem algebraic : letI := Cert.RgXbIdeal.Gen.facts; letI := Cert.RgXbRefIdeal.Gen.facts; Cert.algebraic_RgXbIdeal_RgXbRefIdeal := by
  intro m ρ m' ρ' _ hagree
  refine ⟨fun c => Cert.Proj.result (aH m c) (aW m c), ?_, ?_⟩
  · exact (θ_run Cert.RgXbIdeal.defs _ _).mono (fun _ h c => ⟨(h c).1.trans (funext (final m c)), (h c).2⟩)
      (Cert.RgXbIdeal.Value.run (F := Ideal) m ρ)
  · exact (θ_run Cert.RgXbRefIdeal.defs _ _).mono (fun _ h c => ⟨(h c).1.trans (by
      rw [Cert.RgXbRefIdeal.Read.val_main_v2_eq, Cert.RgXbRefIdeal.Proj.ref, (hagree c).1, (hagree c).2]), (h c).2⟩)
      (Cert.RgXbRefIdeal.Value.run (F := Ideal) m' ρ')

end Cert.RgXbIdeal.Proj

end
-- ==== Proof.ProjRgZ.lean ====
/- The recurrent layer's projection to its gate. -/
module

public import proofs.«01_k».proof.Proof.Proj
public import proofs.«01_k».proof.Proof.Gen.RgZIdeal.Value
public import proofs.«01_k».proof.Proof.Gen.RgZRefIdeal.Read
public import proofs.«01_k».proof.Defs

@[expose] public section

set_option maxRecDepth 16384

noncomputable section

namespace Cert.RgZIdeal.Proj

open Cert.RgZIdeal Cert.RgZIdeal.Gen Idealize.ShloMosaic Idealize.ShloMosaic.TcCoe Idealize.SL.Sem
open Cert.Proj

/-- The kept weights by columns; the tile of weights as the buffer keeps it, and a block of the product, at an index. -/
def rd (s : Vec Ideal S4096x512 .bf16) (k : Fin 4096) (e : Fin 512) : EReal := s (ix2 k e)
theorem pay1_at (v : Vec Ideal S1x4096x512 .f32) (k : Fin 4096) (e : Fin 512) : k0_pay1 v (ix2 k e) = v (ix3 (0 : Fin 1) k e) := by
  unfold k0_pay1
  rw [shapeCast_self]
  exact back_at v _ k e
def mul (v : S1024x4096.Idx → EReal) (w : Vec Ideal S4096x512 .bf16) : S1024x512.Idx → EReal := k0_pay2 (F := Ideal) v w
theorem mul_at (v : S1024x4096.Idx → EReal) (w : Vec Ideal S4096x512 .bf16) (r : Fin 1024) (e : Fin 512) :
    mul v w (ix2 r e) = ∑ k : Fin 4096, v (ix2 r k) * rd w k e := by
  pointwise [mul, k0_pay2, rd]

section Body

variable (c : Dev nD) (i : grid0.Coords) (arg2 : Memref sig .tc .vmem S1024x4096 .bf16) (harg2 : arg2.IsWhole)
  (arg3 : Memref sig .tc .vmem S1x4096x512 .f32) (harg3 : arg3.IsWhole) (arg4 : Memref sig .tc .vmem S1024x512 .bf16) (harg4 : arg4.IsWhole)
  (arg5 : Memref sig .tc .vmem S4096x512 .bf16) (harg5 : arg5.IsWhole) (x0 : Vec Ideal S1024x4096 .bf16) (x1 : Vec Ideal S1x4096x512 .f32)

/-- What the body leaves: at a tile's first point, -/
theorem kept_A (hc0 : cond0_0 i) :
    sout0_A_0 c i arg2 harg2 arg3 harg3 arg4 harg4 arg5 harg5 hc0 x0 x1 = k0_pay1 x1 := by
  unfold sout0_A_0
  rw [View.read_writes_eq_canon _ _ _ (scover0_A_0 c i arg2 harg2 arg3 harg3 arg4 harg4 arg5 harg5 hc0 x0 x1)]
  unfold kernelRun0_A
  dsimp only
  refine (View.canon_unit_zero z2 _ _).trans ?_
  rw [View.readAt_eq_ld, harg3.read_unread]
  exact congrArg k0_pay1 (View.ld_unit_zero z3 _ _)
theorem out_A (hc0 : cond0_0 i) :
    out0_A_2 c i arg2 harg2 arg3 harg3 arg4 harg4 arg5 harg5 hc0 x0 x1 = k0_pay2 x0 (k0_pay1 x1) := by
  unfold out0_A_2
  rw [View.read_writes_eq_canon _ _ _ (cover0_A_2 c i arg2 harg2 arg3 harg3 arg4 harg4 arg5 harg5 hc0 x0 x1)]
  unfold kernelRun0_A
  dsimp only
  refine (View.canon_unit_zero z2 _ _).trans ?_
  refine congrArg₂ k0_pay2 ?_ ?_
  · rw [View.readAt_eq_ld, harg2.read_unread]
    exact View.ld_unit_zero z2 _ _
  · refine (View.readCov_unit_zero _ z2 _ _).trans ?_
    rw [View.readAt_eq_ld, harg3.read_unread]
    exact congrArg k0_pay1 (View.ld_unit_zero z3 _ _)
/-- and at the others. -/
theorem out_B (hc0 : ¬ cond0_0 i) (s : Vec Ideal S4096x512 .bf16) :
    out0_B_2 c i arg2 harg2 arg3 harg3 arg4 harg4 arg5 harg5 hc0 x0 x1 s = k0_pay2 x0 s := by
  unfold out0_B_2
  rw [View.read_writes_eq_canon _ _ _ (cover0_B_2 c i arg2 harg2 arg3 harg3 arg4 harg4 arg5 harg5 hc0 x0 x1 s)]
  unfold kernelRun0_B
  dsimp only
  refine (View.canon_unit_zero z2 _ _).trans ?_
  rw [View.readAt_eq_ld, View.readAt_eq_ld, harg2.read_unread, harg5.read_unread]
  exact congrArg₂ k0_pay2 (View.ld_unit_zero z2 _ _) (View.ld_unit_zero z2 _ _)

end Body

variable (m : (ℓ : Loc nD τ sig) → Buf (Elt Ideal) ℓ)

/-- The rows, and the columns of the weights that the projection takes. -/
abbrev aH (c : Dev nD) : Rows := m ((c : Thread nD τ).loc main_arg0)
abbrev aW (c : Dev nD) : Fin 4096 → Fin 4096 → EReal := fun k j =>
  (m ((c : Thread nD τ).loc main_arg1) : S4096x8192.Idx → EReal) (ix2 k (⟨4096 + j.val, by omega⟩ : Fin 8192))

theorem idx0 : ∀ t : Fin cfg0.N, win0_0.index t = ![t.val % 8, 0] :=
  (by decide +kernel : ∀ t : Fin grid0.N, win0_0.index t = ![t.val % 8, 0])
theorem idx1 : ∀ t : Fin cfg0.N, win0_1.index t = ![0, 0, 8 + t.val / 8] :=
  (by decide +kernel : ∀ t : Fin grid0.N, win0_1.index t = ![0, 0, 8 + t.val / 8])

theorem iblk0 (c : Dev nD) (t : Fin cfg0.N) (r : Fin 1024) (k : Fin 4096) (i : Fin 8192) (hi : i.val = 1024 * (t.val % 8) + r.val) :
    (iblk m c 0 t : Vec Ideal S1024x4096 .bf16) (ix2 r k) = aH m c (ix2 i k) := by
  unfold iblk
  rw [show V m c (Pipeline.arrRef spec0 0) = m ((c : Thread nD τ).loc main_arg0) from V_main_arg0 m c]
  exact congrArg (aH m c) (pos_rows t.val r k _ (idx0 t) i hi _ rfl rfl)

theorem iblk1 (c : Dev nD) (t : Fin cfg0.N) (k : Fin 4096) (e : Fin 512) (j : Fin 4096) (hj : j.val = 512 * (t.val / 8) + e.val) :
    (iblk m c 1 t : Vec Ideal S1x4096x512 .f32) (ix3 (0 : Fin 1) k e) = aW m c k j := by
  unfold iblk
  refine (congrArg (V m c main_v0 : FVec Ideal S1x4096x8192 .f32) (pos_cols k e _ _ (idx1 t) (0 : Fin 1) rfl
    (⟨4096 + j.val, by omega⟩ : Fin 8192) (show 4096 + j.val = 512 * (8 + t.val / 8) + e.val by omega) _ rfl rfl rfl)).trans ?_
  exact front_at (m ((c : Thread nD τ).loc main_arg1) : FVec Ideal S4096x8192 .f32) _ k _

/-- What a point leaves. -/
theorem point_A (c : Dev nD) (t : Fin cfg0.N) (h0 : t.val % 8 = 0) :
    outsAt0 m c t.val t.isLt = (k0_pay2 (iblk m c 0 t) (k0_pay1 (iblk m c 1 t)), k0_pay1 (iblk m c 1 t)) := by
  rw [outsAt0_A m c t h0]
  exact congrArg₂ Prod.mk (out_A ..) (kept_A ..)
theorem point_B (c : Dev nD) (t : Fin cfg0.N) (h0 : ¬ t.val % 8 = 0) :
    outsAt0 m c t.val t.isLt = (k0_pay2 (iblk m c 0 t) (outsAt0 m c (t.val - 1) (Nat.lt_of_le_of_lt (Nat.sub_le _ _) t.isLt)).2,
      (outsAt0 m c (t.val - 1) (Nat.lt_of_le_of_lt (Nat.sub_le _ _) t.isLt)).2) := by
  rw [outsAt0_B m c t h0]
  exact congrArg₂ Prod.mk (out_B ..) rfl
/-- So the result array is the product. -/
theorem final (c : Dev nD) (i : S8192x4096.Idx) : Value.G2 m c i = result (aH m c) (aW m c) i := by
  have h0 : (i 0).val < 8192 := (i 0).isLt
  have h1 : (i 1).val < 4096 := (i 1).isLt
  have hN : cfg0.N = 64 := N_0
  have hp : Value.pt2Of i < cfg0.N := by show 1 * ((i 0).val / 1024 - 0) + 8 * ((i 1).val / 512 - 0) < cfg0.N; omega
  have hl : Value.loc2Of i = ix2 (⟨(i 0).val % 1024, Nat.mod_lt _ (by decide)⟩ : Fin 1024) (⟨(i 1).val % 512, Nat.mod_lt _ (by decide)⟩ : Fin 512) :=
    eq_ix2 _
  unfold Value.G2
  rw [dif_pos hp, ← Value.outsAt0_sweep m c (Value.pt2Of i) hp, hl]
  exact block (N₀ := cfg0.N) (N := 4096) (C := 512) (S := Vec Ideal S4096x512 .bf16) (V := Vec Ideal S1x4096x512 .f32) (aH m c) (aW m c)
    (outsAt0 m c) (fun t => iblk m c 0 t) (fun t => iblk m c 1 t) (k0_pay1 (F := Ideal)) mul rd (point_A m c) (point_B m c)
    (fun t k e j hj => (pay1_at (iblk m c 1 t) k e).trans (iblk1 m c t k e j hj)) (iblk0 m c) mul_at i _ hp _ _ (place h0).1 (place h0).2

end Cert.RgZIdeal.Proj

namespace Cert.RgZRefIdeal.Proj

open Cert.RgZRefIdeal Cert.RgZRefIdeal.Gen Cert.RgZRefIdeal.Read Idealize.ShloMosaic Idealize.ShloMosaic.TcCoe Idealize.SL.Sem
open Cert.Proj

/-- The reference's result is the same product. -/
theorem ref (x0 : FVec Ideal S8192x4096 .bf16) (x1 : FVec Ideal S4096x8192 .f32) :
    val_main_v3 (F := Ideal) x0 x1 = result x0 (fun k (j : Fin 4096) => x1 (ix2 k (⟨4096 + j.val, by omega⟩ : Fin 8192))) := by
  funext i
  show val_main_v2 (F := Ideal) x0 x1 i = _
  rw [val_main_v2_apply, val_main_v1_apply]
  refine Finset.sum_congr rfl fun k _ => ?_
  rw [val_main_v0_apply]
  refine congrArg₂ (fun a b : EReal => a * b) (congrArg x0 ?_) (congrArg x1 ?_)
  · exact funext fun a => match a with
      | ⟨0, _⟩ => rfl
      | ⟨1, _⟩ => rfl
  · exact funext fun a => match a with
      | ⟨0, _⟩ => rfl
      | ⟨1, _⟩ => rfl

end Cert.RgZRefIdeal.Proj

namespace Cert.RgZIdeal.Proj

open Idealize.ShloMosaic Idealize.ShloMosaic.TcCoe Idealize.SL.Sem

theorem frame_r : letI := Cert.RgZRefIdeal.Gen.facts; Cert.quiescent_RgZRefIdeal := fun m ρ _ =>
  (θ_run Cert.RgZRefIdeal.defs _ _).mono (fun r h => ⟨fun c => (h c).2, Idealize.ShloMosaic.sem_eq_zero_of_no_sems (by decide) r.2⟩)
    (Cert.RgZRefIdeal.Value.run (F := Ideal) m ρ)

theorem algebraic : letI := Cert.RgZIdeal.Gen.facts; letI := Cert.RgZRefIdeal.Gen.facts; Cert.algebraic_RgZIdeal_RgZRefIdeal := by
  intro m ρ m' ρ' _ hagree
  refine ⟨fun c => Cert.Proj.result (aH m c) (aW m c), ?_, ?_⟩
  · exact (θ_run Cert.RgZIdeal.defs _ _).mono (fun _ h c => ⟨(h c).1.trans (funext (final m c)), (h c).2⟩)
      (Cert.RgZIdeal.Value.run (F := Ideal) m ρ)
  · exact (θ_run Cert.RgZRefIdeal.defs _ _).mono (fun _ h c => ⟨(h c).1.trans (by
      rw [Cert.RgZRefIdeal.Read.val_main_v3_eq, Cert.RgZRefIdeal.Proj.ref, (hagree c).1, (hagree c).2]), (h c).2⟩)
      (Cert.RgZRefIdeal.Value.run (F := Ideal) m' ρ')

end Cert.RgZIdeal.Proj

end
-- ==== Proof.ProjMixOut.lean ====
/- The projection back to the stream, of the recurrent and the HGRN2 layers. -/
module

public import proofs.«01_k».proof.Proof.Proj
public import proofs.«01_k».proof.Proof.Gen.MixOutIdeal.Value
public import proofs.«01_k».proof.Proof.Gen.MixOutRefIdeal.Read
public import proofs.«01_k».proof.Defs

@[expose] public section

set_option maxRecDepth 16384

noncomputable section

namespace Cert.MixOutIdeal.Proj

open Cert.MixOutIdeal Cert.MixOutIdeal.Gen Idealize.ShloMosaic Idealize.ShloMosaic.TcCoe Idealize.SL.Sem
open Cert.Proj

/-- The kept weights by columns; the tile of weights as the buffer keeps it, and a block of the product, at an index. -/
def rd (s : Vec Ideal S4096x512 .bf16) (k : Fin 4096) (e : Fin 512) : EReal := s (ix2 k e)
theorem pay1_at (v : Vec Ideal S1x4096x512 .f32) (k : Fin 4096) (e : Fin 512) : k0_pay1 v (ix2 k e) = v (ix3 (0 : Fin 1) k e) := by
  unfold k0_pay1
  rw [shapeCast_self]
  exact back_at v _ k e
def mul (v : S1024x4096.Idx → EReal) (w : Vec Ideal S4096x512 .bf16) : S1024x512.Idx → EReal := k0_pay2 (F := Ideal) v w
theorem mul_at (v : S1024x4096.Idx → EReal) (w : Vec Ideal S4096x512 .bf16) (r : Fin 1024) (e : Fin 512) :
    mul v w (ix2 r e) = ∑ k : Fin 4096, v (ix2 r k) * rd w k e := by
  pointwise [mul, k0_pay2, rd]

section Body

variable (c : Dev nD) (i : grid0.Coords) (arg2 : Memref sig .tc .vmem S1024x4096 .bf16) (harg2 : arg2.IsWhole)
  (arg3 : Memref sig .tc .vmem S1x4096x512 .f32) (harg3 : arg3.IsWhole) (arg4 : Memref sig .tc .vmem S1024x512 .bf16) (harg4 : arg4.IsWhole)
  (arg5 : Memref sig .tc .vmem S4096x512 .bf16) (harg5 : arg5.IsWhole) (x0 : Vec Ideal S1024x4096 .bf16) (x1 : Vec Ideal S1x4096x512 .f32)

/-- What the body leaves: at a tile's first point, -/
theorem kept_A (hc0 : cond0_0 i) :
    sout0_A_0 c i arg2 harg2 arg3 harg3 arg4 harg4 arg5 harg5 hc0 x0 x1 = k0_pay1 x1 := by
  unfold sout0_A_0
  rw [View.read_writes_eq_canon _ _ _ (scover0_A_0 c i arg2 harg2 arg3 harg3 arg4 harg4 arg5 harg5 hc0 x0 x1)]
  unfold kernelRun0_A
  dsimp only
  refine (View.canon_unit_zero z2 _ _).trans ?_
  rw [View.readAt_eq_ld, harg3.read_unread]
  exact congrArg k0_pay1 (View.ld_unit_zero z3 _ _)
theorem out_A (hc0 : cond0_0 i) :
    out0_A_2 c i arg2 harg2 arg3 harg3 arg4 harg4 arg5 harg5 hc0 x0 x1 = k0_pay2 x0 (k0_pay1 x1) := by
  unfold out0_A_2
  rw [View.read_writes_eq_canon _ _ _ (cover0_A_2 c i arg2 harg2 arg3 harg3 arg4 harg4 arg5 harg5 hc0 x0 x1)]
  unfold kernelRun0_A
  dsimp only
  refine (View.canon_unit_zero z2 _ _).trans ?_
  refine congrArg₂ k0_pay2 ?_ ?_
  · rw [View.readAt_eq_ld, harg2.read_unread]
    exact View.ld_unit_zero z2 _ _
  · refine (View.readCov_unit_zero _ z2 _ _).trans ?_
    rw [View.readAt_eq_ld, harg3.read_unread]
    exact congrArg k0_pay1 (View.ld_unit_zero z3 _ _)
/-- and at the others. -/
theorem out_B (hc0 : ¬ cond0_0 i) (s : Vec Ideal S4096x512 .bf16) :
    out0_B_2 c i arg2 harg2 arg3 harg3 arg4 harg4 arg5 harg5 hc0 x0 x1 s = k0_pay2 x0 s := by
  unfold out0_B_2
  rw [View.read_writes_eq_canon _ _ _ (cover0_B_2 c i arg2 harg2 arg3 harg3 arg4 harg4 arg5 harg5 hc0 x0 x1 s)]
  unfold kernelRun0_B
  dsimp only
  refine (View.canon_unit_zero z2 _ _).trans ?_
  rw [View.readAt_eq_ld, View.readAt_eq_ld, harg2.read_unread, harg5.read_unread]
  exact congrArg₂ k0_pay2 (View.ld_unit_zero z2 _ _) (View.ld_unit_zero z2 _ _)

end Body

variable (m : (ℓ : Loc nD τ sig) → Buf (Elt Ideal) ℓ)

/-- The rows, and the columns of the weights that the projection takes. -/
abbrev aH (c : Dev nD) : Rows := m ((c : Thread nD τ).loc main_arg0)
abbrev aW (c : Dev nD) : Fin 4096 → Fin 4096 → EReal := fun k j =>
  (m ((c : Thread nD τ).loc main_arg1) : S4096x4096.Idx → EReal) (ix2 k (⟨j.val, by omega⟩ : Fin 4096))

theorem idx0 : ∀ t : Fin cfg0.N, win0_0.index t = ![t.val % 8, 0] :=
  (by decide +kernel : ∀ t : Fin grid0.N, win0_0.index t = ![t.val % 8, 0])
theorem idx1 : ∀ t : Fin cfg0.N, win0_1.index t = ![0, 0, t.val / 8] :=
  (by decide +kernel : ∀ t : Fin grid0.N, win0_1.index t = ![0, 0, t.val / 8])

theorem iblk0 (c : Dev nD) (t : Fin cfg0.N) (r : Fin 1024) (k : Fin 4096) (i : Fin 8192) (hi : i.val = 1024 * (t.val % 8) + r.val) :
    (iblk m c 0 t : Vec Ideal S1024x4096 .bf16) (ix2 r k) = aH m c (ix2 i k) := by
  unfold iblk
  rw [show V m c (Pipeline.arrRef spec0 0) = m ((c : Thread nD τ).loc main_arg0) from V_main_arg0 m c]
  exact congrArg (aH m c) (pos_rows t.val r k _ (idx0 t) i hi _ rfl rfl)

theorem iblk1 (c : Dev nD) (t : Fin cfg0.N) (k : Fin 4096) (e : Fin 512) (j : Fin 4096) (hj : j.val = 512 * (t.val / 8) + e.val) :
    (iblk m c 1 t : Vec Ideal S1x4096x512 .f32) (ix3 (0 : Fin 1) k e) = aW m c k j := by
  unfold iblk
  refine (congrArg (V m c main_v0 : FVec Ideal S1x4096x4096 .f32) (pos_cols k e _ _ (idx1 t) (0 : Fin 1) rfl
    (⟨j.val, by omega⟩ : Fin 4096) hj _ rfl rfl rfl)).trans ?_
  exact front_at (m ((c : Thread nD τ).loc main_arg1) : FVec Ideal S4096x4096 .f32) _ k _

/-- What a point leaves. -/
theorem point_A (c : Dev nD) (t : Fin cfg0.N) (h0 : t.val % 8 = 0) :
    outsAt0 m c t.val t.isLt = (k0_pay2 (iblk m c 0 t) (k0_pay1 (iblk m c 1 t)), k0_pay1 (iblk m c 1 t)) := by
  rw [outsAt0_A m c t h0]
  exact congrArg₂ Prod.mk (out_A ..) (kept_A ..)
theorem point_B (c : Dev nD) (t : Fin cfg0.N) (h0 : ¬ t.val % 8 = 0) :
    outsAt0 m c t.val t.isLt = (k0_pay2 (iblk m c 0 t) (outsAt0 m c (t.val - 1) (Nat.lt_of_le_of_lt (Nat.sub_le _ _) t.isLt)).2,
      (outsAt0 m c (t.val - 1) (Nat.lt_of_le_of_lt (Nat.sub_le _ _) t.isLt)).2) := by
  rw [outsAt0_B m c t h0]
  exact congrArg₂ Prod.mk (out_B ..) rfl
/-- So the result array is the product. -/
theorem final (c : Dev nD) (i : S8192x4096.Idx) : Value.G2 m c i = result (aH m c) (aW m c) i := by
  have h0 : (i 0).val < 8192 := (i 0).isLt
  have h1 : (i 1).val < 4096 := (i 1).isLt
  have hN : cfg0.N = 64 := N_0
  have hp : Value.pt2Of i < cfg0.N := by show 1 * ((i 0).val / 1024 - 0) + 8 * ((i 1).val / 512 - 0) < cfg0.N; omega
  have hl : Value.loc2Of i = ix2 (⟨(i 0).val % 1024, Nat.mod_lt _ (by decide)⟩ : Fin 1024) (⟨(i 1).val % 512, Nat.mod_lt _ (by decide)⟩ : Fin 512) :=
    eq_ix2 _
  unfold Value.G2
  rw [dif_pos hp, ← Value.outsAt0_sweep m c (Value.pt2Of i) hp, hl]
  exact block (N₀ := cfg0.N) (N := 4096) (C := 512) (S := Vec Ideal S4096x512 .bf16) (V := Vec Ideal S1x4096x512 .f32) (aH m c) (aW m c)
    (outsAt0 m c) (fun t => iblk m c 0 t) (fun t => iblk m c 1 t) (k0_pay1 (F := Ideal)) mul rd (point_A m c) (point_B m c)
    (fun t k e j hj => (pay1_at (iblk m c 1 t) k e).trans (iblk1 m c t k e j hj)) (iblk0 m c) mul_at i _ hp _ _ (place h0).1 (place h0).2

end Cert.MixOutIdeal.Proj

namespace Cert.MixOutRefIdeal.Proj

open Cert.MixOutRefIdeal Cert.MixOutRefIdeal.Gen Cert.MixOutRefIdeal.Read Idealize.ShloMosaic Idealize.ShloMosaic.TcCoe Idealize.SL.Sem
open Cert.Proj

/-- The reference's result is the same product. -/
theorem ref (x0 : FVec Ideal S8192x4096 .bf16) (x1 : FVec Ideal S4096x4096 .f32) :
    val_main_v2 (F := Ideal) x0 x1 = result x0 (fun k (j : Fin 4096) => x1 (ix2 k (⟨j.val, by omega⟩ : Fin 4096))) := by
  funext i
  show val_main_v1 (F := Ideal) x0 x1 i = _
  rw [val_main_v1_apply]
  refine Finset.sum_congr rfl fun k _ => ?_
  rw [val_main_v0_apply]
  refine congrArg₂ (fun a b : EReal => a * b) (congrArg x0 ?_) (congrArg x1 ?_)
  · exact funext fun a => match a with
      | ⟨0, _⟩ => rfl
      | ⟨1, _⟩ => rfl
  · exact funext fun a => match a with
      | ⟨0, _⟩ => rfl
      | ⟨1, _⟩ => rfl

end Cert.MixOutRefIdeal.Proj

namespace Cert.MixOutIdeal.Proj

open Idealize.ShloMosaic Idealize.ShloMosaic.TcCoe Idealize.SL.Sem

theorem frame_r : letI := Cert.MixOutRefIdeal.Gen.facts; Cert.quiescent_MixOutRefIdeal := fun m ρ _ =>
  (θ_run Cert.MixOutRefIdeal.defs _ _).mono (fun r h => ⟨fun c => (h c).2, Idealize.ShloMosaic.sem_eq_zero_of_no_sems (by decide) r.2⟩)
    (Cert.MixOutRefIdeal.Value.run (F := Ideal) m ρ)

theorem algebraic : letI := Cert.MixOutIdeal.Gen.facts; letI := Cert.MixOutRefIdeal.Gen.facts; Cert.algebraic_MixOutIdeal_MixOutRefIdeal := by
  intro m ρ m' ρ' _ hagree
  refine ⟨fun c => Cert.Proj.result (aH m c) (aW m c), ?_, ?_⟩
  · exact (θ_run Cert.MixOutIdeal.defs _ _).mono (fun _ h c => ⟨(h c).1.trans (funext (final m c)), (h c).2⟩)
      (Cert.MixOutIdeal.Value.run (F := Ideal) m ρ)
  · exact (θ_run Cert.MixOutRefIdeal.defs _ _).mono (fun _ h c => ⟨(h c).1.trans (by
      rw [Cert.MixOutRefIdeal.Read.val_main_v2_eq, Cert.MixOutRefIdeal.Proj.ref, (hagree c).1, (hagree c).2]), (h c).2⟩)
      (Cert.MixOutRefIdeal.Value.run (F := Ideal) m' ρ')

end Cert.MixOutIdeal.Proj

end
-- ==== Proof.ProjNsaOut.lean ====
/- The sparse-attention layers' projection back to the stream, at the first of the two layers. -/
module

public import proofs.«01_k».proof.Proof.Proj
public import proofs.«01_k».proof.Proof.Gen.NsaOutIdeal.Value
public import proofs.«01_k».proof.Proof.Gen.NsaOutRefIdeal.Read
public import proofs.«01_k».proof.Defs

@[expose] public section

set_option maxRecDepth 16384

noncomputable section

namespace Cert.NsaOutIdeal.Proj

open Cert.NsaOutIdeal Cert.NsaOutIdeal.Gen Idealize.ShloMosaic Idealize.ShloMosaic.TcCoe Idealize.SL.Sem
open Cert.Proj

/-- The kept weights by columns; the tile of weights as the buffer keeps it, and a block of the product, at an index. -/
def rd (s : Vec Ideal S4096x512 .bf16) (k : Fin 4096) (e : Fin 512) : EReal := s (ix2 k e)
theorem pay1_at (v : Vec Ideal S1x4096x512 .f32) (k : Fin 4096) (e : Fin 512) : k0_pay1 v (ix2 k e) = v (ix3 (0 : Fin 1) k e) := by
  unfold k0_pay1
  rw [shapeCast_self]
  exact back_at v _ k e
def mul (v : S1024x4096.Idx → EReal) (w : Vec Ideal S4096x512 .bf16) : S1024x512.Idx → EReal := k0_pay2 (F := Ideal) v w
theorem mul_at (v : S1024x4096.Idx → EReal) (w : Vec Ideal S4096x512 .bf16) (r : Fin 1024) (e : Fin 512) :
    mul v w (ix2 r e) = ∑ k : Fin 4096, v (ix2 r k) * rd w k e := by
  pointwise [mul, k0_pay2, rd]

section Body

variable (c : Dev nD) (i : grid0.Coords) (arg2 : Memref sig .tc .vmem S1024x4096 .bf16) (harg2 : arg2.IsWhole)
  (arg3 : Memref sig .tc .vmem S1x4096x512 .f32) (harg3 : arg3.IsWhole) (arg4 : Memref sig .tc .vmem S1024x512 .bf16) (harg4 : arg4.IsWhole)
  (arg5 : Memref sig .tc .vmem S4096x512 .bf16) (harg5 : arg5.IsWhole) (x0 : Vec Ideal S1024x4096 .bf16) (x1 : Vec Ideal S1x4096x512 .f32)

/-- What the body leaves: at a tile's first point, -/
theorem kept_A (hc0 : cond0_0 i) :
    sout0_A_0 c i arg2 harg2 arg3 harg3 arg4 harg4 arg5 harg5 hc0 x0 x1 = k0_pay1 x1 := by
  unfold sout0_A_0
  rw [View.read_writes_eq_canon _ _ _ (scover0_A_0 c i arg2 harg2 arg3 harg3 arg4 harg4 arg5 harg5 hc0 x0 x1)]
  unfold kernelRun0_A
  dsimp only
  refine (View.canon_unit_zero z2 _ _).trans ?_
  rw [View.readAt_eq_ld, harg3.read_unread]
  exact congrArg k0_pay1 (View.ld_unit_zero z3 _ _)
theorem out_A (hc0 : cond0_0 i) :
    out0_A_2 c i arg2 harg2 arg3 harg3 arg4 harg4 arg5 harg5 hc0 x0 x1 = k0_pay2 x0 (k0_pay1 x1) := by
  unfold out0_A_2
  rw [View.read_writes_eq_canon _ _ _ (cover0_A_2 c i arg2 harg2 arg3 harg3 arg4 harg4 arg5 harg5 hc0 x0 x1)]
  unfold kernelRun0_A
  dsimp only
  refine (View.canon_unit_zero z2 _ _).trans ?_
  refine congrArg₂ k0_pay2 ?_ ?_
  · rw [View.readAt_eq_ld, harg2.read_unread]
    exact View.ld_unit_zero z2 _ _
  · refine (View.readCov_unit_zero _ z2 _ _).trans ?_
    rw [View.readAt_eq_ld, harg3.read_unread]
    exact congrArg k0_pay1 (View.ld_unit_zero z3 _ _)
/-- and at the others. -/
theorem out_B (hc0 : ¬ cond0_0 i) (s : Vec Ideal S4096x512 .bf16) :
    out0_B_2 c i arg2 harg2 arg3 harg3 arg4 harg4 arg5 harg5 hc0 x0 x1 s = k0_pay2 x0 s := by
  unfold out0_B_2
  rw [View.read_writes_eq_canon _ _ _ (cover0_B_2 c i arg2 harg2 arg3 harg3 arg4 harg4 arg5 harg5 hc0 x0 x1 s)]
  unfold kernelRun0_B
  dsimp only
  refine (View.canon_unit_zero z2 _ _).trans ?_
  rw [View.readAt_eq_ld, View.readAt_eq_ld, harg2.read_unread, harg5.read_unread]
  exact congrArg₂ k0_pay2 (View.ld_unit_zero z2 _ _) (View.ld_unit_zero z2 _ _)

end Body

variable (m : (ℓ : Loc nD τ sig) → Buf (Elt Ideal) ℓ)

/-- The rows, and the columns of the weights that the projection takes. -/
abbrev aH (c : Dev nD) : Rows := m ((c : Thread nD τ).loc main_arg0)
abbrev aW (c : Dev nD) : Fin 4096 → Fin 4096 → EReal := fun k j =>
  (m ((c : Thread nD τ).loc main_arg1) : S2x4096x4096.Idx → EReal) (ix3 (0 : Fin 2) k j)

theorem idx0 : ∀ t : Fin cfg0.N, win0_0.index t = ![t.val % 8, 0] :=
  (by decide +kernel : ∀ t : Fin grid0.N, win0_0.index t = ![t.val % 8, 0])
theorem idx1 : ∀ t : Fin cfg0.N, win0_1.index t = ![0, 0, t.val / 8] :=
  (by decide +kernel : ∀ t : Fin grid0.N, win0_1.index t = ![0, 0, t.val / 8])

theorem iblk0 (c : Dev nD) (t : Fin cfg0.N) (r : Fin 1024) (k : Fin 4096) (i : Fin 8192) (hi : i.val = 1024 * (t.val % 8) + r.val) :
    (iblk m c 0 t : Vec Ideal S1024x4096 .bf16) (ix2 r k) = aH m c (ix2 i k) := by
  unfold iblk
  rw [show V m c (Pipeline.arrRef spec0 0) = m ((c : Thread nD τ).loc main_arg0) from V_main_arg0 m c]
  exact congrArg (aH m c) (pos_rows t.val r k _ (idx0 t) i hi _ rfl rfl)

theorem iblk1 (c : Dev nD) (t : Fin cfg0.N) (k : Fin 4096) (e : Fin 512) (j : Fin 4096) (hj : j.val = 512 * (t.val / 8) + e.val) :
    (iblk m c 1 t : Vec Ideal S1x4096x512 .f32) (ix3 (0 : Fin 1) k e) = aW m c k j := by
  unfold iblk
  rw [show V m c (Pipeline.arrRef spec0 1) = m ((c : Thread nD τ).loc main_arg1) from V_main_arg1 m c]
  exact congrArg (m ((c : Thread nD τ).loc main_arg1) : S2x4096x4096.Idx → EReal)
    (pos_cols k e _ _ (idx1 t) (0 : Fin 2) rfl j hj _ rfl rfl rfl)

/-- What a point leaves. -/
theorem point_A (c : Dev nD) (t : Fin cfg0.N) (h0 : t.val % 8 = 0) :
    outsAt0 m c t.val t.isLt = (k0_pay2 (iblk m c 0 t) (k0_pay1 (iblk m c 1 t)), k0_pay1 (iblk m c 1 t)) := by
  rw [outsAt0_A m c t h0]
  exact congrArg₂ Prod.mk (out_A ..) (kept_A ..)
theorem point_B (c : Dev nD) (t : Fin cfg0.N) (h0 : ¬ t.val % 8 = 0) :
    outsAt0 m c t.val t.isLt = (k0_pay2 (iblk m c 0 t) (outsAt0 m c (t.val - 1) (Nat.lt_of_le_of_lt (Nat.sub_le _ _) t.isLt)).2,
      (outsAt0 m c (t.val - 1) (Nat.lt_of_le_of_lt (Nat.sub_le _ _) t.isLt)).2) := by
  rw [outsAt0_B m c t h0]
  exact congrArg₂ Prod.mk (out_B ..) rfl
/-- So the result array is the product. -/
theorem final (c : Dev nD) (i : S8192x4096.Idx) : Value.G2 m c i = result (aH m c) (aW m c) i := by
  have h0 : (i 0).val < 8192 := (i 0).isLt
  have h1 : (i 1).val < 4096 := (i 1).isLt
  have hN : cfg0.N = 64 := N_0
  have hp : Value.pt2Of i < cfg0.N := by show 1 * ((i 0).val / 1024 - 0) + 8 * ((i 1).val / 512 - 0) < cfg0.N; omega
  have hl : Value.loc2Of i = ix2 (⟨(i 0).val % 1024, Nat.mod_lt _ (by decide)⟩ : Fin 1024) (⟨(i 1).val % 512, Nat.mod_lt _ (by decide)⟩ : Fin 512) :=
    eq_ix2 _
  unfold Value.G2
  rw [dif_pos hp, ← Value.outsAt0_sweep m c (Value.pt2Of i) hp, hl]
  exact block (N₀ := cfg0.N) (N := 4096) (C := 512) (S := Vec Ideal S4096x512 .bf16) (V := Vec Ideal S1x4096x512 .f32) (aH m c) (aW m c)
    (outsAt0 m c) (fun t => iblk m c 0 t) (fun t => iblk m c 1 t) (k0_pay1 (F := Ideal)) mul rd (point_A m c) (point_B m c)
    (fun t k e j hj => (pay1_at (iblk m c 1 t) k e).trans (iblk1 m c t k e j hj)) (iblk0 m c) mul_at i _ hp _ _ (place h0).1 (place h0).2

end Cert.NsaOutIdeal.Proj

namespace Cert.NsaOutRefIdeal.Proj

open Cert.NsaOutRefIdeal Cert.NsaOutRefIdeal.Gen Cert.NsaOutRefIdeal.Read Idealize.ShloMosaic Idealize.ShloMosaic.TcCoe Idealize.SL.Sem
open Cert.Proj

/-- The reference's result is the same product. -/
theorem ref (x0 : FVec Ideal S8192x4096 .bf16) (x1 : FVec Ideal S2x4096x4096 .f32) :
    val_main_v4 (F := Ideal) x0 x1 = result x0 (fun k (j : Fin 4096) => x1 (ix3 (0 : Fin 2) k j)) := by
  funext i
  show val_main_v3 (F := Ideal) x0 x1 i = _
  rw [val_main_v3_apply]
  refine Finset.sum_congr rfl fun k _ => ?_
  rw [val_main_v0_apply, val_main_v2_apply, val_main_v1_apply]
  refine congrArg₂ (fun a b : EReal => a * b) (congrArg x0 ?_) (congrArg x1 ?_)
  · exact funext fun a => match a with
      | ⟨0, _⟩ => rfl
      | ⟨1, _⟩ => rfl
  · have h1 : (i 1).val < 4096 := (i 1).isLt
    exact funext fun a => Fin.ext (match a with
      | ⟨0, _⟩ => rfl
      | ⟨1, _⟩ => show (k.val * 4096 + (i 1).val) / 4096 % 4096 = k.val by omega
      | ⟨2, _⟩ => show (k.val * 4096 + (i 1).val) % 4096 = (i 1).val by omega)

end Cert.NsaOutRefIdeal.Proj

namespace Cert.NsaOutIdeal.Proj

open Idealize.ShloMosaic Idealize.ShloMosaic.TcCoe Idealize.SL.Sem

theorem frame_r : letI := Cert.NsaOutRefIdeal.Gen.facts; Cert.quiescent_NsaOutRefIdeal := fun m ρ _ =>
  (θ_run Cert.NsaOutRefIdeal.defs _ _).mono (fun r h => ⟨fun c => (h c).2, Idealize.ShloMosaic.sem_eq_zero_of_no_sems (by decide) r.2⟩)
    (Cert.NsaOutRefIdeal.Value.run (F := Ideal) m ρ)

theorem algebraic : letI := Cert.NsaOutIdeal.Gen.facts; letI := Cert.NsaOutRefIdeal.Gen.facts; Cert.algebraic_NsaOutIdeal_NsaOutRefIdeal := by
  intro m ρ m' ρ' _ hagree
  refine ⟨fun c => Cert.Proj.result (aH m c) (aW m c), ?_, ?_⟩
  · exact (θ_run Cert.NsaOutIdeal.defs _ _).mono (fun _ h c => ⟨(h c).1.trans (funext (final m c)), (h c).2⟩)
      (Cert.NsaOutIdeal.Value.run (F := Ideal) m ρ)
  · exact (θ_run Cert.NsaOutRefIdeal.defs _ _).mono (fun _ h c => ⟨(h c).1.trans (by
      rw [Cert.NsaOutRefIdeal.Read.val_main_v4_eq, Cert.NsaOutRefIdeal.Proj.ref, (hagree c).1, (hagree c).2]), (h c).2⟩)
      (Cert.NsaOutRefIdeal.Value.run (F := Ideal) m' ρ')

end Cert.NsaOutIdeal.Proj

end
-- ==== Proof.ProjNsaQkv.lean ====
/- The sparse-attention layers' projection to queries, keys and values, at the first of the two layers. -/
module

public import proofs.«01_k».proof.Proof.Proj
public import proofs.«01_k».proof.Proof.Gen.NsaQkvIdeal.Value
public import proofs.«01_k».proof.Proof.Gen.NsaQkvRefIdeal.Read
public import proofs.«01_k».proof.Defs

@[expose] public section

set_option maxRecDepth 16384

noncomputable section

namespace Cert.NsaQkvIdeal.Proj

open Cert.NsaQkvIdeal Cert.NsaQkvIdeal.Gen Idealize.ShloMosaic Idealize.ShloMosaic.TcCoe Idealize.SL.Sem
open Cert.Proj

/-- The kept weights by columns; the tile of weights as the buffer keeps it, and a block of the product, at an index. -/
def rd (s : Vec Ideal S512x4096 .bf16) (k : Fin 4096) (e : Fin 512) : EReal := s (ix2 e k)
theorem pay1_at (v : Vec Ideal S1x512x4096 .f32) (k : Fin 4096) (e : Fin 512) : k0_pay1 v (ix2 e k) = v (ix3 (0 : Fin 1) e k) := by
  unfold k0_pay1
  rw [shapeCast_self]
  exact back_at v _ e k
def mul (v : S1024x4096.Idx → EReal) (w : Vec Ideal S512x4096 .bf16) : S1024x512.Idx → EReal := k0_pay2 (F := Ideal) v w
theorem mul_at (v : S1024x4096.Idx → EReal) (w : Vec Ideal S512x4096 .bf16) (r : Fin 1024) (e : Fin 512) :
    mul v w (ix2 r e) = ∑ k : Fin 4096, v (ix2 r k) * rd w k e := by
  pointwise [mul, k0_pay2, rd]

section Body

variable (c : Dev nD) (i : grid0.Coords) (arg2 : Memref sig .tc .vmem S1024x4096 .bf16) (harg2 : arg2.IsWhole)
  (arg3 : Memref sig .tc .vmem S1x512x4096 .f32) (harg3 : arg3.IsWhole) (arg4 : Memref sig .tc .vmem S1024x512 .bf16) (harg4 : arg4.IsWhole)
  (arg5 : Memref sig .tc .vmem S512x4096 .bf16) (harg5 : arg5.IsWhole) (x0 : Vec Ideal S1024x4096 .bf16) (x1 : Vec Ideal S1x512x4096 .f32)

/-- What the body leaves: at a tile's first point, -/
theorem kept_A (hc0 : cond0_0 i) :
    sout0_A_0 c i arg2 harg2 arg3 harg3 arg4 harg4 arg5 harg5 hc0 x0 x1 = k0_pay1 x1 := by
  unfold sout0_A_0
  rw [View.read_writes_eq_canon _ _ _ (scover0_A_0 c i arg2 harg2 arg3 harg3 arg4 harg4 arg5 harg5 hc0 x0 x1)]
  unfold kernelRun0_A
  dsimp only
  refine (View.canon_unit_zero z2 _ _).trans ?_
  rw [View.readAt_eq_ld, harg3.read_unread]
  exact congrArg k0_pay1 (View.ld_unit_zero z3 _ _)
theorem out_A (hc0 : cond0_0 i) :
    out0_A_2 c i arg2 harg2 arg3 harg3 arg4 harg4 arg5 harg5 hc0 x0 x1 = k0_pay2 x0 (k0_pay1 x1) := by
  unfold out0_A_2
  rw [View.read_writes_eq_canon _ _ _ (cover0_A_2 c i arg2 harg2 arg3 harg3 arg4 harg4 arg5 harg5 hc0 x0 x1)]
  unfold kernelRun0_A
  dsimp only
  refine (View.canon_unit_zero z2 _ _).trans ?_
  refine congrArg₂ k0_pay2 ?_ ?_
  · rw [View.readAt_eq_ld, harg2.read_unread]
    exact View.ld_unit_zero z2 _ _
  · refine (View.readCov_unit_zero _ z2 _ _).trans ?_
    rw [View.readAt_eq_ld, harg3.read_unread]
    exact congrArg k0_pay1 (View.ld_unit_zero z3 _ _)
/-- and at the others. -/
theorem out_B (hc0 : ¬ cond0_0 i) (s : Vec Ideal S512x4096 .bf16) :
    out0_B_2 c i arg2 harg2 arg3 harg3 arg4 harg4 arg5 harg5 hc0 x0 x1 s = k0_pay2 x0 s := by
  unfold out0_B_2
  rw [View.read_writes_eq_canon _ _ _ (cover0_B_2 c i arg2 harg2 arg3 harg3 arg4 harg4 arg5 harg5 hc0 x0 x1 s)]
  unfold kernelRun0_B
  dsimp only
  refine (View.canon_unit_zero z2 _ _).trans ?_
  rw [View.readAt_eq_ld, View.readAt_eq_ld, harg2.read_unread, harg5.read_unread]
  exact congrArg₂ k0_pay2 (View.ld_unit_zero z2 _ _) (View.ld_unit_zero z2 _ _)

end Body

variable (m : (ℓ : Loc nD τ sig) → Buf (Elt Ideal) ℓ)

/-- The rows, and the columns of the weights that the projection takes. -/
abbrev aH (c : Dev nD) : Rows := m ((c : Thread nD τ).loc main_arg0)
abbrev aW (c : Dev nD) : Fin 4096 → Fin 7168 → EReal := fun k j =>
  (m ((c : Thread nD τ).loc main_arg1) : S2x4096x11360.Idx → EReal) (ix3 (0 : Fin 2) k (⟨j.val, by omega⟩ : Fin 11360))

theorem idx0 : ∀ t : Fin cfg0.N, win0_0.index t = ![t.val % 8, 0] :=
  (by decide +kernel : ∀ t : Fin grid0.N, win0_0.index t = ![t.val % 8, 0])
theorem idx1 : ∀ t : Fin cfg0.N, win0_1.index t = ![0, t.val / 8, 0] :=
  (by decide +kernel : ∀ t : Fin grid0.N, win0_1.index t = ![0, t.val / 8, 0])

/-- The weights as the host turns them. -/
theorem turned (X : FVec Ideal S2x4096x11360 .f32) (l : Fin 2) (j : Fin 11360) (k : Fin 4096) :
    transpose S2x11360x4096 [0, 2, 1] X transposes_S2x4096x11360_S2x11360x4096_0_2_1 (ix3 l j k) = X (ix3 l k j) := by
  pointwise

theorem iblk0 (c : Dev nD) (t : Fin cfg0.N) (r : Fin 1024) (k : Fin 4096) (i : Fin 8192) (hi : i.val = 1024 * (t.val % 8) + r.val) :
    (iblk m c 0 t : Vec Ideal S1024x4096 .bf16) (ix2 r k) = aH m c (ix2 i k) := by
  unfold iblk
  rw [show V m c (Pipeline.arrRef spec0 0) = m ((c : Thread nD τ).loc main_arg0) from V_main_arg0 m c]
  exact congrArg (aH m c) (pos_rows t.val r k _ (idx0 t) i hi _ rfl rfl)

theorem iblk1 (c : Dev nD) (t : Fin cfg0.N) (k : Fin 4096) (e : Fin 512) (j : Fin 7168) (hj : j.val = 512 * (t.val / 8) + e.val) :
    (X0_1 m c t : Vec Ideal S1x512x4096 .f32) (ix3 (0 : Fin 1) e k) = aW m c k j := by
  unfold X0_1 Pipeline.Window.fill
  rw [dif_pos (moved0_1 t _)]
  unfold iblk
  refine (congrArg (V m c main_v0 : FVec Ideal S2x11360x4096 .f32) (pos_cols_t k e _ _ (idx1 t) (0 : Fin 2) rfl
    (⟨j.val, by omega⟩ : Fin 11360) hj _ rfl rfl rfl)).trans ?_
  exact turned (m ((c : Thread nD τ).loc main_arg1) : FVec Ideal S2x4096x11360 .f32) _ _ _

/-- What a point leaves. -/
theorem point_A (c : Dev nD) (t : Fin cfg0.N) (h0 : t.val % 8 = 0) :
    outsAt0 m c t.val t.isLt = (k0_pay2 (iblk m c 0 t) (k0_pay1 (X0_1 m c t)), k0_pay1 (X0_1 m c t)) := by
  rw [outsAt0_A m c t h0]
  exact congrArg₂ Prod.mk (out_A ..) (kept_A ..)
theorem point_B (c : Dev nD) (t : Fin cfg0.N) (h0 : ¬ t.val % 8 = 0) :
    outsAt0 m c t.val t.isLt = (k0_pay2 (iblk m c 0 t) (outsAt0 m c (t.val - 1) (Nat.lt_of_le_of_lt (Nat.sub_le _ _) t.isLt)).2,
      (outsAt0 m c (t.val - 1) (Nat.lt_of_le_of_lt (Nat.sub_le _ _) t.isLt)).2) := by
  rw [outsAt0_B m c t h0]
  exact congrArg₂ Prod.mk (out_B ..) rfl
/-- So the result array is the product. -/
theorem final (c : Dev nD) (i : S8192x7168.Idx) : Value.G2 m c i = result (aH m c) (aW m c) i := by
  have h0 : (i 0).val < 8192 := (i 0).isLt
  have h1 : (i 1).val < 7168 := (i 1).isLt
  have hN : cfg0.N = 112 := N_0
  have hp : Value.pt2Of i < cfg0.N := by show 1 * ((i 0).val / 1024 - 0) + 8 * ((i 1).val / 512 - 0) < cfg0.N; omega
  have hl : Value.loc2Of i = ix2 (⟨(i 0).val % 1024, Nat.mod_lt _ (by decide)⟩ : Fin 1024) (⟨(i 1).val % 512, Nat.mod_lt _ (by decide)⟩ : Fin 512) :=
    eq_ix2 _
  unfold Value.G2
  rw [dif_pos hp, ← Value.outsAt0_sweep m c (Value.pt2Of i) hp, hl]
  exact block (N₀ := cfg0.N) (N := 7168) (C := 512) (S := Vec Ideal S512x4096 .bf16) (V := Vec Ideal S1x512x4096 .f32) (aH m c) (aW m c)
    (outsAt0 m c) (fun t => iblk m c 0 t) (fun t => X0_1 m c t) (k0_pay1 (F := Ideal)) mul rd (point_A m c) (point_B m c)
    (fun t k e j hj => (pay1_at (X0_1 m c t) k e).trans (iblk1 m c t k e j hj)) (iblk0 m c) mul_at i _ hp _ _ (place h0).1 (place h0).2

end Cert.NsaQkvIdeal.Proj

namespace Cert.NsaQkvRefIdeal.Proj

open Cert.NsaQkvRefIdeal Cert.NsaQkvRefIdeal.Gen Cert.NsaQkvRefIdeal.Read Idealize.ShloMosaic Idealize.ShloMosaic.TcCoe Idealize.SL.Sem
open Cert.Proj

/-- The reference's result is the same product. -/
theorem ref (x0 : FVec Ideal S8192x4096 .bf16) (x1 : FVec Ideal S2x4096x11360 .f32) :
    val_main_v5 (F := Ideal) x0 x1 = result x0 (fun k (j : Fin 7168) => x1 (ix3 (0 : Fin 2) k (⟨j.val, by omega⟩ : Fin 11360))) := by
  funext i
  show val_main_v4 (F := Ideal) x0 x1 i = _
  rw [val_main_v4_apply, val_main_v3_apply]
  refine Finset.sum_congr rfl fun k _ => ?_
  rw [val_main_v0_apply, val_main_v2_apply, val_main_v1_apply]
  refine congrArg₂ (fun a b : EReal => a * b) (congrArg x0 ?_) (congrArg x1 ?_)
  · exact funext fun a => match a with
      | ⟨0, _⟩ => rfl
      | ⟨1, _⟩ => rfl
  · have h1 : (i 1).val < 7168 := (i 1).isLt
    exact funext fun a => Fin.ext (match a with
      | ⟨0, _⟩ => rfl
      | ⟨1, _⟩ => show (k.val * 11360 + (i 1).val) / 11360 % 4096 = k.val by omega
      | ⟨2, _⟩ => show (k.val * 11360 + (i 1).val) % 11360 = (i 1).val by omega)

end Cert.NsaQkvRefIdeal.Proj

namespace Cert.NsaQkvIdeal.Proj

open Idealize.ShloMosaic Idealize.ShloMosaic.TcCoe Idealize.SL.Sem

theorem frame_r : letI := Cert.NsaQkvRefIdeal.Gen.facts; Cert.quiescent_NsaQkvRefIdeal := fun m ρ _ =>
  (θ_run Cert.NsaQkvRefIdeal.defs _ _).mono (fun r h => ⟨fun c => (h c).2, Idealize.ShloMosaic.sem_eq_zero_of_no_sems (by decide) r.2⟩)
    (Cert.NsaQkvRefIdeal.Value.run (F := Ideal) m ρ)

theorem algebraic : letI := Cert.NsaQkvIdeal.Gen.facts; letI := Cert.NsaQkvRefIdeal.Gen.facts; Cert.algebraic_NsaQkvIdeal_NsaQkvRefIdeal := by
  intro m ρ m' ρ' _ hagree
  refine ⟨fun c => Cert.Proj.result (aH m c) (aW m c), ?_, ?_⟩
  · exact (θ_run Cert.NsaQkvIdeal.defs _ _).mono (fun _ h c => ⟨(h c).1.trans (funext (final m c)), (h c).2⟩)
      (Cert.NsaQkvIdeal.Value.run (F := Ideal) m ρ)
  · exact (θ_run Cert.NsaQkvRefIdeal.defs _ _).mono (fun _ h c => ⟨(h c).1.trans (by
      rw [Cert.NsaQkvRefIdeal.Read.val_main_v5_eq, Cert.NsaQkvRefIdeal.Proj.ref, (hagree c).1, (hagree c).2]), (h c).2⟩)
      (Cert.NsaQkvRefIdeal.Value.run (F := Ideal) m' ρ')

end Cert.NsaQkvIdeal.Proj

end
-- ==== Proof.ProjNsaGl.lean ====
/- The sparse-attention layers' projection to the gates, at the first of the two layers. -/
module

public import proofs.«01_k».proof.Proof.Proj
public import proofs.«01_k».proof.Proof.Gen.NsaGlIdeal.Value
public import proofs.«01_k».proof.Proof.Gen.NsaGlRefIdeal.Read
public import proofs.«01_k».proof.Defs

@[expose] public section

set_option maxRecDepth 16384

noncomputable section

namespace Cert.NsaGlIdeal.Proj

open Cert.NsaGlIdeal Cert.NsaGlIdeal.Gen Idealize.ShloMosaic Idealize.ShloMosaic.TcCoe Idealize.SL.Sem
open Cert.Proj

/-- The kept weights by columns; the tile of weights as the buffer keeps it, and a block of the product, at an index. -/
def rd (s : Vec Ideal S128x4096 .bf16) (k : Fin 4096) (e : Fin 128) : EReal := s (ix2 e k)
theorem pay1_at (v : Vec Ideal S1x128x4096 .f32) (k : Fin 4096) (e : Fin 128) : k0_pay1 v (ix2 e k) = v (ix3 (0 : Fin 1) e k) := by
  unfold k0_pay1
  rw [shapeCast_self]
  exact back_at v _ e k
def mul (v : S1024x4096.Idx → EReal) (w : Vec Ideal S128x4096 .bf16) : S1024x128.Idx → EReal := k0_pay2 (F := Ideal) v w
theorem mul_at (v : S1024x4096.Idx → EReal) (w : Vec Ideal S128x4096 .bf16) (r : Fin 1024) (e : Fin 128) :
    mul v w (ix2 r e) = ∑ k : Fin 4096, v (ix2 r k) * rd w k e := by
  pointwise [mul, k0_pay2, rd]

section Body

variable (c : Dev nD) (i : grid0.Coords) (arg2 : Memref sig .tc .vmem S1024x4096 .bf16) (harg2 : arg2.IsWhole)
  (arg3 : Memref sig .tc .vmem S1x128x4096 .f32) (harg3 : arg3.IsWhole) (arg4 : Memref sig .tc .vmem S1024x128 .f32) (harg4 : arg4.IsWhole)
  (arg5 : Memref sig .tc .vmem S128x4096 .bf16) (harg5 : arg5.IsWhole) (x0 : Vec Ideal S1024x4096 .bf16) (x1 : Vec Ideal S1x128x4096 .f32)

/-- What the body leaves: at a tile's first point, -/
theorem kept_A (hc0 : cond0_0 i) :
    sout0_A_0 c i arg2 harg2 arg3 harg3 arg4 harg4 arg5 harg5 hc0 x0 x1 = k0_pay1 x1 := by
  unfold sout0_A_0
  rw [View.read_writes_eq_canon _ _ _ (scover0_A_0 c i arg2 harg2 arg3 harg3 arg4 harg4 arg5 harg5 hc0 x0 x1)]
  unfold kernelRun0_A
  dsimp only
  refine (View.canon_unit_zero z2 _ _).trans ?_
  rw [View.readAt_eq_ld, harg3.read_unread]
  exact congrArg k0_pay1 (View.ld_unit_zero z3 _ _)
theorem out_A (hc0 : cond0_0 i) :
    out0_A_2 c i arg2 harg2 arg3 harg3 arg4 harg4 arg5 harg5 hc0 x0 x1 = k0_pay2 x0 (k0_pay1 x1) := by
  unfold out0_A_2
  rw [View.read_writes_eq_canon _ _ _ (cover0_A_2 c i arg2 harg2 arg3 harg3 arg4 harg4 arg5 harg5 hc0 x0 x1)]
  unfold kernelRun0_A
  dsimp only
  refine (View.canon_unit_zero z2 _ _).trans ?_
  refine congrArg₂ k0_pay2 ?_ ?_
  · rw [View.readAt_eq_ld, harg2.read_unread]
    exact View.ld_unit_zero z2 _ _
  · refine (View.readCov_unit_zero _ z2 _ _).trans ?_
    rw [View.readAt_eq_ld, harg3.read_unread]
    exact congrArg k0_pay1 (View.ld_unit_zero z3 _ _)
/-- and at the others. -/
theorem out_B (hc0 : ¬ cond0_0 i) (s : Vec Ideal S128x4096 .bf16) :
    out0_B_2 c i arg2 harg2 arg3 harg3 arg4 harg4 arg5 harg5 hc0 x0 x1 s = k0_pay2 x0 s := by
  unfold out0_B_2
  rw [View.read_writes_eq_canon _ _ _ (cover0_B_2 c i arg2 harg2 arg3 harg3 arg4 harg4 arg5 harg5 hc0 x0 x1 s)]
  unfold kernelRun0_B
  dsimp only
  refine (View.canon_unit_zero z2 _ _).trans ?_
  rw [View.readAt_eq_ld, View.readAt_eq_ld, harg2.read_unread, harg5.read_unread]
  exact congrArg₂ k0_pay2 (View.ld_unit_zero z2 _ _) (View.ld_unit_zero z2 _ _)

end Body

variable (m : (ℓ : Loc nD τ sig) → Buf (Elt Ideal) ℓ)

/-- The rows, and the columns of the weights that the projection takes. -/
abbrev aH (c : Dev nD) : Rows := m ((c : Thread nD τ).loc main_arg0)
abbrev aW (c : Dev nD) : Fin 4096 → Fin 128 → EReal := fun k j =>
  (m ((c : Thread nD τ).loc main_arg1) : S2x4096x11360.Idx → EReal) (ix3 (0 : Fin 2) k (⟨7168 + j.val, by omega⟩ : Fin 11360))

theorem idx0 : ∀ t : Fin cfg0.N, win0_0.index t = ![t.val % 8, 0] :=
  (by decide +kernel : ∀ t : Fin grid0.N, win0_0.index t = ![t.val % 8, 0])
theorem idx1 : ∀ t : Fin cfg0.N, win0_1.index t = ![0, 56 + t.val / 8, 0] :=
  (by decide +kernel : ∀ t : Fin grid0.N, win0_1.index t = ![0, 56 + t.val / 8, 0])

/-- The weights as the host turns them. -/
theorem turned (X : FVec Ideal S2x4096x11360 .f32) (l : Fin 2) (j : Fin 11360) (k : Fin 4096) :
    transpose S2x11360x4096 [0, 2, 1] X transposes_S2x4096x11360_S2x11360x4096_0_2_1 (ix3 l j k) = X (ix3 l k j) := by
  pointwise

theorem iblk0 (c : Dev nD) (t : Fin cfg0.N) (r : Fin 1024) (k : Fin 4096) (i : Fin 8192) (hi : i.val = 1024 * (t.val % 8) + r.val) :
    (iblk m c 0 t : Vec Ideal S1024x4096 .bf16) (ix2 r k) = aH m c (ix2 i k) := by
  unfold iblk
  rw [show V m c (Pipeline.arrRef spec0 0) = m ((c : Thread nD τ).loc main_arg0) from V_main_arg0 m c]
  exact congrArg (aH m c) (pos_rows t.val r k _ (idx0 t) i hi _ rfl rfl)

theorem iblk1 (c : Dev nD) (t : Fin cfg0.N) (k : Fin 4096) (e : Fin 128) (j : Fin 128) (hj : j.val = 128 * (t.val / 8) + e.val) :
    (X0_1 m c t : Vec Ideal S1x128x4096 .f32) (ix3 (0 : Fin 1) e k) = aW m c k j := by
  unfold X0_1 Pipeline.Window.fill
  rw [dif_pos (moved0_1 t _)]
  unfold iblk
  refine (congrArg (V m c main_v0 : FVec Ideal S2x11360x4096 .f32) (pos_cols_t k e _ _ (idx1 t) (0 : Fin 2) rfl
    (⟨7168 + j.val, by omega⟩ : Fin 11360) (show 7168 + j.val = 128 * (56 + t.val / 8) + e.val by omega) _ rfl rfl rfl)).trans ?_
  exact turned (m ((c : Thread nD τ).loc main_arg1) : FVec Ideal S2x4096x11360 .f32) _ _ _

/-- What a point leaves. -/
theorem point_A (c : Dev nD) (t : Fin cfg0.N) (h0 : t.val % 8 = 0) :
    outsAt0 m c t.val t.isLt = (k0_pay2 (iblk m c 0 t) (k0_pay1 (X0_1 m c t)), k0_pay1 (X0_1 m c t)) := by
  rw [outsAt0_A m c t h0]
  exact congrArg₂ Prod.mk (out_A ..) (kept_A ..)
theorem point_B (c : Dev nD) (t : Fin cfg0.N) (h0 : ¬ t.val % 8 = 0) :
    outsAt0 m c t.val t.isLt = (k0_pay2 (iblk m c 0 t) (outsAt0 m c (t.val - 1) (Nat.lt_of_le_of_lt (Nat.sub_le _ _) t.isLt)).2,
      (outsAt0 m c (t.val - 1) (Nat.lt_of_le_of_lt (Nat.sub_le _ _) t.isLt)).2) := by
  rw [outsAt0_B m c t h0]
  exact congrArg₂ Prod.mk (out_B ..) rfl
/-- So the result array is the product. -/
theorem final (c : Dev nD) (i : S8192x128.Idx) : Value.G2 m c i = result (aH m c) (aW m c) i := by
  have h0 : (i 0).val < 8192 := (i 0).isLt
  have h1 : (i 1).val < 128 := (i 1).isLt
  have hN : cfg0.N = 8 := N_0
  have hpt : Value.pt2Of i = 1 * ((i 0).val / 1024 - 0) + 8 * ((i 1).val / 128 - 0) := by
    show 1 * ((i 0).val / 1024 - 0) + 1 * ((i 1).val / 128 - 0) = _; omega
  have hp : Value.pt2Of i < cfg0.N := by rw [hpt]; omega
  have hl : Value.loc2Of i = ix2 (⟨(i 0).val % 1024, Nat.mod_lt _ (by decide)⟩ : Fin 1024) (⟨(i 1).val % 128, Nat.mod_lt _ (by decide)⟩ : Fin 128) :=
    eq_ix2 _
  unfold Value.G2
  rw [dif_pos hp, ← Value.outsAt0_sweep m c (Value.pt2Of i) hp, hl]
  exact block (N₀ := cfg0.N) (N := 128) (C := 128) (S := Vec Ideal S128x4096 .bf16) (V := Vec Ideal S1x128x4096 .f32) (aH m c) (aW m c)
    (outsAt0 m c) (fun t => iblk m c 0 t) (fun t => X0_1 m c t) (k0_pay1 (F := Ideal)) mul rd (point_A m c) (point_B m c)
    (fun t k e j hj => (pay1_at (X0_1 m c t) k e).trans (iblk1 m c t k e j hj)) (iblk0 m c) mul_at i _ hp _ _ (by rw [hpt]; exact (place h0).1) (by rw [hpt]; exact (place h0).2)

end Cert.NsaGlIdeal.Proj

namespace Cert.NsaGlRefIdeal.Proj

open Cert.NsaGlRefIdeal Cert.NsaGlRefIdeal.Gen Cert.NsaGlRefIdeal.Read Idealize.ShloMosaic Idealize.ShloMosaic.TcCoe Idealize.SL.Sem
open Cert.Proj

/-- The reference's result is the same product. -/
theorem ref (x0 : FVec Ideal S8192x4096 .bf16) (x1 : FVec Ideal S2x4096x11360 .f32) :
    val_main_v4 (F := Ideal) x0 x1 = result x0 (fun k (j : Fin 128) => x1 (ix3 (0 : Fin 2) k (⟨7168 + j.val, by omega⟩ : Fin 11360))) := by
  funext i
  rw [val_main_v4_apply, val_main_v3_apply]
  refine Finset.sum_congr rfl fun k _ => ?_
  rw [val_main_v0_apply, val_main_v2_apply, val_main_v1_apply]
  refine congrArg₂ (fun a b : EReal => a * b) (congrArg x0 ?_) (congrArg x1 ?_)
  · exact funext fun a => match a with
      | ⟨0, _⟩ => rfl
      | ⟨1, _⟩ => rfl
  · have h1 : (i 1).val < 128 := (i 1).isLt
    exact funext fun a => Fin.ext (match a with
      | ⟨0, _⟩ => rfl
      | ⟨1, _⟩ => show (k.val * 11360 + (7168 + (i 1).val)) / 11360 % 4096 = k.val by omega
      | ⟨2, _⟩ => show (k.val * 11360 + (7168 + (i 1).val)) % 11360 = 7168 + (i 1).val by omega)

end Cert.NsaGlRefIdeal.Proj

namespace Cert.NsaGlIdeal.Proj

open Idealize.ShloMosaic Idealize.ShloMosaic.TcCoe Idealize.SL.Sem

theorem frame_r : letI := Cert.NsaGlRefIdeal.Gen.facts; Cert.quiescent_NsaGlRefIdeal := fun m ρ _ =>
  (θ_run Cert.NsaGlRefIdeal.defs _ _).mono (fun r h => ⟨fun c => (h c).2, Idealize.ShloMosaic.sem_eq_zero_of_no_sems (by decide) r.2⟩)
    (Cert.NsaGlRefIdeal.Value.run (F := Ideal) m ρ)

theorem algebraic : letI := Cert.NsaGlIdeal.Gen.facts; letI := Cert.NsaGlRefIdeal.Gen.facts; Cert.algebraic_NsaGlIdeal_NsaGlRefIdeal := by
  intro m ρ m' ρ' _ hagree
  refine ⟨fun c => Cert.Proj.result (aH m c) (aW m c), ?_, ?_⟩
  · exact (θ_run Cert.NsaGlIdeal.defs _ _).mono (fun _ h c => ⟨(h c).1.trans (funext (final m c)), (h c).2⟩)
      (Cert.NsaGlIdeal.Value.run (F := Ideal) m ρ)
  · exact (θ_run Cert.NsaGlRefIdeal.defs _ _).mono (fun _ h c => ⟨(h c).1.trans (by
      rw [Cert.NsaGlRefIdeal.Read.val_main_v4_eq, Cert.NsaGlRefIdeal.Proj.ref, (hagree c).1, (hagree c).2]), (h c).2⟩)
      (Cert.NsaGlRefIdeal.Value.run (F := Ideal) m' ρ')

end Cert.NsaGlIdeal.Proj

end
-- ==== Proof.ProjNsaZBody.lean ====
/- The call of the gate projection of sparse attention: one run of its kernel. The tile of transposed weights the call keeps
   is put together from two blocks: 416 rows of one and the first 96 rows of the next. -/
module

public import proofs.«01_k».proof.Proof.Gen.NsaZIdeal.Frame
public import proofs.«01_k».proof.Proof.Gen.NsaZIdeal.Skeleton
public import Idealize.ShloMosaic.Lib.Claim
public import Idealize.ShloMosaic.Lib.Ring
public import Idealize.ShloMosaic.Lib.Tactic
public import Idealize.ShloMosaic.Lib.WordCmp
public import Idealize.ShloMosaic.Lib.VecWindow
public import Idealize.ShloMosaic.Lib.Pipeline.ValueKit.Basic

@[expose] public section

set_option maxRecDepth 16384

noncomputable section

namespace Cert.NsaZIdeal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.NsaZIdeal.Gen

variable {F : FTy → Type} [FloatOps F]

local notation "𝕄" => MT nD τ sig Unit (Elt F) ℕ (UR sig nD τ) ℕ

/-- The rows of the first block of weights that are kept: from row 96 on. -/
abbrev takeFirst : Rect S1x512x4096 := Rect.unit (s := S1x512x4096) ![0, 96, 0] S1x416x4096.size inb_S1x512x4096_S1x416x4096_0_96_0
/-- The rows of the second block that are kept: the first 96. -/
abbrev takeSecond : Rect S1x128x4096 := Rect.unit (s := S1x128x4096) ![0, 0, 0] S1x96x4096.size inb_S1x128x4096_S1x96x4096_0_0_0
/-- Where the rows of the first block go. -/
abbrev putFirst : Rect S512x4096 := Rect.unit (s := S512x4096) ![0, 0] S416x4096.size inb_S512x4096_S416x4096_0_0
/-- Where the rows of the second block go. -/
abbrev putSecond : Rect S512x4096 := Rect.unit (s := S512x4096) ![416, 0] S96x4096.size inb_S512x4096_S96x4096_416_0

/-- What the first point of a tile stores into the kept tile, last store first. -/
def pieces (x1 : Vec F S1x512x4096 .f32) (x2 : Vec F S1x128x4096 .f32) : List (View.Piece (Elt F) S512x4096 .bf16) :=
  [⟨putSecond, k0_pay2 (View.ld x2 takeSecond)⟩, ⟨putFirst, k0_pay1 (View.ld x1 takeFirst)⟩]

/-- The two stores cover the tile: rows below 416, and the 96 rows from 416 on. -/
theorem cover (x1 : Vec F S1x512x4096 .f32) (x2 : Vec F S1x128x4096 .f32) (y : S512x4096.Idx) : ∃ p ∈ pieces x1 x2, y ∈ p.1.set := by
  have h0 : (y 0).val < 512 := (y 0).isLt
  have h1 : (y 1).val < 4096 := (y 1).isLt
  by_cases h : (y 0).val < 416
  · have hm : y ∈ putFirst.set := by
      rw [Rect.mem_set_unit]
      intro a
      fin_cases a
      · exact ⟨Nat.zero_le _, by show (y 0).val < 0 + 416; omega⟩
      · exact ⟨Nat.zero_le _, by show (y 1).val < 0 + 4096; omega⟩
    exact ⟨⟨putFirst, k0_pay1 (View.ld x1 takeFirst)⟩, List.mem_cons_of_mem _ List.mem_cons_self, hm⟩
  · have hm : y ∈ putSecond.set := by
      rw [Rect.mem_set_unit]
      intro a
      fin_cases a
      · exact ⟨by show 416 ≤ (y 0).val; omega, by show (y 0).val < 416 + 96; omega⟩
      · exact ⟨Nat.zero_le _, by show (y 1).val < 0 + 4096; omega⟩
    exact ⟨⟨putSecond, k0_pay2 (View.ld x2 takeSecond)⟩, List.mem_cons_self, hm⟩

/-- The kept tile. -/
def tile (x1 : Vec F S1x512x4096 .f32) (x2 : Vec F S1x128x4096 .f32) : Vec F S512x4096 .bf16 := View.canon (pieces x1 x2)

/-- The condition of the kernel's branch: the first point of a tile. -/
abbrev first (i : grid0.Coords) : Prop :=
  (Scalar.cmpi .ne (Scalar.extui (Scalar.cmpi .eq (BitVec.ofNat 32 (i 1).val) 0#32)) 0#32) = 1#1

theorem first_iff : ∀ t : Fin cfg0.N, first (grid0.coords t) ↔ t.val % 8 = 0 :=
  (fun t => by
    have ht : t.val < 64 := Nat.lt_of_lt_of_eq t.isLt N_0
    have e0 : (grid0.coords t 0).val = t.val / 8 % 8 := Pipeline.Grid.coords_val t 0 (by decide) rfl
    have e1 : (grid0.coords t 1).val = t.val / 1 % 8 := Pipeline.Grid.coords_val t 1 (by decide) rfl
    simp only [first, e0, e1]
    word_cmp
   : ∀ t : Fin grid0.N, first (grid0.coords t) ↔ t.val % 8 = 0)

set_option maxHeartbeats 1000000 in
/-- The first point of a tile: the kernel leaves the kept tile and the product with it. -/
theorem run_first (c : Dev nD) (i : grid0.Coords) (arg2 : Memref sig .tc .vmem S1024x4096 .bf16) (harg2 : arg2.IsWhole)
    (arg3 : Memref sig .tc .vmem S1x512x4096 .f32) (harg3 : arg3.IsWhole) (arg4 : Memref sig .tc .vmem S1x128x4096 .f32) (harg4 : arg4.IsWhole)
    (arg5 : Memref sig .tc .vmem S1024x512 .bf16) (harg5 : arg5.IsWhole) (arg6 : Memref sig .tc .vmem S512x4096 .bf16) (harg6 : arg6.IsWhole)
    (hc : first i) (x0 : Vec F S1024x4096 .bf16) (x1 : Vec F S1x512x4096 .f32) (x2 : Vec F S1x128x4096 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 x0 (tile x1 x2)) ∗ owns (c : Thread nD τ) arg6 fullShare (tile x1 x2)) -∗ K ⟨⟩))
      ⊢ wp frame (wpE (defs₀ (F := F)) Variants.none c none) E (cc0_projection i arg2 harg2 arg3 harg3 arg4 harg4 arg5 harg5 arg6 harg6) K := by
  simp only [cc0_projection_eq_skeleton]; unfold cc0_projection_skel
  unfold owns
  iintro ⟨⟨%f0, %hf0, H0⟩, ⟨%f1, %hf1, H1⟩, ⟨%f2, %hf2, H2⟩, ⟨%d3, %f3, -, H3⟩, ⟨%ds0, %fs0, -, HS0⟩, Hk⟩
  obtain rfl := harg2.eq_unread hf0; obtain rfl := harg3.eq_unread hf1; obtain rfl := harg4.eq_unread hf2
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  let L : List (View.Piece (Elt F) S512x4096 .bf16) :=
    [⟨putSecond, k0_pay2 (View.readAt (Elt F) arg4.view takeSecond.toLoadRect (harg4.unread x2))⟩,
      ⟨putFirst, k0_pay1 (View.readAt (Elt F) arg3.view takeFirst.toLoadRect (harg3.unread x1))⟩]
  have hL : L = pieces x1 x2 := by
    show [_, _] = [_, _]
    rw [View.readAt_eq_ld, View.readAt_eq_ld, harg3.read_unread, harg4.read_unread]
  isplitl [H3]
  · iexists _; isplitr
    swap; · iexact H3
    ipureintro
    rw [View.read_writes_full, View.readAt_full, harg2.read_unread]
    change k0_pay3 x0 (View.readCov arg6.view L (Rect.unit (s := S512x4096) ![0, 0] S512x4096.size inb_S512x4096_S512x4096_0_0).toLoadRect) = _
    rw [View.readCov_eq_canon_ld _ _ _ (by rw [hL]; exact cover x1 x2), hL, View.ld_unit_lit _ _ (by decide)]
    rfl
  · iexists _; isplitr
    swap; · iexact HS0
    ipureintro
    change View.read (Elt F) arg6.view (arg6.view.writes (Elt F) fs0 L) = _
    rw [hL]
    exact View.read_writes_eq_canon _ _ _ (cover x1 x2)

set_option maxHeartbeats 1000000 in
/-- A later point of a tile: the kernel leaves the kept tile as it is and the product with it. -/
theorem run_later (c : Dev nD) (i : grid0.Coords) (arg2 : Memref sig .tc .vmem S1024x4096 .bf16) (harg2 : arg2.IsWhole)
    (arg3 : Memref sig .tc .vmem S1x512x4096 .f32) (harg3 : arg3.IsWhole) (arg4 : Memref sig .tc .vmem S1x128x4096 .f32) (harg4 : arg4.IsWhole)
    (arg5 : Memref sig .tc .vmem S1024x512 .bf16) (harg5 : arg5.IsWhole) (arg6 : Memref sig .tc .vmem S512x4096 .bf16) (harg6 : arg6.IsWhole)
    (hc : ¬first i) (x0 : Vec F S1024x4096 .bf16) (x1 : Vec F S1x512x4096 .f32) (x2 : Vec F S1x128x4096 .f32) (xs : Vec F S512x4096 .bf16)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 x0 xs) ∗ owns (c : Thread nD τ) arg6 fullShare xs) -∗ K ⟨⟩))
      ⊢ wp frame (wpE (defs₀ (F := F)) Variants.none c none) E (cc0_projection i arg2 harg2 arg3 harg3 arg4 harg4 arg5 harg5 arg6 harg6) K := by
  simp only [cc0_projection_eq_skeleton]; unfold cc0_projection_skel
  unfold owns
  iintro ⟨⟨%f0, %hf0, H0⟩, ⟨%f1, %hf1, H1⟩, ⟨%f2, %hf2, H2⟩, ⟨%d3, %f3, -, H3⟩, ⟨%fs0, %hfs0, HS0⟩, Hk⟩
  obtain rfl := harg2.eq_unread hf0; obtain rfl := harg3.eq_unread hf1; obtain rfl := harg4.eq_unread hf2
  obtain rfl := harg6.eq_unread hfs0
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    rw [View.read_writes_full, View.readAt_full, View.readAt_full, harg2.read_unread, harg6.read_unread]
  · iexists _; isplitr; · ipureintro; exact harg6.read_unread _
    iexact HS0

end Cert.NsaZIdeal.Proj

end
-- ==== Proof.ProjNsaZFrame.lean ====
/- The call of the gate projection of sparse attention: its run over the grid. The second block of weights is cut by the
   array's end at the last tile; the kernel reads only rows of it that are there. -/
module

public import proofs.«01_k».proof.Proof.ProjNsaZBody

@[expose] public section

set_option maxRecDepth 16384

noncomputable section

namespace Cert.NsaZIdeal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.NsaZIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A value for the rows of the second block past the array's end. -/
def blank : (cfg0.win 2).block.Idx → Elt F (cfg0.win 2).elt := fun _ => Classical.choice inferInstance

/-- The second block of weights at a point: the rows of the array, and `blank` past its end. -/
def second (c : Dev nD) (t : Fin cfg0.N) : (cfg0.win 2).block.Idx → Elt F (cfg0.win 2).elt :=
  (cfg0.win 2).fill (cfg0.grid.coords t) blank (iblk m c 2 t)

/-- At every point at least 96 rows of the second block lie inside the array, and nothing else is cut. -/
theorem inside : ∀ t : Fin cfg0.N, 1 ≤ (cfg0.win 2).xsize (cfg0.grid.coords t) 0 ∧ 96 ≤ (cfg0.win 2).xsize (cfg0.grid.coords t) 1
    ∧ 4096 ≤ (cfg0.win 2).xsize (cfg0.grid.coords t) 2 := by decide +kernel

/-- The first 96 rows of the second block are rows of the array. -/
theorem moved_second (t : Fin cfg0.N) (j : (cfg0.win 2).block.Idx) (h : (j 1).val < 96) : (cfg0.win 2).moved (cfg0.grid.coords t) j = true :=
  ((cfg0.win 2).moved_iff _ j).mpr fun a => by
    obtain ⟨h0, h1, h2⟩ := inside t
    fin_cases a
    · exact lt_of_lt_of_le (j 0).isLt h0
    · exact lt_of_lt_of_le h h1
    · exact lt_of_lt_of_le (j 2).isLt h2

/-- The rows of the second block that are kept do not depend on what lies past the array's end. -/
theorem kept_second (t : Fin cfg0.N) (d d' : (cfg0.win 2).block.Idx → Elt F (cfg0.win 2).elt) (g) :
    View.ld (Val := Elt F) (S := S1x128x4096) (e' := .f32) ((cfg0.win 2).fill (cfg0.grid.coords t) d g) takeSecond
      = View.ld (Val := Elt F) (S := S1x128x4096) (e' := .f32) ((cfg0.win 2).fill (cfg0.grid.coords t) d' g) takeSecond := by
  funext y
  have h : ((takeSecond.idx y) 1).val < 96 := by
    have : (y 1).val < 96 := (y 1).isLt
    show 0 + 1 * (y 1).val < 96
    omega
  show (cfg0.win 2).fill (cfg0.grid.coords t) d g (takeSecond.idx y) = (cfg0.win 2).fill (cfg0.grid.coords t) d' g (takeSecond.idx y)
  unfold Pipeline.Window.fill
  rw [dif_pos (moved_second t _ h), dif_pos (moved_second t _ h)]

/-- Nor does the kept tile. -/
theorem tile_second (t : Fin cfg0.N) (x1 : Vec F S1x512x4096 .f32) (d d' : (cfg0.win 2).block.Idx → Elt F (cfg0.win 2).elt) (g) :
    tile x1 ((cfg0.win 2).fill (cfg0.grid.coords t) d g) = tile x1 ((cfg0.win 2).fill (cfg0.grid.coords t) d' g) := by
  unfold tile pieces; rw [kept_second t d d' g]

/-- The tile kept after each point: read off the arrays at the first point of a tile, as it was at the others. -/
def held (c : Dev nD) : (n : ℕ) → n < cfg0.N → Vec F S512x4096 .bf16
  | 0, hn => tile (X0_1 m c ⟨0, hn⟩) (second m c ⟨0, hn⟩)
  | n + 1, hn => if (n + 1) % 8 = 0 then tile (X0_1 m c ⟨n + 1, hn⟩) (second m c ⟨n + 1, hn⟩) else held c n (Nat.lt_of_succ_lt hn)

theorem held_first (c : Dev nD) (t : Fin cfg0.N) (h0 : t.val % 8 = 0) : held m c t.val t.isLt = tile (X0_1 m c t) (second m c t) := by
  obtain ⟨n, hn⟩ := t
  cases n with
  | zero => rfl
  | succ n => exact if_pos h0

theorem held_later (c : Dev nD) (t : Fin cfg0.N) (h0 : ¬t.val % 8 = 0) :
    held m c t.val t.isLt = held m c (t.val - 1) (Nat.lt_of_le_of_lt (Nat.sub_le _ _) t.isLt) := by
  obtain ⟨n, hn⟩ := t
  cases n with
  | zero => exact absurd (Nat.zero_mod _) h0
  | succ n => exact if_neg h0

/-- What each point leaves: its block of the product, and the kept tile. -/
def outs (c : Dev nD) (n : ℕ) (hn : n < cfg0.N) : Vec F S1024x512 .bf16 × Vec F S512x4096 .bf16 :=
  (k0_pay3 (iblk m c 0 ⟨n, hn⟩) (held m c n hn), held m c n hn)

/-- The kept tile, as a buffer of the kernel's own. -/
abbrev box : Memref sig .tc .vmem S512x4096 .bf16 := Memref.whole cc0_scratch0

/-- What the call owns beside its windows: the buffer of the kept tile, at any contents, and the generator's register. -/
theorem rest_eq (c : Dev nD) :
    (Pipeline.ΦA spec0 c : sProp 𝕄)
      = iprop(iprop((∃ d, owns (c : Thread nD τ) box fullShare d)) ∗ (∃ r, prngReg c r)) := by
  unfold Pipeline.ΦA; rw [scopedRest0_eq]; simp only [box, owns_whole]; try rfl

/-- The same before position `n`: after the first point the buffer holds the kept tile. -/
def rest (c : Dev nD) : (n : ℕ) → n ≤ cfg0.N → sProp 𝕄
  | 0, _ => Pipeline.ΦA spec0 c
  | n + 1, hn => iprop(iprop(owns (c : Thread nD τ) box fullShare (held m c n hn)) ∗ (∃ r, prngReg c r))

theorem rest_zero (c : Dev nD) (n : ℕ) (h : n ≤ cfg0.N) (hz : n = 0) : rest m c n h = Pipeline.ΦA spec0 c := by
  subst hz; rfl

theorem rest_succ (c : Dev nD) (n : ℕ) (hn : n < cfg0.N) :
    rest m c (n + 1) hn = iprop(iprop(owns (c : Thread nD τ) box fullShare (held m c n hn)) ∗ (∃ r, prngReg c r)) := rfl

theorem rest_pos (c : Dev nD) (n : ℕ) (h : n ≤ cfg0.N) (hz : n ≠ 0) :
    rest m c n h = iprop(iprop(owns (c : Thread nD τ) box fullShare (held m c (n - 1) (by omega))) ∗ (∃ r, prngReg c r)) := by
  cases n with
  | zero => exact absurd rfl hz
  | succ n => rfl

/-- What the pipeline holds: the arrays as the call finds them, each input's buffer at its block, the output's at its block of
    the product. The two blocks of weights share one array. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => second m c t
    | ⟨3, _⟩ => (outs m c t.val t.isLt).1
  Φ t := rest m c t.val (Nat.le_of_lt_succ t.isLt)
  q w := Pipeline.shareOf spec0 w
  owed _ := 0

theorem data_A (c : Dev nD) (w : Fin cfg0.W) : (data m 0 c).A w = V m c (Pipeline.arrRef spec0 w) := by
  dsimp only [data]

theorem rest_here (c : Dev nD) (t : Fin cfg0.N) : (data m 0 c).Φ t.castSucc = rest m c t.val (Nat.le_of_lt t.isLt) := by
  dsimp only [data]; exact Pipeline.Dat.Φ_castSucc (rest m c) t

theorem after_0 (c : Dev nD) (t : Fin cfg0.N) : (data m 0 c).after 0 t = iblk m c 0 t := by dsimp only [data]
theorem after_1 (c : Dev nD) (t : Fin cfg0.N) : (data m 0 c).after 1 t = X0_1 m c t := by dsimp only [data]
theorem after_2 (c : Dev nD) (t : Fin cfg0.N) : (data m 0 c).after 2 t = second m c t := by dsimp only [data]
theorem after_3 (c : Dev nD) (t : Fin cfg0.N) : (data m 0 c).after 3 t = (outs m c t.val t.isLt).1 := by dsimp only [data]

theorem before_0 (c : Dev nD) (t : Fin cfg0.N) (d) : (data m 0 c).before 0 t d = iblk m c 0 t :=
  before0_0_of m (data m 0 c) (data_A m c 0) (after_0 m c) t d
theorem before_1 (c : Dev nD) (t : Fin cfg0.N) (d) : (data m 0 c).before 1 t d = X0_1 m c t :=
  before0_1_of m (data m 0 c) (data_A m c 1) (after_1 m c) t d
theorem before_2 (c : Dev nD) (t : Fin cfg0.N) (d) :
    (data m 0 c).before 2 t d = (cfg0.win 2).fill (cfg0.grid.coords t) d (iblk m c 2 t) :=
  ((data m 0 c).before_in_eq_fetched 2 rfl (fun _ => rfl)
      (fun t t' h => funext fun a => congrArg (fun n => Pipeline.Clip.of n ((cfg0.win 2).size a) (S2x11360x4096.size a)) (congrFun h a))
      (fun t => by rw [after_2]; unfold second; rw [Pipeline.Window.cut_fill]; unfold Dat.blockOf iblk; rw [data_A]; try rfl) t d).trans
    (by unfold Dat.fetched Dat.blockOf iblk; rw [data_A]; try rfl)

/-- Each window's buffer at a point. -/
abbrev at0 (t : Fin cfg0.N) : Memref sig .tc .vmem S1024x4096 .bf16 := win0_0.stage (cfg0.slots t 0)
abbrev at1 (t : Fin cfg0.N) : Memref sig .tc .vmem S1x512x4096 .f32 := win0_1.stage (cfg0.slots t 1)
abbrev at2 (t : Fin cfg0.N) : Memref sig .tc .vmem S1x128x4096 .f32 := win0_2.stage (cfg0.slots t 2)
abbrev at3 (t : Fin cfg0.N) : Memref sig .tc .vmem S1024x512 .bf16 := win0_3.stage (cfg0.slots t 3)

/-- What the kernel is called with at a point, -/
def pre (c : Dev nD) (t : Fin cfg0.N) : sProp 𝕄 :=
  iprop((data m 0 c).Φ t.castSucc ∗ (data m 0 c).owesAt () t.castSucc
    ∗ (∃ d, owns (c : Thread nD τ) (at0 t) fullShare ((data m 0 c).before 0 t d))
    ∗ (∃ d, owns (c : Thread nD τ) (at1 t) fullShare ((data m 0 c).before 1 t d))
    ∗ (∃ d, owns (c : Thread nD τ) (at2 t) fullShare ((data m 0 c).before 2 t d))
    ∗ (∃ d, owns (c : Thread nD τ) (at3 t) fullShare ((data m 0 c).before 3 t d)))

/-- and what it returns: the blocks of weights up to what lies past the array's end. -/
def post (c : Dev nD) (t : Fin cfg0.N) : sProp 𝕄 :=
  iprop((data m 0 c).Φ t.succ ∗ (data m 0 c).owesAt () t.succ
    ∗ owns (c : Thread nD τ) (at0 t) fullShare ((data m 0 c).after 0 t)
    ∗ (∃ d, owns (c : Thread nD τ) (at1 t) fullShare ((cfg0.win 1).fill (cfg0.grid.coords t) d ((cfg0.win 1).cut (cfg0.grid.coords t) ((data m 0 c).after 1 t))))
    ∗ (∃ d, owns (c : Thread nD τ) (at2 t) fullShare ((cfg0.win 2).fill (cfg0.grid.coords t) d ((cfg0.win 2).cut (cfg0.grid.coords t) ((data m 0 c).after 2 t))))
    ∗ owns (c : Thread nD τ) (at3 t) fullShare ((data m 0 c).after 3 t))

set_option maxHeartbeats 3200000 in
/-- One point of the grid. -/
theorem point (c : Dev nD) (t : Fin cfg0.N) :
    pre m c t ⊢ wp frame (wpE (defs₀ (F := F)) Variants.none c none) Set.univ (bodyAt0 t) (fun _ => post m c t) := by
  unfold pre post bodyAt0
  simp only [before_0, before_1, before_2]
  rw [show (data m 0 c).owesAt () t.succ = (data m 0 c).owesAt () t.castSucc from rfl,
    after_0, after_1, after_2, after_3]
  rw [show (data m 0 c).Φ t.succ = rest m c (t.val + 1) t.isLt from rfl, rest_succ]
  have hN : t.val < 64 := lt_of_lt_of_eq t.isLt (show cfg0.N = 64 from N_0)
  unfold outs second; dsimp only
  rw [Pipeline.Window.cut_fill]
  by_cases h0 : t.val % 8 = 0
  · rw [held_first m c t h0]
    unfold second
    have hΦ : rest m c t.val (Nat.le_of_lt t.isLt) ⊢ iprop(iprop((∃ d, owns (c : Thread nD τ) box fullShare d)) ∗ (∃ r, prngReg c r)) := by
      by_cases hz : t.val = 0
      · rw [rest_zero m c _ _ hz, rest_eq]
      · rw [rest_pos m c _ _ hz]
        iintro ⟨HS, Hg⟩
        isplitl [HS]
        · iexists _; iexact HS
        iexact Hg
    rw [rest_here m c t]
    iintro ⟨HΦ, Ho, ⟨%d0, H0⟩, ⟨%d1, H1⟩, ⟨%d2, H2⟩, ⟨%d3, H3⟩⟩
    ihave HΦ' := hΦ $$ HΦ
    icases HΦ' with ⟨HS, Hg⟩
    rw [tile_second t (X0_1 m c t) blank d2 (iblk m c 2 t)]
    iapply (run_first c (grid0.coords t) _ _ _ _ _ _ _ _ _ _ ((first_iff t).mpr h0) (iblk m c 0 t) (X0_1 m c t) ((cfg0.win 2).fill (cfg0.grid.coords t) d2 (iblk m c 2 t)) Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hg]
    · isplitl [HS]; · iexact HS
      iexact Hg
    isplitl [Ho]; · iexact Ho
    isplitl [H0]; · iexact H0
    isplitl [H1]
    · iexists (X0_1 m c t); rw [Pipeline.Window.fill_cut]; iexact H1
    isplitl [H2]
    · iexists d2; iexact H2
    iexact H3
  · rw [held_later m c t h0]
    have hz : t.val ≠ 0 := fun h => h0 (by rw [h])
    rw [rest_here m c t, rest_pos m c _ _ hz]
    iintro ⟨⟨HS, Hg⟩, Ho, ⟨%d0, H0⟩, ⟨%d1, H1⟩, ⟨%d2, H2⟩, ⟨%d3, H3⟩⟩
    iapply (run_later c (grid0.coords t) _ _ _ _ _ _ _ _ _ _ (fun h => h0 ((first_iff t).mp h)) (iblk m c 0 t) (X0_1 m c t) ((cfg0.win 2).fill (cfg0.grid.coords t) d2 (iblk m c 2 t)) (held m c (t.val - 1) (Nat.lt_of_le_of_lt (Nat.sub_le _ _) t.isLt)) Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hg]
    · isplitl [HS]; · iexact HS
      iexact Hg
    isplitl [Ho]; · iexact Ho
    isplitl [H0]; · iexact H0
    isplitl [H1]
    · iexists (X0_1 m c t); rw [Pipeline.Window.fill_cut]; iexact H1
    isplitl [H2]
    · iexists d2; iexact H2
    iexact H3

theorem body_row (t : Fin cfg0.N) :
    defs₀ (F := F) .tc cfg0.body (cfg0.bodyArgs t (cfg0.slots t)) = bodyAt0 t := by
  unfold defs₀; rw [Defs.onTc_tc]

/-- Every point of the grid. -/
theorem points (c : Dev nD) : Pipeline.BodyObligationLoose (data (F := F) m 0 c) (defs₀ (F := F)) Variants.none () Set.univ := fun t => by
  rw [bigSep_W0, bigSep_W0, body_row]
  exact triple_restated (point m c t) rfl .rfl fun _ => .rfl

theorem rest_in (c : Dev nD) : Pipeline.ΦA spec0 c ⊢ (data m 0 c).Φ 0 := by
  rw [show (data m 0 c).Φ 0 = rest m c 0 (Nat.zero_le _) from rfl, rest_zero m c 0 _ rfl]
  try exact Idealize.SL.BI.Entails.refl _

theorem rest_out (c : Dev nD) : (data m 0 c).Φ (Fin.last cfg0.N) ⊢ Pipeline.ΦA spec0 c := by
  have ht : (Fin.last cfg0.N).val ≠ 0 := by rw [Fin.val_last]; have : cfg0.N = 64 := N_0; omega
  rw [show (data m 0 c).Φ (Fin.last cfg0.N) = rest m c (Fin.last cfg0.N).val (Nat.le_of_lt_succ (Fin.last cfg0.N).isLt) from rfl, rest_pos m c _ _ ht, rest_eq]
  iintro ⟨HS, Hg⟩
  isplitl [HS]
  · iexists _; iexact HS
  iexact Hg

set_option backward.isDefEq.respectTransparency.types false in
/-- Every run ends, with each array as the pipeline leaves it and no semaphore raised. -/
theorem run_quiet : θ_run defs (onTc (τ := τ) (main (F := F))) (s₀ m ρ) (fun r => (Pipeline.FramePost cfgs (data m) 0 (V m)) r ∧ r.2.sem = fun _ => 0) :=
  Pipeline.θ_run_frame_track_shared (Q' := _) cfgs (data m) (0 : Fin 1) launch₀0 defs₀ Variants.none m ρ main
    (hbody := points m) (hq := fun _ _ _ => rfl)
    (howed := fun _ _ => rfl) (V := V m) (hmain := hmain m Variants.none) (hA := data_A m) (hin := rest_in m) (hout := rest_out m)

theorem run_arrays : θ_run defs (onTc (τ := τ) (main (F := F))) (s₀ m ρ) (Pipeline.FramePost cfgs (data m) 0 (V m)) :=
  (θ_run defs _ _).mono (fun _ h => h.1) (run_quiet m ρ)

/-- Every run ends with the arguments unchanged and no semaphore raised. -/
theorem runs : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (data m) (data_A m) (run_arrays m ρ)) ((θ_run defs _ _).mono (fun _ h => h.2) (run_quiet m ρ))

end Cert.NsaZIdeal.Proj

end
-- ==== Proof.ProjNsaZ.lean ====
/- The gate projection of sparse attention, at the first of the two layers. -/
module

public import proofs.«01_k».proof.Proof.Proj
public import proofs.«01_k».proof.Proof.ProjNsaZFrame
public import proofs.«01_k».proof.Proof.Gen.NsaZ
public import proofs.«01_k».proof.Proof.Gen.NsaZRefIdeal.Read
public import proofs.«01_k».proof.Defs

@[expose] public section

set_option maxRecDepth 16384

noncomputable section

namespace Cert.NsaZIdeal.Proj

open Cert.NsaZIdeal Cert.NsaZIdeal.Gen Idealize.ShloMosaic Idealize.ShloMosaic.TcCoe Idealize.SL.Sem
open Cert.Proj

/-- The rows kept of the first and of the second block of weights, at an index. -/
theorem pay1_at (v : Vec Ideal S1x416x4096 .f32) (k : Fin 4096) (e : Fin 416) : k0_pay1 v (ix2 e k) = v (ix3 (0 : Fin 1) e k) := by
  unfold k0_pay1
  rw [shapeCast_self]
  exact back_at v _ e k
theorem pay2_at (v : Vec Ideal S1x96x4096 .f32) (k : Fin 4096) (e : Fin 96) : k0_pay2 v (ix2 e k) = v (ix3 (0 : Fin 1) e k) := by
  unfold k0_pay2
  rw [shapeCast_self]
  exact back_at v _ e k

/-- The kept tile by columns, and a block of the product, at an index. -/
def rd (s : Vec Ideal S512x4096 .bf16) (k : Fin 4096) (e : Fin 512) : EReal := s (ix2 e k)
def mul (v : S1024x4096.Idx → EReal) (w : Vec Ideal S512x4096 .bf16) : S1024x512.Idx → EReal := k0_pay3 (F := Ideal) v w
theorem mul_at (v : S1024x4096.Idx → EReal) (w : Vec Ideal S512x4096 .bf16) (r : Fin 1024) (e : Fin 512) :
    mul v w (ix2 r e) = ∑ k : Fin 4096, v (ix2 r k) * rd w k e := by
  pointwise [mul, k0_pay3, rd]

/-- The kept tile at an index: below 416 a row of the first block, -/
theorem tile_low (x1 : Vec Ideal S1x512x4096 .f32) (x2 : Vec Ideal S1x128x4096 .f32) (k : Fin 4096) (e : Fin 512) (h : e.val < 416) :
    tile x1 x2 (ix2 e k) = x1 (ix3 (0 : Fin 1) (⟨96 + e.val, by omega⟩ : Fin 512) k) := by
  have hn : (ix2 e k : S512x4096.Idx) ∉ putSecond.set := by
    rw [Rect.mem_set_unit]
    intro hh
    have h0 : 416 ≤ e.val := (hh 0).1
    omega
  have he : (ix2 e k : S512x4096.Idx) = putFirst.emb (ix2 (⟨e.val, h⟩ : Fin 416) k) := by
    refine funext fun a => Fin.ext ?_
    match a with
    | ⟨0, _⟩ => show e.val = 0 + 1 * e.val; omega
    | ⟨1, _⟩ => show k.val = 0 + 1 * k.val; omega
  unfold tile pieces
  refine (View.canon_cons_of_not_mem (⟨putSecond, k0_pay2 (View.ld x2 takeSecond)⟩ : View.Piece (Elt Ideal) S512x4096 .bf16) _ hn).trans ?_
  rw [he, View.canon_cons_emb]
  refine (pay1_at (View.ld x1 takeFirst) k (⟨e.val, h⟩ : Fin 416)).trans (congrArg x1 (funext fun a => Fin.ext ?_))
  match a with
  | ⟨0, _⟩ => rfl
  | ⟨1, _⟩ => show 96 + 1 * e.val = 96 + e.val; omega
  | ⟨2, _⟩ => show 0 + 1 * k.val = k.val; omega

/-- from 416 on a row of the second. -/
theorem tile_high (x1 : Vec Ideal S1x512x4096 .f32) (x2 : Vec Ideal S1x128x4096 .f32) (k : Fin 4096) (e : Fin 512) (h : 416 ≤ e.val) :
    tile x1 x2 (ix2 e k) = x2 (ix3 (0 : Fin 1) (⟨e.val - 416, by omega⟩ : Fin 128) k) := by
  have he : (ix2 e k : S512x4096.Idx) = putSecond.emb (ix2 (⟨e.val - 416, by omega⟩ : Fin 96) k) := by
    refine funext fun a => Fin.ext ?_
    match a with
    | ⟨0, _⟩ => show e.val = 416 + 1 * (e.val - 416); omega
    | ⟨1, _⟩ => show k.val = 0 + 1 * k.val; omega
  unfold tile pieces
  rw [he, View.canon_cons_emb]
  refine (pay2_at _ k _).trans (congrArg x2 (funext fun a => Fin.ext ?_))
  match a with
  | ⟨0, _⟩ => rfl
  | ⟨1, _⟩ => show 0 + 1 * (e.val - 416) = e.val - 416; omega
  | ⟨2, _⟩ => show 0 + 1 * k.val = k.val; omega

variable (m : (ℓ : Loc nD τ sig) → Buf (Elt Ideal) ℓ) (ρ : Dev nD → PrngReg)

/-- The rows, and the columns of the weights that the projection takes. -/
abbrev aH (c : Dev nD) : Rows := m ((c : Thread nD τ).loc main_arg0)
abbrev aW (c : Dev nD) : Fin 4096 → Fin 4096 → EReal := fun k j =>
  (m ((c : Thread nD τ).loc main_arg1) : S2x4096x11360.Idx → EReal) (ix3 (0 : Fin 2) k (⟨7264 + j.val, by omega⟩ : Fin 11360))

theorem idx0 : ∀ t : Fin cfg0.N, win0_0.index t = ![t.val % 8, 0] :=
  (by decide +kernel : ∀ t : Fin grid0.N, win0_0.index t = ![t.val % 8, 0])
theorem idx1 : ∀ t : Fin cfg0.N, win0_1.index t = ![0, 14 + t.val / 8, 0] :=
  (by decide +kernel : ∀ t : Fin grid0.N, win0_1.index t = ![0, 14 + t.val / 8, 0])
theorem idx2 : ∀ t : Fin cfg0.N, win0_2.index t = ![0, (15 + t.val / 8) * 4, 0] :=
  (by decide +kernel : ∀ t : Fin grid0.N, win0_2.index t = ![0, (15 + t.val / 8) * 4, 0])
theorem idx3 : ∀ t : Fin cfg0.N, win0_3.index t = ![t.val % 8, t.val / 8] :=
  (by decide +kernel : ∀ t : Fin grid0.N, win0_3.index t = ![t.val % 8, t.val / 8])

/-- The weights as the host turns them. -/
theorem turned (X : FVec Ideal S2x4096x11360 .f32) (l : Fin 2) (j : Fin 11360) (k : Fin 4096) :
    transpose S2x11360x4096 [0, 2, 1] X transposes_S2x4096x11360_S2x11360x4096_0_2_1 (ix3 l j k) = X (ix3 l k j) := by
  pointwise

theorem iblk0 (c : Dev nD) (t : Fin cfg0.N) (r : Fin 1024) (k : Fin 4096) (i : Fin 8192) (hi : i.val = 1024 * (t.val % 8) + r.val) :
    (iblk m c 0 t : Vec Ideal S1024x4096 .bf16) (ix2 r k) = aH m c (ix2 i k) := by
  unfold iblk
  rw [show V m c (Pipeline.arrRef spec0 0) = m ((c : Thread nD τ).loc main_arg0) from V_main_arg0 m c]
  exact congrArg (aH m c) (pos_rows t.val r k _ (idx0 t) i hi _ rfl rfl)

/-- The two blocks of weights at a point, -/
theorem iblk1 (c : Dev nD) (t : Fin cfg0.N) (k : Fin 4096) (e : Fin 512) (j : Fin 11360) (hj : j.val = 512 * (14 + t.val / 8) + e.val) :
    (X0_1 m c t : Vec Ideal S1x512x4096 .f32) (ix3 (0 : Fin 1) e k)
      = (m ((c : Thread nD τ).loc main_arg1) : S2x4096x11360.Idx → EReal) (ix3 (0 : Fin 2) k j) := by
  unfold X0_1 Pipeline.Window.fill
  rw [dif_pos (moved0_1 t _)]
  unfold iblk
  refine (congrArg (V m c main_v0 : FVec Ideal S2x11360x4096 .f32) (pos_cols_t k e _ _ (idx1 t) (0 : Fin 2) rfl j hj _ rfl rfl rfl)).trans ?_
  exact turned (m ((c : Thread nD τ).loc main_arg1) : FVec Ideal S2x4096x11360 .f32) _ _ _
theorem iblk2 (c : Dev nD) (t : Fin cfg0.N) (k : Fin 4096) (e : Fin 128) (he : e.val < 96) (j : Fin 11360)
    (hj : j.val = 128 * ((15 + t.val / 8) * 4) + e.val) :
    (second m c t : Vec Ideal S1x128x4096 .f32) (ix3 (0 : Fin 1) e k)
      = (m ((c : Thread nD τ).loc main_arg1) : S2x4096x11360.Idx → EReal) (ix3 (0 : Fin 2) k j) := by
  unfold second Pipeline.Window.fill
  rw [dif_pos (moved_second t _ he)]
  unfold iblk
  refine (congrArg (V m c main_v0 : FVec Ideal S2x11360x4096 .f32) (pos_cols_t k e _ _ (idx2 t) (0 : Fin 2) rfl j hj _ rfl rfl rfl)).trans ?_
  exact turned (m ((c : Thread nD τ).loc main_arg1) : FVec Ideal S2x4096x11360 .f32) _ _ _

/-- so the tile kept there is the tile of the projection's columns. -/
theorem tile_at (c : Dev nD) (t : Fin cfg0.N) (k : Fin 4096) (e : Fin 512) (j : Fin 4096) (hj : j.val = 512 * (t.val / 8) + e.val) :
    rd (tile (X0_1 m c t) (second m c t)) k e = aW m c k j := by
  unfold rd
  by_cases h : e.val < 416
  · rw [tile_low _ _ k e h]
    exact iblk1 m c t k _ _ (show 7264 + j.val = 512 * (14 + t.val / 8) + (96 + e.val) by omega)
  · rw [tile_high _ _ k e (by omega)]
    exact iblk2 m c t k _ (show e.val - 416 < 96 by omega) _ (show 7264 + j.val = 128 * ((15 + t.val / 8) * 4) + (e.val - 416) by omega)

theorem point_A (c : Dev nD) (t : Fin cfg0.N) (h0 : t.val % 8 = 0) :
    outs m c t.val t.isLt = (mul (iblk m c 0 t) (tile (X0_1 m c t) (second m c t)), tile (X0_1 m c t) (second m c t)) := by
  unfold outs
  rw [held_first m c t h0]
  rfl
theorem point_B (c : Dev nD) (t : Fin cfg0.N) (h0 : ¬ t.val % 8 = 0) :
    outs m c t.val t.isLt = (mul (iblk m c 0 t) (outs m c (t.val - 1) (Nat.lt_of_le_of_lt (Nat.sub_le _ _) t.isLt)).2,
      (outs m c (t.val - 1) (Nat.lt_of_le_of_lt (Nat.sub_le _ _) t.isLt)).2) := by
  unfold outs
  rw [held_later m c t h0]
  rfl

/-- A point's block is its block of the product, -/
theorem block_at (c : Dev nD) (t : Fin cfg0.N) (r : Fin 1024) (e : Fin 512) (i : S8192x4096.Idx)
    (hr : (i 0).val = 1024 * (t.val % 8) + r.val) (he : (i 1).val = 512 * (t.val / 8) + e.val) :
    (outs m c t.val t.isLt).1 (ix2 r e) = result (aH m c) (aW m c) i :=
  block (N₀ := cfg0.N) (N := 4096) (C := 512) (S := Vec Ideal S512x4096 .bf16) (V := Vec Ideal S1x512x4096 .f32 × Vec Ideal S1x128x4096 .f32) (aH m c) (aW m c)
    (outs m c) (fun t => iblk m c 0 t) (fun t => (X0_1 m c t, second m c t)) (fun p => tile p.1 p.2) mul rd (point_A m c) (point_B m c)
    (tile_at m c) (iblk0 m c) mul_at i t.val t.isLt r e hr he

/-- where the block lies in the result, -/
theorem written (c : Dev nD) (t : Fin cfg0.N) :
    (data m 0 c).flushed 3 t = ((cfg0.win 3).blk t).view.read (Elt Ideal) (result (aH m c) (aW m c)) := by
  show (cfg0.win 3).cut (grid0.coords t) ((data m 0 c).after 3 t) = _
  rw [after_3]
  have e0 : win0_3.index t (0 : Fin 2) = t.val % 8 := congrFun (idx3 t) 0
  have e1 : win0_3.index t (1 : Fin 2) = t.val / 8 := congrFun (idx3 t) 1
  funext y
  have hb0 : (((cfg0.win 3).blk t).view.emb y 0).val = win0_3.index t (0 : Fin 2) * 1024 + 1 * (y 0).val := rfl
  have hb1 : (((cfg0.win 3).blk t).view.emb y 1).val = win0_3.index t (1 : Fin 2) * 512 + 1 * (y 1).val := rfl
  have hy : (cfg0.win 3).xinj (grid0.coords t) y = ix2 (⟨(y 0).val, (y 0).isLt⟩ : Fin 1024) (⟨(y 1).val, (y 1).isLt⟩ : Fin 512) := by
    refine funext fun a => Fin.ext ?_
    match a with
    | ⟨0, _⟩ => rfl
    | ⟨1, _⟩ => rfl
  show (outs m c t.val t.isLt).1 ((cfg0.win 3).xinj (grid0.coords t) y) = result (aH m c) (aW m c) (((cfg0.win 3).blk t).view.emb y)
  rw [hy]
  refine block_at m c t _ _ _ ?_ ?_
  · rw [hb0, e0]; show t.val % 8 * 1024 + 1 * (y 0).val = 1024 * (t.val % 8) + (y 0).val; omega
  · rw [hb1, e1]; show t.val / 8 * 512 + 1 * (y 1).val = 512 * (t.val / 8) + (y 1).val; omega

/-- and every entry of the result lies in some point's block: -/
theorem reached (i : S8192x4096.Idx) : ∃ t : Fin cfg0.N, (cfg0.win 3).flush t = true ∧ i ∈ ((cfg0.win 3).blk t).view.set := by
  have h0 : (i 0).val < 8192 := (i 0).isLt
  have h1 : (i 1).val < 4096 := (i 1).isLt
  have hN : cfg0.N = 64 := N_0
  let t : Fin cfg0.N := ⟨(i 0).val / 1024 + 8 * ((i 1).val / 512), by omega⟩
  have e0 : win0_3.index t (0 : Fin 2) = (i 0).val / 1024 :=
    (congrFun (idx3 t) 0).trans (show ((i 0).val / 1024 + 8 * ((i 1).val / 512)) % 8 = (i 0).val / 1024 by omega)
  have e1 : win0_3.index t (1 : Fin 2) = (i 1).val / 512 :=
    (congrFun (idx3 t) 1).trans (show ((i 0).val / 1024 + 8 * ((i 1).val / 512)) / 8 = (i 1).val / 512 by omega)
  refine ⟨t, flush0_3 t, ?_⟩
  show i ∈ ((View.whole main_v1).slice (win0_3.rect t)).set
  rw [View.set_slice_whole, Rect.mem_set_unit]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- the result array is the product. -/
theorem final (c : Dev nD) : (data m 0 c).arrAt 3 cfg0.N = result (aH m c) (aW m c) :=
  (data m 0 c).arrAt_eq_of_cover 3 (result (aH m c) (aW m c)) (fun t _ => written m c t) reached

/-- Every run ends with the result the product and the arguments unchanged. -/
theorem run : θ_run defs (onTc (τ := τ) (main (F := Ideal))) ⟨m, fun _ => 0, ρ⟩ fun r => ∀ c : Dev nD,
      r.2.mem ((c : Thread nD τ).loc main_v1) = result (aH m c) (aW m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 3).trans (final m c),
      ((h c).1 0).trans (((data m 0 c).arrAt_in 0 rfl _).trans ((data_A m c 0).trans (V_main_arg0 m c))),
      ((h c).2 main_arg1 (Pipeline.mem_restRefs_of main_arg1 (by decide) (by decide))).trans (V_main_arg1 m c)⟩)
    (run_arrays m ρ)

end Cert.NsaZIdeal.Proj

namespace Cert.NsaZRefIdeal.Proj

open Cert.NsaZRefIdeal Cert.NsaZRefIdeal.Gen Cert.NsaZRefIdeal.Read Idealize.ShloMosaic Idealize.ShloMosaic.TcCoe Idealize.SL.Sem
open Cert.Proj

/-- The reference's result is the same product. -/
theorem ref (x0 : FVec Ideal S8192x4096 .bf16) (x1 : FVec Ideal S2x4096x11360 .f32) :
    val_main_v5 (F := Ideal) x0 x1 = result x0 (fun k (j : Fin 4096) => x1 (ix3 (0 : Fin 2) k (⟨7264 + j.val, by omega⟩ : Fin 11360))) := by
  funext i
  show val_main_v4 (F := Ideal) x0 x1 i = _
  rw [val_main_v4_apply, val_main_v3_apply]
  refine Finset.sum_congr rfl fun k _ => ?_
  rw [val_main_v0_apply, val_main_v2_apply, val_main_v1_apply]
  refine congrArg₂ (fun a b : EReal => a * b) (congrArg x0 ?_) (congrArg x1 ?_)
  · exact funext fun a => match a with
      | ⟨0, _⟩ => rfl
      | ⟨1, _⟩ => rfl
  · have h1 : (i 1).val < 4096 := (i 1).isLt
    exact funext fun a => Fin.ext (match a with
      | ⟨0, _⟩ => rfl
      | ⟨1, _⟩ => show (k.val * 11360 + (7264 + (i 1).val)) / 11360 % 4096 = k.val by omega
      | ⟨2, _⟩ => show (k.val * 11360 + (7264 + (i 1).val)) % 11360 = 7264 + (i 1).val by omega)

end Cert.NsaZRefIdeal.Proj

namespace Cert.NsaZIdeal.Proj

open Idealize.ShloMosaic Idealize.ShloMosaic.TcCoe Idealize.SL.Sem

/-- The program as compiled is the same text as the one read over the reals: one body table, one main, at any values. -/
theorem same_body (F : FTy → Type) [FloatOps F] :
    @Cert.NsaZ.defs₀ F _ Cert.NsaZ.Gen.facts = @Cert.NsaZIdeal.defs₀ F _ Cert.NsaZIdeal.Gen.facts := by
  unfold Cert.NsaZ.defs₀ Cert.NsaZIdeal.defs₀
  refine congrArg Defs.onTc (funext fun l => funext fun a => ?_)
  match l, a with
  | 0, (t, s) => rfl
theorem same_defs (F : FTy → Type) [FloatOps F] :
    @Cert.NsaZ.defs F _ Cert.NsaZ.Gen.facts = @Cert.NsaZIdeal.defs F _ Cert.NsaZIdeal.Gen.facts := by
  unfold Cert.NsaZ.defs Cert.NsaZIdeal.defs
  exact congrArg (fun d => Pipeline.defs (@Cert.NsaZIdeal.pcfgs F Cert.NsaZIdeal.Gen.facts) d) (same_body F)

/-- So its runs are those proved at any values. -/
theorem frame_k : letI := Cert.NsaZ.Gen.facts; Cert.quiescent_NsaZ := fun m ρ _ => by
  have h := runs (F := Bits) m ρ
  rw [← same_defs] at h
  exact h

theorem frame_i : letI := Cert.NsaZIdeal.Gen.facts; Cert.quiescent_NsaZIdeal := fun m ρ _ => runs (F := Ideal) m ρ

theorem frame_r : letI := Cert.NsaZRefIdeal.Gen.facts; Cert.quiescent_NsaZRefIdeal := fun m ρ _ =>
  (θ_run Cert.NsaZRefIdeal.defs _ _).mono (fun r h => ⟨fun c => (h c).2, Idealize.ShloMosaic.sem_eq_zero_of_no_sems (by decide) r.2⟩)
    (Cert.NsaZRefIdeal.Value.run (F := Ideal) m ρ)

theorem algebraic : letI := Cert.NsaZIdeal.Gen.facts; letI := Cert.NsaZRefIdeal.Gen.facts; Cert.algebraic_NsaZIdeal_NsaZRefIdeal := by
  intro m ρ m' ρ' _ hagree
  refine ⟨fun c => Cert.Proj.result (aH m c) (aW m c), run m ρ, ?_⟩
  exact (θ_run Cert.NsaZRefIdeal.defs _ _).mono (fun _ h c => ⟨(h c).1.trans (by
      rw [Cert.NsaZRefIdeal.Read.val_main_v5_eq, Cert.NsaZRefIdeal.Proj.ref, (hagree c).1, (hagree c).2]), (h c).2⟩)
      (Cert.NsaZRefIdeal.Value.run (F := Ideal) m' ρ')

end Cert.NsaZIdeal.Proj

end
-- ==== Proof.Norm.lean ====
/- The layer's norm: a row divided by the root of its mean square, times the gain. The norms' calls run over blocks of 256
   rows; here is what a row becomes and where a block's rows lie. -/
module

public import proofs.«01_k».proof.Proof.Proj

@[expose] public section

set_option maxRecDepth 16384

noncomputable section

namespace Cert.Norm

open Idealize.ShloMosaic Idealize.SL.Sem Cert.Proj

/-- An entry of a row after the norm: 4096 and the small number under the root are the program's. -/
def norm (v g : Fin 4096 → EReal) (j : Fin 4096) : EReal :=
  v j * Ideal.rsqrt (Ideal.div (∑ k, v k * v k) (Ideal.ofBits .f32 0x45800000#32) + Ideal.ofBits .f32 0x358637BD#32) * g j

/-- A vector of gains. -/
abbrev Gain := (⟨1, ![4096]⟩ : Shape).Idx → EReal

/-- All rows after the norm, and the stream with the normed rows added. -/
def normed (x : Rows) (g : Gain) : Rows := fun i => norm (fun k => x (ix2 (i 0 : Fin 8192) k)) (fun k => g (ix1 k)) (i 1 : Fin 4096)
def added (x y : Rows) (g : Gain) : Rows := fun i => x i + normed y g i

/-- Where a block of 256 rows lies in the rows, and the block of gains in the gains. -/
theorem pos_rows (t : ℕ) (r : Fin 256) (k : Fin 4096) (f : Fin 2 → ℕ) (hf : f = ![t, 0]) (j : Fin 8192)
    (hj : j.val = 256 * t + r.val) (i : (⟨2, ![8192, 4096]⟩ : Shape).Idx) (h0 : (i 0).val = f 0 * 256 + 1 * r.val)
    (h1 : (i 1).val = f 1 * 4096 + 1 * k.val) : i = ix2 j k := by
  subst hf
  refine funext fun a => Fin.ext ?_
  match a with
  | ⟨0, _⟩ => exact h0.trans (show t * 256 + 1 * r.val = j.val by omega)
  | ⟨1, _⟩ => exact h1.trans (show 0 * 4096 + 1 * k.val = k.val by omega)
theorem pos_gain (k : Fin 4096) (f : Fin 2 → ℕ) (hf : f = ![0, 0]) (i : (⟨2, ![1, 4096]⟩ : Shape).Idx)
    (h1 : (i 1).val = f 1 * 4096 + 1 * k.val) : i = ix2 (0 : Fin 1) k := by
  subst hf
  refine funext fun a => ?_
  match a with
  | ⟨0, _⟩ => exact Subsingleton.elim (α := Fin 1) _ _
  | ⟨1, _⟩ => exact Fin.ext (h1.trans (show 0 * 4096 + 1 * k.val = k.val by omega))

/-- The gains as one row, at an index. -/
theorem gain_at (g : Gain) (h : (⟨1, ![4096]⟩ : Shape).ShapeCasts ⟨2, ![1, 4096]⟩) (k : Fin 4096) :
    shapeCast ⟨2, ![1, 4096]⟩ g h (ix2 (0 : Fin 1) k) = g (ix1 k) := by
  refine shapeCast_apply _ _ _ _ ?_
  rw [Shape.rowMajor_val_one, Shape.rowMajor_val_two]
  show k.val = 0 * 4096 + k.val
  omega

/-- A block of rows is the entries whose row lies in it. -/
theorem mem_rows (t : ℕ) (f : Fin 2 → ℕ) (hf : f = ![t, 0]) (i : (⟨2, ![8192, 4096]⟩ : Shape).Idx) :
    (∀ a : Fin 2, f a * (![256, 4096] : Fin 2 → ℕ) a ≤ (i a).val ∧ (i a).val < f a * (![256, 4096] : Fin 2 → ℕ) a + (![256, 4096] : Fin 2 → ℕ) a)
      ↔ (i 0).val / 256 = t := by
  subst hf
  have h1 : (i 1).val < 4096 := (i 1).isLt
  refine ⟨fun h => ?_, fun h a => ?_⟩
  · have a0 : t * 256 ≤ (i 0).val ∧ (i 0).val < t * 256 + 256 := h 0
    omega
  · match a with
    | ⟨0, _⟩ => show t * 256 ≤ (i 0).val ∧ (i 0).val < t * 256 + 256; omega
    | ⟨1, _⟩ => show 0 * 4096 ≤ (i 1).val ∧ (i 1).val < 0 * 4096 + 4096; omega

end Cert.Norm

end
-- ==== Proof.NormPre.lean ====
/- The norm before a mixer. -/
module

public import proofs.«01_k».proof.Proof.Norm
public import proofs.«01_k».proof.Proof.Gen.PreNormIdeal.Value
public import proofs.«01_k».proof.Proof.Gen.PreNormRefIdeal.Read
public import proofs.«01_k».proof.Defs

@[expose] public section

set_option maxRecDepth 16384

noncomputable section

namespace Cert.PreNormIdeal.Norm

open Cert.PreNormIdeal Cert.PreNormIdeal.Gen Idealize.ShloMosaic Idealize.ShloMosaic.TcCoe Idealize.SL.Sem
open Cert.Proj Cert.Norm

/-- What the body leaves in a block, at an index. -/
theorem pay (x : Vec Ideal S256x4096 .f32) (g : Vec Ideal S1x4096 .f32) (r : Fin 256) (j : Fin 4096) :
    k0_pay1 x g (ix2 r j) = norm (fun k => x (ix2 r k)) (fun k => g (ix2 (0 : Fin 1) k)) j := by
  pointwise [k0_pay1]
  rfl
theorem out (x : Vec Ideal S256x4096 .f32) (g : Vec Ideal S1x4096 .f32) : out0_2 x g = k0_pay1 x g := by
  unfold out0_2
  rw [View.canon_unit_zero z2, View.ld_unit_zero z2, View.ld_unit_zero z2]

variable (m : (ℓ : Loc nD τ sig) → Buf (Elt Ideal) ℓ)

/-- The rows and the gain. -/
abbrev aX (c : Dev nD) : Rows := m ((c : Thread nD τ).loc main_arg0)
abbrev aG (c : Dev nD) : Gain := m ((c : Thread nD τ).loc main_arg1)

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])

theorem iblk0 (c : Dev nD) (t : Fin cfg0.N) (r : Fin 256) (k : Fin 4096) (i : Fin 8192) (hi : i.val = 256 * t.val + r.val) :
    (iblk m c 0 t : Vec Ideal S256x4096 .f32) (ix2 r k) = aX m c (ix2 i k) := by
  unfold iblk
  rw [show V m c (Pipeline.arrRef spec0 0) = m ((c : Thread nD τ).loc main_arg0) from V_main_arg0 m c]
  exact congrArg (aX m c) (Cert.Norm.pos_rows t.val r k _ (idx0 t) i hi _ rfl rfl)
theorem iblk1 (c : Dev nD) (t : Fin cfg0.N) (k : Fin 4096) :
    (iblk m c 1 t : Vec Ideal S1x4096 .f32) (ix2 (0 : Fin 1) k) = aG m c (ix1 k) := by
  unfold iblk
  refine (congrArg (V m c main_v0 : FVec Ideal S1x4096 .f32) (pos_gain k _ (idx1 t) _ rfl)).trans ?_
  exact gain_at (aG m c) _ k

/-- A point writes back its block of the normed rows, -/
theorem flushed (c : Dev nD) (t : Fin cfg0.N) :
    (dats m 0 c).flushed 2 t
      = ((cfg0.win 2).blk t).view.read (Elt Ideal) (normed (aX m c) (aG m c) : Buf (Elt Ideal) ((c : Thread nD τ).loc main_v1)) := by
  rw [Value.flushed2 m c t, out]
  funext y
  obtain ⟨r, j, rfl⟩ : ∃ (r : Fin 256) (j : Fin 4096), y = ix2 r j := ⟨y 0, y 1, eq_ix2 y⟩
  have ht : t.val < 32 := lt_of_lt_of_eq t.isLt N_0
  have hR : 256 * t.val + r.val < 8192 := by omega
  refine Eq.trans ((pay _ _ r j).trans ?_) (congrArg (normed (aX m c) (aG m c))
    (Cert.Norm.pos_rows t.val r j _ (idx2 t) (⟨256 * t.val + r.val, hR⟩ : Fin 8192) rfl _ rfl rfl)).symm
  exact congrArg₂ (fun v g => norm v g j) (funext fun k => iblk0 m c t r k _ rfl) (funext fun k => iblk1 m c t k)

/-- and the points' blocks are all of them. -/
theorem mem_blk (t : Fin cfg0.N) (i : S8192x4096.Idx) : i ∈ ((cfg0.win 2).blk t).view.set ↔ (i 0).val / 256 = t.val := by
  show i ∈ ((View.whole main_v1).slice (win0_2.rect t)).set ↔ _
  rw [View.set_slice_whole, Rect.mem_set_unit]
  exact mem_rows t.val _ (idx2 t) i
theorem cover (i : S8192x4096.Idx) : ∃ t : Fin cfg0.N, (cfg0.win 2).flush t = true ∧ i ∈ ((cfg0.win 2).blk t).view.set := by
  have h0 : (i 0).val < 8192 := (i 0).isLt
  have hN : cfg0.N = 32 := N_0
  exact ⟨⟨(i 0).val / 256, by omega⟩, flush0_2 _, (mem_blk _ i).mpr rfl⟩
theorem final (c : Dev nD) : (dats m 0 c).arrAt 2 cfg0.N = (normed (aX m c) (aG m c) : Buf (Elt Ideal) ((c : Thread nD τ).loc main_v1)) :=
  (dats m 0 c).arrAt_eq_of_cover 2 _ (fun t _ => flushed m c t) cover

end Cert.PreNormIdeal.Norm

namespace Cert.PreNormRefIdeal.Norm

open Cert.PreNormRefIdeal Cert.PreNormRefIdeal.Gen Cert.PreNormRefIdeal.Read Idealize.ShloMosaic Idealize.ShloMosaic.TcCoe Idealize.SL.Sem
open Cert.Proj Cert.Norm

/-- The reference's result is the same. -/
theorem ref (x : FVec Ideal S8192x4096 .f32) (g : FVec Ideal S4096 .f32) : val_main_v13 (F := Ideal) x g = normed x g := by
  funext y
  obtain ⟨r, j, rfl⟩ : ∃ (r : Fin 8192) (j : Fin 4096), y = ix2 r j := ⟨y 0, y 1, eq_ix2 y⟩
  show _ = norm (fun k => x (ix2 r k)) (fun k => g (ix1 k)) j
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  rfl

end Cert.PreNormRefIdeal.Norm

namespace Cert.PreNormIdeal.Norm

open Idealize.ShloMosaic Idealize.ShloMosaic.TcCoe Idealize.SL.Sem

theorem frame_r : letI := Cert.PreNormRefIdeal.Gen.facts; Cert.quiescent_PreNormRefIdeal := fun m ρ _ =>
  (θ_run Cert.PreNormRefIdeal.defs _ _).mono (fun r h => ⟨fun c => (h c).2, Idealize.ShloMosaic.sem_eq_zero_of_no_sems (by decide) r.2⟩)
    (Cert.PreNormRefIdeal.Value.run (F := Ideal) m ρ)

theorem algebraic : letI := Cert.PreNormIdeal.Gen.facts; letI := Cert.PreNormRefIdeal.Gen.facts; Cert.algebraic_PreNormIdeal_PreNormRefIdeal := by
  intro m ρ m' ρ' _ hagree
  refine ⟨fun c => Cert.Norm.normed (aX m c) (aG m c), ?_, ?_⟩
  · exact (θ_run Cert.PreNormIdeal.defs _ _).mono (fun _ h c => ⟨(h c).1.trans (final m c), (h c).2⟩)
      (Cert.PreNormIdeal.Value.run_blocks (F := Ideal) m ρ)
  · exact (θ_run Cert.PreNormRefIdeal.defs _ _).mono (fun _ h c => ⟨(h c).1.trans (by
      rw [Cert.PreNormRefIdeal.Read.val_main_v13_eq, Cert.PreNormRefIdeal.Norm.ref, (hagree c).1, (hagree c).2]), (h c).2⟩)
      (Cert.PreNormRefIdeal.Value.run (F := Ideal) m' ρ')

end Cert.PreNormIdeal.Norm

end
-- ==== Proof.NormPost.lean ====
/- The norm after a mixer that another follows: the stream with the normed rows added, and the norm before the next mixer. -/
module

public import proofs.«01_k».proof.Proof.Norm
public import proofs.«01_k».proof.Proof.Gen.PostNormIdeal.Value
public import proofs.«01_k».proof.Proof.Gen.PostNormRefIdeal.Read
public import proofs.«01_k».proof.Defs

@[expose] public section

set_option maxRecDepth 16384

noncomputable section

namespace Cert.PostNormIdeal.Norm

open Cert.PostNormIdeal Cert.PostNormIdeal.Gen Idealize.ShloMosaic Idealize.ShloMosaic.TcCoe Idealize.SL.Sem
open Cert.Proj Cert.Norm

/-- What the body leaves in a block of the stream, at an index, -/
theorem pay (y : Vec Ideal S256x4096 .bf16) (x : Vec Ideal S256x4096 .f32) (g : Vec Ideal S1x4096 .f32) (r : Fin 256) (j : Fin 4096) :
    k0_pay1 y x g (ix2 r j) = x (ix2 r j) + norm (fun k => y (ix2 r k)) (fun k => g (ix2 (0 : Fin 1) k)) j := by
  pointwise [k0_pay1]
  rfl
/-- and in the next mixer's rows. -/
theorem pay_next (y : Vec Ideal S256x4096 .bf16) (x : Vec Ideal S256x4096 .f32) (g g' : Vec Ideal S1x4096 .f32) (r : Fin 256) (j : Fin 4096) :
    k0_pay2 y x g g' (ix2 r j) = norm (fun k => k0_pay1 y x g (ix2 r k)) (fun k => g' (ix2 (0 : Fin 1) k)) j := by
  unfold k0_pay2
  generalize k0_pay1 y x g = w
  pointwise []
  rfl
theorem out (x : Vec Ideal S256x4096 .f32) (y : Vec Ideal S256x4096 .bf16) (g g' : Vec Ideal S1x4096 .f32) :
    out0_4 x y g g' = k0_pay1 y x g := by
  unfold out0_4
  rw [View.canon_unit_zero z2, View.ld_unit_zero z2, View.ld_unit_zero z2, View.ld_unit_zero z2]
theorem out_next (x : Vec Ideal S256x4096 .f32) (y : Vec Ideal S256x4096 .bf16) (g g' : Vec Ideal S1x4096 .f32) :
    out0_5 x y g g' = k0_pay2 y x g g' := by
  unfold out0_5
  rw [View.canon_unit_zero z2, View.ld_unit_zero z2, View.ld_unit_zero z2, View.ld_unit_zero z2, View.ld_unit_zero z2]

variable (m : (ℓ : Loc nD τ sig) → Buf (Elt Ideal) ℓ)

/-- The stream, the mixer's rows and the two gains. -/
abbrev aX (c : Dev nD) : Rows := m ((c : Thread nD τ).loc main_arg0)
abbrev aY (c : Dev nD) : Rows := m ((c : Thread nD τ).loc main_arg1)
abbrev aG (c : Dev nD) : Gain := m ((c : Thread nD τ).loc main_arg2)
abbrev aN (c : Dev nD) : Gain := m ((c : Thread nD τ).loc main_arg3)

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![t.val, 0] := (by decide +kernel : ∀ t : Fin grid0.N, win0_4.index t = ![t.val, 0])
theorem idx5 : ∀ t : Fin cfg0.N, win0_5.index t = ![t.val, 0] := (by decide +kernel : ∀ t : Fin grid0.N, win0_5.index t = ![t.val, 0])

theorem iblk0 (c : Dev nD) (t : Fin cfg0.N) (r : Fin 256) (k : Fin 4096) (i : Fin 8192) (hi : i.val = 256 * t.val + r.val) :
    (iblk m c 0 t : Vec Ideal S256x4096 .f32) (ix2 r k) = aX m c (ix2 i k) := by
  unfold iblk
  rw [show V m c (Pipeline.arrRef spec0 0) = m ((c : Thread nD τ).loc main_arg0) from V_main_arg0 m c]
  exact congrArg (aX m c) (Cert.Norm.pos_rows t.val r k _ (idx0 t) i hi _ rfl rfl)
theorem iblk1 (c : Dev nD) (t : Fin cfg0.N) (r : Fin 256) (k : Fin 4096) (i : Fin 8192) (hi : i.val = 256 * t.val + r.val) :
    (iblk m c 1 t : Vec Ideal S256x4096 .bf16) (ix2 r k) = aY m c (ix2 i k) := by
  unfold iblk
  rw [show V m c (Pipeline.arrRef spec0 1) = m ((c : Thread nD τ).loc main_arg1) from V_main_arg1 m c]
  exact congrArg (aY m c) (Cert.Norm.pos_rows t.val r k _ (idx1 t) i hi _ rfl rfl)
theorem iblk2 (c : Dev nD) (t : Fin cfg0.N) (k : Fin 4096) :
    (iblk m c 2 t : Vec Ideal S1x4096 .f32) (ix2 (0 : Fin 1) k) = aG m c (ix1 k) := by
  unfold iblk
  refine (congrArg (V m c main_v0 : FVec Ideal S1x4096 .f32) (pos_gain k _ (idx2 t) _ rfl)).trans ?_
  exact gain_at (aG m c) _ k
theorem iblk3 (c : Dev nD) (t : Fin cfg0.N) (k : Fin 4096) :
    (iblk m c 3 t : Vec Ideal S1x4096 .f32) (ix2 (0 : Fin 1) k) = aN m c (ix1 k) := by
  unfold iblk
  refine (congrArg (V m c main_v1 : FVec Ideal S1x4096 .f32) (pos_gain k _ (idx3 t) _ rfl)).trans ?_
  exact gain_at (aN m c) _ k

/-- The two results: the stream with the normed rows added, and its rows normed again. -/
abbrev stream (c : Dev nD) : Rows := added (aX m c) (aY m c) (aG m c)
abbrev next (c : Dev nD) : Rows := normed (stream m c) (aN m c)

/-- A point's blocks of them, at an index. -/
theorem block (c : Dev nD) (t : Fin cfg0.N) (r : Fin 256) (j : Fin 4096) (i : Fin 8192) (hi : i.val = 256 * t.val + r.val) :
    k0_pay1 (iblk m c 1 t) (iblk m c 0 t) (iblk m c 2 t) (ix2 r j) = stream m c (ix2 i j) :=
  (pay _ _ _ r j).trans (congrArg₂ (fun a b : EReal => a + b) (iblk0 m c t r j i hi)
    (congrArg₂ (fun v g => norm v g j) (funext fun k => iblk1 m c t r k i hi) (funext fun k => iblk2 m c t k)))
theorem block_next (c : Dev nD) (t : Fin cfg0.N) (r : Fin 256) (j : Fin 4096) (i : Fin 8192) (hi : i.val = 256 * t.val + r.val) :
    k0_pay2 (iblk m c 1 t) (iblk m c 0 t) (iblk m c 2 t) (iblk m c 3 t) (ix2 r j) = next m c (ix2 i j) :=
  (pay_next _ _ _ _ r j).trans
    (congrArg₂ (fun v g => norm v g j) (funext fun k => block m c t r k i hi) (funext fun k => iblk3 m c t k))

/-- A point writes back its blocks of them, -/
theorem flushed4 (c : Dev nD) (t : Fin cfg0.N) :
    (dats m 0 c).flushed 4 t
      = ((cfg0.win 4).blk t).view.read (Elt Ideal) (stream m c : Buf (Elt Ideal) ((c : Thread nD τ).loc main_v2_0)) := by
  rw [Value.flushed4 m c t, out]
  funext y
  obtain ⟨r, j, rfl⟩ : ∃ (r : Fin 256) (j : Fin 4096), y = ix2 r j := ⟨y 0, y 1, eq_ix2 y⟩
  have ht : t.val < 32 := lt_of_lt_of_eq t.isLt N_0
  have hR : 256 * t.val + r.val < 8192 := by omega
  exact Eq.trans (block m c t r j (⟨256 * t.val + r.val, hR⟩ : Fin 8192) rfl) (congrArg (stream m c)
    (Cert.Norm.pos_rows t.val r j _ (idx4 t) (⟨256 * t.val + r.val, hR⟩ : Fin 8192) rfl _ rfl rfl)).symm
theorem flushed5 (c : Dev nD) (t : Fin cfg0.N) :
    (dats m 0 c).flushed 5 t
      = ((cfg0.win 5).blk t).view.read (Elt Ideal) (next m c : Buf (Elt Ideal) ((c : Thread nD τ).loc main_v2_1)) := by
  rw [Value.flushed5 m c t, out_next]
  funext y
  obtain ⟨r, j, rfl⟩ : ∃ (r : Fin 256) (j : Fin 4096), y = ix2 r j := ⟨y 0, y 1, eq_ix2 y⟩
  have ht : t.val < 32 := lt_of_lt_of_eq t.isLt N_0
  have hR : 256 * t.val + r.val < 8192 := by omega
  exact Eq.trans (block_next m c t r j (⟨256 * t.val + r.val, hR⟩ : Fin 8192) rfl) (congrArg (next m c)
    (Cert.Norm.pos_rows t.val r j _ (idx5 t) (⟨256 * t.val + r.val, hR⟩ : Fin 8192) rfl _ rfl rfl)).symm

/-- and the points' blocks are all of them. -/
theorem mem_blk4 (t : Fin cfg0.N) (i : S8192x4096.Idx) : i ∈ ((cfg0.win 4).blk t).view.set ↔ (i 0).val / 256 = t.val := by
  show i ∈ ((View.whole main_v2_0).slice (win0_4.rect t)).set ↔ _
  rw [View.set_slice_whole, Rect.mem_set_unit]
  exact mem_rows t.val _ (idx4 t) i
theorem mem_blk5 (t : Fin cfg0.N) (i : S8192x4096.Idx) : i ∈ ((cfg0.win 5).blk t).view.set ↔ (i 0).val / 256 = t.val := by
  show i ∈ ((View.whole main_v2_1).slice (win0_5.rect t)).set ↔ _
  rw [View.set_slice_whole, Rect.mem_set_unit]
  exact mem_rows t.val _ (idx5 t) i
/-- The point that writes an entry. -/
def pt (i : S8192x4096.Idx) : Fin cfg0.N := ⟨(i 0).val / 256, by
  have h0 : (i 0).val < 8192 := (i 0).isLt
  have hN : cfg0.N = 32 := N_0
  omega⟩
theorem final4 (c : Dev nD) : (dats m 0 c).arrAt 4 cfg0.N = (stream m c : Buf (Elt Ideal) ((c : Thread nD τ).loc main_v2_0)) :=
  (dats m 0 c).arrAt_eq_of_cover 4 _ (fun t _ => flushed4 m c t) fun i => ⟨pt i, flush0_4 _, (mem_blk4 _ i).mpr rfl⟩
theorem final5 (c : Dev nD) : (dats m 0 c).arrAt 5 cfg0.N = (next m c : Buf (Elt Ideal) ((c : Thread nD τ).loc main_v2_1)) :=
  (dats m 0 c).arrAt_eq_of_cover 5 _ (fun t _ => flushed5 m c t) fun i => ⟨pt i, flush0_5 _, (mem_blk5 _ i).mpr rfl⟩

end Cert.PostNormIdeal.Norm

namespace Cert.PostNormRefIdeal.Norm

open Cert.PostNormRefIdeal Cert.PostNormRefIdeal.Gen Cert.PostNormRefIdeal.Read Idealize.ShloMosaic Idealize.ShloMosaic.TcCoe Idealize.SL.Sem
open Cert.Proj Cert.Norm

/-- The reference's results are the same. -/
theorem ref (x : FVec Ideal S8192x4096 .f32) (y : FVec Ideal S8192x4096 .bf16) (g : FVec Ideal S4096 .f32) :
    val_main_v14 (F := Ideal) x y g = added x y g := by
  funext i
  obtain ⟨r, j, rfl⟩ : ∃ (r : Fin 8192) (j : Fin 4096), i = ix2 r j := ⟨i 0, i 1, eq_ix2 i⟩
  show _ = x (ix2 r j) + norm (fun k => y (ix2 r k)) (fun k => g (ix1 k)) j
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl
theorem ref_next (x : FVec Ideal S8192x4096 .f32) (y : FVec Ideal S8192x4096 .bf16) (g g' : FVec Ideal S4096 .f32) :
    val_main_v28 (F := Ideal) x y g g' = normed (added x y g) g' := by
  rw [← ref x y g]
  funext i
  obtain ⟨r, j, rfl⟩ : ∃ (r : Fin 8192) (j : Fin 4096), i = ix2 r j := ⟨i 0, i 1, eq_ix2 i⟩
  show _ = norm (fun k => val_main_v14 (F := Ideal) x y g (ix2 r k)) (fun k => g' (ix1 k)) j
  simp only [val_main_v28, val_main_v27, val_main_v26, val_main_v25, val_main_v24, val_main_v23, val_main_v22, val_main_v21, val_main_v20,
    val_main_v19, val_main_v18, val_main_v17, val_main_v16, val_main_v15]
  generalize val_main_v14 (F := Ideal) x y g = w
  pointwise [val_main_cst_2, val_main_cst_3, val_main_cst_4]
  rfl

end Cert.PostNormRefIdeal.Norm

namespace Cert.PostNormIdeal.Norm

open Idealize.ShloMosaic Idealize.ShloMosaic.TcCoe Idealize.SL.Sem

theorem frame_r : letI := Cert.PostNormRefIdeal.Gen.facts; Cert.quiescent_PostNormRefIdeal := fun m ρ _ =>
  (θ_run Cert.PostNormRefIdeal.defs _ _).mono
    (fun r h => ⟨fun c => (h c).2.2, Idealize.ShloMosaic.sem_eq_zero_of_no_sems (by decide) r.2⟩)
    (Cert.PostNormRefIdeal.Value.run (F := Ideal) m ρ)

theorem algebraic : letI := Cert.PostNormIdeal.Gen.facts; letI := Cert.PostNormRefIdeal.Gen.facts;
    Cert.algebraic_PostNormIdeal_PostNormRefIdeal := by
  intro m ρ m' ρ' _ hagree
  refine ⟨fun c => stream m c, fun c => next m c, ?_, ?_⟩
  · exact (θ_run Cert.PostNormIdeal.defs _ _).mono
      (fun _ h c => ⟨(h c).1.trans (final4 m c), (h c).2.1.trans (final5 m c), (h c).2.2⟩)
      (Cert.PostNormIdeal.Value.run_blocks (F := Ideal) m ρ)
  · exact (θ_run Cert.PostNormRefIdeal.defs _ _).mono (fun _ h c => ⟨(h c).1.trans (by
      rw [Cert.PostNormRefIdeal.Read.val_main_v14_eq, Cert.PostNormRefIdeal.Norm.ref, (hagree c).1, (hagree c).2.1, (hagree c).2.2.1]),
      (h c).2.1.trans (by
      rw [Cert.PostNormRefIdeal.Read.val_main_v28_eq, Cert.PostNormRefIdeal.Norm.ref_next, (hagree c).1, (hagree c).2.1, (hagree c).2.2.1,
        (hagree c).2.2.2]), (h c).2.2⟩)
      (Cert.PostNormRefIdeal.Value.run (F := Ideal) m' ρ')

end Cert.PostNormIdeal.Norm

end
-- ==== Proof.NormLast.lean ====
/- The norm after the last mixer, added to the stream: the layer's own result. -/
module

public import proofs.«01_k».proof.Proof.Norm
public import proofs.«01_k».proof.Proof.Gen.LastNormIdeal.Value
public import proofs.«01_k».proof.Proof.Gen.LastNormRefIdeal.Read
public import proofs.«01_k».proof.Defs

@[expose] public section

set_option maxRecDepth 16384

noncomputable section

namespace Cert.LastNormIdeal.Norm

open Cert.LastNormIdeal Cert.LastNormIdeal.Gen Idealize.ShloMosaic Idealize.ShloMosaic.TcCoe Idealize.SL.Sem
open Cert.Proj Cert.Norm

/-- What the body leaves in a block, at an index. -/
theorem pay (y : Vec Ideal S256x4096 .bf16) (x : Vec Ideal S256x4096 .f32) (g : Vec Ideal S1x4096 .f32) (r : Fin 256) (j : Fin 4096) :
    k0_pay1 y x g (ix2 r j) = x (ix2 r j) + norm (fun k => y (ix2 r k)) (fun k => g (ix2 (0 : Fin 1) k)) j := by
  pointwise [k0_pay1]
  rfl
theorem out (x : Vec Ideal S256x4096 .f32) (y : Vec Ideal S256x4096 .bf16) (g : Vec Ideal S1x4096 .f32) :
    out0_3 x y g = k0_pay1 y x g := by
  unfold out0_3
  rw [View.canon_unit_zero z2, View.ld_unit_zero z2, View.ld_unit_zero z2, View.ld_unit_zero z2]

variable (m : (ℓ : Loc nD τ sig) → Buf (Elt Ideal) ℓ)

/-- The stream, the mixer's rows and the gain. -/
abbrev aX (c : Dev nD) : Rows := m ((c : Thread nD τ).loc main_arg0)
abbrev aY (c : Dev nD) : Rows := m ((c : Thread nD τ).loc main_arg1)
abbrev aG (c : Dev nD) : Gain := m ((c : Thread nD τ).loc main_arg2)

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![0, 0] := (by decide +kernel : ∀ t : Fin grid0.N, win0_2.index t = ![0, 0])
theorem idx3 : ∀ t : Fin cfg0.N, win0_3.index t = ![t.val, 0] := (by decide +kernel : ∀ t : Fin grid0.N, win0_3.index t = ![t.val, 0])

theorem iblk0 (c : Dev nD) (t : Fin cfg0.N) (r : Fin 256) (k : Fin 4096) (i : Fin 8192) (hi : i.val = 256 * t.val + r.val) :
    (iblk m c 0 t : Vec Ideal S256x4096 .f32) (ix2 r k) = aX m c (ix2 i k) := by
  unfold iblk
  rw [show V m c (Pipeline.arrRef spec0 0) = m ((c : Thread nD τ).loc main_arg0) from V_main_arg0 m c]
  exact congrArg (aX m c) (Cert.Norm.pos_rows t.val r k _ (idx0 t) i hi _ rfl rfl)
theorem iblk1 (c : Dev nD) (t : Fin cfg0.N) (r : Fin 256) (k : Fin 4096) (i : Fin 8192) (hi : i.val = 256 * t.val + r.val) :
    (iblk m c 1 t : Vec Ideal S256x4096 .bf16) (ix2 r k) = aY m c (ix2 i k) := by
  unfold iblk
  rw [show V m c (Pipeline.arrRef spec0 1) = m ((c : Thread nD τ).loc main_arg1) from V_main_arg1 m c]
  exact congrArg (aY m c) (Cert.Norm.pos_rows t.val r k _ (idx1 t) i hi _ rfl rfl)
theorem iblk2 (c : Dev nD) (t : Fin cfg0.N) (k : Fin 4096) :
    (iblk m c 2 t : Vec Ideal S1x4096 .f32) (ix2 (0 : Fin 1) k) = aG m c (ix1 k) := by
  unfold iblk
  refine (congrArg (V m c main_v0 : FVec Ideal S1x4096 .f32) (pos_gain k _ (idx2 t) _ rfl)).trans ?_
  exact gain_at (aG m c) _ k

/-- A point's rows with the normed rows added, at an index. -/
theorem block (c : Dev nD) (t : Fin cfg0.N) (r : Fin 256) (j : Fin 4096) (i : Fin 8192) (hi : i.val = 256 * t.val + r.val) :
    k0_pay1 (iblk m c 1 t) (iblk m c 0 t) (iblk m c 2 t) (ix2 r j) = added (aX m c) (aY m c) (aG m c) (ix2 i j) :=
  (pay _ _ _ r j).trans (congrArg₂ (fun a b : EReal => a + b) (iblk0 m c t r j i hi)
    (congrArg₂ (fun v g => norm v g j) (funext fun k => iblk1 m c t r k i hi) (funext fun k => iblk2 m c t k)))

/-- A point writes back its block of them, -/
theorem flushed (c : Dev nD) (t : Fin cfg0.N) :
    (dats m 0 c).flushed 3 t = ((cfg0.win 3).blk t).view.read (Elt Ideal)
      (added (aX m c) (aY m c) (aG m c) : Buf (Elt Ideal) ((c : Thread nD τ).loc main_v1)) := by
  rw [Value.flushed3 m c t, out]
  funext y
  obtain ⟨r, j, rfl⟩ : ∃ (r : Fin 256) (j : Fin 4096), y = ix2 r j := ⟨y 0, y 1, eq_ix2 y⟩
  have ht : t.val < 32 := lt_of_lt_of_eq t.isLt N_0
  have hR : 256 * t.val + r.val < 8192 := by omega
  exact Eq.trans (block m c t r j (⟨256 * t.val + r.val, hR⟩ : Fin 8192) rfl) (congrArg (added (aX m c) (aY m c) (aG m c))
    (Cert.Norm.pos_rows t.val r j _ (idx3 t) (⟨256 * t.val + r.val, hR⟩ : Fin 8192) rfl _ rfl rfl)).symm

/-- and the points' blocks are all of them. -/
theorem mem_blk (t : Fin cfg0.N) (i : S8192x4096.Idx) : i ∈ ((cfg0.win 3).blk t).view.set ↔ (i 0).val / 256 = t.val := by
  show i ∈ ((View.whole main_v1).slice (win0_3.rect t)).set ↔ _
  rw [View.set_slice_whole, Rect.mem_set_unit]
  exact mem_rows t.val _ (idx3 t) i
theorem cover (i : S8192x4096.Idx) : ∃ t : Fin cfg0.N, (cfg0.win 3).flush t = true ∧ i ∈ ((cfg0.win 3).blk t).view.set := by
  have h0 : (i 0).val < 8192 := (i 0).isLt
  have hN : cfg0.N = 32 := N_0
  exact ⟨⟨(i 0).val / 256, by omega⟩, flush0_3 _, (mem_blk _ i).mpr rfl⟩
theorem final (c : Dev nD) :
    (dats m 0 c).arrAt 3 cfg0.N = (added (aX m c) (aY m c) (aG m c) : Buf (Elt Ideal) ((c : Thread nD τ).loc main_v1)) :=
  (dats m 0 c).arrAt_eq_of_cover 3 _ (fun t _ => flushed m c t) cover

end Cert.LastNormIdeal.Norm

namespace Cert.LastNormRefIdeal.Norm

open Cert.LastNormRefIdeal Cert.LastNormRefIdeal.Gen Cert.LastNormRefIdeal.Read Idealize.ShloMosaic Idealize.ShloMosaic.TcCoe Idealize.SL.Sem
open Cert.Proj Cert.Norm

/-- The reference's result is the same. -/
theorem ref (x : FVec Ideal S8192x4096 .f32) (y : FVec Ideal S8192x4096 .bf16) (g : FVec Ideal S4096 .f32) :
    val_main_v14 (F := Ideal) x y g = added x y g := by
  funext i
  obtain ⟨r, j, rfl⟩ : ∃ (r : Fin 8192) (j : Fin 4096), i = ix2 r j := ⟨i 0, i 1, eq_ix2 i⟩
  show _ = x (ix2 r j) + norm (fun k => y (ix2 r k)) (fun k => g (ix1 k)) j
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl

end Cert.LastNormRefIdeal.Norm

namespace Cert.LastNormIdeal.Norm

open Idealize.ShloMosaic Idealize.ShloMosaic.TcCoe Idealize.SL.Sem

theorem frame_r : letI := Cert.LastNormRefIdeal.Gen.facts; Cert.quiescent_LastNormRefIdeal := fun m ρ _ =>
  (θ_run Cert.LastNormRefIdeal.defs _ _).mono (fun r h => ⟨fun c => (h c).2, Idealize.ShloMosaic.sem_eq_zero_of_no_sems (by decide) r.2⟩)
    (Cert.LastNormRefIdeal.Value.run (F := Ideal) m ρ)

theorem algebraic : letI := Cert.LastNormIdeal.Gen.facts; letI := Cert.LastNormRefIdeal.Gen.facts;
    Cert.algebraic_LastNormIdeal_LastNormRefIdeal := by
  intro m ρ m' ρ' _ hagree
  refine ⟨fun c => Cert.Norm.added (aX m c) (aY m c) (aG m c), ?_, ?_⟩
  · exact (θ_run Cert.LastNormIdeal.defs _ _).mono (fun _ h c => ⟨(h c).1.trans (final m c), (h c).2⟩)
      (Cert.LastNormIdeal.Value.run_blocks (F := Ideal) m ρ)
  · exact (θ_run Cert.LastNormRefIdeal.defs _ _).mono (fun _ h c => ⟨(h c).1.trans (by
      rw [Cert.LastNormRefIdeal.Read.val_main_v14_eq, Cert.LastNormRefIdeal.Norm.ref, (hagree c).1, (hagree c).2.1, (hagree c).2.2]), (h c).2⟩)
      (Cert.LastNormRefIdeal.Value.run (F := Ideal) m' ρ')

end Cert.LastNormIdeal.Norm

end
-- ==== Proof.CompressSpec.lean ====
/- The compression of keys and values: what a compressed row is, from the projected rows, the positions' encoding and the two
   matrices of weights. Kernel and reference are both shown to leave this. -/
module

public import proofs.«01_k».proof.Proof.Proj

@[expose] public section

set_option maxRecDepth 16384

noncomputable section

namespace Cert.Cmp

open Idealize.ShloMosaic Idealize.SL.Sem Cert.Proj

/-- The approximate gelu, with the program's constants. -/
def gelu (h : EReal) : EReal :=
  h * (Ideal.ofBits .f32 0x3F000000#32 * (1
    + Ideal.tanh (Ideal.ofBits .f32 0x3F4C422A#32 * (h + Ideal.ofBits .f32 0x3D372713#32 * (h * h * h)))))

/-- Row `n`'s window: 32 positions of 128 features from position `16 n` on, the last row's going round to the first positions. -/
def win (x : Fin 2048 → Fin 128 → EReal) (n : Fin 128) (l : Fin 32) (e : Fin 128) : EReal :=
  x (⟨16 * ((n.val + l.val / 16) % 128) + l.val % 16, by omega⟩ : Fin 2048) e

/-- The hidden row: the window with the encoding added, laid out in one row of 4096, times the first weights. -/
def hid (x : Fin 2048 → Fin 128 → EReal) (p : Fin 32 → Fin 128 → EReal) (w : Fin 4096 → Fin 128 → EReal) (n k : Fin 128) : EReal :=
  ∑ q : Fin 4096, (win x n (⟨q.val / 128, by omega⟩ : Fin 32) (⟨q.val % 128, by omega⟩ : Fin 128)
    + p (⟨q.val / 128, by omega⟩ : Fin 32) (⟨q.val % 128, by omega⟩ : Fin 128)) * w q k

/-- The compressed row. -/
def comp (x : Fin 2048 → Fin 128 → EReal) (p : Fin 32 → Fin 128 → EReal) (w : Fin 4096 → Fin 128 → EReal) (v : Fin 128 → Fin 128 → EReal)
    (n d : Fin 128) : EReal :=
  ∑ k, gelu (hid x p w n k) * v k d

/-- The hidden row's sum position by position, the first sixteen and the last. -/
theorem hid_eq (x : Fin 2048 → Fin 128 → EReal) (p : Fin 32 → Fin 128 → EReal) (w : Fin 4096 → Fin 128 → EReal) (n k : Fin 128) :
    hid x p w n k =
      ∑ l : Fin 16, ∑ e : Fin 128, (x (⟨16 * n.val + l.val, by omega⟩ : Fin 2048) e + p (⟨l.val, by omega⟩ : Fin 32) e)
        * w (⟨128 * l.val + e.val, by omega⟩ : Fin 4096) k
      + ∑ l : Fin 16, ∑ e : Fin 128, (x (⟨16 * ((n.val + 1) % 128) + l.val, by omega⟩ : Fin 2048) e + p (⟨16 + l.val, by omega⟩ : Fin 32) e)
        * w (⟨2048 + 128 * l.val + e.val, by omega⟩ : Fin 4096) k := by
  unfold hid
  rw [← Fintype.sum_equiv (finProdFinEquiv (m := 32) (n := 128)) (fun q => (win x n q.1 q.2 + p q.1 q.2) * w (finProdFinEquiv q) k) _ (fun q => ?_),
    Fintype.sum_prod_type, Fin.sum_univ_add (a := 16) (b := 16)]
  · refine congrArg₂ (fun a b : EReal => a + b) ?_ ?_
    · refine Finset.sum_congr rfl fun l _ => Finset.sum_congr rfl fun e _ => ?_
      refine congrArg₂ (fun a b : EReal => a * b) (congrArg₂ (fun a b : EReal => a + b) ?_ rfl) ?_
      · refine congrArg (fun r => x r e) (Fin.ext ?_)
        show 16 * ((n.val + l.val / 16) % 128) + l.val % 16 = 16 * n.val + l.val
        omega
      · refine congrArg (fun r => w r k) (Fin.ext ?_)
        show e.val + 128 * l.val = 128 * l.val + e.val
        omega
    · refine Finset.sum_congr rfl fun l _ => Finset.sum_congr rfl fun e _ => ?_
      refine congrArg₂ (fun a b : EReal => a * b) (congrArg₂ (fun a b : EReal => a + b) ?_ rfl) ?_
      · refine congrArg (fun r => x r e) (Fin.ext ?_)
        show 16 * ((n.val + (16 + l.val) / 16) % 128) + (16 + l.val) % 16 = 16 * ((n.val + 1) % 128) + l.val
        omega
      · refine congrArg (fun r => w r k) (Fin.ext ?_)
        show e.val + 128 * (16 + l.val) = 2048 + 128 * l.val + e.val
        omega
  · have h1 : (finProdFinEquiv q).val = q.2.val + 128 * q.1.val := rfl
    have hq : q.2.val < 128 := q.2.isLt
    have e1 : q.1 = (⟨(finProdFinEquiv q).val / 128, by omega⟩ : Fin 32) := Fin.ext (by show q.1.val = (finProdFinEquiv q).val / 128; omega)
    have e2 : q.2 = (⟨(finProdFinEquiv q).val % 128, by omega⟩ : Fin 128) := Fin.ext (by show q.2.val = (finProdFinEquiv q).val % 128; omega)
    exact congrArg₂ (fun a b => (win x n a b + p a b) * w (finProdFinEquiv q) k) e1 e2

/-- The call's arguments: the projected rows of all batches, the encodings and weights of keys and of values. -/
abbrev Qkv := (⟨3, ![4, 2048, 7168]⟩ : Shape).Idx → EReal
abbrev Enc := (⟨3, ![2, 32, 128]⟩ : Shape).Idx → EReal
abbrev Wts1 := (⟨3, ![2, 4096, 128]⟩ : Shape).Idx → EReal
abbrev Wts2 := (⟨3, ![2, 128, 128]⟩ : Shape).Idx → EReal

/-- The compressed row of a batch, of keys or values, of a group. -/
def row (x : Qkv) (p : Enc) (w : Wts1) (v : Wts2) (b : Fin 4) (h : Fin 2) (g : Fin 4) (n d : Fin 128) : EReal :=
  comp (fun r e => x (ix3 b r (⟨4096 + 512 * h.val + 128 * g.val + e.val, by omega⟩ : Fin 7168))) (fun l e => p (ix3 h l e))
    (fun q k => w (ix3 h q k)) (fun k d => v (ix3 h k d)) n d

/-- All of them. -/
def rows (x : Qkv) (p : Enc) (w : Wts1) (v : Wts2) : (⟨5, ![4, 2, 4, 128, 128]⟩ : Shape).Idx → EReal :=
  fun i => row x p w v (i 0 : Fin 4) (i 1 : Fin 2) (i 2 : Fin 4) (i 3 : Fin 128) (i 4 : Fin 128)

end Cert.Cmp
end
-- ==== Proof.Compress.lean ====
/- The compression of keys and values: what the body leaves in its block. -/
module

public import Idealize.ShloMosaic.Lib.KernelVsHost
public import proofs.«01_k».proof.Proof.CompressSpec
public import proofs.«01_k».proof.Proof.Gen.CompressIdeal.Value

@[expose] public section

set_option maxRecDepth 16384

noncomputable section

namespace Cert.CompressIdeal.Cmp

open Cert.CompressIdeal Cert.CompressIdeal.Gen Idealize.ShloMosaic Idealize.ShloMosaic.TcCoe Idealize.SL.Sem
open Cert.Proj

/-- One position's part of the hidden row: the rows at this position, its encoding added, times the weights' rows for it. -/
def part (x : Vec Ideal S128x128 .f32) (p : Vec Ideal S1x1x128 .f32) (w : Vec Ideal S1x128x128 .bf16) : FVec Ideal S128x128 .f32 :=
  matmul dot_S128x128_S128x128_S128x128_1_0_0_1_n_n none
    (truncf .bf16 (addf x (broadcastTo S128x128 (shapeCast S1x128 p shapeCasts_S1x1x128_S1x128) broadcasts_S1x128_S128x128)) bitsLt_bf16_f32)
    (shapeCast S128x128 w shapeCasts_S1x128x128_S128x128 : FVec Ideal S128x128 .bf16) (constant (F := Ideal) S128x128 .f32 0x00000000#32)

/-- The parts of the first positions, summed in the body's order. -/
def parts (X : ℕ → Vec Ideal S128x128 .f32) (P : ℕ → Vec Ideal S1x1x128 .f32) (W : ℕ → Vec Ideal S1x128x128 .bf16) : ℕ → FVec Ideal S128x128 .f32
  | 0 => broadcast S128x128 (Scalar.ofBits (F := Ideal) .f32 0x00000000#32)
  | n + 1 => addf (parts X P W n) (part (X n) (P n) (W n))

/-- The body's approximate gelu. -/
def act (h : FVec Ideal S128x128 .f32) : FVec Ideal S128x128 .bf16 :=
  truncf .bf16 (mulf (mulf (broadcast S128x128 (Scalar.ofBits (F := Ideal) .f32 0x3F000000#32)) h)
    (addf (broadcast S128x128 (Scalar.ofBits (F := Ideal) .f32 0x3F800000#32))
      (tanh (mulf (broadcast S128x128 (Scalar.ofBits (F := Ideal) .f32 0x3F4C422A#32))
        (addf h (mulf (broadcast S128x128 (Scalar.ofBits (F := Ideal) .f32 0x3D372713#32)) (mulf (mulf h h) h))))))) bitsLt_bf16_f32

/-- The loads' rows: every sixteenth row from the `l`-th on, the encoding's `l`-th row and 128 rows of weights from the `r`-th on. -/
def ldX (x : FVec Ideal S2048x128 .f32) (l : ℕ) : Vec Ideal S128x128 .f32 :=
  fun j => x (ix2 (⟨(l + 16 * (j 0).val) % 2048, Nat.mod_lt _ (by decide)⟩ : Fin 2048) (j 1 : Fin 128))
def ldP (x : Vec Ideal S1x32x128 .f32) (l : ℕ) : Vec Ideal S1x1x128 .f32 :=
  fun j => x (ix3 (0 : Fin 1) (⟨l % 32, Nat.mod_lt _ (by decide)⟩ : Fin 32) (j 2 : Fin 128))
def ldW (x : Vec Ideal S1x4096x128 .bf16) (r : ℕ) : Vec Ideal S1x128x128 .bf16 :=
  fun j => x (ix3 (0 : Fin 1) (⟨(r + (j 1).val) % 4096, Nat.mod_lt _ (by decide)⟩ : Fin 4096) (j 2 : Fin 128))

theorem ldX_eq (x : FVec Ideal S2048x128 .f32) (l : ℕ) (h0) :
    (fun j => x (({ off := ![l, 0], size := S128x128.size, stride := ![16, 1], inb := h0 } : LoadRect S2048x128).idx j)) = ldX x l := by
  funext j
  refine congrArg x (funext fun a => Fin.ext ?_)
  have h' : l + 16 * 127 < 2048 := (h0 0).resolve_left (by decide)
  have hj : (j 0).val < 128 := (j 0).isLt
  match a with
  | ⟨0, _⟩ =>
    show l + 16 * (j 0).val = (l + 16 * (j 0).val) % 2048
    omega
  | ⟨1, _⟩ =>
    show 0 + 1 * (j 1).val = (j 1).val
    omega

theorem ldP_eq (x : Vec Ideal S1x32x128 .f32) (l : ℕ) (inb : ∀ a, (![0, l, 0] : Fin 3 → ℕ) a + (![1, 1, 128] : Fin 3 → ℕ) a ≤ S1x32x128.size a) :
    View.ld x (Rect.unit ![0, l, 0] ![1, 1, 128] inb) = ldP x l := by
  funext j
  refine congrArg x (funext fun a => Fin.ext ?_)
  have h : l + 1 ≤ 32 := inb 1
  have hj0 : (j 0).val < 1 := (j 0).isLt
  have hj : (j 1).val < 1 := (j 1).isLt
  match a with
  | ⟨0, _⟩ => show 0 + 1 * (j 0).val = 0; omega
  | ⟨1, _⟩ => show l + 1 * (j 1).val = l % 32; omega
  | ⟨2, _⟩ => show 0 + 1 * (j 2).val = (j 2).val; omega

theorem ldW_eq (x : Vec Ideal S1x4096x128 .bf16) (l : ℕ) (inb : ∀ a, (![0, l, 0] : Fin 3 → ℕ) a + (![1, 128, 128] : Fin 3 → ℕ) a ≤ S1x4096x128.size a) :
    View.ld x (Rect.unit ![0, l, 0] ![1, 128, 128] inb) = ldW x l := by
  funext j
  refine congrArg x (funext fun a => Fin.ext ?_)
  have h : l + 128 ≤ 4096 := inb 1
  have hj0 : (j 0).val < 1 := (j 0).isLt
  have hj : (j 1).val < 128 := (j 1).isLt
  match a with
  | ⟨0, _⟩ => show 0 + 1 * (j 0).val = 0; omega
  | ⟨1, _⟩ => show l + 1 * (j 1).val = (l + (j 1).val) % 4096; omega
  | ⟨2, _⟩ => show 0 + 1 * (j 2).val = (j 2).val; omega

/-- The body's block, of what it read. -/
def block (x0 : Vec Ideal S1x2048x128 .bf16) (x1 : Vec Ideal S1x32x128 .f32) (x2 : Vec Ideal S1x4096x128 .bf16) (x3 : Vec Ideal S1x128x128 .bf16) :
    FVec Ideal S1x1x1x128x128 .bf16 :=
  k0_pay1 (act (addf (parts (ldX (k0_pay2 x0)) (ldP x1) (fun n => ldW x2 (128 * n)) 16)
    (dynamicRotate 0 127#32 none (parts (ldX (k0_pay2 x0)) (fun n => ldP x1 (16 + n)) (fun n => ldW x2 (2048 + 128 * n)) 16) rotates_S128x128_d0))) x3

theorem z5 : (![0, 0, 0, 0, 0] : Fin 5 → ℕ) = fun _ => 0 := funext fun a => by fin_cases a <;> rfl

section Body

variable (c : Dev nD) (i : grid0.Coords) (arg3 : Memref sig .tc .vmem S1x2048x128 .bf16) (harg3 : arg3.IsWhole) (arg4 : Memref sig .tc .vmem S1x32x128 .f32) (harg4 : arg4.IsWhole) (arg5 : Memref sig .tc .vmem S1x4096x128 .bf16) (harg5 : arg5.IsWhole) (arg6 : Memref sig .tc .vmem S1x128x128 .bf16) (harg6 : arg6.IsWhole) (arg7 : Memref sig .tc .vmem S1x1x1x128x128 .bf16) (harg7 : arg7.IsWhole) (arg8 : Memref sig .tc .vmem S2048x128 .f32) (harg8 : arg8.IsWhole)
    (x0 : Vec Ideal S1x2048x128 .bf16) (x1 : Vec Ideal S1x32x128 .f32) (x2 : Vec Ideal S1x4096x128 .bf16) (x3 : Vec Ideal S1x128x128 .bf16)

/-- The scratch holds the point's columns. -/
theorem scratch : View.canon (kernelRun0_A.sl.HS0_1 c arg3 harg3 x0) = k0_pay2 x0 := by
  unfold kernelRun0_A.sl.HS0_1
  refine (View.canon_unit_zero z2 _ _).trans ?_
  rw [View.readAt_eq_ld, harg3.read_unread, View.ld_unit_zero z3]

theorem out_A : out0_A_4 c i arg3 harg3 arg4 harg4 arg5 harg5 arg6 harg6 arg7 harg7 arg8 harg8 x0 x1 x2 x3 = block x0 x1 x2 x3 := by
  unfold out0_A_4
  rw [View.read_writes_eq_canon _ _ _ (cover0_A_4 c i arg3 harg3 arg4 harg4 arg5 harg5 arg6 harg6 arg7 harg7 arg8 harg8 x0 x1 x2 x3)]
  unfold kernelRun0_A
  dsimp only
  refine (View.canon_unit_zero z5 _ _).trans ?_
  unfold block
  refine congrArg₂ k0_pay1 ?_ ?_
  · unfold kernelRun0_A.sl.r_29 kernelRun0_A.sl.r_28 kernelRun0_A.sl.r_27 kernelRun0_A.sl.r_26 kernelRun0_A.sl.r_25 kernelRun0_A.sl.r_24 kernelRun0_A.sl.r_23 kernelRun0_A.sl.r_22 kernelRun0_A.sl.r_21 kernelRun0_A.sl.r_20 kernelRun0_A.sl.r_19 kernelRun0_A.sl.r_18 kernelRun0_A.sl.r_17 kernelRun0_A.sl.r_16 kernelRun0_A.sl.r_15 kernelRun0_A.sl.r_14 kernelRun0_A.sl.r_13 kernelRun0_A.sl.r_12 kernelRun0_A.sl.r_11 kernelRun0_A.sl.r_10 kernelRun0_A.sl.r_9 kernelRun0_A.sl.r_8 kernelRun0_A.sl.r_7 kernelRun0_A.sl.r_6 kernelRun0_A.sl.r_5 kernelRun0_A.sl.r_4 kernelRun0_A.sl.r_3 kernelRun0_A.sl.r_2 kernelRun0_A.sl.r_1 kernelRun0_A.sl.r
      kernelRun0_A.sl.v8 kernelRun0_A.sl.v27 kernelRun0_A.sl.v46 kernelRun0_A.sl.v65 kernelRun0_A.sl.v84 kernelRun0_A.sl.v103 kernelRun0_A.sl.v122 kernelRun0_A.sl.v141 kernelRun0_A.sl.v160 kernelRun0_A.sl.v179 kernelRun0_A.sl.v198 kernelRun0_A.sl.v217 kernelRun0_A.sl.v236 kernelRun0_A.sl.v255 kernelRun0_A.sl.v274 kernelRun0_A.sl.v293
    simp only [View.readCov_eq_canon', View.readAt_eq_ld, harg4.read_unread, harg5.read_unread, scratch, ldP_eq, ldW_eq, ldX_eq]
    rfl
  · rw [View.readAt_eq_ld, harg6.read_unread]
    exact View.ld_unit_zero z3 _ _

end Body
/-- The pieces at an index: a part, -/
theorem part_at (x : Vec Ideal S128x128 .f32) (p : Vec Ideal S1x1x128 .f32) (w : Vec Ideal S1x128x128 .bf16) (r k : Fin 128) :
    part x p w (ix2 r k) = ∑ e : Fin 128, (x (ix2 r e) + p (ix3 (0 : Fin 1) (0 : Fin 1) e)) * w (ix3 (0 : Fin 1) e k) := by
  pointwise [part]
/-- the parts' sum, -/
theorem parts_at (X : ℕ → Vec Ideal S128x128 .f32) (P : ℕ → Vec Ideal S1x1x128 .f32) (W : ℕ → Vec Ideal S1x128x128 .bf16) (n : ℕ) (r k : Fin 128) :
    parts X P W n (ix2 r k) = ∑ l ∈ Finset.range n, part (X l) (P l) (W l) (ix2 r k) := by
  induction n with
  | zero =>
    pointwise [parts]
    rw [Finset.sum_range_zero]
  | succ n ih =>
    rw [Finset.sum_range_succ, ← ih]
    rfl
/-- the gelu, -/
theorem act_at (h : FVec Ideal S128x128 .f32) (r k : Fin 128) : act h (ix2 r k) = Cert.Cmp.gelu (h (ix2 r k)) := by
  pointwise [act]
  unfold Cert.Cmp.gelu
  rw [mul_comm (Ideal.ofBits .f32 0x3F000000#32) (h (ix2 r k)), mul_assoc]
/-- the next row, -/
theorem rot_at (h : FVec Ideal S128x128 .f32) (r k : Fin 128) :
    dynamicRotate 0 127#32 none h rotates_S128x128_d0 (ix2 r k) = h (ix2 (⟨(r.val + 1) % 128, Nat.mod_lt _ (by decide)⟩ : Fin 128) k) := by
  refine dynamicRotate_apply 0 127#32 h _ _ _ (Fin.forall_fin_two.mpr ⟨?_, rfl⟩)
  show (r.val + 1) % 128 = (r.val + 128 - 127 % 128) % 128
  omega
/-- the point's columns, -/
theorem cols_at (x : Vec Ideal S1x2048x128 .bf16) (r : Fin 2048) (e : Fin 128) : k0_pay2 x (ix2 r e) = x (ix3 (0 : Fin 1) r e) := by
  pointwise [k0_pay2]
/-- and the block's payload. -/
theorem pay_at (a : FVec Ideal S128x128 .bf16) (w : Vec Ideal S1x128x128 .bf16) (n d : Fin 128) :
    k0_pay1 a w (ix5 (0 : Fin 1) (0 : Fin 1) (0 : Fin 1) n d) = ∑ k : Fin 128, a (ix2 n k) * w (ix3 (0 : Fin 1) k d) := by
  pointwise [k0_pay1]

/-- The hidden row, of the two sums. -/
theorem hid_at (x0 : Vec Ideal S1x2048x128 .bf16) (x1 : Vec Ideal S1x32x128 .f32) (x2 : Vec Ideal S1x4096x128 .bf16) (n k : Fin 128) :
    (addf (parts (ldX (k0_pay2 x0)) (ldP x1) (fun n => ldW x2 (128 * n)) 16)
      (dynamicRotate 0 127#32 none (parts (ldX (k0_pay2 x0)) (fun n => ldP x1 (16 + n)) (fun n => ldW x2 (2048 + 128 * n)) 16) rotates_S128x128_d0)
      : FVec Ideal S128x128 .f32) (ix2 n k)
      = Cert.Cmp.hid (fun r e => x0 (ix3 (0 : Fin 1) r e)) (fun l e => x1 (ix3 (0 : Fin 1) l e)) (fun q k => x2 (ix3 (0 : Fin 1) q k)) n k := by
  rw [Cert.Cmp.hid_eq]
  refine congrArg₂ (fun a b : EReal => a + b) ?_ ((rot_at _ n k).trans ?_)
  · refine (parts_at _ _ _ 16 n k).trans ((Finset.sum_range _).trans (Finset.sum_congr rfl fun l _ => (part_at _ _ _ n k).trans
      (Finset.sum_congr rfl fun e _ => ?_)))
    refine congrArg₂ (fun a b : EReal => a * b) (congrArg₂ (fun a b : EReal => a + b) ((cols_at _ _ _).trans ?_) ?_) ?_
    · refine congrArg (fun r : Fin 2048 => x0 (ix3 (0 : Fin 1) r e)) (Fin.ext ?_)
      show (l.val + 16 * n.val) % 2048 = 16 * n.val + l.val
      omega
    · refine congrArg (fun r : Fin 32 => x1 (ix3 (0 : Fin 1) r e)) (Fin.ext ?_)
      show l.val % 32 = l.val
      omega
    · refine congrArg (fun r : Fin 4096 => x2 (ix3 (0 : Fin 1) r k)) (Fin.ext ?_)
      show (128 * l.val + e.val) % 4096 = 128 * l.val + e.val
      omega
  · refine (parts_at _ _ _ 16 _ k).trans ((Finset.sum_range _).trans (Finset.sum_congr rfl fun l _ => (part_at _ _ _ _ k).trans
      (Finset.sum_congr rfl fun e _ => ?_)))
    refine congrArg₂ (fun a b : EReal => a * b) (congrArg₂ (fun a b : EReal => a + b) ((cols_at _ _ _).trans ?_) ?_) ?_
    · refine congrArg (fun r : Fin 2048 => x0 (ix3 (0 : Fin 1) r e)) (Fin.ext ?_)
      show (l.val + 16 * ((n.val + 1) % 128)) % 2048 = 16 * ((n.val + 1) % 128) + l.val
      omega
    · refine congrArg (fun r : Fin 32 => x1 (ix3 (0 : Fin 1) r e)) (Fin.ext ?_)
      show (16 + l.val) % 32 = 16 + l.val
      omega
    · refine congrArg (fun r : Fin 4096 => x2 (ix3 (0 : Fin 1) r k)) (Fin.ext ?_)
      show (2048 + 128 * l.val + e.val) % 4096 = 2048 + 128 * l.val + e.val
      omega

/-- The block, at an index: the compressed row. -/
theorem block_at (x0 : Vec Ideal S1x2048x128 .bf16) (x1 : Vec Ideal S1x32x128 .f32) (x2 : Vec Ideal S1x4096x128 .bf16) (x3 : Vec Ideal S1x128x128 .bf16)
    (n d : Fin 128) :
    block x0 x1 x2 x3 (ix5 (0 : Fin 1) (0 : Fin 1) (0 : Fin 1) n d) = Cert.Cmp.comp (fun r e => x0 (ix3 (0 : Fin 1) r e))
      (fun l e => x1 (ix3 (0 : Fin 1) l e)) (fun q k => x2 (ix3 (0 : Fin 1) q k)) (fun k d => x3 (ix3 (0 : Fin 1) k d)) n d :=
  (pay_at _ _ n d).trans (Finset.sum_congr rfl fun k _ => congrArg (fun a : EReal => a * x3 (ix3 (0 : Fin 1) k d))
    ((act_at _ n k).trans (congrArg Cert.Cmp.gelu (hid_at x0 x1 x2 n k))))

variable (m : (ℓ : Loc nD τ sig) → Buf (Elt Ideal) ℓ)

/-- The projected rows, the encodings and the weights. -/
abbrev aX (c : Dev nD) : Cert.Cmp.Qkv := m ((c : Thread nD τ).loc main_arg0)
abbrev aP (c : Dev nD) : Cert.Cmp.Enc := m ((c : Thread nD τ).loc main_arg1)
abbrev aW (c : Dev nD) : Cert.Cmp.Wts1 := m ((c : Thread nD τ).loc main_arg2)
abbrev aV (c : Dev nD) : Cert.Cmp.Wts2 := m ((c : Thread nD τ).loc main_arg3)

theorem idx0 : ∀ t : Fin cfg0.N, win0_0.index t = ![t.val / 8, 0, 32 + t.val % 8] := (by decide +kernel : ∀ t : Fin grid0.N, win0_0.index t = ![t.val / 8, 0, 32 + t.val % 8])
theorem idx1 : ∀ t : Fin cfg0.N, win0_1.index t = ![t.val / 4 % 2, 0, 0] := (by decide +kernel : ∀ t : Fin grid0.N, win0_1.index t = ![t.val / 4 % 2, 0, 0])
theorem idx2 : ∀ t : Fin cfg0.N, win0_2.index t = ![t.val / 4 % 2, 0, 0] := (by decide +kernel : ∀ t : Fin grid0.N, win0_2.index t = ![t.val / 4 % 2, 0, 0])
theorem idx3 : ∀ t : Fin cfg0.N, win0_3.index t = ![t.val / 4 % 2, 0, 0] := (by decide +kernel : ∀ t : Fin grid0.N, win0_3.index t = ![t.val / 4 % 2, 0, 0])
theorem idx4 : ∀ t : Fin cfg0.N, win0_4.index t = ![t.val / 8, t.val / 4 % 2, t.val % 4, 0, 0] := (by decide +kernel : ∀ t : Fin grid0.N, win0_4.index t = ![t.val / 8, t.val / 4 % 2, t.val % 4, 0, 0])

/-- A point's batch, keys or values, and group. -/
def ptB (t : Fin cfg0.N) : Fin 4 := ⟨t.val / 8, by have h : t.val < 32 := lt_of_lt_of_eq t.isLt N_0; omega⟩
def ptH (t : Fin cfg0.N) : Fin 2 := ⟨t.val / 4 % 2, by omega⟩
def ptG (t : Fin cfg0.N) : Fin 4 := ⟨t.val % 4, by omega⟩

/-- Where the blocks lie: the columns in the projected rows, -/
theorem pos0 (t : Fin cfg0.N) (r : Fin 2048) (e : Fin 128) (f : Fin 3 → ℕ) (hf : f = ![t.val / 8, 0, 32 + t.val % 8])
    (i : (⟨3, ![4, 2048, 7168]⟩ : Shape).Idx) (h0 : (i 0).val = f 0 * 1 + 1 * 0) (h1 : (i 1).val = f 1 * 2048 + 1 * r.val)
    (h2 : (i 2).val = f 2 * 128 + 1 * e.val) :
    i = ix3 (ptB t) r (⟨4096 + 512 * (ptH t).val + 128 * (ptG t).val + e.val, by omega⟩ : Fin 7168) := by
  subst hf
  refine funext fun a => Fin.ext ?_
  match a with
  | ⟨0, _⟩ => exact h0.trans (show t.val / 8 * 1 + 1 * 0 = t.val / 8 by omega)
  | ⟨1, _⟩ => exact h1.trans (show 0 * 2048 + 1 * r.val = r.val by omega)
  | ⟨2, _⟩ => exact h2.trans (show (32 + t.val % 8) * 128 + 1 * e.val = 4096 + 512 * (t.val / 4 % 2) + 128 * (t.val % 4) + e.val by omega)
/-- the encodings' and weights' halves, -/
theorem pos1 (t : Fin cfg0.N) {A B : ℕ} (l : Fin A) (e : Fin B) (f : Fin 3 → ℕ) (hf : f = ![t.val / 4 % 2, 0, 0])
    (i : (⟨3, ![2, A, B]⟩ : Shape).Idx) (h0 : (i 0).val = f 0 * 1 + 1 * 0) (h1 : (i 1).val = f 1 * A + 1 * l.val)
    (h2 : (i 2).val = f 2 * B + 1 * e.val) : i = ix3 (ptH t) l e := by
  subst hf
  refine funext fun a => Fin.ext ?_
  match a with
  | ⟨0, _⟩ => exact h0.trans (show t.val / 4 % 2 * 1 + 1 * 0 = t.val / 4 % 2 by omega)
  | ⟨1, _⟩ => exact h1.trans (show 0 * A + 1 * l.val = l.val by omega)
  | ⟨2, _⟩ => exact h2.trans (show 0 * B + 1 * e.val = e.val by omega)
/-- and the block of the result. -/
theorem pos4 (t : Fin cfg0.N) (n d : Fin 128) (f : Fin 5 → ℕ) (hf : f = ![t.val / 8, t.val / 4 % 2, t.val % 4, 0, 0])
    (i : (⟨5, ![4, 2, 4, 128, 128]⟩ : Shape).Idx) (h0 : (i 0).val = f 0 * 1 + 1 * 0) (h1 : (i 1).val = f 1 * 1 + 1 * 0)
    (h2 : (i 2).val = f 2 * 1 + 1 * 0) (h3 : (i 3).val = f 3 * 128 + 1 * n.val) (h4 : (i 4).val = f 4 * 128 + 1 * d.val) :
    i = ix5 (ptB t) (ptH t) (ptG t) n d := by
  subst hf
  refine funext fun a => Fin.ext ?_
  match a with
  | ⟨0, _⟩ => exact h0.trans (show t.val / 8 * 1 + 1 * 0 = t.val / 8 by omega)
  | ⟨1, _⟩ => exact h1.trans (show t.val / 4 % 2 * 1 + 1 * 0 = t.val / 4 % 2 by omega)
  | ⟨2, _⟩ => exact h2.trans (show t.val % 4 * 1 + 1 * 0 = t.val % 4 by omega)
  | ⟨3, _⟩ => exact h3.trans (show 0 * 128 + 1 * n.val = n.val by omega)
  | ⟨4, _⟩ => exact h4.trans (show 0 * 128 + 1 * d.val = d.val by omega)

theorem iblk0 (c : Dev nD) (t : Fin cfg0.N) (r : Fin 2048) (e : Fin 128) :
    (iblk m c 0 t : Vec Ideal S1x2048x128 .bf16) (ix3 (0 : Fin 1) r e)
      = aX m c (ix3 (ptB t) r (⟨4096 + 512 * (ptH t).val + 128 * (ptG t).val + e.val, by omega⟩ : Fin 7168)) := by
  unfold iblk
  rw [show V m c (Pipeline.arrRef spec0 0) = m ((c : Thread nD τ).loc main_arg0) from V_main_arg0 m c]
  exact congrArg (aX m c) (pos0 t r e _ (idx0 t) _ rfl rfl rfl)
theorem iblk1 (c : Dev nD) (t : Fin cfg0.N) (l : Fin 32) (e : Fin 128) :
    (iblk m c 1 t : Vec Ideal S1x32x128 .f32) (ix3 (0 : Fin 1) l e) = aP m c (ix3 (ptH t) l e) := by
  unfold iblk
  rw [show V m c (Pipeline.arrRef spec0 1) = m ((c : Thread nD τ).loc main_arg1) from V_main_arg1 m c]
  exact congrArg (aP m c) (pos1 t l e _ (idx1 t) _ rfl rfl rfl)
theorem iblk2 (c : Dev nD) (t : Fin cfg0.N) (q : Fin 4096) (k : Fin 128) :
    (iblk m c 2 t : Vec Ideal S1x4096x128 .bf16) (ix3 (0 : Fin 1) q k) = aW m c (ix3 (ptH t) q k) := by
  unfold iblk
  exact congrArg (V m c main_v0 : FVec Ideal S2x4096x128 .bf16) (pos1 t q k _ (idx2 t) _ rfl rfl rfl)
theorem iblk3 (c : Dev nD) (t : Fin cfg0.N) (k d : Fin 128) :
    (iblk m c 3 t : Vec Ideal S1x128x128 .bf16) (ix3 (0 : Fin 1) k d) = aV m c (ix3 (ptH t) k d) := by
  unfold iblk
  exact congrArg (V m c main_v1 : FVec Ideal S2x128x128 .bf16) (pos1 t k d _ (idx3 t) _ rfl rfl rfl)

/-- A point writes back its block of the compressed rows, -/
theorem flushed (c : Dev nD) (t : Fin cfg0.N) :
    (dats m 0 c).flushed 4 t = ((cfg0.win 4).blk t).view.read (Elt Ideal)
      (Cert.Cmp.rows (aX m c) (aP m c) (aW m c) (aV m c) : Buf (Elt Ideal) ((c : Thread nD τ).loc main_v2)) := by
  rw [Value.flushed4_A m c t, out_A]
  funext y
  obtain ⟨n, d, rfl⟩ : ∃ n d : Fin 128, y = ix5 (0 : Fin 1) (0 : Fin 1) (0 : Fin 1) n d := by
    refine ⟨y 3, y 4, (eq_ix5 y).trans ?_⟩
    rw [show y 0 = (0 : Fin 1) from Subsingleton.elim (α := Fin 1) _ _, show y 1 = (0 : Fin 1) from Subsingleton.elim (α := Fin 1) _ _,
      show y 2 = (0 : Fin 1) from Subsingleton.elim (α := Fin 1) _ _]
  refine Eq.trans (block_at (iblk m c 0 t) (iblk m c 1 t) (iblk m c 2 t) (iblk m c 3 t) n d) (Eq.trans ?_
    (congrArg (Cert.Cmp.rows (aX m c) (aP m c) (aW m c) (aV m c)) (pos4 t n d _ (idx4 t) _ rfl rfl rfl rfl rfl)).symm)
  show _ = Cert.Cmp.row (aX m c) (aP m c) (aW m c) (aV m c) (ptB t) (ptH t) (ptG t) n d
  unfold Cert.Cmp.row
  rw [show (fun r e => (iblk m c 0 t : Vec Ideal S1x2048x128 .bf16) (ix3 (0 : Fin 1) r e)) = _ from funext fun r => funext fun e => iblk0 m c t r e,
    show (fun l e => (iblk m c 1 t : Vec Ideal S1x32x128 .f32) (ix3 (0 : Fin 1) l e)) = _ from funext fun l => funext fun e => iblk1 m c t l e,
    show (fun q k => (iblk m c 2 t : Vec Ideal S1x4096x128 .bf16) (ix3 (0 : Fin 1) q k)) = _ from funext fun q => funext fun k => iblk2 m c t q k,
    show (fun k d => (iblk m c 3 t : Vec Ideal S1x128x128 .bf16) (ix3 (0 : Fin 1) k d)) = _ from funext fun k => funext fun d => iblk3 m c t k d]

/-- and the points' blocks are all of them. -/
theorem cover (i : S4x2x4x128x128.Idx) : ∃ t : Fin cfg0.N, (cfg0.win 4).flush t = true ∧ i ∈ ((cfg0.win 4).blk t).view.set := by
  have h0 : (i 0).val < 4 := (i 0).isLt
  have h1 : (i 1).val < 2 := (i 1).isLt
  have h2 : (i 2).val < 4 := (i 2).isLt
  have h3 : (i 3).val < 128 := (i 3).isLt
  have h4 : (i 4).val < 128 := (i 4).isLt
  have hN : cfg0.N = 32 := N_0
  obtain ⟨t, ht⟩ : ∃ t : Fin cfg0.N, t.val = 8 * (i 0).val + 4 * (i 1).val + (i 2).val := ⟨⟨8 * (i 0).val + 4 * (i 1).val + (i 2).val, by omega⟩, rfl⟩
  refine ⟨t, flush0_4 t, ?_⟩
  show i ∈ ((View.whole main_v2).slice (win0_4.rect t)).set
  rw [View.set_slice_whole, Rect.mem_set_unit]
  show ∀ a : Fin 5, win0_4.index t a * (![1, 1, 1, 128, 128] : Fin 5 → ℕ) a ≤ (i a).val ∧ (i a).val < win0_4.index t a * (![1, 1, 1, 128, 128] : Fin 5 → ℕ) a + (![1, 1, 1, 128, 128] : Fin 5 → ℕ) a
  rw [idx4 t]
  intro a
  match a with
  | ⟨0, _⟩ => show t.val / 8 * 1 ≤ (i 0).val ∧ (i 0).val < t.val / 8 * 1 + 1; omega
  | ⟨1, _⟩ => show t.val / 4 % 2 * 1 ≤ (i 1).val ∧ (i 1).val < t.val / 4 % 2 * 1 + 1; omega
  | ⟨2, _⟩ => show t.val % 4 * 1 ≤ (i 2).val ∧ (i 2).val < t.val % 4 * 1 + 1; omega
  | ⟨3, _⟩ => show 0 * 128 ≤ (i 3).val ∧ (i 3).val < 0 * 128 + 128; omega
  | ⟨4, _⟩ => show 0 * 128 ≤ (i 4).val ∧ (i 4).val < 0 * 128 + 128; omega
theorem final (c : Dev nD) :
    (dats m 0 c).arrAt 4 cfg0.N = (Cert.Cmp.rows (aX m c) (aP m c) (aW m c) (aV m c) : Buf (Elt Ideal) ((c : Thread nD τ).loc main_v2)) :=
  (dats m 0 c).arrAt_eq_of_cover 4 _ (fun t _ => flushed m c t) cover

end Cert.CompressIdeal.Cmp
end
-- ==== Proof.CompressRef.lean ====
/- The compression's reference: it is the compressed rows. -/
module

public import proofs.«01_k».proof.Proof.CompressSpec
public import proofs.«01_k».proof.Proof.Gen.CompressRefIdeal.Read

@[expose] public section

set_option maxRecDepth 16384

noncomputable section

namespace Cert.CompressRefIdeal.Cmp

open Cert.CompressRefIdeal Cert.CompressRefIdeal.Gen Cert.CompressRefIdeal.Read Idealize.ShloMosaic Idealize.ShloMosaic.TcCoe Idealize.SL.Sem
open Cert.Proj

/-- The windows' first halves, their second halves and the windows, of the chunks of sixteen positions. -/
def chunks0 (t : FVec Ideal S4x128x16x4x128 .f32) : FVec Ideal S4x128x16x4x128 .f32 :=
  concatenate S4x128x16x4x128 1 [⟨S4x128x16x4x128, t⟩,
    ⟨S4x0x16x4x128, extractStridedSlice S4x0x16x4x128 ![0, 0, 0, 0, 0] t slices_S4x128x16x4x128_S4x0x16x4x128_0_0_0_0_0⟩]
    concatenates_S4x128x16x4x128_S4x0x16x4x128_S4x128x16x4x128_d1
def chunks1 (t : FVec Ideal S4x128x16x4x128 .f32) : FVec Ideal S4x128x16x4x128 .f32 :=
  concatenate S4x128x16x4x128 1
    [⟨S4x127x16x4x128, extractStridedSlice S4x127x16x4x128 ![0, 1, 0, 0, 0] t slices_S4x128x16x4x128_S4x127x16x4x128_0_1_0_0_0⟩,
    ⟨S4x1x16x4x128, extractStridedSlice S4x1x16x4x128 ![0, 0, 0, 0, 0] t slices_S4x128x16x4x128_S4x1x16x4x128_0_0_0_0_0⟩]
    concatenates_S4x127x16x4x128_S4x1x16x4x128_S4x128x16x4x128_d1
def wins (t : FVec Ideal S4x128x16x4x128 .f32) : FVec Ideal S4x128x32x4x128 .f32 :=
  concatenate S4x128x32x4x128 2 [⟨S4x128x16x4x128, chunks0 t⟩, ⟨S4x128x16x4x128, chunks1 t⟩]
    concatenates_S4x128x16x4x128_S4x128x16x4x128_S4x128x32x4x128_d2

/-- The windows with the encoding added, a window in one row, -/
def flat (t : FVec Ideal S4x128x16x4x128 .f32) (p : FVec Ideal S32x128 .f32) : FVec Ideal S4x128x4x4096 .f32 :=
  shapeCast _ (transpose S4x128x4x32x128 [0, 1, 3, 2, 4] (addf (wins t)
    (broadcastInDim S4x128x32x4x128 ![0, 1, 2, 3, 4] bcast_S1x1x32x1x128_S4x128x32x4x128_0_1_2_3_4
      (broadcastInDim S1x1x32x1x128 ![2, 4] bcast_S32x128_S1x1x32x1x128_2_4 p) : FVec Ideal S4x128x32x4x128 .f32))
    transposes_S4x128x32x4x128_S4x128x4x32x128_0_1_3_2_4) shapeCasts_S4x128x4x32x128_S4x128x4x4096
/-- and the hidden rows. -/
def hidden (t : FVec Ideal S4x128x16x4x128 .f32) (p : FVec Ideal S32x128 .f32) (w : FVec Ideal S4096x128 .f32) : FVec Ideal S4x128x4x128 .f32 :=
  Host.dotGeneral dot_S4x128x4x4096_S4096x128_S4x128x4x128_3_0_012_1_n_n none (flat t p) w

theorem chunks0_at (t : FVec Ideal S4x128x16x4x128 .f32) (b : Fin 4) (n : Fin 128) (l : Fin 16) (g : Fin 4) (e : Fin 128) :
    chunks0 t (ix5 b n l g e) = t (ix5 b n l g e) := by
  pointwise [chunks0]
theorem chunks1_at (t : FVec Ideal S4x128x16x4x128 .f32) (b : Fin 4) (n : Fin 128) (l : Fin 16) (g : Fin 4) (e : Fin 128) :
    chunks1 t (ix5 b n l g e) = t (ix5 b (⟨(n.val + 1) % 128, Nat.mod_lt _ (by decide)⟩ : Fin 128) l g e) := by
  pointwise [chunks1]
  split
  · refine congrArg (fun r : Fin 128 => t (ix5 b r l g e)) (Fin.ext ?_)
    show 1 + n.val = (n.val + 1) % 128
    omega
  · refine congrArg (fun r : Fin 128 => t (ix5 b r l g e)) (Fin.ext ?_)
    show n.val - 127 = (n.val + 1) % 128
    omega
theorem wins_at (t : FVec Ideal S4x128x16x4x128 .f32) (b : Fin 4) (n : Fin 128) (l : Fin 32) (g : Fin 4) (e : Fin 128) :
    wins t (ix5 b n l g e) = t (ix5 b (⟨(n.val + l.val / 16) % 128, Nat.mod_lt _ (by decide)⟩ : Fin 128)
      (⟨l.val % 16, Nat.mod_lt _ (by decide)⟩ : Fin 16) g e) := by
  pointwise [wins]
  split
  · refine (chunks0_at t _ _ _ _ _).trans (congrArg₂ (fun (r : Fin 128) (k : Fin 16) => t (ix5 b r k g e)) (Fin.ext ?_) (Fin.ext ?_))
    · show n.val = (n.val + l.val / 16) % 128
      omega
    · show l.val = l.val % 16
      omega
  · refine (chunks1_at t _ _ _ _ _).trans (congrArg₂ (fun (r : Fin 128) (k : Fin 16) => t (ix5 b r k g e)) (Fin.ext ?_) (Fin.ext ?_))
    · show (n.val + 1) % 128 = (n.val + l.val / 16) % 128
      omega
    · show l.val - 16 = l.val % 16
      omega
theorem flat_at (t : FVec Ideal S4x128x16x4x128 .f32) (p : FVec Ideal S32x128 .f32) (b : Fin 4) (n : Fin 128) (g : Fin 4) (q : Fin 4096) :
    flat t p (ix4 b n g q) = wins t (ix5 b n (⟨q.val / 128, by omega⟩ : Fin 32) g (⟨q.val % 128, by omega⟩ : Fin 128))
      + p (ix2 (⟨q.val / 128, by omega⟩ : Fin 32) (⟨q.val % 128, by omega⟩ : Fin 128)) := by
  pointwise [flat]
theorem hidden_at (t : FVec Ideal S4x128x16x4x128 .f32) (p : FVec Ideal S32x128 .f32) (w : FVec Ideal S4096x128 .f32) (b : Fin 4) (n : Fin 128)
    (g : Fin 4) (k : Fin 128) :
    hidden t p w (ix4 b n g k) = ∑ q : Fin 4096, flat t p (ix4 b n g q) * w (ix2 q k) := by
  pointwise [hidden]
/-- The hidden rows, where the chunks are those of the rows `x`. -/
theorem hidden_eq (t : FVec Ideal S4x128x16x4x128 .f32) (p : FVec Ideal S32x128 .f32) (w : FVec Ideal S4096x128 .f32) (b : Fin 4) (g : Fin 4)
    (x : Fin 2048 → Fin 128 → EReal)
    (ht : ∀ (n : Fin 128) (l : Fin 16) (e : Fin 128), t (ix5 b n l g e) = x (⟨16 * n.val + l.val, by omega⟩ : Fin 2048) e) (n k : Fin 128) :
    hidden t p w (ix4 b n g k) = Cert.Cmp.hid x (fun l e => p (ix2 l e)) (fun q k => w (ix2 q k)) n k := by
  refine (hidden_at t p w b n g k).trans (Finset.sum_congr rfl fun q _ => congrArg (fun a : EReal => a * w (ix2 q k)) ?_)
  exact (flat_at t p b n g q).trans (congrArg (fun a : EReal => a + p (ix2 (⟨q.val / 128, by omega⟩ : Fin 32) (⟨q.val % 128, by omega⟩ : Fin 128)))
    ((wins_at t b n _ g _).trans (ht _ _ _)))

end Cert.CompressRefIdeal.Cmp
end
-- ==== Proof.CompressRefRows.lean ====
/- The compression's reference: its rows are the compressed rows. -/
module

public import proofs.«01_k».proof.Proof.CompressRef

@[expose] public section

set_option maxRecDepth 16384

noncomputable section

namespace Cert.CompressRefIdeal.Cmp

open Cert.CompressRefIdeal Cert.CompressRefIdeal.Gen Cert.CompressRefIdeal.Read Idealize.ShloMosaic Idealize.ShloMosaic.TcCoe Idealize.SL.Sem
open Cert.Proj

/-- The second product at an index. -/
theorem out_at (a : FVec Ideal S4x128x4x128 .f32) (v : FVec Ideal S128x128 .f32) (b : Fin 4) (n : Fin 128) (g : Fin 4) (d : Fin 128) :
    (Host.dotGeneral dot_S4x128x4x128_S128x128_S4x128x4x128_3_0_012_1_n_n none a v : FVec Ideal S4x128x4x128 .f32) (ix4 b n g d)
      = ∑ k : Fin 128, a (ix4 b n g k) * v (ix2 k d) := by
  pointwise

/-- The keys' chunks, encoding and weights, -/
theorem chunk_k (x : FVec Ideal S4x2048x7168 .bf16) (b : Fin 4) (n : Fin 128) (l : Fin 16) (g : Fin 4) (e : Fin 128) :
    val_main_v11 (F := Ideal) x (ix5 b n l g e)
      = x (ix3 b (⟨16 * n.val + l.val, by omega⟩ : Fin 2048) (⟨4096 + 512 * (0 : Fin 2).val + 128 * g.val + e.val, by omega⟩ : Fin 7168)) := by
  pointwise [val_main_v11, val_main_v2, val_main_v1, val_main_v0]
  refine congrArg₂ (fun (r : Fin 2048) (j : Fin 7168) => x (ix3 b r j)) (Fin.ext ?_) (Fin.ext ?_)
  · show n.val * 16 + l.val = 16 * n.val + l.val
    omega
  · show 4096 + (g.val * 128 + e.val) = 4096 + 512 * 0 + 128 * g.val + e.val
    omega
theorem enc_k (p : FVec Ideal S2x32x128 .f32) (l : Fin 32) (e : Fin 128) : val_main_v6 (F := Ideal) p (ix2 l e) = p (ix3 (0 : Fin 2) l e) := by
  pointwise [val_main_v6, val_main_v5]
theorem wts1_k (w : FVec Ideal S2x4096x128 .f32) (q : Fin 4096) (k : Fin 128) : val_main_v8 (F := Ideal) w (ix2 q k) = w (ix3 (0 : Fin 2) q k) := by
  pointwise [val_main_v8, val_main_v7]
theorem wts2_k (v : FVec Ideal S2x128x128 .f32) (k d : Fin 128) : val_main_v10 (F := Ideal) v (ix2 k d) = v (ix3 (0 : Fin 2) k d) := by
  pointwise [val_main_v10, val_main_v9]
/-- the gelu of the hidden rows -/
theorem act_k (x0 : FVec Ideal S4x2048x7168 .bf16) (x1 : FVec Ideal S2x32x128 .f32) (x2 : FVec Ideal S2x4096x128 .f32) (b : Fin 4) (n : Fin 128)
    (g : Fin 4) (k : Fin 128) :
    val_main_v36 (F := Ideal) x0 x1 x2 (ix4 b n g k) = Cert.Cmp.gelu (val_main_v23 (F := Ideal) x0 x1 x2 (ix4 b n g k)) := by
  unfold Cert.Cmp.gelu
  pointwise [val_main_v36, val_main_v35, val_main_v34, val_main_v33, val_main_v32, val_main_v31, val_main_v30, val_main_v29, val_main_v28, val_main_v27, val_main_v26, val_main_v25, val_main_v24, val_main_cst, val_main_cst_0, val_main_cst_1, val_main_cst_2]
/-- and the compressed rows. -/
theorem row_k (x0 : FVec Ideal S4x2048x7168 .bf16) (x1 : FVec Ideal S2x32x128 .f32) (x2 : FVec Ideal S2x4096x128 .f32) (x3 : FVec Ideal S2x128x128 .f32)
    (b : Fin 4) (n : Fin 128) (g : Fin 4) (d : Fin 128) :
    val_main_v37 (F := Ideal) x0 x1 x2 x3 (ix4 b n g d) = Cert.Cmp.row x0 x1 x2 x3 b 0 g n d := by
  refine (out_at _ _ b n g d).trans (Finset.sum_congr rfl fun k _ => congrArg₂ (fun a c : EReal => a * c) ((act_k x0 x1 x2 b n g k).trans
    (congrArg Cert.Cmp.gelu ?_)) (wts2_k x3 k d))
  refine (hidden_eq (val_main_v11 (F := Ideal) x0) (val_main_v6 (F := Ideal) x1) (val_main_v8 (F := Ideal) x2) b g
    (fun r e => x0 (ix3 b r (⟨4096 + 512 * (0 : Fin 2).val + 128 * g.val + e.val, by omega⟩ : Fin 7168)))
    (fun n l e => chunk_k x0 b n l g e) n k).trans ?_
  rw [show (fun l e => val_main_v6 (F := Ideal) x1 (ix2 l e)) = fun l e => x1 (ix3 (0 : Fin 2) l e) from funext fun l => funext fun e => enc_k x1 l e,
    show (fun q k => val_main_v8 (F := Ideal) x2 (ix2 q k)) = fun q k => x2 (ix3 (0 : Fin 2) q k) from funext fun q => funext fun k => wts1_k x2 q k]

/-- The values' chunks, encoding and weights, -/
theorem chunk_v (x : FVec Ideal S4x2048x7168 .bf16) (b : Fin 4) (n : Fin 128) (l : Fin 16) (g : Fin 4) (e : Fin 128) :
    val_main_v44 (F := Ideal) x (ix5 b n l g e)
      = x (ix3 b (⟨16 * n.val + l.val, by omega⟩ : Fin 2048) (⟨4096 + 512 * (1 : Fin 2).val + 128 * g.val + e.val, by omega⟩ : Fin 7168)) := by
  pointwise [val_main_v44, val_main_v4, val_main_v3, val_main_v0]
  refine congrArg₂ (fun (r : Fin 2048) (j : Fin 7168) => x (ix3 b r j)) (Fin.ext ?_) (Fin.ext ?_)
  · show n.val * 16 + l.val = 16 * n.val + l.val
    omega
  · show 4608 + (g.val * 128 + e.val) = 4096 + 512 * 1 + 128 * g.val + e.val
    omega
theorem enc_v (p : FVec Ideal S2x32x128 .f32) (l : Fin 32) (e : Fin 128) : val_main_v39 (F := Ideal) p (ix2 l e) = p (ix3 (1 : Fin 2) l e) := by
  pointwise [val_main_v39, val_main_v38]
theorem wts1_v (w : FVec Ideal S2x4096x128 .f32) (q : Fin 4096) (k : Fin 128) : val_main_v41 (F := Ideal) w (ix2 q k) = w (ix3 (1 : Fin 2) q k) := by
  pointwise [val_main_v41, val_main_v40]
theorem wts2_v (v : FVec Ideal S2x128x128 .f32) (k d : Fin 128) : val_main_v43 (F := Ideal) v (ix2 k d) = v (ix3 (1 : Fin 2) k d) := by
  pointwise [val_main_v43, val_main_v42]
/-- the gelu of the hidden rows -/
theorem act_v (x0 : FVec Ideal S4x2048x7168 .bf16) (x1 : FVec Ideal S2x32x128 .f32) (x2 : FVec Ideal S2x4096x128 .f32) (b : Fin 4) (n : Fin 128)
    (g : Fin 4) (k : Fin 128) :
    val_main_v69 (F := Ideal) x0 x1 x2 (ix4 b n g k) = Cert.Cmp.gelu (val_main_v56 (F := Ideal) x0 x1 x2 (ix4 b n g k)) := by
  unfold Cert.Cmp.gelu
  pointwise [val_main_v69, val_main_v68, val_main_v67, val_main_v66, val_main_v65, val_main_v64, val_main_v63, val_main_v62, val_main_v61, val_main_v60, val_main_v59, val_main_v58, val_main_v57, val_main_cst_3, val_main_cst_4, val_main_cst_5, val_main_cst_6]
/-- and the compressed rows. -/
theorem row_v (x0 : FVec Ideal S4x2048x7168 .bf16) (x1 : FVec Ideal S2x32x128 .f32) (x2 : FVec Ideal S2x4096x128 .f32) (x3 : FVec Ideal S2x128x128 .f32)
    (b : Fin 4) (n : Fin 128) (g : Fin 4) (d : Fin 128) :
    val_main_v70 (F := Ideal) x0 x1 x2 x3 (ix4 b n g d) = Cert.Cmp.row x0 x1 x2 x3 b 1 g n d := by
  refine (out_at _ _ b n g d).trans (Finset.sum_congr rfl fun k _ => congrArg₂ (fun a c : EReal => a * c) ((act_v x0 x1 x2 b n g k).trans
    (congrArg Cert.Cmp.gelu ?_)) (wts2_v x3 k d))
  refine (hidden_eq (val_main_v44 (F := Ideal) x0) (val_main_v39 (F := Ideal) x1) (val_main_v41 (F := Ideal) x2) b g
    (fun r e => x0 (ix3 b r (⟨4096 + 512 * (1 : Fin 2).val + 128 * g.val + e.val, by omega⟩ : Fin 7168)))
    (fun n l e => chunk_v x0 b n l g e) n k).trans ?_
  rw [show (fun l e => val_main_v39 (F := Ideal) x1 (ix2 l e)) = fun l e => x1 (ix3 (1 : Fin 2) l e) from funext fun l => funext fun e => enc_v x1 l e,
    show (fun q k => val_main_v41 (F := Ideal) x2 (ix2 q k)) = fun q k => x2 (ix3 (1 : Fin 2) q k) from funext fun q => funext fun k => wts1_v x2 q k]

/-- The reference's result is the compressed rows. -/
theorem ref (x0 : FVec Ideal S4x2048x7168 .bf16) (x1 : FVec Ideal S2x32x128 .f32) (x2 : FVec Ideal S2x4096x128 .f32) (x3 : FVec Ideal S2x128x128 .f32) :
    val_main_v75 (F := Ideal) x0 x1 x2 x3 = Cert.Cmp.rows x0 x1 x2 x3 := by
  funext i
  obtain ⟨b, h, g, n, d, rfl⟩ : ∃ (b : Fin 4) (h : Fin 2) (g : Fin 4) (n d : Fin 128), i = ix5 b h g n d := ⟨i 0, i 1, i 2, i 3, i 4, eq_ix5 i⟩
  show _ = Cert.Cmp.row x0 x1 x2 x3 b h g n d
  pointwise [val_main_v75, val_main_v74, val_main_v73, val_main_v72, val_main_v71]
  match h with
  | ⟨0, _⟩ => exact row_k x0 x1 x2 x3 b n g d
  | ⟨1, _⟩ => exact row_v x0 x1 x2 x3 b n g d

end Cert.CompressRefIdeal.Cmp
end
-- ==== Proof.CompressSame.lean ====
/- The compression's call and its reference end with the compressed rows. -/
module

public import proofs.«01_k».proof.Proof.Compress
public import proofs.«01_k».proof.Proof.CompressRefRows
public import proofs.«01_k».proof.Defs

@[expose] public section

set_option maxRecDepth 16384

noncomputable section

namespace Cert.CompressIdeal.Cmp

open Idealize.ShloMosaic Idealize.ShloMosaic.TcCoe Idealize.SL.Sem

theorem frame_r : letI := Cert.CompressRefIdeal.Gen.facts; Cert.quiescent_CompressRefIdeal := fun m ρ _ =>
  (θ_run Cert.CompressRefIdeal.defs _ _).mono (fun r h => ⟨fun c => (h c).2, Idealize.ShloMosaic.sem_eq_zero_of_no_sems (by decide) r.2⟩)
    (Cert.CompressRefIdeal.Value.run (F := Ideal) m ρ)

theorem algebraic : letI := Cert.CompressIdeal.Gen.facts; letI := Cert.CompressRefIdeal.Gen.facts;
    Cert.algebraic_CompressIdeal_CompressRefIdeal := by
  intro m ρ m' ρ' _ hagree
  refine ⟨fun c => Cert.Cmp.rows (aX m c) (aP m c) (aW m c) (aV m c), ?_, ?_⟩
  · exact (θ_run Cert.CompressIdeal.defs _ _).mono (fun _ h c => ⟨(h c).1.trans (final m c), (h c).2⟩)
      (Cert.CompressIdeal.Value.run_blocks (F := Ideal) m ρ)
  · exact (θ_run Cert.CompressRefIdeal.defs _ _).mono (fun _ h c => ⟨(h c).1.trans (by
      rw [Cert.CompressRefIdeal.Read.val_main_v75_eq, Cert.CompressRefIdeal.Cmp.ref, (hagree c).1, (hagree c).2.1, (hagree c).2.2.1, (hagree c).2.2.2]), (h c).2⟩)
      (Cert.CompressRefIdeal.Value.run (F := Ideal) m' ρ')

end Cert.CompressIdeal.Cmp

end
-- ==== Proof.lean ====
/- The claims: the call of the recurrence, the calls of the projections, of the norms and of the compression, and their plain
   references run, keep their arguments, and end with equal results. -/
module

public import proofs.«01_k».proof.Proof.Array
public import proofs.«01_k».proof.Proof.RefOut
public import proofs.«01_k».proof.Proof.Gen.KernelIdeal.Value
public import proofs.«01_k».proof.Proof.Gen.ReferenceIdeal.Run
public import proofs.«01_k».proof.Proof.Gen.HgQf.Frame
public import proofs.«01_k».proof.Proof.ProjHgQf
public import proofs.«01_k».proof.Proof.Gen.HgVg.Frame
public import proofs.«01_k».proof.Proof.ProjHgVg
public import proofs.«01_k».proof.Proof.Gen.RgXb.Frame
public import proofs.«01_k».proof.Proof.ProjRgXb
public import proofs.«01_k».proof.Proof.Gen.RgZ.Frame
public import proofs.«01_k».proof.Proof.ProjRgZ
public import proofs.«01_k».proof.Proof.Gen.MixOut.Frame
public import proofs.«01_k».proof.Proof.ProjMixOut
public import proofs.«01_k».proof.Proof.Gen.NsaOut.Frame
public import proofs.«01_k».proof.Proof.ProjNsaOut
public import proofs.«01_k».proof.Proof.Gen.NsaQkv.Frame
public import proofs.«01_k».proof.Proof.ProjNsaQkv
public import proofs.«01_k».proof.Proof.Gen.NsaGl.Frame
public import proofs.«01_k».proof.Proof.ProjNsaGl
public import proofs.«01_k».proof.Proof.ProjNsaZ
public import proofs.«01_k».proof.Proof.Gen.PreNorm.Frame
public import proofs.«01_k».proof.Proof.NormPre
public import proofs.«01_k».proof.Proof.Gen.PostNorm.Frame
public import proofs.«01_k».proof.Proof.NormPost
public import proofs.«01_k».proof.Proof.Gen.LastNorm.Frame
public import proofs.«01_k».proof.Proof.NormLast
public import proofs.«01_k».proof.Proof.Gen.Compress.Frame
public import proofs.«01_k».proof.Proof.CompressSame
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- The reference runs and leaves its arguments as they were. -/
theorem frame_r : letI := Cert.ReferenceIdeal.Gen.facts; Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The reference's result from arguments that agree with the kernel's. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : Cert.ReferenceIdeal.Before.mX m' c = Cert.KernelIdeal.Array.aX m c)
    (h1 : m' ((c.tc : Thread Cert.ReferenceIdeal.nD Cert.ReferenceIdeal.τ).loc Cert.ReferenceIdeal.main_arg1) = Cert.KernelIdeal.Array.aZ m c)
    (h2 : Cert.ReferenceIdeal.Before.mW m' c = Cert.KernelIdeal.Array.aW m c)
    (h3 : Cert.ReferenceIdeal.Before.mB m' c = Cert.KernelIdeal.Array.aB m c)
    (h4 : Cert.ReferenceIdeal.Before.mG m' c = Cert.KernelIdeal.Array.aG m c)
    (h5 : Cert.ReferenceIdeal.Before.mH m' c = Cert.KernelIdeal.Array.aH m c)
    (h6 : Cert.ReferenceIdeal.Before.mL m' c = Cert.KernelIdeal.Array.aL m c) :
    Cert.ReferenceIdeal.Value.out_main_v79 ((Cert.ReferenceIdeal.Value.STEP)^[2048]
      (Idealize.ShloMosaic.StableHlo.entryContents Cert.ReferenceIdeal.Value.preI m' c)) = Cert.KernelIdeal.Array.G m c := by
  rw [Cert.ReferenceIdeal.Before.result m' c _ ((Cert.ReferenceIdeal.Value.iter_main_arg1 m' c 2048).trans h1), h0, h2, h3, h4, h5, h6]
  rfl

/-- The kernel and the reference end with the layer's recurrence. -/
theorem algebraic : letI := Cert.KernelIdeal.Gen.facts; letI := Cert.ReferenceIdeal.Gen.facts;
    Cert.algebraic_KernelIdeal_ReferenceIdeal := by
  intro m ρ m' ρ' _ hagree
  refine ⟨fun c => Cert.KernelIdeal.Array.G m c, ?_, ?_⟩
  · exact (θ_run Cert.KernelIdeal.defs _ _).mono
      (fun _ h c => ⟨(h c).1.trans (Cert.KernelIdeal.Array.final m c), (h c).2⟩)
      (Cert.KernelIdeal.Value.run_blocks (F := Ideal) m ρ)
  · exact (θ_run Cert.ReferenceIdeal.defs _ _).mono
      (fun _ h c => ⟨(h c).1.trans (same m m' c (hagree c).1 (hagree c).2.1 (hagree c).2.2.1 (hagree c).2.2.2.1
        (hagree c).2.2.2.2.1 (hagree c).2.2.2.2.2.1 (hagree c).2.2.2.2.2.2), (h c).2⟩)
      (Cert.ReferenceIdeal.Value.run (F := Ideal) m' ρ')

theorem claim : Cert.Claim := ⟨Cert.Kernel.Gen.facts, Cert.KernelIdeal.Gen.facts, Cert.ReferenceIdeal.Gen.facts,
  Cert.HgQf.Gen.facts, Cert.HgQfIdeal.Gen.facts, Cert.HgQfRefIdeal.Gen.facts,
  Cert.HgVg.Gen.facts, Cert.HgVgIdeal.Gen.facts, Cert.HgVgRefIdeal.Gen.facts,
  Cert.RgXb.Gen.facts, Cert.RgXbIdeal.Gen.facts, Cert.RgXbRefIdeal.Gen.facts,
  Cert.RgZ.Gen.facts, Cert.RgZIdeal.Gen.facts, Cert.RgZRefIdeal.Gen.facts,
  Cert.MixOut.Gen.facts, Cert.MixOutIdeal.Gen.facts, Cert.MixOutRefIdeal.Gen.facts,
  Cert.NsaOut.Gen.facts, Cert.NsaOutIdeal.Gen.facts, Cert.NsaOutRefIdeal.Gen.facts,
  Cert.NsaQkv.Gen.facts, Cert.NsaQkvIdeal.Gen.facts, Cert.NsaQkvRefIdeal.Gen.facts,
  Cert.NsaGl.Gen.facts, Cert.NsaGlIdeal.Gen.facts, Cert.NsaGlRefIdeal.Gen.facts,
  Cert.NsaZ.Gen.facts, Cert.NsaZIdeal.Gen.facts, Cert.NsaZRefIdeal.Gen.facts,
  Cert.PreNorm.Gen.facts, Cert.PreNormIdeal.Gen.facts, Cert.PreNormRefIdeal.Gen.facts,
  Cert.PostNorm.Gen.facts, Cert.PostNormIdeal.Gen.facts, Cert.PostNormRefIdeal.Gen.facts,
  Cert.LastNorm.Gen.facts, Cert.LastNormIdeal.Gen.facts, Cert.LastNormRefIdeal.Gen.facts,
  Cert.Compress.Gen.facts, Cert.CompressIdeal.Gen.facts, Cert.CompressRefIdeal.Gen.facts,
  fun m ρ _ => Cert.Kernel.Gen.frame m ρ, fun m ρ _ => Cert.KernelIdeal.Gen.frame m ρ, frame_r,
  fun m ρ _ => Cert.HgQf.Gen.frame m ρ, fun m ρ _ => Cert.HgQfIdeal.Gen.frame m ρ, Cert.HgQfIdeal.Proj.frame_r,
  fun m ρ _ => Cert.HgVg.Gen.frame m ρ, fun m ρ _ => Cert.HgVgIdeal.Gen.frame m ρ, Cert.HgVgIdeal.Proj.frame_r,
  fun m ρ _ => Cert.RgXb.Gen.frame m ρ, fun m ρ _ => Cert.RgXbIdeal.Gen.frame m ρ, Cert.RgXbIdeal.Proj.frame_r,
  fun m ρ _ => Cert.RgZ.Gen.frame m ρ, fun m ρ _ => Cert.RgZIdeal.Gen.frame m ρ, Cert.RgZIdeal.Proj.frame_r,
  fun m ρ _ => Cert.MixOut.Gen.frame m ρ, fun m ρ _ => Cert.MixOutIdeal.Gen.frame m ρ, Cert.MixOutIdeal.Proj.frame_r,
  fun m ρ _ => Cert.NsaOut.Gen.frame m ρ, fun m ρ _ => Cert.NsaOutIdeal.Gen.frame m ρ, Cert.NsaOutIdeal.Proj.frame_r,
  fun m ρ _ => Cert.NsaQkv.Gen.frame m ρ, fun m ρ _ => Cert.NsaQkvIdeal.Gen.frame m ρ, Cert.NsaQkvIdeal.Proj.frame_r,
  fun m ρ _ => Cert.NsaGl.Gen.frame m ρ, fun m ρ _ => Cert.NsaGlIdeal.Gen.frame m ρ, Cert.NsaGlIdeal.Proj.frame_r,
  Cert.NsaZIdeal.Proj.frame_k, Cert.NsaZIdeal.Proj.frame_i, Cert.NsaZIdeal.Proj.frame_r,
  fun m ρ _ => Cert.PreNorm.Gen.frame m ρ, fun m ρ _ => Cert.PreNormIdeal.Gen.frame m ρ, Cert.PreNormIdeal.Norm.frame_r,
  fun m ρ _ => Cert.PostNorm.Gen.frame m ρ, fun m ρ _ => Cert.PostNormIdeal.Gen.frame m ρ, Cert.PostNormIdeal.Norm.frame_r,
  fun m ρ _ => Cert.LastNorm.Gen.frame m ρ, fun m ρ _ => Cert.LastNormIdeal.Gen.frame m ρ, Cert.LastNormIdeal.Norm.frame_r,
  fun m ρ _ => Cert.Compress.Gen.frame m ρ, fun m ρ _ => Cert.CompressIdeal.Gen.frame m ρ, Cert.CompressIdeal.Cmp.frame_r,
  trivial, algebraic,
  trivial, Cert.HgQfIdeal.Proj.algebraic,
  trivial, Cert.HgVgIdeal.Proj.algebraic,
  trivial, Cert.RgXbIdeal.Proj.algebraic,
  trivial, Cert.RgZIdeal.Proj.algebraic,
  trivial, Cert.MixOutIdeal.Proj.algebraic,
  trivial, Cert.NsaOutIdeal.Proj.algebraic,
  trivial, Cert.NsaQkvIdeal.Proj.algebraic,
  trivial, Cert.NsaGlIdeal.Proj.algebraic,
  trivial, Cert.NsaZIdeal.Proj.algebraic,
  trivial, Cert.PreNormIdeal.Norm.algebraic,
  trivial, Cert.PostNormIdeal.Norm.algebraic,
  trivial, Cert.LastNormIdeal.Norm.algebraic,
  trivial, Cert.CompressIdeal.Cmp.algebraic⟩

end Cert.Proof

end
